-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Combine [hPre_slotted : Cert.Pre_slotted.Facts] (m : (ℓ : Loc Cert.Combine.nD Cert.Combine.τ Cert.Combine.sig) → Buf (Elt Bits) ℓ) : Prop :=
  ∀ c : Dev Cert.Combine.nD,
    (Cert.Pre_slotted.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_slotted : Cert.Pre_slotted.Facts] (m : (ℓ : Loc Cert.CombineIdeal.nD Cert.CombineIdeal.τ Cert.CombineIdeal.sig) → Buf (Elt Ideal) ℓ) : Prop :=
  ∀ c : Dev Cert.CombineIdeal.nD,
    (Cert.Pre_slotted.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_MixtureIdeal (m : (ℓ : Loc Cert.MixtureIdeal.nD Cert.MixtureIdeal.τ Cert.MixtureIdeal.sig) → Buf (Elt Ideal) ℓ) : Prop :=
  True

def Pre_MixtureIdeal_slotted [hPre_slotted : Cert.Pre_slotted.Facts] (m : (ℓ : Loc Cert.MixtureIdeal.nD Cert.MixtureIdeal.τ Cert.MixtureIdeal.sig) → Buf (Elt Ideal) ℓ) : Prop :=
  ∀ c : Dev Cert.MixtureIdeal.nD,
    (Cert.Pre_slotted.fn (F := Ideal) (m ((c.tc : Thread Cert.MixtureIdeal.nD Cert.MixtureIdeal.τ).loc Cert.MixtureIdeal.main_arg0)) (m ((c.tc : Thread Cert.MixtureIdeal.nD Cert.MixtureIdeal.τ).loc Cert.MixtureIdeal.main_arg1)) (m ((c.tc : Thread Cert.MixtureIdeal.nD Cert.MixtureIdeal.τ).loc Cert.MixtureIdeal.main_arg2)) (m ((c.tc : Thread Cert.MixtureIdeal.nD Cert.MixtureIdeal.τ).loc Cert.MixtureIdeal.main_arg3)) (m ((c.tc : Thread Cert.MixtureIdeal.nD Cert.MixtureIdeal.τ).loc Cert.MixtureIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_SwigluIdeal (m : (ℓ : Loc Cert.SwigluIdeal.nD Cert.SwigluIdeal.τ Cert.SwigluIdeal.sig) → Buf (Elt Ideal) ℓ) : Prop :=
  True

def Pre_Outward (m : (ℓ : Loc Cert.Outward.nD Cert.Outward.τ Cert.Outward.sig) → Buf (Elt Bits) ℓ) : Prop :=
  True

def Pre_OutwardIdeal (m : (ℓ : Loc Cert.OutwardIdeal.nD Cert.OutwardIdeal.τ Cert.OutwardIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_Inward (m : (ℓ : Loc Cert.Inward.nD Cert.Inward.τ Cert.Inward.sig) → Buf (Elt Bits) ℓ) : Prop :=
  True

def Pre_InwardIdeal (m : (ℓ : Loc Cert.InwardIdeal.nD Cert.InwardIdeal.τ Cert.InwardIdeal.sig) → Buf (Elt Ideal) ℓ) : Prop :=
  True

def Pre_NormedIdeal (m : (ℓ : Loc Cert.NormedIdeal.nD Cert.NormedIdeal.τ Cert.NormedIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Combine [hCombine : Cert.Combine.Facts] [hPre_slotted : Cert.Pre_slotted.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_slotted : Cert.Pre_slotted.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_MixtureIdeal [hMixtureIdeal : Cert.MixtureIdeal.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4))
      ∧ r.2.sem = fun _ => 0)

def quiescent_MixtureIdeal_pre_slotted [hMixtureIdeal : Cert.MixtureIdeal.Facts] [hPre_slotted : Cert.Pre_slotted.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal_slotted m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_Outward [hOutward : Cert.Outward.Facts] : Prop :=
  ∀ (m : (ℓ : Loc Cert.Outward.nD Cert.Outward.τ Cert.Outward.sig) → Buf (Elt Bits) ℓ) (g : Dev Cert.Outward.nD → PrngReg), Pre_Outward m →
    θ_run (Cert.Outward.defs (F := Bits)) (onTc (τ := Cert.Outward.τ) (Cert.Outward.main (F := Bits))) ⟨m, fun _ => 0, g⟩ (fun r => (∀ c : Dev Cert.Outward.nD,
      r.2.mem ((c.tc : Thread Cert.Outward.nD Cert.Outward.τ).loc Cert.Outward.main_arg0) = m ((c.tc : Thread Cert.Outward.nD Cert.Outward.τ).loc Cert.Outward.main_arg0)
      ∧ r.2.mem ((c.tc : Thread Cert.Outward.nD Cert.Outward.τ).loc Cert.Outward.main_arg1) = m ((c.tc : Thread Cert.Outward.nD Cert.Outward.τ).loc Cert.Outward.main_arg1)
      ∧ r.2.mem ((c.tc : Thread Cert.Outward.nD Cert.Outward.τ).loc Cert.Outward.main_arg2) = m ((c.tc : Thread Cert.Outward.nD Cert.Outward.τ).loc Cert.Outward.main_arg2)
      ∧ r.2.mem ((c.tc : Thread Cert.Outward.nD Cert.Outward.τ).loc Cert.Outward.main_arg3) = m ((c.tc : Thread Cert.Outward.nD Cert.Outward.τ).loc Cert.Outward.main_arg3))
      ∧ r.2.sem = fun _ => 0)

def quiescent_OutwardIdeal [hOutwardIdeal : Cert.OutwardIdeal.Facts] : Prop :=
  ∀ (m : (ℓ : Loc Cert.OutwardIdeal.nD Cert.OutwardIdeal.τ Cert.OutwardIdeal.sig) → Buf (Elt Ideal) ℓ) (g : Dev Cert.OutwardIdeal.nD → PrngReg), Pre_OutwardIdeal m →
    θ_run (Cert.OutwardIdeal.defs (F := Ideal)) (onTc (τ := Cert.OutwardIdeal.τ) (Cert.OutwardIdeal.main (F := Ideal))) ⟨m, fun _ => 0, g⟩ (fun r => (∀ c : Dev Cert.OutwardIdeal.nD,
      r.2.mem ((c.tc : Thread Cert.OutwardIdeal.nD Cert.OutwardIdeal.τ).loc Cert.OutwardIdeal.main_arg0) = m ((c.tc : Thread Cert.OutwardIdeal.nD Cert.OutwardIdeal.τ).loc Cert.OutwardIdeal.main_arg0)
      ∧ r.2.mem ((c.tc : Thread Cert.OutwardIdeal.nD Cert.OutwardIdeal.τ).loc Cert.OutwardIdeal.main_arg1) = m ((c.tc : Thread Cert.OutwardIdeal.nD Cert.OutwardIdeal.τ).loc Cert.OutwardIdeal.main_arg1)
      ∧ r.2.mem ((c.tc : Thread Cert.OutwardIdeal.nD Cert.OutwardIdeal.τ).loc Cert.OutwardIdeal.main_arg2) = m ((c.tc : Thread Cert.OutwardIdeal.nD Cert.OutwardIdeal.τ).loc Cert.OutwardIdeal.main_arg2)
      ∧ r.2.mem ((c.tc : Thread Cert.OutwardIdeal.nD Cert.OutwardIdeal.τ).loc Cert.OutwardIdeal.main_arg3) = m ((c.tc : Thread Cert.OutwardIdeal.nD Cert.OutwardIdeal.τ).loc Cert.OutwardIdeal.main_arg3))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3))
      ∧ r.2.sem = fun _ => 0)

def quiescent_Inward [hInward : Cert.Inward.Facts] : Prop :=
  ∀ (m : (ℓ : Loc Cert.Inward.nD Cert.Inward.τ Cert.Inward.sig) → Buf (Elt Bits) ℓ) (g : Dev Cert.Inward.nD → PrngReg), Pre_Inward m →
    θ_run (Cert.Inward.defs (F := Bits)) (onTc (τ := Cert.Inward.τ) (Cert.Inward.main (F := Bits))) ⟨m, fun _ => 0, g⟩ (fun r => (∀ c : Dev Cert.Inward.nD,
      r.2.mem ((c.tc : Thread Cert.Inward.nD Cert.Inward.τ).loc Cert.Inward.main_arg0) = m ((c.tc : Thread Cert.Inward.nD Cert.Inward.τ).loc Cert.Inward.main_arg0)
      ∧ r.2.mem ((c.tc : Thread Cert.Inward.nD Cert.Inward.τ).loc Cert.Inward.main_arg1) = m ((c.tc : Thread Cert.Inward.nD Cert.Inward.τ).loc Cert.Inward.main_arg1)
      ∧ r.2.mem ((c.tc : Thread Cert.Inward.nD Cert.Inward.τ).loc Cert.Inward.main_arg2) = m ((c.tc : Thread Cert.Inward.nD Cert.Inward.τ).loc Cert.Inward.main_arg2))
      ∧ r.2.sem = fun _ => 0)

def quiescent_InwardIdeal [hInwardIdeal : Cert.InwardIdeal.Facts] : Prop :=
  ∀ (m : (ℓ : Loc Cert.InwardIdeal.nD Cert.InwardIdeal.τ Cert.InwardIdeal.sig) → Buf (Elt Ideal) ℓ) (g : Dev Cert.InwardIdeal.nD → PrngReg), Pre_InwardIdeal m →
    θ_run (Cert.InwardIdeal.defs (F := Ideal)) (onTc (τ := Cert.InwardIdeal.τ) (Cert.InwardIdeal.main (F := Ideal))) ⟨m, fun _ => 0, g⟩ (fun r => (∀ c : Dev Cert.InwardIdeal.nD,
      r.2.mem ((c.tc : Thread Cert.InwardIdeal.nD Cert.InwardIdeal.τ).loc Cert.InwardIdeal.main_arg0) = m ((c.tc : Thread Cert.InwardIdeal.nD Cert.InwardIdeal.τ).loc Cert.InwardIdeal.main_arg0)
      ∧ r.2.mem ((c.tc : Thread Cert.InwardIdeal.nD Cert.InwardIdeal.τ).loc Cert.InwardIdeal.main_arg1) = m ((c.tc : Thread Cert.InwardIdeal.nD Cert.InwardIdeal.τ).loc Cert.InwardIdeal.main_arg1)
      ∧ r.2.mem ((c.tc : Thread Cert.InwardIdeal.nD Cert.InwardIdeal.τ).loc Cert.InwardIdeal.main_arg2) = m ((c.tc : Thread Cert.InwardIdeal.nD Cert.InwardIdeal.τ).loc Cert.InwardIdeal.main_arg2))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1)
      ∧ r.2.mem ((c.tc : Thread Cert.NormedIdeal.nD Cert.NormedIdeal.τ).loc Cert.NormedIdeal.main_arg2) = m ((c.tc : Thread Cert.NormedIdeal.nD Cert.NormedIdeal.τ).loc Cert.NormedIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Combine_CombineIdeal : Prop :=
  True

def algebraic_CombineIdeal_MixtureIdeal [hCombineIdeal : Cert.CombineIdeal.Facts] [hMixtureIdeal : Cert.MixtureIdeal.Facts] [hPre_slotted : Cert.Pre_slotted.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.MixtureIdeal.nD Cert.MixtureIdeal.τ Cert.MixtureIdeal.sig) → Buf (Elt Ideal) ℓ) (g' : Dev Cert.MixtureIdeal.nD → PrngReg), Pre_CombineIdeal m →
    (∀ c : Dev Cert.CombineIdeal.nD,
      m' ((c.tc : Thread Cert.MixtureIdeal.nD Cert.MixtureIdeal.τ).loc Cert.MixtureIdeal.main_arg0) = m ((c.tc : Thread Cert.CombineIdeal.nD Cert.CombineIdeal.τ).loc Cert.CombineIdeal.main_arg0)
      ∧ m' ((c.tc : Thread Cert.MixtureIdeal.nD Cert.MixtureIdeal.τ).loc Cert.MixtureIdeal.main_arg1) = m ((c.tc : Thread Cert.CombineIdeal.nD Cert.CombineIdeal.τ).loc Cert.CombineIdeal.main_arg1)
      ∧ m' ((c.tc : Thread Cert.MixtureIdeal.nD Cert.MixtureIdeal.τ).loc Cert.MixtureIdeal.main_arg2) = m ((c.tc : Thread Cert.CombineIdeal.nD Cert.CombineIdeal.τ).loc Cert.CombineIdeal.main_arg2)
      ∧ m' ((c.tc : Thread Cert.MixtureIdeal.nD Cert.MixtureIdeal.τ).loc Cert.MixtureIdeal.main_arg3) = m ((c.tc : Thread Cert.CombineIdeal.nD Cert.CombineIdeal.τ).loc Cert.CombineIdeal.main_arg3)
      ∧ m' ((c.tc : Thread Cert.MixtureIdeal.nD Cert.MixtureIdeal.τ).loc Cert.MixtureIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2_0)) (v1 : (c : Dev Cert.CombineIdeal.nD) → Buf (Elt Ideal) ((c.tc : Thread Cert.CombineIdeal.nD Cert.CombineIdeal.τ).loc Cert.CombineIdeal.main_v2_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2_0) = v0 c
          ∧ r.2.mem ((c.tc : Thread Cert.CombineIdeal.nD Cert.CombineIdeal.τ).loc Cert.CombineIdeal.main_v2_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.MixtureIdeal.defs (F := Ideal)) (onTc (τ := Cert.MixtureIdeal.τ) (Cert.MixtureIdeal.main (F := Ideal))) ⟨m', fun _ => 0, g'⟩ (fun r => ∀ c : Dev Cert.MixtureIdeal.nD,
          r.2.mem ((c.tc : Thread Cert.MixtureIdeal.nD Cert.MixtureIdeal.τ).loc Cert.MixtureIdeal.main_v40) = v0 c
          ∧ r.2.mem ((c.tc : Thread Cert.MixtureIdeal.nD Cert.MixtureIdeal.τ).loc Cert.MixtureIdeal.main_v41) = v1 c
          ∧ r.2.mem ((c.tc : Thread Cert.MixtureIdeal.nD Cert.MixtureIdeal.τ).loc Cert.MixtureIdeal.main_arg0) = m' ((c.tc : Thread Cert.MixtureIdeal.nD Cert.MixtureIdeal.τ).loc Cert.MixtureIdeal.main_arg0)
          ∧ r.2.mem ((c.tc : Thread Cert.MixtureIdeal.nD Cert.MixtureIdeal.τ).loc Cert.MixtureIdeal.main_arg1) = m' ((c.tc : Thread Cert.MixtureIdeal.nD Cert.MixtureIdeal.τ).loc Cert.MixtureIdeal.main_arg1)
          ∧ r.2.mem ((c.tc : Thread Cert.MixtureIdeal.nD Cert.MixtureIdeal.τ).loc Cert.MixtureIdeal.main_arg2) = m' ((c.tc : Thread Cert.MixtureIdeal.nD Cert.MixtureIdeal.τ).loc Cert.MixtureIdeal.main_arg2)
          ∧ r.2.mem ((c.tc : Thread Cert.MixtureIdeal.nD Cert.MixtureIdeal.τ).loc Cert.MixtureIdeal.main_arg3) = m' ((c.tc : Thread Cert.MixtureIdeal.nD Cert.MixtureIdeal.τ).loc Cert.MixtureIdeal.main_arg3)
          ∧ r.2.mem ((c.tc : Thread Cert.MixtureIdeal.nD Cert.MixtureIdeal.τ).loc Cert.MixtureIdeal.main_arg4) = m' ((c.tc : Thread Cert.MixtureIdeal.nD Cert.MixtureIdeal.τ).loc Cert.MixtureIdeal.main_arg4))

def preserves_Dense_DenseIdeal : Prop :=
  True

def algebraic_DenseIdeal_SwigluIdeal [hDenseIdeal : Cert.DenseIdeal.Facts] [hSwigluIdeal : Cert.SwigluIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.SwigluIdeal.nD Cert.SwigluIdeal.τ Cert.SwigluIdeal.sig) → Buf (Elt Ideal) ℓ) (g' : Dev Cert.SwigluIdeal.nD → PrngReg), Pre_DenseIdeal m →
    (∀ c : Dev Cert.DenseIdeal.nD,
      m' ((c.tc : Thread Cert.SwigluIdeal.nD Cert.SwigluIdeal.τ).loc Cert.SwigluIdeal.main_arg0) = m ((c.tc : Thread Cert.DenseIdeal.nD Cert.DenseIdeal.τ).loc Cert.DenseIdeal.main_arg0)
      ∧ m' ((c.tc : Thread Cert.SwigluIdeal.nD Cert.SwigluIdeal.τ).loc Cert.SwigluIdeal.main_arg1) = m ((c.tc : Thread Cert.DenseIdeal.nD Cert.DenseIdeal.τ).loc Cert.DenseIdeal.main_arg1)
      ∧ m' ((c.tc : Thread Cert.SwigluIdeal.nD Cert.SwigluIdeal.τ).loc Cert.SwigluIdeal.main_arg2) = m ((c.tc : Thread Cert.DenseIdeal.nD Cert.DenseIdeal.τ).loc Cert.DenseIdeal.main_arg2)
      ∧ m' ((c.tc : Thread Cert.SwigluIdeal.nD Cert.SwigluIdeal.τ).loc Cert.SwigluIdeal.main_arg3) = m ((c.tc : Thread Cert.DenseIdeal.nD Cert.DenseIdeal.τ).loc Cert.DenseIdeal.main_arg3)
      ∧ m' ((c.tc : Thread Cert.SwigluIdeal.nD Cert.SwigluIdeal.τ).loc Cert.SwigluIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v8)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v8) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.SwigluIdeal.defs (F := Ideal)) (onTc (τ := Cert.SwigluIdeal.τ) (Cert.SwigluIdeal.main (F := Ideal))) ⟨m', fun _ => 0, g'⟩ (fun r => ∀ c : Dev Cert.SwigluIdeal.nD,
          r.2.mem ((c.tc : Thread Cert.SwigluIdeal.nD Cert.SwigluIdeal.τ).loc Cert.SwigluIdeal.main_v22) = v0 c
          ∧ r.2.mem ((c.tc : Thread Cert.SwigluIdeal.nD Cert.SwigluIdeal.τ).loc Cert.SwigluIdeal.main_arg0) = m' ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m' ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m' ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m' ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m' ((c.tc : Thread Cert.SwigluIdeal.nD Cert.SwigluIdeal.τ).loc Cert.SwigluIdeal.main_arg4))

def preserves_Outward_OutwardIdeal : Prop :=
  True

def algebraic_OutwardIdeal_MixedIdeal [hOutwardIdeal : Cert.OutwardIdeal.Facts] [hMixedIdeal : Cert.MixedIdeal.Facts] : Prop :=
  ∀ (m : (ℓ : Loc Cert.OutwardIdeal.nD Cert.OutwardIdeal.τ Cert.OutwardIdeal.sig) → Buf (Elt Ideal) ℓ) (g : Dev Cert.OutwardIdeal.nD → PrngReg)
    (m' : (ℓ : Loc Cert.MixedIdeal.nD Cert.MixedIdeal.τ Cert.MixedIdeal.sig) → Buf (Elt Ideal) ℓ) (g' : Dev Cert.MixedIdeal.nD → PrngReg), Pre_OutwardIdeal m →
    (∀ c : Dev Cert.OutwardIdeal.nD,
      m' ((c.tc : Thread Cert.MixedIdeal.nD Cert.MixedIdeal.τ).loc Cert.MixedIdeal.main_arg0) = m ((c.tc : Thread Cert.OutwardIdeal.nD Cert.OutwardIdeal.τ).loc Cert.OutwardIdeal.main_arg0)
      ∧ m' ((c.tc : Thread Cert.MixedIdeal.nD Cert.MixedIdeal.τ).loc Cert.MixedIdeal.main_arg1) = m ((c.tc : Thread Cert.OutwardIdeal.nD Cert.OutwardIdeal.τ).loc Cert.OutwardIdeal.main_arg1)
      ∧ m' ((c.tc : Thread Cert.MixedIdeal.nD Cert.MixedIdeal.τ).loc Cert.MixedIdeal.main_arg2) = m ((c.tc : Thread Cert.OutwardIdeal.nD Cert.OutwardIdeal.τ).loc Cert.OutwardIdeal.main_arg2)
      ∧ m' ((c.tc : Thread Cert.MixedIdeal.nD Cert.MixedIdeal.τ).loc Cert.MixedIdeal.main_arg3) = m ((c.tc : Thread Cert.OutwardIdeal.nD Cert.OutwardIdeal.τ).loc Cert.OutwardIdeal.main_arg3)) →
    ∃ (v0 : (c : Dev Cert.OutwardIdeal.nD) → Buf (Elt Ideal) ((c.tc : Thread Cert.OutwardIdeal.nD Cert.OutwardIdeal.τ).loc Cert.OutwardIdeal.main_v2)),
      θ_run (Cert.OutwardIdeal.defs (F := Ideal)) (onTc (τ := Cert.OutwardIdeal.τ) (Cert.OutwardIdeal.main (F := Ideal))) ⟨m, fun _ => 0, g⟩ (fun r => ∀ c : Dev Cert.OutwardIdeal.nD,
          r.2.mem ((c.tc : Thread Cert.OutwardIdeal.nD Cert.OutwardIdeal.τ).loc Cert.OutwardIdeal.main_v2) = v0 c
          ∧ r.2.mem ((c.tc : Thread Cert.OutwardIdeal.nD Cert.OutwardIdeal.τ).loc Cert.OutwardIdeal.main_arg0) = m ((c.tc : Thread Cert.OutwardIdeal.nD Cert.OutwardIdeal.τ).loc Cert.OutwardIdeal.main_arg0)
          ∧ r.2.mem ((c.tc : Thread Cert.OutwardIdeal.nD Cert.OutwardIdeal.τ).loc Cert.OutwardIdeal.main_arg1) = m ((c.tc : Thread Cert.OutwardIdeal.nD Cert.OutwardIdeal.τ).loc Cert.OutwardIdeal.main_arg1)
          ∧ r.2.mem ((c.tc : Thread Cert.OutwardIdeal.nD Cert.OutwardIdeal.τ).loc Cert.OutwardIdeal.main_arg2) = m ((c.tc : Thread Cert.OutwardIdeal.nD Cert.OutwardIdeal.τ).loc Cert.OutwardIdeal.main_arg2)
          ∧ r.2.mem ((c.tc : Thread Cert.OutwardIdeal.nD Cert.OutwardIdeal.τ).loc Cert.OutwardIdeal.main_arg3) = m ((c.tc : Thread Cert.OutwardIdeal.nD Cert.OutwardIdeal.τ).loc Cert.OutwardIdeal.main_arg3))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v3) = v0 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3))

def preserves_Inward_InwardIdeal : Prop :=
  True

def algebraic_InwardIdeal_NormedIdeal [hInwardIdeal : Cert.InwardIdeal.Facts] [hNormedIdeal : Cert.NormedIdeal.Facts] : Prop :=
  ∀ (m : (ℓ : Loc Cert.InwardIdeal.nD Cert.InwardIdeal.τ Cert.InwardIdeal.sig) → Buf (Elt Ideal) ℓ) (g : Dev Cert.InwardIdeal.nD → PrngReg)
    (m' : (ℓ : Loc Cert.NormedIdeal.nD Cert.NormedIdeal.τ Cert.NormedIdeal.sig) → Buf (Elt Ideal) ℓ) (g' : Dev Cert.NormedIdeal.nD → PrngReg), Pre_InwardIdeal m →
    (∀ c : Dev Cert.InwardIdeal.nD,
      m' ((c.tc : Thread Cert.NormedIdeal.nD Cert.NormedIdeal.τ).loc Cert.NormedIdeal.main_arg0) = m ((c.tc : Thread Cert.InwardIdeal.nD Cert.InwardIdeal.τ).loc Cert.InwardIdeal.main_arg0)
      ∧ m' ((c.tc : Thread Cert.NormedIdeal.nD Cert.NormedIdeal.τ).loc Cert.NormedIdeal.main_arg1) = m ((c.tc : Thread Cert.InwardIdeal.nD Cert.InwardIdeal.τ).loc Cert.InwardIdeal.main_arg1)
      ∧ m' ((c.tc : Thread Cert.NormedIdeal.nD Cert.NormedIdeal.τ).loc Cert.NormedIdeal.main_arg2) = m ((c.tc : Thread Cert.InwardIdeal.nD Cert.InwardIdeal.τ).loc Cert.InwardIdeal.main_arg2)) →
    ∃ (v0 : (c : Dev Cert.InwardIdeal.nD) → Buf (Elt Ideal) ((c.tc : Thread Cert.InwardIdeal.nD Cert.InwardIdeal.τ).loc Cert.InwardIdeal.main_v4)),
      θ_run (Cert.InwardIdeal.defs (F := Ideal)) (onTc (τ := Cert.InwardIdeal.τ) (Cert.InwardIdeal.main (F := Ideal))) ⟨m, fun _ => 0, g⟩ (fun r => ∀ c : Dev Cert.InwardIdeal.nD,
          r.2.mem ((c.tc : Thread Cert.InwardIdeal.nD Cert.InwardIdeal.τ).loc Cert.InwardIdeal.main_v4) = v0 c
          ∧ r.2.mem ((c.tc : Thread Cert.InwardIdeal.nD Cert.InwardIdeal.τ).loc Cert.InwardIdeal.main_arg0) = m ((c.tc : Thread Cert.InwardIdeal.nD Cert.InwardIdeal.τ).loc Cert.InwardIdeal.main_arg0)
          ∧ r.2.mem ((c.tc : Thread Cert.InwardIdeal.nD Cert.InwardIdeal.τ).loc Cert.InwardIdeal.main_arg1) = m ((c.tc : Thread Cert.InwardIdeal.nD Cert.InwardIdeal.τ).loc Cert.InwardIdeal.main_arg1)
          ∧ r.2.mem ((c.tc : Thread Cert.InwardIdeal.nD Cert.InwardIdeal.τ).loc Cert.InwardIdeal.main_arg2) = m ((c.tc : Thread Cert.InwardIdeal.nD Cert.InwardIdeal.τ).loc Cert.InwardIdeal.main_arg2))
      ∧ θ_run (Cert.NormedIdeal.defs (F := Ideal)) (onTc (τ := Cert.NormedIdeal.τ) (Cert.NormedIdeal.main (F := Ideal))) ⟨m', fun _ => 0, g'⟩ (fun r => ∀ c : Dev Cert.NormedIdeal.nD,
          r.2.mem ((c.tc : Thread Cert.NormedIdeal.nD Cert.NormedIdeal.τ).loc Cert.NormedIdeal.main_v16) = v0 c
          ∧ r.2.mem ((c.tc : Thread Cert.NormedIdeal.nD Cert.NormedIdeal.τ).loc Cert.NormedIdeal.main_arg0) = m' ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m' ((c.tc : Thread Cert.NormedIdeal.nD Cert.NormedIdeal.τ).loc Cert.NormedIdeal.main_arg1)
          ∧ r.2.mem ((c.tc : Thread Cert.NormedIdeal.nD Cert.NormedIdeal.τ).loc Cert.NormedIdeal.main_arg2) = m' ((c.tc : Thread Cert.NormedIdeal.nD Cert.NormedIdeal.τ).loc Cert.NormedIdeal.main_arg2))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hMixtureIdeal : Cert.MixtureIdeal.Facts) (hDense : Cert.Dense.Facts) (hDenseIdeal : Cert.DenseIdeal.Facts) (hSwigluIdeal : Cert.SwigluIdeal.Facts) (hOutward : Cert.Outward.Facts) (hOutwardIdeal : Cert.OutwardIdeal.Facts) (hMixedIdeal : Cert.MixedIdeal.Facts) (hInward : Cert.Inward.Facts) (hInwardIdeal : Cert.InwardIdeal.Facts) (hNormedIdeal : Cert.NormedIdeal.Facts) (hPre_routed : Cert.Pre_routed.Facts) (hPre_slotted : Cert.Pre_slotted.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Combine (hCombine := hCombine) (hPre_slotted := hPre_slotted)
    ∧ quiescent_CombineIdeal (hCombineIdeal := hCombineIdeal) (hPre_slotted := hPre_slotted)
    ∧ quiescent_MixtureIdeal (hMixtureIdeal := hMixtureIdeal)
    ∧ quiescent_MixtureIdeal_pre_slotted (hMixtureIdeal := hMixtureIdeal) (hPre_slotted := hPre_slotted)
    ∧ quiescent_Dense (hDense := hDense)
    ∧ quiescent_DenseIdeal (hDenseIdeal := hDenseIdeal)
    ∧ quiescent_SwigluIdeal (hSwigluIdeal := hSwigluIdeal)
    ∧ quiescent_Outward (hOutward := hOutward)
    ∧ quiescent_OutwardIdeal (hOutwardIdeal := hOutwardIdeal)
    ∧ quiescent_MixedIdeal (hMixedIdeal := hMixedIdeal)
    ∧ quiescent_Inward (hInward := hInward)
    ∧ quiescent_InwardIdeal (hInwardIdeal := hInwardIdeal)
    ∧ quiescent_NormedIdeal (hNormedIdeal := hNormedIdeal)
    ∧ preserves_Kernel_KernelIdeal
    ∧ algebraic_KernelIdeal_ReferenceIdeal (hKernelIdeal := hKernelIdeal) (hReferenceIdeal := hReferenceIdeal) (hPre_routed := hPre_routed)
    ∧ preserves_Combine_CombineIdeal
    ∧ algebraic_CombineIdeal_MixtureIdeal (hCombineIdeal := hCombineIdeal) (hMixtureIdeal := hMixtureIdeal) (hPre_slotted := hPre_slotted)
    ∧ preserves_Dense_DenseIdeal
    ∧ algebraic_DenseIdeal_SwigluIdeal (hDenseIdeal := hDenseIdeal) (hSwigluIdeal := hSwigluIdeal)
    ∧ preserves_Outward_OutwardIdeal
    ∧ algebraic_OutwardIdeal_MixedIdeal (hOutwardIdeal := hOutwardIdeal) (hMixedIdeal := hMixedIdeal)
    ∧ preserves_Inward_InwardIdeal
    ∧ algebraic_InwardIdeal_NormedIdeal (hInwardIdeal := hInwardIdeal) (hNormedIdeal := hNormedIdeal)
-- ==== Pre_routed.lean ====
abbrev S32768x2048 : Shape := ⟨2, ![32768, 2048]⟩
abbrev S74752 : Shape := ⟨1, ![74752]⟩
abbrev S73 : Shape := ⟨1, ![73]⟩
abbrev S1 : Shape := ⟨1, ![1]⟩
abbrev S1x8x2048x7168 : Shape := ⟨4, ![1, 8, 2048, 7168]⟩
abbrev S1x8x7168x2048 : Shape := ⟨4, ![1, 8, 7168, 2048]⟩
abbrev S_ : Shape := ⟨0, ![]⟩
abbrev S74826 : Shape := ⟨1, ![74826]⟩

class Facts : Prop where
  bcast_S_S74752 : S_.BroadcastsInDim S74752 (![] : Fin 0 → Fin S74752.rank)
  bcast_S_S73 : S_.BroadcastsInDim S73 (![] : Fin 0 → Fin S73.rank)
  bcast_S_S1 : S_.BroadcastsInDim S1 (![] : Fin 0 → Fin S1.rank)
  concatenates_S74752_S73_S1_S74826_d0 : Shape.Concatenates [S74752, S73, S1] S74826 0

variable [Facts]

def fn {F : FTy → Type} [FloatOps F] (main_arg0 : FVec F S32768x2048 .f32) (main_arg1 : IVec S74752 32) (main_arg2 : IVec S73 32) (main_arg3 : IVec S1 32) (main_arg4 : FVec F S1x8x2048x7168 .f32) (main_arg5 : FVec F S1x8x2048x7168 .f32) (main_arg6 : FVec F S1x8x7168x2048 .f32) : IVec S74826 1 :=
  let main_c : IVec S_ 32 := constantI S_ 32 0#32
  let main_v0 : IVec S74752 32 := broadcastInDim S74752 ![] bcast_S_S74752 main_c
  let main_v1 : IVec S74752 1 := cmpi .sge main_arg1 main_v0
  let main_c_0 : IVec S_ 32 := constantI S_ 32 32768#32
  let main_v2 : IVec S74752 32 := broadcastInDim S74752 ![] bcast_S_S74752 main_c_0
  let main_v3 : IVec S74752 1 := cmpi .slt main_arg1 main_v2
  let main_v4 : IVec S74752 1 := andi main_v1 main_v3
  let main_c_1 : IVec S_ 32 := constantI S_ 32 0#32
  let main_v5 : IVec S73 32 := broadcastInDim S73 ![] bcast_S_S73 main_c_1
  let main_v6 : IVec S73 1 := cmpi .sge main_arg2 main_v5
  let main_c_2 : IVec S_ 32 := constantI S_ 32 8#32
  let main_v7 : IVec S73 32 := broadcastInDim S73 ![] bcast_S_S73 main_c_2
  let main_v8 : IVec S73 1 := cmpi .slt main_arg2 main_v7
  let main_v9 : IVec S73 1 := andi main_v6 main_v8
  let main_c_3 : IVec S_ 32 := constantI S_ 32 0#32
  let main_v10 : IVec S1 32 := broadcastInDim S1 ![] bcast_S_S1 main_c_3
  let main_v11 : IVec S1 1 := cmpi .sge main_arg3 main_v10
  let main_c_4 : IVec S_ 32 := constantI S_ 32 73#32
  let main_v12 : IVec S1 32 := broadcastInDim S1 ![] bcast_S_S1 main_c_4
  let main_v13 : IVec S1 1 := cmpi .slt main_arg3 main_v12
  let main_v14 : IVec S1 1 := andi main_v11 main_v13
  let main_v15 : IVec S74826 1 := concatenate S74826 0 [⟨S74752, main_v4⟩, ⟨S73, main_v9⟩, ⟨S1, main_v14⟩] concatenates_S74752_S73_S1_S74826_d0
  main_v15
-- ==== Pre_slotted.lean ====
abbrev S65536 : Shape := ⟨1, ![65536]⟩
abbrev S32768x128 : Shape := ⟨2, ![32768, 128]⟩
abbrev S32768x2048 : Shape := ⟨2, ![32768, 2048]⟩
abbrev S2048 : Shape := ⟨1, ![2048]⟩
abbrev S74752x2048 : Shape := ⟨2, ![74752, 2048]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S65536 32) (main_arg1 : FVec F S32768x128 .f32) (main_arg2 : FVec F S32768x2048 .f32) (main_arg3 : FVec F S2048 .f32) (main_arg4 : FVec F S74752x2048 .f32) : IVec S65536 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 74752#32
  let main_v2 : IVec S65536 32 := broadcastInDim S65536 ![] bcast_S_S65536 main_c_0
  let main_v3 : IVec S65536 1 := cmpi .slt main_arg0 main_v2
  let main_v4 : IVec S65536 1 := andi main_v1 main_v3
  main_v4
-- ==== Kernel.lean ====
abbrev S32768x2048 : Shape := ⟨2, ![32768, 2048]⟩
abbrev S74752 : Shape := ⟨1, ![74752]⟩
abbrev S73 : Shape := ⟨1, ![73]⟩
abbrev S1 : Shape := ⟨1, ![1]⟩
abbrev S1x8x2048x7168 : Shape := ⟨4, ![1, 8, 2048, 7168]⟩
abbrev S1x8x7168x2048 : Shape := ⟨4, ![1, 8, 7168, 2048]⟩
abbrev S73x1x1024 : Shape := ⟨3, ![73, 1, 1024]⟩
abbrev S8x2048x7168 : Shape := ⟨3, ![8, 2048, 7168]⟩
abbrev S8x7168x2048 : Shape := ⟨3, ![8, 7168, 2048]⟩
abbrev S74752x2048 : Shape := ⟨2, ![74752, 2048]⟩
abbrev S1x1x1024 : Shape := ⟨3, ![1, 1, 1024]⟩
abbrev S1x2048x512 : Shape := ⟨3, ![1, 2048, 512]⟩
abbrev S1x512x2048 : Shape := ⟨3, ![1, 512, 2048]⟩
abbrev S1024x2048 : Shape := ⟨2, ![1024, 2048]⟩
abbrev S1036x2048 : Shape := ⟨2, ![1036, 2048]⟩
abbrev S_ : Shape := ⟨0, ![]⟩
abbrev S1x1x1 : Shape := ⟨3, ![1, 1, 1]⟩
abbrev S1x2048 : Shape := ⟨2, ![1, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 13
  | .vmem => 10
  | .smem => 6
  | _ => 0

abbrev bufTy : (tb : Table) → Fin (tcTables nBuf tb) → BufTy
  | .hbm, ⟨0, _⟩ => ⟨S32768x2048, .f32⟩
  | .hbm, ⟨1, _⟩ => ⟨S74752, .i32⟩
  | .hbm, ⟨2, _⟩ => ⟨S1x8x2048x7168, .f32⟩
  | .hbm, ⟨3, _⟩ => ⟨S1x8x2048x7168, .f32⟩
  | .hbm, ⟨4, _⟩ => ⟨S1x8x7168x2048, .f32⟩
  | .hbm, ⟨5, _⟩ => ⟨S73x1x1024, .i32⟩
  | .hbm, ⟨6, _⟩ => ⟨S8x2048x7168, .f32⟩
  | .hbm, ⟨7, _⟩ => ⟨S8x2048x7168, .bf16⟩
  | .hbm, ⟨8, _⟩ => ⟨S8x2048x7168, .f32⟩
  | .hbm, ⟨9, _⟩ => ⟨S8x2048x7168, .bf16⟩
  | .hbm, ⟨10, _⟩ => ⟨S8x7168x2048, .f32⟩
  | .hbm, ⟨11, _⟩ => ⟨S8x7168x2048, .bf16⟩
  | .hbm, ⟨12, _⟩ => ⟨S74752x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1024x2048, .f32⟩
  | .local _ .vmem, ⟨7, _⟩ => ⟨S1024x2048, .f32⟩
  | .local _ .vmem, ⟨8, _⟩ => ⟨S1036x2048, .f32⟩
  | .local _ .vmem, ⟨9, _⟩ => ⟨S1024x2048, .bf16⟩
  | .local _ .smem, ⟨0, _⟩ => ⟨S73, .i32⟩
  | .local _ .smem, ⟨1, _⟩ => ⟨S1, .i32⟩
  | .local _ .smem, ⟨2, _⟩ => ⟨S1x1x1024, .i32⟩
  | .local _ .smem, ⟨3, _⟩ => ⟨S1x1x1024, .i32⟩
  | .local _ .smem, ⟨4, _⟩ => ⟨S1x1x1024, .i32⟩
  | .local _ .smem, ⟨5, _⟩ => ⟨S1x1x1024, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![73, 14], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c0_i32_4 : BitVec 32 := 0#32
  let v9 : BitVec 1 := Scalar.cmpi .eq arg0 c0_i32_4
  let v10 : BitVec 32 := Scalar.extui v9
  let c0_i32_5 : BitVec 32 := 0#32
  let v11 : BitVec 1 := Scalar.cmpi .ne v10 c0_i32_5
  v11

@[reducible] def k0_t1_loop : Scf.Loop 32 :=
  let c0_i32_7 : BitVec 32 := 0#32
  let c1036_i32 : BitVec 32 := 1036#32
  let v15 : BitVec 32 := Scalar.addi c0_i32_7 c1036_i32
  let c1_i32 : BitVec 32 := 1#32
  ⟨c0_i32_7, v15, c1_i32⟩
def k0_off2 (k0_t1 : Fin k0_t1_loop.trips) : Fin 3 → Nat :=
  let c0_11 : Index := 0#32
  let c0_12 : Index := 0#32
  let c0_i32_10 : BitVec 32 := 0#32
  let c1_i32_9 : BitVec 32 := 1#32
  let c0_i32_7 : BitVec 32 := 0#32
  let c1_i32 : BitVec 32 := 1#32
  let arg14 : BitVec 32 := Scf.iv c0_i32_7 c1_i32 k0_t1
  let c1023_i32 : BitVec 32 := 1023#32
  let v16 : BitVec 32 := Scalar.minsi arg14 c1023_i32
  let v17 : BitVec 32 := Scalar.muli c1_i32_9 v16
  let v18 : BitVec 32 := Scalar.addi c0_i32_10 v17
  let v19 : Index := Scalar.indexCast v18
  ![0, 0, v19.toNat]
def k0_off3 (k0_t1 : Fin k0_t1_loop.trips) : Fin 2 → Nat :=
  let c0_i32_7 : BitVec 32 := 0#32
  let c1_i32 : BitVec 32 := 1#32
  let arg14 : BitVec 32 := Scf.iv c0_i32_7 c1_i32 k0_t1
  let c0_i32_13 : BitVec 32 := 0#32
  ![arg14.toNat, 0]
def k0_off4 (v20 : BitVec 32) : Fin 2 → Nat :=
  let c0_i32_14 : BitVec 32 := 0#32
  ![v20.toNat, 0]

def k0_chk1 (i : grid0.Coords) (v20 : BitVec 32) : Prop :=
  (∀ (k0_h1 : k0_cond1 i = 1#1), ∀ (k0_h2 : k0_cond2 i = 1#1), ∀ a, (k0_off4 v20) a + S1x2048.size a ≤ S32768x2048.size a)
theorem k0_off4_inb : ∀ (i : grid0.Coords) (v20 : BitVec 32) (k0_hw1 : k0_chk1 i v20), ∀ (k0_h1 : k0_cond1 i = 1#1), ∀ (k0_h2 : k0_cond2 i = 1#1), ∀ a, (k0_off4 v20) a + S1x2048.size a ≤ S32768x2048.size a := fun i v20 k0_hw1 k0_h1 k0_h2 => k0_hw1 k0_h1 k0_h2

@[reducible] def k0_t2_loop : Scf.Loop 32 :=
  let c0_i32_7 : BitVec 32 := 0#32
  let c1036_i32 : BitVec 32 := 1036#32
  let v15 : BitVec 32 := Scalar.addi c0_i32_7 c1036_i32
  let c1_i32 : BitVec 32 := 1#32
  ⟨c0_i32_7, v15, c1_i32⟩
def k0_off5 (k0_t2 : Fin k0_t2_loop.trips) : Fin 3 → Nat :=
  let c0_15 : Index := 0#32
  let c0_16 : Index := 0#32
  let c0_i32_14 : BitVec 32 := 0#32
  let c1_i32_13 : BitVec 32 := 1#32
  let c0_i32_7 : BitVec 32 := 0#32
  let c1_i32 : BitVec 32 := 1#32
  let arg14 : BitVec 32 := Scf.iv c0_i32_7 c1_i32 k0_t2
  let c1023_i32 : BitVec 32 := 1023#32
  let v21 : BitVec 32 := Scalar.minsi arg14 c1023_i32
  let v22 : BitVec 32 := Scalar.muli c1_i32_13 v21
  let v23 : BitVec 32 := Scalar.addi c0_i32_14 v22
  let v24 : Index := Scalar.indexCast v23
  ![0, 0, v24.toNat]
def k0_off6 (k0_t2 : Fin k0_t2_loop.trips) : Fin 2 → Nat :=
  let c0_i32_7 : BitVec 32 := 0#32
  let c1_i32 : BitVec 32 := 1#32
  let arg14 : BitVec 32 := Scf.iv c0_i32_7 c1_i32 k0_t2
  let c0_i32_17 : BitVec 32 := 0#32
  ![arg14.toNat, 0]
def k0_off7 (v25 : BitVec 32) : Fin 2 → Nat :=
  let c0_i32_18 : BitVec 32 := 0#32
  ![v25.toNat, 0]
def k0_cond3 (i : grid0.Coords) (v0 : BitVec 32) : BitVec 1 :=
  let arg0 : BitVec 32 := BitVec.ofNat 32 (i 0).val
  let v12 : BitVec 1 := Scalar.cmpi .sle arg0 v0
  let v13 : BitVec 32 := Scalar.extui v12
  let c0_i32_6 : BitVec 32 := 0#32
  let v14 : BitVec 1 := Scalar.cmpi .ne v13 c0_i32_6
  v14

def k0_chk2 (i : grid0.Coords) (v0 : BitVec 32) (v25 : BitVec 32) : Prop :=
  (∀ (k0_h1 : k0_cond1 i = 1#1), ∀ (k0_h3 : k0_cond3 i v0 = 1#1), ∀ a, (k0_off7 v25) a + S1x2048.size a ≤ S32768x2048.size a)
theorem k0_off7_inb : ∀ (i : grid0.Coords) (v0 : BitVec 32) (v25 : BitVec 32) (k0_hw2 : k0_chk2 i v0 v25), ∀ (k0_h1 : k0_cond1 i = 1#1), ∀ (k0_h3 : k0_cond3 i v0 = 1#1), ∀ a, (k0_off7 v25) a + S1x2048.size a ≤ S32768x2048.size a := fun i v0 v25 k0_hw2 k0_h1 k0_h3 => k0_hw2 k0_h1 k0_h3

def k0_off8 (i : grid0.Coords) : Fin 3 → Nat :=
  let c0_3 : Index := 0#32
  let c0_4 : Index := 0#32
  let arg1 : BitVec 32 := BitVec.ofNat 32 (i 1).val
  let c74_i32 : BitVec 32 := 74#32
  let v7 : BitVec 32 := Scalar.muli arg1 c74_i32
  let c0_i32_2 : BitVec 32 := 0#32
  let v8 : BitVec 32 := Scalar.addi v7 c0_i32_2
  let c1023_i32 : BitVec 32 := 1023#32
  let v9 : BitVec 32 := Scalar.minsi v8 c1023_i32
  let v10 : Index := Scalar.indexCast v9
  ![0, 0, v10.toNat]
def k0_off9 (i : grid0.Coords) : Fin 2 → Nat :=
  let arg1 : BitVec 32 := BitVec.ofNat 32 (i 1).val
  let c74_i32 : BitVec 32 := 74#32
  let v7 : BitVec 32 := Scalar.muli arg1 c74_i32
  let c0_i32_2 : BitVec 32 := 0#32
  let v8 : BitVec 32 := Scalar.addi v7 c0_i32_2
  let c0_i32_5 : BitVec 32 := 0#32
  ![v8.toNat, 0]
def k0_off10 (v11 : BitVec 32) : Fin 2 → Nat :=
  let c0_i32_6 : BitVec 32 := 0#32
  ![v11.toNat, 0]
def k0_cond4 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_chk3 (i : grid0.Coords) (v0 : BitVec 32) (v11 : BitVec 32) : Prop :=
  (∀ (k0_h4 : k0_cond4 i v0 = 1#1), ∀ a, (k0_off10 v11) a + S1x2048.size a ≤ S32768x2048.size a)
theorem k0_off10_inb : ∀ (i : grid0.Coords) (v0 : BitVec 32) (v11 : BitVec 32) (k0_hw3 : k0_chk3 i v0 v11), ∀ (k0_h4 : k0_cond4 i v0 = 1#1), ∀ a, (k0_off10 v11) a + S1x2048.size a ≤ S32768x2048.size a := fun i v0 v11 k0_hw3 k0_h4 => k0_hw3 k0_h4

def k0_off11 (i : grid0.Coords) : Fin 3 → Nat :=
  let c0_9 : Index := 0#32
  let c0_10 : Index := 0#32
  let arg1 : BitVec 32 := BitVec.ofNat 32 (i 1).val
  let c74_i32_7 : BitVec 32 := 74#32
  let v14 : BitVec 32 := Scalar.muli arg1 c74_i32_7
  let c1_i32 : BitVec 32 := 1#32
  let v15 : BitVec 32 := Scalar.addi v14 c1_i32
  let c1023_i32_8 : BitVec 32 := 1023#32
  let v16 : BitVec 32 := Scalar.minsi v15 c1023_i32_8
  let v17 : Index := Scalar.indexCast v16
  ![0, 0, v17.toNat]
def k0_off12 (i : grid0.Coords) : Fin 2 → Nat :=
  let arg1 : BitVec 32 := BitVec.ofNat 32 (i 1).val
  let c74_i32_7 : BitVec 32 := 74#32
  let v14 : BitVec 32 := Scalar.muli arg1 c74_i32_7
  let c1_i32 : BitVec 32 := 1#32
  let v15 : BitVec 32 := Scalar.addi v14 c1_i32
  let c0_i32_11 : BitVec 32 := 0#32
  ![v15.toNat, 0]
def k0_off13 (v18 : BitVec 32) : Fin 2 → Nat :=
  let c0_i32_12 : BitVec 32 := 0#32
  ![v18.toNat, 0]

def k0_chk4 (i : grid0.Coords) (v0 : BitVec 32) (v18 : BitVec 32) : Prop :=
  (∀ (k0_h4 : k0_cond4 i v0 = 1#1), ∀ a, (k0_off13 v18) a + S1x2048.size a ≤ S32768x2048.size a)
theorem k0_off13_inb : ∀ (i : grid0.Coords) (v0 : BitVec 32) (v18 : BitVec 32) (k0_hw4 : k0_chk4 i v0 v18), ∀ (k0_h4 : k0_cond4 i v0 = 1#1), ∀ a, (k0_off13 v18) a + S1x2048.size a ≤ S32768x2048.size a := fun i v0 v18 k0_hw4 k0_h4 => k0_hw4 k0_h4

def k0_off14 (i : grid0.Coords) : Fin 3 → Nat :=
  let c0_15 : Index := 0#32
  let c0_16 : Index := 0#32
  let arg1 : BitVec 32 := BitVec.ofNat 32 (i 1).val
  let c74_i32_13 : BitVec 32 := 74#32
  let v21 : BitVec 32 := Scalar.muli arg1 c74_i32_13
  let c2_i32 : BitVec 32 := 2#32
  let v22 : BitVec 32 := Scalar.addi v21 c2_i32
  let c1023_i32_14 : BitVec 32 := 1023#32
  let v23 : BitVec 32 := Scalar.minsi v22 c1023_i32_14
  let v24 : Index := Scalar.indexCast v23
  ![0, 0, v24.toNat]
def k0_off15 (i : grid0.Coords) : Fin 2 → Nat :=
  let arg1 : BitVec 32 := BitVec.ofNat 32 (i 1).val
  let c74_i32_13 : BitVec 32 := 74#32
  let v21 : BitVec 32 := Scalar.muli arg1 c74_i32_13
  let c2_i32 : BitVec 32 := 2#32
  let v22 : BitVec 32 := Scalar.addi v21 c2_i32
  let c0_i32_17 : BitVec 32 := 0#32
  ![v22.toNat, 0]
def k0_off16 (v25 : BitVec 32) : Fin 2 → Nat :=
  let c0_i32_18 : BitVec 32 := 0#32
  ![v25.toNat, 0]

def k0_chk5 (i : grid0.Coords) (v0 : BitVec 32) (v25 : BitVec 32) : Prop :=
  (∀ (k0_h4 : k0_cond4 i v0 = 1#1), ∀ a, (k0_off16 v25) a + S1x2048.size a ≤ S32768x2048.size a)
theorem k0_off16_inb : ∀ (i : grid0.Coords) (v0 : BitVec 32) (v25 : BitVec 32) (k0_hw5 : k0_chk5 i v0 v25), ∀ (k0_h4 : k0_cond4 i v0 = 1#1), ∀ a, (k0_off16 v25) a + S1x2048.size a ≤ S32768x2048.size a := fun i v0 v25 k0_hw5 k0_h4 => k0_hw5 k0_h4

def k0_off17 (i : grid0.Coords) : Fin 3 → Nat :=
  let c0_21 : Index := 0#32
  let c0_22 : Index := 0#32
  let arg1 : BitVec 32 := BitVec.ofNat 32 (i 1).val
  let c74_i32_19 : BitVec 32 := 74#32
  let v28 : BitVec 32 := Scalar.muli arg1 c74_i32_19
  let c3_i32 : BitVec 32 := 3#32
  let v29 : BitVec 32 := Scalar.addi v28 c3_i32
  let c1023_i32_20 : BitVec 32 := 1023#32
  let v30 : BitVec 32 := Scalar.minsi v29 c1023_i32_20
  let v31 : Index := Scalar.indexCast v30
  ![0, 0, v31.toNat]
def k0_off18 (i : grid0.Coords) : Fin 2 → Nat :=
  let arg1 : BitVec 32 := BitVec.ofNat 32 (i 1).val
  let c74_i32_19 : BitVec 32 := 74#32
  let v28 : BitVec 32 := Scalar.muli arg1 c74_i32_19
  let c3_i32 : BitVec 32 := 3#32
  let v29 : BitVec 32 := Scalar.addi v28 c3_i32
  let c0_i32_23 : BitVec 32 := 0#32
  ![v29.toNat, 0]
def k0_off19 (v32 : BitVec 32) : Fin 2 → Nat :=
  let c0_i32_24 : BitVec 32 := 0#32
  ![v32.toNat, 0]

def k0_chk6 (i : grid0.Coords) (v0 : BitVec 32) (v32 : BitVec 32) : Prop :=
  (∀ (k0_h4 : k0_cond4 i v0 = 1#1), ∀ a, (k0_off19 v32) a + S1x2048.size a ≤ S32768x2048.size a)
theorem k0_off19_inb : ∀ (i : grid0.Coords) (v0 : BitVec 32) (v32 : BitVec 32) (k0_hw6 : k0_chk6 i v0 v32), ∀ (k0_h4 : k0_cond4 i v0 = 1#1), ∀ a, (k0_off19 v32) a + S1x2048.size a ≤ S32768x2048.size a := fun i v0 v32 k0_hw6 k0_h4 => k0_hw6 k0_h4

def k0_off20 (i : grid0.Coords) : Fin 3 → Nat :=
  let c0_27 : Index := 0#32
  let c0_28 : Index := 0#32
  let arg1 : BitVec 32 := BitVec.ofNat 32 (i 1).val
  let c74_i32_25 : BitVec 32 := 74#32
  let v35 : BitVec 32 := Scalar.muli arg1 c74_i32_25
  let c4_i32 : BitVec 32 := 4#32
  let v36 : BitVec 32 := Scalar.addi v35 c4_i32
  let c1023_i32_26 : BitVec 32 := 1023#32
  let v37 : BitVec 32 := Scalar.minsi v36 c1023_i32_26
  let v38 : Index := Scalar.indexCast v37
  ![0, 0, v38.toNat]
def k0_off21 (i : grid0.Coords) : Fin 2 → Nat :=
  let arg1 : BitVec 32 := BitVec.ofNat 32 (i 1).val
  let c74_i32_25 : BitVec 32 := 74#32
  let v35 : BitVec 32 := Scalar.muli arg1 c74_i32_25
  let c4_i32 : BitVec 32 := 4#32
  let v36 : BitVec 32 := Scalar.addi v35 c4_i32
  let c0_i32_29 : BitVec 32 := 0#32
  ![v36.toNat, 0]
def k0_off22 (v39 : BitVec 32) : Fin 2 → Nat :=
  let c0_i32_30 : BitVec 32 := 0#32
  ![v39.toNat, 0]

def k0_chk7 (i : grid0.Coords) (v0 : BitVec 32) (v39 : BitVec 32) : Prop :=
  (∀ (k0_h4 : k0_cond4 i v0 = 1#1), ∀ a, (k0_off22 v39) a + S1x2048.size a ≤ S32768x2048.size a)
theorem k0_off22_inb : ∀ (i : grid0.Coords) (v0 : BitVec 32) (v39 : BitVec 32) (k0_hw7 : k0_chk7 i v0 v39), ∀ (k0_h4 : k0_cond4 i v0 = 1#1), ∀ a, (k0_off22 v39) a + S1x2048.size a ≤ S32768x2048.size a := fun i v0 v39 k0_hw7 k0_h4 => k0_hw7 k0_h4

def k0_off23 (i : grid0.Coords) : Fin 3 → Nat :=
  let c0_33 : Index := 0#32
  let c0_34 : Index := 0#32
  let arg1 : BitVec 32 := BitVec.ofNat 32 (i 1).val
  let c74_i32_31 : BitVec 32 := 74#32
  let v42 : BitVec 32 := Scalar.muli arg1 c74_i32_31
  let c5_i32 : BitVec 32 := 5#32
  let v43 : BitVec 32 := Scalar.addi v42 c5_i32
  let c1023_i32_32 : BitVec 32 := 1023#32
  let v44 : BitVec 32 := Scalar.minsi v43 c1023_i32_32
  let v45 : Index := Scalar.indexCast v44
  ![0, 0, v45.toNat]
def k0_off24 (i : grid0.Coords) : Fin 2 → Nat :=
  let arg1 : BitVec 32 := BitVec.ofNat 32 (i 1).val
  let c74_i32_31 : BitVec 32 := 74#32
  let v42 : BitVec 32 := Scalar.muli arg1 c74_i32_31
  let c5_i32 : BitVec 32 := 5#32
  let v43 : BitVec 32 := Scalar.addi v42 c5_i32
  let c0_i32_35 : BitVec 32 := 0#32
  ![v43.toNat, 0]
def k0_off25 (v46 : BitVec 32) : Fin 2 → Nat :=
  let c0_i32_36 : BitVec 32 := 0#32
  ![v46.toNat, 0]

def k0_chk8 (i : grid0.Coords) (v0 : BitVec 32) (v46 : BitVec 32) : Prop :=
  (∀ (k0_h4 : k0_cond4 i v0 = 1#1), ∀ a, (k0_off25 v46) a + S1x2048.size a ≤ S32768x2048.size a)
theorem k0_off25_inb : ∀ (i : grid0.Coords) (v0 : BitVec 32) (v46 : BitVec 32) (k0_hw8 : k0_chk8 i v0 v46), ∀ (k0_h4 : k0_cond4 i v0 = 1#1), ∀ a, (k0_off25 v46) a + S1x2048.size a ≤ S32768x2048.size a := fun i v0 v46 k0_hw8 k0_h4 => k0_hw8 k0_h4

def k0_off26 (i : grid0.Coords) : Fin 3 → Nat :=
  let c0_39 : Index := 0#32
  let c0_40 : Index := 0#32
  let arg1 : BitVec 32 := BitVec.ofNat 32 (i 1).val
  let c74_i32_37 : BitVec 32 := 74#32
  let v49 : BitVec 32 := Scalar.muli arg1 c74_i32_37
  let c6_i32 : BitVec 32 := 6#32
  let v50 : BitVec 32 := Scalar.addi v49 c6_i32
  let c1023_i32_38 : BitVec 32 := 1023#32
  let v51 : BitVec 32 := Scalar.minsi v50 c1023_i32_38
  let v52 : Index := Scalar.indexCast v51
  ![0, 0, v52.toNat]
def k0_off27 (i : grid0.Coords) : Fin 2 → Nat :=
  let arg1 : BitVec 32 := BitVec.ofNat 32 (i 1).val
  let c74_i32_37 : BitVec 32 := 74#32
  let v49 : BitVec 32 := Scalar.muli arg1 c74_i32_37
  let c6_i32 : BitVec 32 := 6#32
  let v50 : BitVec 32 := Scalar.addi v49 c6_i32
  let c0_i32_41 : BitVec 32 := 0#32
  ![v50.toNat, 0]
def k0_off28 (v53 : BitVec 32) : Fin 2 → Nat :=
  let c0_i32_42 : BitVec 32 := 0#32
  ![v53.toNat, 0]

def k0_chk9 (i : grid0.Coords) (v0 : BitVec 32) (v53 : BitVec 32) : Prop :=
  (∀ (k0_h4 : k0_cond4 i v0 = 1#1), ∀ a, (k0_off28 v53) a + S1x2048.size a ≤ S32768x2048.size a)
theorem k0_off28_inb : ∀ (i : grid0.Coords) (v0 : BitVec 32) (v53 : BitVec 32) (k0_hw9 : k0_chk9 i v0 v53), ∀ (k0_h4 : k0_cond4 i v0 = 1#1), ∀ a, (k0_off28 v53) a + S1x2048.size a ≤ S32768x2048.size a := fun i v0 v53 k0_hw9 k0_h4 => k0_hw9 k0_h4

def k0_off29 (i : grid0.Coords) : Fin 3 → Nat :=
  let c0_45 : Index := 0#32
  let c0_46 : Index := 0#32
  let arg1 : BitVec 32 := BitVec.ofNat 32 (i 1).val
  let c74_i32_43 : BitVec 32 := 74#32
  let v56 : BitVec 32 := Scalar.muli arg1 c74_i32_43
  let c7_i32 : BitVec 32 := 7#32
  let v57 : BitVec 32 := Scalar.addi v56 c7_i32
  let c1023_i32_44 : BitVec 32 := 1023#32
  let v58 : BitVec 32 := Scalar.minsi v57 c1023_i32_44
  let v59 : Index := Scalar.indexCast v58
  ![0, 0, v59.toNat]
def k0_off30 (i : grid0.Coords) : Fin 2 → Nat :=
  let arg1 : BitVec 32 := BitVec.ofNat 32 (i 1).val
  let c74_i32_43 : BitVec 32 := 74#32
  let v56 : BitVec 32 := Scalar.muli arg1 c74_i32_43
  let c7_i32 : BitVec 32 := 7#32
  let v57 : BitVec 32 := Scalar.addi v56 c7_i32
  let c0_i32_47 : BitVec 32 := 0#32
  ![v57.toNat, 0]
def k0_off31 (v60 : BitVec 32) : Fin 2 → Nat :=
  let c0_i32_48 : BitVec 32 := 0#32
  ![v60.toNat, 0]

def k0_chk10 (i : grid0.Coords) (v0 : BitVec 32) (v60 : BitVec 32) : Prop :=
  (∀ (k0_h4 : k0_cond4 i v0 = 1#1), ∀ a, (k0_off31 v60) a + S1x2048.size a ≤ S32768x2048.size a)
theorem k0_off31_inb : ∀ (i : grid0.Coords) (v0 : BitVec 32) (v60 : BitVec 32) (k0_hw10 : k0_chk10 i v0 v60), ∀ (k0_h4 : k0_cond4 i v0 = 1#1), ∀ a, (k0_off31 v60) a + S1x2048.size a ≤ S32768x2048.size a := fun i v0 v60 k0_hw10 k0_h4 => k0_hw10 k0_h4

def k0_off32 (i : grid0.Coords) : Fin 3 → Nat :=
  let c0_51 : Index := 0#32
  let c0_52 : Index := 0#32
  let arg1 : BitVec 32 := BitVec.ofNat 32 (i 1).val
  let c74_i32_49 : BitVec 32 := 74#32
  let v63 : BitVec 32 := Scalar.muli arg1 c74_i32_49
  let c8_i32 : BitVec 32 := 8#32
  let v64 : BitVec 32 := Scalar.addi v63 c8_i32
  let c1023_i32_50 : BitVec 32 := 1023#32
  let v65 : BitVec 32 := Scalar.minsi v64 c1023_i32_50
  let v66 : Index := Scalar.indexCast v65
  ![0, 0, v66.toNat]
def k0_off33 (i : grid0.Coords) : Fin 2 → Nat :=
  let arg1 : BitVec 32 := BitVec.ofNat 32 (i 1).val
  let c74_i32_49 : BitVec 32 := 74#32
  let v63 : BitVec 32 := Scalar.muli arg1 c74_i32_49
  let c8_i32 : BitVec 32 := 8#32
  let v64 : BitVec 32 := Scalar.addi v63 c8_i32
  let c0_i32_53 : BitVec 32 := 0#32
  ![v64.toNat, 0]
def k0_off34 (v67 : BitVec 32) : Fin 2 → Nat :=
  let c0_i32_54 : BitVec 32 := 0#32
  ![v67.toNat, 0]

def k0_chk11 (i : grid0.Coords) (v0 : BitVec 32) (v67 : BitVec 32) : Prop :=
  (∀ (k0_h4 : k0_cond4 i v0 = 1#1), ∀ a, (k0_off34 v67) a + S1x2048.size a ≤ S32768x2048.size a)
theorem k0_off34_inb : ∀ (i : grid0.Coords) (v0 : BitVec 32) (v67 : BitVec 32) (k0_hw11 : k0_chk11 i v0 v67), ∀ (k0_h4 : k0_cond4 i v0 = 1#1), ∀ a, (k0_off34 v67) a + S1x2048.size a ≤ S32768x2048.size a := fun i v0 v67 k0_hw11 k0_h4 => k0_hw11 k0_h4

def k0_off35 (i : grid0.Coords) : Fin 3 → Nat :=
  let c0_57 : Index := 0#32
  let c0_58 : Index := 0#32
  let arg1 : BitVec 32 := BitVec.ofNat 32 (i 1).val
  let c74_i32_55 : BitVec 32 := 74#32
  let v70 : BitVec 32 := Scalar.muli arg1 c74_i32_55
  let c9_i32 : BitVec 32 := 9#32
  let v71 : BitVec 32 := Scalar.addi v70 c9_i32
  let c1023_i32_56 : BitVec 32 := 1023#32
  let v72 : BitVec 32 := Scalar.minsi v71 c1023_i32_56
  let v73 : Index := Scalar.indexCast v72
  ![0, 0, v73.toNat]
def k0_off36 (i : grid0.Coords) : Fin 2 → Nat :=
  let arg1 : BitVec 32 := BitVec.ofNat 32 (i 1).val
  let c74_i32_55 : BitVec 32 := 74#32
  let v70 : BitVec 32 := Scalar.muli arg1 c74_i32_55
  let c9_i32 : BitVec 32 := 9#32
  let v71 : BitVec 32 := Scalar.addi v70 c9_i32
  let c0_i32_59 : BitVec 32 := 0#32
  ![v71.toNat, 0]
def k0_off37 (v74 : BitVec 32) : Fin 2 → Nat :=
  let c0_i32_60 : BitVec 32 := 0#32
  ![v74.toNat, 0]

def k0_chk12 (i : grid0.Coords) (v0 : BitVec 32) (v74 : BitVec 32) : Prop :=
  (∀ (k0_h4 : k0_cond4 i v0 = 1#1), ∀ a, (k0_off37 v74) a + S1x2048.size a ≤ S32768x2048.size a)
theorem k0_off37_inb : ∀ (i : grid0.Coords) (v0 : BitVec 32) (v74 : BitVec 32) (k0_hw12 : k0_chk12 i v0 v74), ∀ (k0_h4 : k0_cond4 i v0 = 1#1), ∀ a, (k0_off37 v74) a + S1x2048.size a ≤ S32768x2048.size a := fun i v0 v74 k0_hw12 k0_h4 => k0_hw12 k0_h4

def k0_off38 (i : grid0.Coords) : Fin 3 → Nat :=
  let c0_63 : Index := 0#32
  let c0_64 : Index := 0#32
  let arg1 : BitVec 32 := BitVec.ofNat 32 (i 1).val
  let c74_i32_61 : BitVec 32 := 74#32
  let v77 : BitVec 32 := Scalar.muli arg1 c74_i32_61
  let c10_i32 : BitVec 32 := 10#32
  let v78 : BitVec 32 := Scalar.addi v77 c10_i32
  let c1023_i32_62 : BitVec 32 := 1023#32
  let v79 : BitVec 32 := Scalar.minsi v78 c1023_i32_62
  let v80 : Index := Scalar.indexCast v79
  ![0, 0, v80.toNat]
def k0_off39 (i : grid0.Coords) : Fin 2 → Nat :=
  let arg1 : BitVec 32 := BitVec.ofNat 32 (i 1).val
  let c74_i32_61 : BitVec 32 := 74#32
  let v77 : BitVec 32 := Scalar.muli arg1 c74_i32_61
  let c10_i32 : BitVec 32 := 10#32
  let v78 : BitVec 32 := Scalar.addi v77 c10_i32
  let c0_i32_65 : BitVec 32 := 0#32
  ![v78.toNat, 0]
def k0_off40 (v81 : BitVec 32) : Fin 2 → Nat :=
  let c0_i32_66 : BitVec 32 := 0#32
  ![v81.toNat, 0]

def k0_chk13 (i : grid0.Coords) (v0 : BitVec 32) (v81 : BitVec 32) : Prop :=
  (∀ (k0_h4 : k0_cond4 i v0 = 1#1), ∀ a, (k0_off40 v81) a + S1x2048.size a ≤ S32768x2048.size a)
theorem k0_off40_inb : ∀ (i : grid0.Coords) (v0 : BitVec 32) (v81 : BitVec 32) (k0_hw13 : k0_chk13 i v0 v81), ∀ (k0_h4 : k0_cond4 i v0 = 1#1), ∀ a, (k0_off40 v81) a + S1x2048.size a ≤ S32768x2048.size a := fun i v0 v81 k0_hw13 k0_h4 => k0_hw13 k0_h4

def k0_off41 (i : grid0.Coords) : Fin 3 → Nat :=
  let c0_69 : Index := 0#32
  let c0_70 : Index := 0#32
  let arg1 : BitVec 32 := BitVec.ofNat 32 (i 1).val
  let c74_i32_67 : BitVec 32 := 74#32
  let v84 : BitVec 32 := Scalar.muli arg1 c74_i32_67
  let c11_i32 : BitVec 32 := 11#32
  let v85 : BitVec 32 := Scalar.addi v84 c11_i32
  let c1023_i32_68 : BitVec 32 := 1023#32
  let v86 : BitVec 32 := Scalar.minsi v85 c1023_i32_68
  let v87 : Index := Scalar.indexCast v86
  ![0, 0, v87.toNat]
def k0_off42 (i : grid0.Coords) : Fin 2 → Nat :=
  let arg1 : BitVec 32 := BitVec.ofNat 32 (i 1).val
  let c74_i32_67 : BitVec 32 := 74#32
  let v84 : BitVec 32 := Scalar.muli arg1 c74_i32_67
  let c11_i32 : BitVec 32 := 11#32
  let v85 : BitVec 32 := Scalar.addi v84 c11_i32
  let c0_i32_71 : BitVec 32 := 0#32
  ![v85.toNat, 0]
def k0_off43 (v88 : BitVec 32) : Fin 2 → Nat :=
  let c0_i32_72 : BitVec 32 := 0#32
  ![v88.toNat, 0]

def k0_chk14 (i : grid0.Coords) (v0 : BitVec 32) (v88 : BitVec 32) : Prop :=
  (∀ (k0_h4 : k0_cond4 i v0 = 1#1), ∀ a, (k0_off43 v88) a + S1x2048.size a ≤ S32768x2048.size a)
theorem k0_off43_inb : ∀ (i : grid0.Coords) (v0 : BitVec 32) (v88 : BitVec 32) (k0_hw14 : k0_chk14 i v0 v88), ∀ (k0_h4 : k0_cond4 i v0 = 1#1), ∀ a, (k0_off43 v88) a + S1x2048.size a ≤ S32768x2048.size a := fun i v0 v88 k0_hw14 k0_h4 => k0_hw14 k0_h4

def k0_off44 (i : grid0.Coords) : Fin 3 → Nat :=
  let c0_75 : Index := 0#32
  let c0_76 : Index := 0#32
  let arg1 : BitVec 32 := BitVec.ofNat 32 (i 1).val
  let c74_i32_73 : BitVec 32 := 74#32
  let v91 : BitVec 32 := Scalar.muli arg1 c74_i32_73
  let c12_i32 : BitVec 32 := 12#32
  let v92 : BitVec 32 := Scalar.addi v91 c12_i32
  let c1023_i32_74 : BitVec 32 := 1023#32
  let v93 : BitVec 32 := Scalar.minsi v92 c1023_i32_74
  let v94 : Index := Scalar.indexCast v93
  ![0, 0, v94.toNat]
def k0_off45 (i : grid0.Coords) : Fin 2 → Nat :=
  let arg1 : BitVec 32 := BitVec.ofNat 32 (i 1).val
  let c74_i32_73 : BitVec 32 := 74#32
  let v91 : BitVec 32 := Scalar.muli arg1 c74_i32_73
  let c12_i32 : BitVec 32 := 12#32
  let v92 : BitVec 32 := Scalar.addi v91 c12_i32
  let c0_i32_77 : BitVec 32 := 0#32
  ![v92.toNat, 0]
def k0_off46 (v95 : BitVec 32) : Fin 2 → Nat :=
  let c0_i32_78 : BitVec 32 := 0#32
  ![v95.toNat, 0]

def k0_chk15 (i : grid0.Coords) (v0 : BitVec 32) (v95 : BitVec 32) : Prop :=
  (∀ (k0_h4 : k0_cond4 i v0 = 1#1), ∀ a, (k0_off46 v95) a + S1x2048.size a ≤ S32768x2048.size a)
theorem k0_off46_inb : ∀ (i : grid0.Coords) (v0 : BitVec 32) (v95 : BitVec 32) (k0_hw15 : k0_chk15 i v0 v95), ∀ (k0_h4 : k0_cond4 i v0 = 1#1), ∀ a, (k0_off46 v95) a + S1x2048.size a ≤ S32768x2048.size a := fun i v0 v95 k0_hw15 k0_h4 => k0_hw15 k0_h4

def k0_off47 (i : grid0.Coords) : Fin 3 → Nat :=
  let c0_81 : Index := 0#32
  let c0_82 : Index := 0#32
  let arg1 : BitVec 32 := BitVec.ofNat 32 (i 1).val
  let c74_i32_79 : BitVec 32 := 74#32
  let v98 : BitVec 32 := Scalar.muli arg1 c74_i32_79
  let c13_i32 : BitVec 32 := 13#32
  let v99 : BitVec 32 := Scalar.addi v98 c13_i32
  let c1023_i32_80 : BitVec 32 := 1023#32
  let v100 : BitVec 32 := Scalar.minsi v99 c1023_i32_80
  let v101 : Index := Scalar.indexCast v100
  ![0, 0, v101.toNat]
def k0_off48 (i : grid0.Coords) : Fin 2 → Nat :=
  let arg1 : BitVec 32 := BitVec.ofNat 32 (i 1).val
  let c74_i32_79 : BitVec 32 := 74#32
  let v98 : BitVec 32 := Scalar.muli arg1 c74_i32_79
  let c13_i32 : BitVec 32 := 13#32
  let v99 : BitVec 32 := Scalar.addi v98 c13_i32
  let c0_i32_83 : BitVec 32 := 0#32
  ![v99.toNat, 0]
def k0_off49 (v102 : BitVec 32) : Fin 2 → Nat :=
  let c0_i32_84 : BitVec 32 := 0#32
  ![v102.toNat, 0]

def k0_chk16 (i : grid0.Coords) (v0 : BitVec 32) (v102 : BitVec 32) : Prop :=
  (∀ (k0_h4 : k0_cond4 i v0 = 1#1), ∀ a, (k0_off49 v102) a + S1x2048.size a ≤ S32768x2048.size a)
theorem k0_off49_inb : ∀ (i : grid0.Coords) (v0 : BitVec 32) (v102 : BitVec 32) (k0_hw16 : k0_chk16 i v0 v102), ∀ (k0_h4 : k0_cond4 i v0 = 1#1), ∀ a, (k0_off49 v102) a + S1x2048.size a ≤ S32768x2048.size a := fun i v0 v102 k0_hw16 k0_h4 => k0_hw16 k0_h4

def k0_off50 (i : grid0.Coords) : Fin 3 → Nat :=
  let c0_87 : Index := 0#32
  let c0_88 : Index := 0#32
  let arg1 : BitVec 32 := BitVec.ofNat 32 (i 1).val
  let c74_i32_85 : BitVec 32 := 74#32
  let v105 : BitVec 32 := Scalar.muli arg1 c74_i32_85
  let c14_i32 : BitVec 32 := 14#32
  let v106 : BitVec 32 := Scalar.addi v105 c14_i32
  let c1023_i32_86 : BitVec 32 := 1023#32
  let v107 : BitVec 32 := Scalar.minsi v106 c1023_i32_86
  let v108 : Index := Scalar.indexCast v107
  ![0, 0, v108.toNat]
def k0_off51 (i : grid0.Coords) : Fin 2 → Nat :=
  let arg1 : BitVec 32 := BitVec.ofNat 32 (i 1).val
  let c74_i32_85 : BitVec 32 := 74#32
  let v105 : BitVec 32 := Scalar.muli arg1 c74_i32_85
  let c14_i32 : BitVec 32 := 14#32
  let v106 : BitVec 32 := Scalar.addi v105 c14_i32
  let c0_i32_89 : BitVec 32 := 0#32
  ![v106.toNat, 0]
def k0_off52 (v109 : BitVec 32) : Fin 2 → Nat :=
  let c0_i32_90 : BitVec 32 := 0#32
  ![v109.toNat, 0]

def k0_chk17 (i : grid0.Coords) (v0 : BitVec 32) (v109 : BitVec 32) : Prop :=
  (∀ (k0_h4 : k0_cond4 i v0 = 1#1), ∀ a, (k0_off52 v109) a + S1x2048.size a ≤ S32768x2048.size a)
theorem k0_off52_inb : ∀ (i : grid0.Coords) (v0 : BitVec 32) (v109 : BitVec 32) (k0_hw17 : k0_chk17 i v0 v109), ∀ (k0_h4 : k0_cond4 i v0 = 1#1), ∀ a, (k0_off52 v109) a + S1x2048.size a ≤ S32768x2048.size a := fun i v0 v109 k0_hw17 k0_h4 => k0_hw17 k0_h4

def k0_off53 (i : grid0.Coords) : Fin 3 → Nat :=
  let c0_93 : Index := 0#32
  let c0_94 : Index := 0#32
  let arg1 : BitVec 32 := BitVec.ofNat 32 (i 1).val
  let c74_i32_91 : BitVec 32 := 74#32
  let v112 : BitVec 32 := Scalar.muli arg1 c74_i32_91
  let c15_i32 : BitVec 32 := 15#32
  let v113 : BitVec 32 := Scalar.addi v112 c15_i32
  let c1023_i32_92 : BitVec 32 := 1023#32
  let v114 : BitVec 32 := Scalar.minsi v113 c1023_i32_92
  let v115 : Index := Scalar.indexCast v114
  ![0, 0, v115.toNat]
def k0_off54 (i : grid0.Coords) : Fin 2 → Nat :=
  let arg1 : BitVec 32 := BitVec.ofNat 32 (i 1).val
  let c74_i32_91 : BitVec 32 := 74#32
  let v112 : BitVec 32 := Scalar.muli arg1 c74_i32_91
  let c15_i32 : BitVec 32 := 15#32
  let v113 : BitVec 32 := Scalar.addi v112 c15_i32
  let c0_i32_95 : BitVec 32 := 0#32
  ![v113.toNat, 0]
def k0_off55 (v116 : BitVec 32) : Fin 2 → Nat :=
  let c0_i32_96 : BitVec 32 := 0#32
  ![v116.toNat, 0]

def k0_chk18 (i : grid0.Coords) (v0 : BitVec 32) (v116 : BitVec 32) : Prop :=
  (∀ (k0_h4 : k0_cond4 i v0 = 1#1), ∀ a, (k0_off55 v116) a + S1x2048.size a ≤ S32768x2048.size a)
theorem k0_off55_inb : ∀ (i : grid0.Coords) (v0 : BitVec 32) (v116 : BitVec 32) (k0_hw18 : k0_chk18 i v0 v116), ∀ (k0_h4 : k0_cond4 i v0 = 1#1), ∀ a, (k0_off55 v116) a + S1x2048.size a ≤ S32768x2048.size a := fun i v0 v116 k0_hw18 k0_h4 => k0_hw18 k0_h4

def k0_off56 (i : grid0.Coords) : Fin 3 → Nat :=
  let c0_99 : Index := 0#32
  let c0_100 : Index := 0#32
  let arg1 : BitVec 32 := BitVec.ofNat 32 (i 1).val
  let c74_i32_97 : BitVec 32 := 74#32
  let v119 : BitVec 32 := Scalar.muli arg1 c74_i32_97
  let c16_i32 : BitVec 32 := 16#32
  let v120 : BitVec 32 := Scalar.addi v119 c16_i32
  let c1023_i32_98 : BitVec 32 := 1023#32
  let v121 : BitVec 32 := Scalar.minsi v120 c1023_i32_98
  let v122 : Index := Scalar.indexCast v121
  ![0, 0, v122.toNat]
def k0_off57 (i : grid0.Coords) : Fin 2 → Nat :=
  let arg1 : BitVec 32 := BitVec.ofNat 32 (i 1).val
  let c74_i32_97 : BitVec 32 := 74#32
  let v119 : BitVec 32 := Scalar.muli arg1 c74_i32_97
  let c16_i32 : BitVec 32 := 16#32
  let v120 : BitVec 32 := Scalar.addi v119 c16_i32
  let c0_i32_101 : BitVec 32 := 0#32
  ![v120.toNat, 0]
def k0_off58 (v123 : BitVec 32) : Fin 2 → Nat :=
  let c0_i32_102 : BitVec 32 := 0#32
  ![v123.toNat, 0]

def k0_chk19 (i : grid0.Coords) (v0 : BitVec 32) (v123 : BitVec 32) : Prop :=
  (∀ (k0_h4 : k0_cond4 i v0 = 1#1), ∀ a, (k0_off58 v123) a + S1x2048.size a ≤ S32768x2048.size a)
theorem k0_off58_inb : ∀ (i : grid0.Coords) (v0 : BitVec 32) (v123 : BitVec 32) (k0_hw19 : k0_chk19 i v0 v123), ∀ (k0_h4 : k0_cond4 i v0 = 1#1), ∀ a, (k0_off58 v123) a + S1x2048.size a ≤ S32768x2048.size a := fun i v0 v123 k0_hw19 k0_h4 => k0_hw19 k0_h4

def k0_off59 (i : grid0.Coords) : Fin 3 → Nat :=
  let c0_105 : Index := 0#32
  let c0_106 : Index := 0#32
  let arg1 : BitVec 32 := BitVec.ofNat 32 (i 1).val
  let c74_i32_103 : BitVec 32 := 74#32
  let v126 : BitVec 32 := Scalar.muli arg1 c74_i32_103
  let c17_i32 : BitVec 32 := 17#32
  let v127 : BitVec 32 := Scalar.addi v126 c17_i32
  let c1023_i32_104 : BitVec 32 := 1023#32
  let v128 : BitVec 32 := Scalar.minsi v127 c1023_i32_104
  let v129 : Index := Scalar.indexCast v128
  ![0, 0, v129.toNat]
def k0_off60 (i : grid0.Coords) : Fin 2 → Nat :=
  let arg1 : BitVec 32 := BitVec.ofNat 32 (i 1).val
  let c74_i32_103 : BitVec 32 := 74#32
  let v126 : BitVec 32 := Scalar.muli arg1 c74_i32_103
  let c17_i32 : BitVec 32 := 17#32
  let v127 : BitVec 32 := Scalar.addi v126 c17_i32
  let c0_i32_107 : BitVec 32 := 0#32
  ![v127.toNat, 0]
def k0_off61 (v130 : BitVec 32) : Fin 2 → Nat :=
  let c0_i32_108 : BitVec 32 := 0#32
  ![v130.toNat, 0]

def k0_chk20 (i : grid0.Coords) (v0 : BitVec 32) (v130 : BitVec 32) : Prop :=
  (∀ (k0_h4 : k0_cond4 i v0 = 1#1), ∀ a, (k0_off61 v130) a + S1x2048.size a ≤ S32768x2048.size a)
theorem k0_off61_inb : ∀ (i : grid0.Coords) (v0 : BitVec 32) (v130 : BitVec 32) (k0_hw20 : k0_chk20 i v0 v130), ∀ (k0_h4 : k0_cond4 i v0 = 1#1), ∀ a, (k0_off61 v130) a + S1x2048.size a ≤ S32768x2048.size a := fun i v0 v130 k0_hw20 k0_h4 => k0_hw20 k0_h4

def k0_off62 (i : grid0.Coords) : Fin 3 → Nat :=
  let c0_111 : Index := 0#32
  let c0_112 : Index := 0#32
  let arg1 : BitVec 32 := BitVec.ofNat 32 (i 1).val
  let c74_i32_109 : BitVec 32 := 74#32
  let v133 : BitVec 32 := Scalar.muli arg1 c74_i32_109
  let c18_i32 : BitVec 32 := 18#32
  let v134 : BitVec 32 := Scalar.addi v133 c18_i32
  let c1023_i32_110 : BitVec 32 := 1023#32
  let v135 : BitVec 32 := Scalar.minsi v134 c1023_i32_110
  let v136 : Index := Scalar.indexCast v135
  ![0, 0, v136.toNat]
def k0_off63 (i : grid0.Coords) : Fin 2 → Nat :=
  let arg1 : BitVec 32 := BitVec.ofNat 32 (i 1).val
  let c74_i32_109 : BitVec 32 := 74#32
  let v133 : BitVec 32 := Scalar.muli arg1 c74_i32_109
  let c18_i32 : BitVec 32 := 18#32
  let v134 : BitVec 32 := Scalar.addi v133 c18_i32
  let c0_i32_113 : BitVec 32 := 0#32
  ![v134.toNat, 0]
def k0_off64 (v137 : BitVec 32) : Fin 2 → Nat :=
  let c0_i32_114 : BitVec 32 := 0#32
  ![v137.toNat, 0]

def k0_chk21 (i : grid0.Coords) (v0 : BitVec 32) (v137 : BitVec 32) : Prop :=
  (∀ (k0_h4 : k0_cond4 i v0 = 1#1), ∀ a, (k0_off64 v137) a + S1x2048.size a ≤ S32768x2048.size a)
theorem k0_off64_inb : ∀ (i : grid0.Coords) (v0 : BitVec 32) (v137 : BitVec 32) (k0_hw21 : k0_chk21 i v0 v137), ∀ (k0_h4 : k0_cond4 i v0 = 1#1), ∀ a, (k0_off64 v137) a + S1x2048.size a ≤ S32768x2048.size a := fun i v0 v137 k0_hw21 k0_h4 => k0_hw21 k0_h4

def k0_off65 (i : grid0.Coords) : Fin 3 → Nat :=
  let c0_117 : Index := 0#32
  let c0_118 : Index := 0#32
  let arg1 : BitVec 32 := BitVec.ofNat 32 (i 1).val
  let c74_i32_115 : BitVec 32 := 74#32
  let v140 : BitVec 32 := Scalar.muli arg1 c74_i32_115
  let c19_i32 : BitVec 32 := 19#32
  let v141 : BitVec 32 := Scalar.addi v140 c19_i32
  let c1023_i32_116 : BitVec 32 := 1023#32
  let v142 : BitVec 32 := Scalar.minsi v141 c1023_i32_116
  let v143 : Index := Scalar.indexCast v142
  ![0, 0, v143.toNat]
def k0_off66 (i : grid0.Coords) : Fin 2 → Nat :=
  let arg1 : BitVec 32 := BitVec.ofNat 32 (i 1).val
  let c74_i32_115 : BitVec 32 := 74#32
  let v140 : BitVec 32 := Scalar.muli arg1 c74_i32_115
  let c19_i32 : BitVec 32 := 19#32
  let v141 : BitVec 32 := Scalar.addi v140 c19_i32
  let c0_i32_119 : BitVec 32 := 0#32
  ![v141.toNat, 0]
def k0_off67 (v144 : BitVec 32) : Fin 2 → Nat :=
  let c0_i32_120 : BitVec 32 := 0#32
  ![v144.toNat, 0]

def k0_chk22 (i : grid0.Coords) (v0 : BitVec 32) (v144 : BitVec 32) : Prop :=
  (∀ (k0_h4 : k0_cond4 i v0 = 1#1), ∀ a, (k0_off67 v144) a + S1x2048.size a ≤ S32768x2048.size a)
theorem k0_off67_inb : ∀ (i : grid0.Coords) (v0 : BitVec 32) (v144 : BitVec 32) (k0_hw22 : k0_chk22 i v0 v144), ∀ (k0_h4 : k0_cond4 i v0 = 1#1), ∀ a, (k0_off67 v144) a + S1x2048.size a ≤ S32768x2048.size a := fun i v0 v144 k0_hw22 k0_h4 => k0_hw22 k0_h4

def k0_off68 (i : grid0.Coords) : Fin 3 → Nat :=
  let c0_123 : Index := 0#32
  let c0_124 : Index := 0#32
  let arg1 : BitVec 32 := BitVec.ofNat 32 (i 1).val
  let c74_i32_121 : BitVec 32 := 74#32
  let v147 : BitVec 32 := Scalar.muli arg1 c74_i32_121
  let c20_i32 : BitVec 32 := 20#32
  let v148 : BitVec 32 := Scalar.addi v147 c20_i32
  let c1023_i32_122 : BitVec 32 := 1023#32
  let v149 : BitVec 32 := Scalar.minsi v148 c1023_i32_122
  let v150 : Index := Scalar.indexCast v149
  ![0, 0, v150.toNat]
def k0_off69 (i : grid0.Coords) : Fin 2 → Nat :=
  let arg1 : BitVec 32 := BitVec.ofNat 32 (i 1).val
  let c74_i32_121 : BitVec 32 := 74#32
  let v147 : BitVec 32 := Scalar.muli arg1 c74_i32_121
  let c20_i32 : BitVec 32 := 20#32
  let v148 : BitVec 32 := Scalar.addi v147 c20_i32
  let c0_i32_125 : BitVec 32 := 0#32
  ![v148.toNat, 0]
def k0_off70 (v151 : BitVec 32) : Fin 2 → Nat :=
  let c0_i32_126 : BitVec 32 := 0#32
  ![v151.toNat, 0]

def k0_chk23 (i : grid0.Coords) (v0 : BitVec 32) (v151 : BitVec 32) : Prop :=
  (∀ (k0_h4 : k0_cond4 i v0 = 1#1), ∀ a, (k0_off70 v151) a + S1x2048.size a ≤ S32768x2048.size a)
theorem k0_off70_inb : ∀ (i : grid0.Coords) (v0 : BitVec 32) (v151 : BitVec 32) (k0_hw23 : k0_chk23 i v0 v151), ∀ (k0_h4 : k0_cond4 i v0 = 1#1), ∀ a, (k0_off70 v151) a + S1x2048.size a ≤ S32768x2048.size a := fun i v0 v151 k0_hw23 k0_h4 => k0_hw23 k0_h4

def k0_off71 (i : grid0.Coords) : Fin 3 → Nat :=
  let c0_129 : Index := 0#32
  let c0_130 : Index := 0#32
  let arg1 : BitVec 32 := BitVec.ofNat 32 (i 1).val
  let c74_i32_127 : BitVec 32 := 74#32
  let v154 : BitVec 32 := Scalar.muli arg1 c74_i32_127
  let c21_i32 : BitVec 32 := 21#32
  let v155 : BitVec 32 := Scalar.addi v154 c21_i32
  let c1023_i32_128 : BitVec 32 := 1023#32
  let v156 : BitVec 32 := Scalar.minsi v155 c1023_i32_128
  let v157 : Index := Scalar.indexCast v156
  ![0, 0, v157.toNat]
def k0_off72 (i : grid0.Coords) : Fin 2 → Nat :=
  let arg1 : BitVec 32 := BitVec.ofNat 32 (i 1).val
  let c74_i32_127 : BitVec 32 := 74#32
  let v154 : BitVec 32 := Scalar.muli arg1 c74_i32_127
  let c21_i32 : BitVec 32 := 21#32
  let v155 : BitVec 32 := Scalar.addi v154 c21_i32
  let c0_i32_131 : BitVec 32 := 0#32
  ![v155.toNat, 0]
def k0_off73 (v158 : BitVec 32) : Fin 2 → Nat :=
  let c0_i32_132 : BitVec 32 := 0#32
  ![v158.toNat, 0]

def k0_chk24 (i : grid0.Coords) (v0 : BitVec 32) (v158 : BitVec 32) : Prop :=
  (∀ (k0_h4 : k0_cond4 i v0 = 1#1), ∀ a, (k0_off73 v158) a + S1x2048.size a ≤ S32768x2048.size a)
theorem k0_off73_inb : ∀ (i : grid0.Coords) (v0 : BitVec 32) (v158 : BitVec 32) (k0_hw24 : k0_chk24 i v0 v158), ∀ (k0_h4 : k0_cond4 i v0 = 1#1), ∀ a, (k0_off73 v158) a + S1x2048.size a ≤ S32768x2048.size a := fun i v0 v158 k0_hw24 k0_h4 => k0_hw24 k0_h4

def k0_off74 (i : grid0.Coords) : Fin 3 → Nat :=
  let c0_135 : Index := 0#32
  let c0_136 : Index := 0#32
  let arg1 : BitVec 32 := BitVec.ofNat 32 (i 1).val
  let c74_i32_133 : BitVec 32 := 74#32
  let v161 : BitVec 32 := Scalar.muli arg1 c74_i32_133
  let c22_i32 : BitVec 32 := 22#32
  let v162 : BitVec 32 := Scalar.addi v161 c22_i32
  let c1023_i32_134 : BitVec 32 := 1023#32
  let v163 : BitVec 32 := Scalar.minsi v162 c1023_i32_134
  let v164 : Index := Scalar.indexCast v163
  ![0, 0, v164.toNat]
def k0_off75 (i : grid0.Coords) : Fin 2 → Nat :=
  let arg1 : BitVec 32 := BitVec.ofNat 32 (i 1).val
  let c74_i32_133 : BitVec 32 := 74#32
  let v161 : BitVec 32 := Scalar.muli arg1 c74_i32_133
  let c22_i32 : BitVec 32 := 22#32
  let v162 : BitVec 32 := Scalar.addi v161 c22_i32
  let c0_i32_137 : BitVec 32 := 0#32
  ![v162.toNat, 0]
def k0_off76 (v165 : BitVec 32) : Fin 2 → Nat :=
  let c0_i32_138 : BitVec 32 := 0#32
  ![v165.toNat, 0]

def k0_chk25 (i : grid0.Coords) (v0 : BitVec 32) (v165 : BitVec 32) : Prop :=
  (∀ (k0_h4 : k0_cond4 i v0 = 1#1), ∀ a, (k0_off76 v165) a + S1x2048.size a ≤ S32768x2048.size a)
theorem k0_off76_inb : ∀ (i : grid0.Coords) (v0 : BitVec 32) (v165 : BitVec 32) (k0_hw25 : k0_chk25 i v0 v165), ∀ (k0_h4 : k0_cond4 i v0 = 1#1), ∀ a, (k0_off76 v165) a + S1x2048.size a ≤ S32768x2048.size a := fun i v0 v165 k0_hw25 k0_h4 => k0_hw25 k0_h4

def k0_off77 (i : grid0.Coords) : Fin 3 → Nat :=
  let c0_141 : Index := 0#32
  let c0_142 : Index := 0#32
  let arg1 : BitVec 32 := BitVec.ofNat 32 (i 1).val
  let c74_i32_139 : BitVec 32 := 74#32
  let v168 : BitVec 32 := Scalar.muli arg1 c74_i32_139
  let c23_i32 : BitVec 32 := 23#32
  let v169 : BitVec 32 := Scalar.addi v168 c23_i32
  let c1023_i32_140 : BitVec 32 := 1023#32
  let v170 : BitVec 32 := Scalar.minsi v169 c1023_i32_140
  let v171 : Index := Scalar.indexCast v170
  ![0, 0, v171.toNat]
def k0_off78 (i : grid0.Coords) : Fin 2 → Nat :=
  let arg1 : BitVec 32 := BitVec.ofNat 32 (i 1).val
  let c74_i32_139 : BitVec 32 := 74#32
  let v168 : BitVec 32 := Scalar.muli arg1 c74_i32_139
  let c23_i32 : BitVec 32 := 23#32
  let v169 : BitVec 32 := Scalar.addi v168 c23_i32
  let c0_i32_143 : BitVec 32 := 0#32
  ![v169.toNat, 0]
def k0_off79 (v172 : BitVec 32) : Fin 2 → Nat :=
  let c0_i32_144 : BitVec 32 := 0#32
  ![v172.toNat, 0]

def k0_chk26 (i : grid0.Coords) (v0 : BitVec 32) (v172 : BitVec 32) : Prop :=
  (∀ (k0_h4 : k0_cond4 i v0 = 1#1), ∀ a, (k0_off79 v172) a + S1x2048.size a ≤ S32768x2048.size a)
theorem k0_off79_inb : ∀ (i : grid0.Coords) (v0 : BitVec 32) (v172 : BitVec 32) (k0_hw26 : k0_chk26 i v0 v172), ∀ (k0_h4 : k0_cond4 i v0 = 1#1), ∀ a, (k0_off79 v172) a + S1x2048.size a ≤ S32768x2048.size a := fun i v0 v172 k0_hw26 k0_h4 => k0_hw26 k0_h4

def k0_off80 (i : grid0.Coords) : Fin 3 → Nat :=
  let c0_147 : Index := 0#32
  let c0_148 : Index := 0#32
  let arg1 : BitVec 32 := BitVec.ofNat 32 (i 1).val
  let c74_i32_145 : BitVec 32 := 74#32
  let v175 : BitVec 32 := Scalar.muli arg1 c74_i32_145
  let c24_i32 : BitVec 32 := 24#32
  let v176 : BitVec 32 := Scalar.addi v175 c24_i32
  let c1023_i32_146 : BitVec 32 := 1023#32
  let v177 : BitVec 32 := Scalar.minsi v176 c1023_i32_146
  let v178 : Index := Scalar.indexCast v177
  ![0, 0, v178.toNat]
def k0_off81 (i : grid0.Coords) : Fin 2 → Nat :=
  let arg1 : BitVec 32 := BitVec.ofNat 32 (i 1).val
  let c74_i32_145 : BitVec 32 := 74#32
  let v175 : BitVec 32 := Scalar.muli arg1 c74_i32_145
  let c24_i32 : BitVec 32 := 24#32
  let v176 : BitVec 32 := Scalar.addi v175 c24_i32
  let c0_i32_149 : BitVec 32 := 0#32
  ![v176.toNat, 0]
def k0_off82 (v179 : BitVec 32) : Fin 2 → Nat :=
  let c0_i32_150 : BitVec 32 := 0#32
  ![v179.toNat, 0]

def k0_chk27 (i : grid0.Coords) (v0 : BitVec 32) (v179 : BitVec 32) : Prop :=
  (∀ (k0_h4 : k0_cond4 i v0 = 1#1), ∀ a, (k0_off82 v179) a + S1x2048.size a ≤ S32768x2048.size a)
theorem k0_off82_inb : ∀ (i : grid0.Coords) (v0 : BitVec 32) (v179 : BitVec 32) (k0_hw27 : k0_chk27 i v0 v179), ∀ (k0_h4 : k0_cond4 i v0 = 1#1), ∀ a, (k0_off82 v179) a + S1x2048.size a ≤ S32768x2048.size a := fun i v0 v179 k0_hw27 k0_h4 => k0_hw27 k0_h4

def k0_off83 (i : grid0.Coords) : Fin 3 → Nat :=
  let c0_153 : Index := 0#32
  let c0_154 : Index := 0#32
  let arg1 : BitVec 32 := BitVec.ofNat 32 (i 1).val
  let c74_i32_151 : BitVec 32 := 74#32
  let v182 : BitVec 32 := Scalar.muli arg1 c74_i32_151
  let c25_i32 : BitVec 32 := 25#32
  let v183 : BitVec 32 := Scalar.addi v182 c25_i32
  let c1023_i32_152 : BitVec 32 := 1023#32
  let v184 : BitVec 32 := Scalar.minsi v183 c1023_i32_152
  let v185 : Index := Scalar.indexCast v184
  ![0, 0, v185.toNat]
def k0_off84 (i : grid0.Coords) : Fin 2 → Nat :=
  let arg1 : BitVec 32 := BitVec.ofNat 32 (i 1).val
  let c74_i32_151 : BitVec 32 := 74#32
  let v182 : BitVec 32 := Scalar.muli arg1 c74_i32_151
  let c25_i32 : BitVec 32 := 25#32
  let v183 : BitVec 32 := Scalar.addi v182 c25_i32
  let c0_i32_155 : BitVec 32 := 0#32
  ![v183.toNat, 0]
def k0_off85 (v186 : BitVec 32) : Fin 2 → Nat :=
  let c0_i32_156 : BitVec 32 := 0#32
  ![v186.toNat, 0]

def k0_chk28 (i : grid0.Coords) (v0 : BitVec 32) (v186 : BitVec 32) : Prop :=
  (∀ (k0_h4 : k0_cond4 i v0 = 1#1), ∀ a, (k0_off85 v186) a + S1x2048.size a ≤ S32768x2048.size a)
theorem k0_off85_inb : ∀ (i : grid0.Coords) (v0 : BitVec 32) (v186 : BitVec 32) (k0_hw28 : k0_chk28 i v0 v186), ∀ (k0_h4 : k0_cond4 i v0 = 1#1), ∀ a, (k0_off85 v186) a + S1x2048.size a ≤ S32768x2048.size a := fun i v0 v186 k0_hw28 k0_h4 => k0_hw28 k0_h4

def k0_off86 (i : grid0.Coords) : Fin 3 → Nat :=
  let c0_159 : Index := 0#32
  let c0_160 : Index := 0#32
  let arg1 : BitVec 32 := BitVec.ofNat 32 (i 1).val
  let c74_i32_157 : BitVec 32 := 74#32
  let v189 : BitVec 32 := Scalar.muli arg1 c74_i32_157
  let c26_i32 : BitVec 32 := 26#32
  let v190 : BitVec 32 := Scalar.addi v189 c26_i32
  let c1023_i32_158 : BitVec 32 := 1023#32
  let v191 : BitVec 32 := Scalar.minsi v190 c1023_i32_158
  let v192 : Index := Scalar.indexCast v191
  ![0, 0, v192.toNat]
def k0_off87 (i : grid0.Coords) : Fin 2 → Nat :=
  let arg1 : BitVec 32 := BitVec.ofNat 32 (i 1).val
  let c74_i32_157 : BitVec 32 := 74#32
  let v189 : BitVec 32 := Scalar.muli arg1 c74_i32_157
  let c26_i32 : BitVec 32 := 26#32
  let v190 : BitVec 32 := Scalar.addi v189 c26_i32
  let c0_i32_161 : BitVec 32 := 0#32
  ![v190.toNat, 0]
def k0_off88 (v193 : BitVec 32) : Fin 2 → Nat :=
  let c0_i32_162 : BitVec 32 := 0#32
  ![v193.toNat, 0]

def k0_chk29 (i : grid0.Coords) (v0 : BitVec 32) (v193 : BitVec 32) : Prop :=
  (∀ (k0_h4 : k0_cond4 i v0 = 1#1), ∀ a, (k0_off88 v193) a + S1x2048.size a ≤ S32768x2048.size a)
theorem k0_off88_inb : ∀ (i : grid0.Coords) (v0 : BitVec 32) (v193 : BitVec 32) (k0_hw29 : k0_chk29 i v0 v193), ∀ (k0_h4 : k0_cond4 i v0 = 1#1), ∀ a, (k0_off88 v193) a + S1x2048.size a ≤ S32768x2048.size a := fun i v0 v193 k0_hw29 k0_h4 => k0_hw29 k0_h4

def k0_off89 (i : grid0.Coords) : Fin 3 → Nat :=
  let c0_165 : Index := 0#32
  let c0_166 : Index := 0#32
  let arg1 : BitVec 32 := BitVec.ofNat 32 (i 1).val
  let c74_i32_163 : BitVec 32 := 74#32
  let v196 : BitVec 32 := Scalar.muli arg1 c74_i32_163
  let c27_i32 : BitVec 32 := 27#32
  let v197 : BitVec 32 := Scalar.addi v196 c27_i32
  let c1023_i32_164 : BitVec 32 := 1023#32
  let v198 : BitVec 32 := Scalar.minsi v197 c1023_i32_164
  let v199 : Index := Scalar.indexCast v198
  ![0, 0, v199.toNat]
def k0_off90 (i : grid0.Coords) : Fin 2 → Nat :=
  let arg1 : BitVec 32 := BitVec.ofNat 32 (i 1).val
  let c74_i32_163 : BitVec 32 := 74#32
  let v196 : BitVec 32 := Scalar.muli arg1 c74_i32_163
  let c27_i32 : BitVec 32 := 27#32
  let v197 : BitVec 32 := Scalar.addi v196 c27_i32
  let c0_i32_167 : BitVec 32 := 0#32
  ![v197.toNat, 0]
def k0_off91 (v200 : BitVec 32) : Fin 2 → Nat :=
  let c0_i32_168 : BitVec 32 := 0#32
  ![v200.toNat, 0]

def k0_chk30 (i : grid0.Coords) (v0 : BitVec 32) (v200 : BitVec 32) : Prop :=
  (∀ (k0_h4 : k0_cond4 i v0 = 1#1), ∀ a, (k0_off91 v200) a + S1x2048.size a ≤ S32768x2048.size a)
theorem k0_off91_inb : ∀ (i : grid0.Coords) (v0 : BitVec 32) (v200 : BitVec 32) (k0_hw30 : k0_chk30 i v0 v200), ∀ (k0_h4 : k0_cond4 i v0 = 1#1), ∀ a, (k0_off91 v200) a + S1x2048.size a ≤ S32768x2048.size a := fun i v0 v200 k0_hw30 k0_h4 => k0_hw30 k0_h4

def k0_off92 (i : grid0.Coords) : Fin 3 → Nat :=
  let c0_171 : Index := 0#32
  let c0_172 : Index := 0#32
  let arg1 : BitVec 32 := BitVec.ofNat 32 (i 1).val
  let c74_i32_169 : BitVec 32 := 74#32
  let v203 : BitVec 32 := Scalar.muli arg1 c74_i32_169
  let c28_i32 : BitVec 32 := 28#32
  let v204 : BitVec 32 := Scalar.addi v203 c28_i32
  let c1023_i32_170 : BitVec 32 := 1023#32
  let v205 : BitVec 32 := Scalar.minsi v204 c1023_i32_170
  let v206 : Index := Scalar.indexCast v205
  ![0, 0, v206.toNat]
def k0_off93 (i : grid0.Coords) : Fin 2 → Nat :=
  let arg1 : BitVec 32 := BitVec.ofNat 32 (i 1).val
  let c74_i32_169 : BitVec 32 := 74#32
  let v203 : BitVec 32 := Scalar.muli arg1 c74_i32_169
  let c28_i32 : BitVec 32 := 28#32
  let v204 : BitVec 32 := Scalar.addi v203 c28_i32
  let c0_i32_173 : BitVec 32 := 0#32
  ![v204.toNat, 0]
def k0_off94 (v207 : BitVec 32) : Fin 2 → Nat :=
  let c0_i32_174 : BitVec 32 := 0#32
  ![v207.toNat, 0]

def k0_chk31 (i : grid0.Coords) (v0 : BitVec 32) (v207 : BitVec 32) : Prop :=
  (∀ (k0_h4 : k0_cond4 i v0 = 1#1), ∀ a, (k0_off94 v207) a + S1x2048.size a ≤ S32768x2048.size a)
theorem k0_off94_inb : ∀ (i : grid0.Coords) (v0 : BitVec 32) (v207 : BitVec 32) (k0_hw31 : k0_chk31 i v0 v207), ∀ (k0_h4 : k0_cond4 i v0 = 1#1), ∀ a, (k0_off94 v207) a + S1x2048.size a ≤ S32768x2048.size a := fun i v0 v207 k0_hw31 k0_h4 => k0_hw31 k0_h4

def k0_off95 (i : grid0.Coords) : Fin 3 → Nat :=
  let c0_177 : Index := 0#32
  let c0_178 : Index := 0#32
  let arg1 : BitVec 32 := BitVec.ofNat 32 (i 1).val
  let c74_i32_175 : BitVec 32 := 74#32
  let v210 : BitVec 32 := Scalar.muli arg1 c74_i32_175
  let c29_i32 : BitVec 32 := 29#32
  let v211 : BitVec 32 := Scalar.addi v210 c29_i32
  let c1023_i32_176 : BitVec 32 := 1023#32
  let v212 : BitVec 32 := Scalar.minsi v211 c1023_i32_176
  let v213 : Index := Scalar.indexCast v212
  ![0, 0, v213.toNat]
def k0_off96 (i : grid0.Coords) : Fin 2 → Nat :=
  let arg1 : BitVec 32 := BitVec.ofNat 32 (i 1).val
  let c74_i32_175 : BitVec 32 := 74#32
  let v210 : BitVec 32 := Scalar.muli arg1 c74_i32_175
  let c29_i32 : BitVec 32 := 29#32
  let v211 : BitVec 32 := Scalar.addi v210 c29_i32
  let c0_i32_179 : BitVec 32 := 0#32
  ![v211.toNat, 0]
def k0_off97 (v214 : BitVec 32) : Fin 2 → Nat :=
  let c0_i32_180 : BitVec 32 := 0#32
  ![v214.toNat, 0]

def k0_chk32 (i : grid0.Coords) (v0 : BitVec 32) (v214 : BitVec 32) : Prop :=
  (∀ (k0_h4 : k0_cond4 i v0 = 1#1), ∀ a, (k0_off97 v214) a + S1x2048.size a ≤ S32768x2048.size a)
theorem k0_off97_inb : ∀ (i : grid0.Coords) (v0 : BitVec 32) (v214 : BitVec 32) (k0_hw32 : k0_chk32 i v0 v214), ∀ (k0_h4 : k0_cond4 i v0 = 1#1), ∀ a, (k0_off97 v214) a + S1x2048.size a ≤ S32768x2048.size a := fun i v0 v214 k0_hw32 k0_h4 => k0_hw32 k0_h4

def k0_off98 (i : grid0.Coords) : Fin 3 → Nat :=
  let c0_183 : Index := 0#32
  let c0_184 : Index := 0#32
  let arg1 : BitVec 32 := BitVec.ofNat 32 (i 1).val
  let c74_i32_181 : BitVec 32 := 74#32
  let v217 : BitVec 32 := Scalar.muli arg1 c74_i32_181
  let c30_i32 : BitVec 32 := 30#32
  let v218 : BitVec 32 := Scalar.addi v217 c30_i32
  let c1023_i32_182 : BitVec 32 := 1023#32
  let v219 : BitVec 32 := Scalar.minsi v218 c1023_i32_182
  let v220 : Index := Scalar.indexCast v219
  ![0, 0, v220.toNat]
def k0_off99 (i : grid0.Coords) : Fin 2 → Nat :=
  let arg1 : BitVec 32 := BitVec.ofNat 32 (i 1).val
  let c74_i32_181 : BitVec 32 := 74#32
  let v217 : BitVec 32 := Scalar.muli arg1 c74_i32_181
  let c30_i32 : BitVec 32 := 30#32
  let v218 : BitVec 32 := Scalar.addi v217 c30_i32
  let c0_i32_185 : BitVec 32 := 0#32
  ![v218.toNat, 0]
def k0_off100 (v221 : BitVec 32) : Fin 2 → Nat :=
  let c0_i32_186 : BitVec 32 := 0#32
  ![v221.toNat, 0]

def k0_chk33 (i : grid0.Coords) (v0 : BitVec 32) (v221 : BitVec 32) : Prop :=
  (∀ (k0_h4 : k0_cond4 i v0 = 1#1), ∀ a, (k0_off100 v221) a + S1x2048.size a ≤ S32768x2048.size a)
theorem k0_off100_inb : ∀ (i : grid0.Coords) (v0 : BitVec 32) (v221 : BitVec 32) (k0_hw33 : k0_chk33 i v0 v221), ∀ (k0_h4 : k0_cond4 i v0 = 1#1), ∀ a, (k0_off100 v221) a + S1x2048.size a ≤ S32768x2048.size a := fun i v0 v221 k0_hw33 k0_h4 => k0_hw33 k0_h4

def k0_off101 (i : grid0.Coords) : Fin 3 → Nat :=
  let c0_189 : Index := 0#32
  let c0_190 : Index := 0#32
  let arg1 : BitVec 32 := BitVec.ofNat 32 (i 1).val
  let c74_i32_187 : BitVec 32 := 74#32
  let v224 : BitVec 32 := Scalar.muli arg1 c74_i32_187
  let c31_i32 : BitVec 32 := 31#32
  let v225 : BitVec 32 := Scalar.addi v224 c31_i32
  let c1023_i32_188 : BitVec 32 := 1023#32
  let v226 : BitVec 32 := Scalar.minsi v225 c1023_i32_188
  let v227 : Index := Scalar.indexCast v226
  ![0, 0, v227.toNat]
def k0_off102 (i : grid0.Coords) : Fin 2 → Nat :=
  let arg1 : BitVec 32 := BitVec.ofNat 32 (i 1).val
  let c74_i32_187 : BitVec 32 := 74#32
  let v224 : BitVec 32 := Scalar.muli arg1 c74_i32_187
  let c31_i32 : BitVec 32 := 31#32
  let v225 : BitVec 32 := Scalar.addi v224 c31_i32
  let c0_i32_191 : BitVec 32 := 0#32
  ![v225.toNat, 0]
def k0_off103 (v228 : BitVec 32) : Fin 2 → Nat :=
  let c0_i32_192 : BitVec 32 := 0#32
  ![v228.toNat, 0]

def k0_chk34 (i : grid0.Coords) (v0 : BitVec 32) (v228 : BitVec 32) : Prop :=
  (∀ (k0_h4 : k0_cond4 i v0 = 1#1), ∀ a, (k0_off103 v228) a + S1x2048.size a ≤ S32768x2048.size a)
theorem k0_off103_inb : ∀ (i : grid0.Coords) (v0 : BitVec 32) (v228 : BitVec 32) (k0_hw34 : k0_chk34 i v0 v228), ∀ (k0_h4 : k0_cond4 i v0 = 1#1), ∀ a, (k0_off103 v228) a + S1x2048.size a ≤ S32768x2048.size a := fun i v0 v228 k0_hw34 k0_h4 => k0_hw34 k0_h4

def k0_off104 (i : grid0.Coords) : Fin 3 → Nat :=
  let c0_195 : Index := 0#32
  let c0_196 : Index := 0#32
  let arg1 : BitVec 32 := BitVec.ofNat 32 (i 1).val
  let c74_i32_193 : BitVec 32 := 74#32
  let v231 : BitVec 32 := Scalar.muli arg1 c74_i32_193
  let c32_i32 : BitVec 32 := 32#32
  let v232 : BitVec 32 := Scalar.addi v231 c32_i32
  let c1023_i32_194 : BitVec 32 := 1023#32
  let v233 : BitVec 32 := Scalar.minsi v232 c1023_i32_194
  let v234 : Index := Scalar.indexCast v233
  ![0, 0, v234.toNat]
def k0_off105 (i : grid0.Coords) : Fin 2 → Nat :=
  let arg1 : BitVec 32 := BitVec.ofNat 32 (i 1).val
  let c74_i32_193 : BitVec 32 := 74#32
  let v231 : BitVec 32 := Scalar.muli arg1 c74_i32_193
  let c32_i32 : BitVec 32 := 32#32
  let v232 : BitVec 32 := Scalar.addi v231 c32_i32
  let c0_i32_197 : BitVec 32 := 0#32
  ![v232.toNat, 0]
def k0_off106 (v235 : BitVec 32) : Fin 2 → Nat :=
  let c0_i32_198 : BitVec 32 := 0#32
  ![v235.toNat, 0]

def k0_chk35 (i : grid0.Coords) (v0 : BitVec 32) (v235 : BitVec 32) : Prop :=
  (∀ (k0_h4 : k0_cond4 i v0 = 1#1), ∀ a, (k0_off106 v235) a + S1x2048.size a ≤ S32768x2048.size a)
theorem k0_off106_inb : ∀ (i : grid0.Coords) (v0 : BitVec 32) (v235 : BitVec 32) (k0_hw35 : k0_chk35 i v0 v235), ∀ (k0_h4 : k0_cond4 i v0 = 1#1), ∀ a, (k0_off106 v235) a + S1x2048.size a ≤ S32768x2048.size a := fun i v0 v235 k0_hw35 k0_h4 => k0_hw35 k0_h4

def k0_off107 (i : grid0.Coords) : Fin 3 → Nat :=
  let c0_201 : Index := 0#32
  let c0_202 : Index := 0#32
  let arg1 : BitVec 32 := BitVec.ofNat 32 (i 1).val
  let c74_i32_199 : BitVec 32 := 74#32
  let v238 : BitVec 32 := Scalar.muli arg1 c74_i32_199
  let c33_i32 : BitVec 32 := 33#32
  let v239 : BitVec 32 := Scalar.addi v238 c33_i32
  let c1023_i32_200 : BitVec 32 := 1023#32
  let v240 : BitVec 32 := Scalar.minsi v239 c1023_i32_200
  let v241 : Index := Scalar.indexCast v240
  ![0, 0, v241.toNat]
def k0_off108 (i : grid0.Coords) : Fin 2 → Nat :=
  let arg1 : BitVec 32 := BitVec.ofNat 32 (i 1).val
  let c74_i32_199 : BitVec 32 := 74#32
  let v238 : BitVec 32 := Scalar.muli arg1 c74_i32_199
  let c33_i32 : BitVec 32 := 33#32
  let v239 : BitVec 32 := Scalar.addi v238 c33_i32
  let c0_i32_203 : BitVec 32 := 0#32
  ![v239.toNat, 0]
def k0_off109 (v242 : BitVec 32) : Fin 2 → Nat :=
  let c0_i32_204 : BitVec 32 := 0#32
  ![v242.toNat, 0]

def k0_chk36 (i : grid0.Coords) (v0 : BitVec 32) (v242 : BitVec 32) : Prop :=
  (∀ (k0_h4 : k0_cond4 i v0 = 1#1), ∀ a, (k0_off109 v242) a + S1x2048.size a ≤ S32768x2048.size a)
theorem k0_off109_inb : ∀ (i : grid0.Coords) (v0 : BitVec 32) (v242 : BitVec 32) (k0_hw36 : k0_chk36 i v0 v242), ∀ (k0_h4 : k0_cond4 i v0 = 1#1), ∀ a, (k0_off109 v242) a + S1x2048.size a ≤ S32768x2048.size a := fun i v0 v242 k0_hw36 k0_h4 => k0_hw36 k0_h4

def k0_off110 (i : grid0.Coords) : Fin 3 → Nat :=
  let c0_207 : Index := 0#32
  let c0_208 : Index := 0#32
  let arg1 : BitVec 32 := BitVec.ofNat 32 (i 1).val
  let c74_i32_205 : BitVec 32 := 74#32
  let v245 : BitVec 32 := Scalar.muli arg1 c74_i32_205
  let c34_i32 : BitVec 32 := 34#32
  let v246 : BitVec 32 := Scalar.addi v245 c34_i32
  let c1023_i32_206 : BitVec 32 := 1023#32
  let v247 : BitVec 32 := Scalar.minsi v246 c1023_i32_206
  let v248 : Index := Scalar.indexCast v247
  ![0, 0, v248.toNat]
def k0_off111 (i : grid0.Coords) : Fin 2 → Nat :=
  let arg1 : BitVec 32 := BitVec.ofNat 32 (i 1).val
  let c74_i32_205 : BitVec 32 := 74#32
  let v245 : BitVec 32 := Scalar.muli arg1 c74_i32_205
  let c34_i32 : BitVec 32 := 34#32
  let v246 : BitVec 32 := Scalar.addi v245 c34_i32
  let c0_i32_209 : BitVec 32 := 0#32
  ![v246.toNat, 0]
def k0_off112 (v249 : BitVec 32) : Fin 2 → Nat :=
  let c0_i32_210 : BitVec 32 := 0#32
  ![v249.toNat, 0]

def k0_chk37 (i : grid0.Coords) (v0 : BitVec 32) (v249 : BitVec 32) : Prop :=
  (∀ (k0_h4 : k0_cond4 i v0 = 1#1), ∀ a, (k0_off112 v249) a + S1x2048.size a ≤ S32768x2048.size a)
theorem k0_off112_inb : ∀ (i : grid0.Coords) (v0 : BitVec 32) (v249 : BitVec 32) (k0_hw37 : k0_chk37 i v0 v249), ∀ (k0_h4 : k0_cond4 i v0 = 1#1), ∀ a, (k0_off112 v249) a + S1x2048.size a ≤ S32768x2048.size a := fun i v0 v249 k0_hw37 k0_h4 => k0_hw37 k0_h4

def k0_off113 (i : grid0.Coords) : Fin 3 → Nat :=
  let c0_213 : Index := 0#32
  let c0_214 : Index := 0#32
  let arg1 : BitVec 32 := BitVec.ofNat 32 (i 1).val
  let c74_i32_211 : BitVec 32 := 74#32
  let v252 : BitVec 32 := Scalar.muli arg1 c74_i32_211
  let c35_i32 : BitVec 32 := 35#32
  let v253 : BitVec 32 := Scalar.addi v252 c35_i32
  let c1023_i32_212 : BitVec 32 := 1023#32
  let v254 : BitVec 32 := Scalar.minsi v253 c1023_i32_212
  let v255 : Index := Scalar.indexCast v254
  ![0, 0, v255.toNat]
def k0_off114 (i : grid0.Coords) : Fin 2 → Nat :=
  let arg1 : BitVec 32 := BitVec.ofNat 32 (i 1).val
  let c74_i32_211 : BitVec 32 := 74#32
  let v252 : BitVec 32 := Scalar.muli arg1 c74_i32_211
  let c35_i32 : BitVec 32 := 35#32
  let v253 : BitVec 32 := Scalar.addi v252 c35_i32
  let c0_i32_215 : BitVec 32 := 0#32
  ![v253.toNat, 0]
def k0_off115 (v256 : BitVec 32) : Fin 2 → Nat :=
  let c0_i32_216 : BitVec 32 := 0#32
  ![v256.toNat, 0]

def k0_chk38 (i : grid0.Coords) (v0 : BitVec 32) (v256 : BitVec 32) : Prop :=
  (∀ (k0_h4 : k0_cond4 i v0 = 1#1), ∀ a, (k0_off115 v256) a + S1x2048.size a ≤ S32768x2048.size a)
theorem k0_off115_inb : ∀ (i : grid0.Coords) (v0 : BitVec 32) (v256 : BitVec 32) (k0_hw38 : k0_chk38 i v0 v256), ∀ (k0_h4 : k0_cond4 i v0 = 1#1), ∀ a, (k0_off115 v256) a + S1x2048.size a ≤ S32768x2048.size a := fun i v0 v256 k0_hw38 k0_h4 => k0_hw38 k0_h4

def k0_off116 (i : grid0.Coords) : Fin 3 → Nat :=
  let c0_219 : Index := 0#32
  let c0_220 : Index := 0#32
  let arg1 : BitVec 32 := BitVec.ofNat 32 (i 1).val
  let c74_i32_217 : BitVec 32 := 74#32
  let v259 : BitVec 32 := Scalar.muli arg1 c74_i32_217
  let c36_i32 : BitVec 32 := 36#32
  let v260 : BitVec 32 := Scalar.addi v259 c36_i32
  let c1023_i32_218 : BitVec 32 := 1023#32
  let v261 : BitVec 32 := Scalar.minsi v260 c1023_i32_218
  let v262 : Index := Scalar.indexCast v261
  ![0, 0, v262.toNat]
def k0_off117 (i : grid0.Coords) : Fin 2 → Nat :=
  let arg1 : BitVec 32 := BitVec.ofNat 32 (i 1).val
  let c74_i32_217 : BitVec 32 := 74#32
  let v259 : BitVec 32 := Scalar.muli arg1 c74_i32_217
  let c36_i32 : BitVec 32 := 36#32
  let v260 : BitVec 32 := Scalar.addi v259 c36_i32
  let c0_i32_221 : BitVec 32 := 0#32
  ![v260.toNat, 0]
def k0_off118 (v263 : BitVec 32) : Fin 2 → Nat :=
  let c0_i32_222 : BitVec 32 := 0#32
  ![v263.toNat, 0]

def k0_chk39 (i : grid0.Coords) (v0 : BitVec 32) (v263 : BitVec 32) : Prop :=
  (∀ (k0_h4 : k0_cond4 i v0 = 1#1), ∀ a, (k0_off118 v263) a + S1x2048.size a ≤ S32768x2048.size a)
theorem k0_off118_inb : ∀ (i : grid0.Coords) (v0 : BitVec 32) (v263 : BitVec 32) (k0_hw39 : k0_chk39 i v0 v263), ∀ (k0_h4 : k0_cond4 i v0 = 1#1), ∀ a, (k0_off118 v263) a + S1x2048.size a ≤ S32768x2048.size a := fun i v0 v263 k0_hw39 k0_h4 => k0_hw39 k0_h4

def k0_off119 (i : grid0.Coords) : Fin 3 → Nat :=
  let c0_225 : Index := 0#32
  let c0_226 : Index := 0#32
  let arg1 : BitVec 32 := BitVec.ofNat 32 (i 1).val
  let c74_i32_223 : BitVec 32 := 74#32
  let v266 : BitVec 32 := Scalar.muli arg1 c74_i32_223
  let c37_i32 : BitVec 32 := 37#32
  let v267 : BitVec 32 := Scalar.addi v266 c37_i32
  let c1023_i32_224 : BitVec 32 := 1023#32
  let v268 : BitVec 32 := Scalar.minsi v267 c1023_i32_224
  let v269 : Index := Scalar.indexCast v268
  ![0, 0, v269.toNat]
def k0_off120 (i : grid0.Coords) : Fin 2 → Nat :=
  let arg1 : BitVec 32 := BitVec.ofNat 32 (i 1).val
  let c74_i32_223 : BitVec 32 := 74#32
  let v266 : BitVec 32 := Scalar.muli arg1 c74_i32_223
  let c37_i32 : BitVec 32 := 37#32
  let v267 : BitVec 32 := Scalar.addi v266 c37_i32
  let c0_i32_227 : BitVec 32 := 0#32
  ![v267.toNat, 0]
def k0_off121 (v270 : BitVec 32) : Fin 2 → Nat :=
  let c0_i32_228 : BitVec 32 := 0#32
  ![v270.toNat, 0]

def k0_chk40 (i : grid0.Coords) (v0 : BitVec 32) (v270 : BitVec 32) : Prop :=
  (∀ (k0_h4 : k0_cond4 i v0 = 1#1), ∀ a, (k0_off121 v270) a + S1x2048.size a ≤ S32768x2048.size a)
theorem k0_off121_inb : ∀ (i : grid0.Coords) (v0 : BitVec 32) (v270 : BitVec 32) (k0_hw40 : k0_chk40 i v0 v270), ∀ (k0_h4 : k0_cond4 i v0 = 1#1), ∀ a, (k0_off121 v270) a + S1x2048.size a ≤ S32768x2048.size a := fun i v0 v270 k0_hw40 k0_h4 => k0_hw40 k0_h4

def k0_off122 (i : grid0.Coords) : Fin 3 → Nat :=
  let c0_231 : Index := 0#32
  let c0_232 : Index := 0#32
  let arg1 : BitVec 32 := BitVec.ofNat 32 (i 1).val
  let c74_i32_229 : BitVec 32 := 74#32
  let v273 : BitVec 32 := Scalar.muli arg1 c74_i32_229
  let c38_i32 : BitVec 32 := 38#32
  let v274 : BitVec 32 := Scalar.addi v273 c38_i32
  let c1023_i32_230 : BitVec 32 := 1023#32
  let v275 : BitVec 32 := Scalar.minsi v274 c1023_i32_230
  let v276 : Index := Scalar.indexCast v275
  ![0, 0, v276.toNat]
def k0_off123 (i : grid0.Coords) : Fin 2 → Nat :=
  let arg1 : BitVec 32 := BitVec.ofNat 32 (i 1).val
  let c74_i32_229 : BitVec 32 := 74#32
  let v273 : BitVec 32 := Scalar.muli arg1 c74_i32_229
  let c38_i32 : BitVec 32 := 38#32
  let v274 : BitVec 32 := Scalar.addi v273 c38_i32
  let c0_i32_233 : BitVec 32 := 0#32
  ![v274.toNat, 0]
def k0_off124 (v277 : BitVec 32) : Fin 2 → Nat :=
  let c0_i32_234 : BitVec 32 := 0#32
  ![v277.toNat, 0]

def k0_chk41 (i : grid0.Coords) (v0 : BitVec 32) (v277 : BitVec 32) : Prop :=
  (∀ (k0_h4 : k0_cond4 i v0 = 1#1), ∀ a, (k0_off124 v277) a + S1x2048.size a ≤ S32768x2048.size a)
theorem k0_off124_inb : ∀ (i : grid0.Coords) (v0 : BitVec 32) (v277 : BitVec 32) (k0_hw41 : k0_chk41 i v0 v277), ∀ (k0_h4 : k0_cond4 i v0 = 1#1), ∀ a, (k0_off124 v277) a + S1x2048.size a ≤ S32768x2048.size a := fun i v0 v277 k0_hw41 k0_h4 => k0_hw41 k0_h4

def k0_off125 (i : grid0.Coords) : Fin 3 → Nat :=
  let c0_237 : Index := 0#32
  let c0_238 : Index := 0#32
  let arg1 : BitVec 32 := BitVec.ofNat 32 (i 1).val
  let c74_i32_235 : BitVec 32 := 74#32
  let v280 : BitVec 32 := Scalar.muli arg1 c74_i32_235
  let c39_i32 : BitVec 32 := 39#32
  let v281 : BitVec 32 := Scalar.addi v280 c39_i32
  let c1023_i32_236 : BitVec 32 := 1023#32
  let v282 : BitVec 32 := Scalar.minsi v281 c1023_i32_236
  let v283 : Index := Scalar.indexCast v282
  ![0, 0, v283.toNat]
def k0_off126 (i : grid0.Coords) : Fin 2 → Nat :=
  let arg1 : BitVec 32 := BitVec.ofNat 32 (i 1).val
  let c74_i32_235 : BitVec 32 := 74#32
  let v280 : BitVec 32 := Scalar.muli arg1 c74_i32_235
  let c39_i32 : BitVec 32 := 39#32
  let v281 : BitVec 32 := Scalar.addi v280 c39_i32
  let c0_i32_239 : BitVec 32 := 0#32
  ![v281.toNat, 0]
def k0_off127 (v284 : BitVec 32) : Fin 2 → Nat :=
  let c0_i32_240 : BitVec 32 := 0#32
  ![v284.toNat, 0]

def k0_chk42 (i : grid0.Coords) (v0 : BitVec 32) (v284 : BitVec 32) : Prop :=
  (∀ (k0_h4 : k0_cond4 i v0 = 1#1), ∀ a, (k0_off127 v284) a + S1x2048.size a ≤ S32768x2048.size a)
theorem k0_off127_inb : ∀ (i : grid0.Coords) (v0 : BitVec 32) (v284 : BitVec 32) (k0_hw42 : k0_chk42 i v0 v284), ∀ (k0_h4 : k0_cond4 i v0 = 1#1), ∀ a, (k0_off127 v284) a + S1x2048.size a ≤ S32768x2048.size a := fun i v0 v284 k0_hw42 k0_h4 => k0_hw42 k0_h4

def k0_off128 (i : grid0.Coords) : Fin 3 → Nat :=
  let c0_243 : Index := 0#32
  let c0_244 : Index := 0#32
  let arg1 : BitVec 32 := BitVec.ofNat 32 (i 1).val
  let c74_i32_241 : BitVec 32 := 74#32
  let v287 : BitVec 32 := Scalar.muli arg1 c74_i32_241
  let c40_i32 : BitVec 32 := 40#32
  let v288 : BitVec 32 := Scalar.addi v287 c40_i32
  let c1023_i32_242 : BitVec 32 := 1023#32
  let v289 : BitVec 32 := Scalar.minsi v288 c1023_i32_242
  let v290 : Index := Scalar.indexCast v289
  ![0, 0, v290.toNat]
def k0_off129 (i : grid0.Coords) : Fin 2 → Nat :=
  let arg1 : BitVec 32 := BitVec.ofNat 32 (i 1).val
  let c74_i32_241 : BitVec 32 := 74#32
  let v287 : BitVec 32 := Scalar.muli arg1 c74_i32_241
  let c40_i32 : BitVec 32 := 40#32
  let v288 : BitVec 32 := Scalar.addi v287 c40_i32
  let c0_i32_245 : BitVec 32 := 0#32
  ![v288.toNat, 0]
def k0_off130 (v291 : BitVec 32) : Fin 2 → Nat :=
  let c0_i32_246 : BitVec 32 := 0#32
  ![v291.toNat, 0]

def k0_chk43 (i : grid0.Coords) (v0 : BitVec 32) (v291 : BitVec 32) : Prop :=
  (∀ (k0_h4 : k0_cond4 i v0 = 1#1), ∀ a, (k0_off130 v291) a + S1x2048.size a ≤ S32768x2048.size a)
theorem k0_off130_inb : ∀ (i : grid0.Coords) (v0 : BitVec 32) (v291 : BitVec 32) (k0_hw43 : k0_chk43 i v0 v291), ∀ (k0_h4 : k0_cond4 i v0 = 1#1), ∀ a, (k0_off130 v291) a + S1x2048.size a ≤ S32768x2048.size a := fun i v0 v291 k0_hw43 k0_h4 => k0_hw43 k0_h4

def k0_off131 (i : grid0.Coords) : Fin 3 → Nat :=
  let c0_249 : Index := 0#32
  let c0_250 : Index := 0#32
  let arg1 : BitVec 32 := BitVec.ofNat 32 (i 1).val
  let c74_i32_247 : BitVec 32 := 74#32
  let v294 : BitVec 32 := Scalar.muli arg1 c74_i32_247
  let c41_i32 : BitVec 32 := 41#32
  let v295 : BitVec 32 := Scalar.addi v294 c41_i32
  let c1023_i32_248 : BitVec 32 := 1023#32
  let v296 : BitVec 32 := Scalar.minsi v295 c1023_i32_248
  let v297 : Index := Scalar.indexCast v296
  ![0, 0, v297.toNat]
def k0_off132 (i : grid0.Coords) : Fin 2 → Nat :=
  let arg1 : BitVec 32 := BitVec.ofNat 32 (i 1).val
  let c74_i32_247 : BitVec 32 := 74#32
  let v294 : BitVec 32 := Scalar.muli arg1 c74_i32_247
  let c41_i32 : BitVec 32 := 41#32
  let v295 : BitVec 32 := Scalar.addi v294 c41_i32
  let c0_i32_251 : BitVec 32 := 0#32
  ![v295.toNat, 0]
def k0_off133 (v298 : BitVec 32) : Fin 2 → Nat :=
  let c0_i32_252 : BitVec 32 := 0#32
  ![v298.toNat, 0]

def k0_chk44 (i : grid0.Coords) (v0 : BitVec 32) (v298 : BitVec 32) : Prop :=
  (∀ (k0_h4 : k0_cond4 i v0 = 1#1), ∀ a, (k0_off133 v298) a + S1x2048.size a ≤ S32768x2048.size a)
theorem k0_off133_inb : ∀ (i : grid0.Coords) (v0 : BitVec 32) (v298 : BitVec 32) (k0_hw44 : k0_chk44 i v0 v298), ∀ (k0_h4 : k0_cond4 i v0 = 1#1), ∀ a, (k0_off133 v298) a + S1x2048.size a ≤ S32768x2048.size a := fun i v0 v298 k0_hw44 k0_h4 => k0_hw44 k0_h4

def k0_off134 (i : grid0.Coords) : Fin 3 → Nat :=
  let c0_255 : Index := 0#32
  let c0_256 : Index := 0#32
  let arg1 : BitVec 32 := BitVec.ofNat 32 (i 1).val
  let c74_i32_253 : BitVec 32 := 74#32
  let v301 : BitVec 32 := Scalar.muli arg1 c74_i32_253
  let c42_i32 : BitVec 32 := 42#32
  let v302 : BitVec 32 := Scalar.addi v301 c42_i32
  let c1023_i32_254 : BitVec 32 := 1023#32
  let v303 : BitVec 32 := Scalar.minsi v302 c1023_i32_254
  let v304 : Index := Scalar.indexCast v303
  ![0, 0, v304.toNat]
def k0_off135 (i : grid0.Coords) : Fin 2 → Nat :=
  let arg1 : BitVec 32 := BitVec.ofNat 32 (i 1).val
  let c74_i32_253 : BitVec 32 := 74#32
  let v301 : BitVec 32 := Scalar.muli arg1 c74_i32_253
  let c42_i32 : BitVec 32 := 42#32
  let v302 : BitVec 32 := Scalar.addi v301 c42_i32
  let c0_i32_257 : BitVec 32 := 0#32
  ![v302.toNat, 0]
def k0_off136 (v305 : BitVec 32) : Fin 2 → Nat :=
  let c0_i32_258 : BitVec 32 := 0#32
  ![v305.toNat, 0]

def k0_chk45 (i : grid0.Coords) (v0 : BitVec 32) (v305 : BitVec 32) : Prop :=
  (∀ (k0_h4 : k0_cond4 i v0 = 1#1), ∀ a, (k0_off136 v305) a + S1x2048.size a ≤ S32768x2048.size a)
theorem k0_off136_inb : ∀ (i : grid0.Coords) (v0 : BitVec 32) (v305 : BitVec 32) (k0_hw45 : k0_chk45 i v0 v305), ∀ (k0_h4 : k0_cond4 i v0 = 1#1), ∀ a, (k0_off136 v305) a + S1x2048.size a ≤ S32768x2048.size a := fun i v0 v305 k0_hw45 k0_h4 => k0_hw45 k0_h4

def k0_off137 (i : grid0.Coords) : Fin 3 → Nat :=
  let c0_261 : Index := 0#32
  let c0_262 : Index := 0#32
  let arg1 : BitVec 32 := BitVec.ofNat 32 (i 1).val
  let c74_i32_259 : BitVec 32 := 74#32
  let v308 : BitVec 32 := Scalar.muli arg1 c74_i32_259
  let c43_i32 : BitVec 32 := 43#32
  let v309 : BitVec 32 := Scalar.addi v308 c43_i32
  let c1023_i32_260 : BitVec 32 := 1023#32
  let v310 : BitVec 32 := Scalar.minsi v309 c1023_i32_260
  let v311 : Index := Scalar.indexCast v310
  ![0, 0, v311.toNat]
def k0_off138 (i : grid0.Coords) : Fin 2 → Nat :=
  let arg1 : BitVec 32 := BitVec.ofNat 32 (i 1).val
  let c74_i32_259 : BitVec 32 := 74#32
  let v308 : BitVec 32 := Scalar.muli arg1 c74_i32_259
  let c43_i32 : BitVec 32 := 43#32
  let v309 : BitVec 32 := Scalar.addi v308 c43_i32
  let c0_i32_263 : BitVec 32 := 0#32
  ![v309.toNat, 0]
def k0_off139 (v312 : BitVec 32) : Fin 2 → Nat :=
  let c0_i32_264 : BitVec 32 := 0#32
  ![v312.toNat, 0]

def k0_chk46 (i : grid0.Coords) (v0 : BitVec 32) (v312 : BitVec 32) : Prop :=
  (∀ (k0_h4 : k0_cond4 i v0 = 1#1), ∀ a, (k0_off139 v312) a + S1x2048.size a ≤ S32768x2048.size a)
theorem k0_off139_inb : ∀ (i : grid0.Coords) (v0 : BitVec 32) (v312 : BitVec 32) (k0_hw46 : k0_chk46 i v0 v312), ∀ (k0_h4 : k0_cond4 i v0 = 1#1), ∀ a, (k0_off139 v312) a + S1x2048.size a ≤ S32768x2048.size a := fun i v0 v312 k0_hw46 k0_h4 => k0_hw46 k0_h4

def k0_off140 (i : grid0.Coords) : Fin 3 → Nat :=
  let c0_267 : Index := 0#32
  let c0_268 : Index := 0#32
  let arg1 : BitVec 32 := BitVec.ofNat 32 (i 1).val
  let c74_i32_265 : BitVec 32 := 74#32
  let v315 : BitVec 32 := Scalar.muli arg1 c74_i32_265
  let c44_i32 : BitVec 32 := 44#32
  let v316 : BitVec 32 := Scalar.addi v315 c44_i32
  let c1023_i32_266 : BitVec 32 := 1023#32
  let v317 : BitVec 32 := Scalar.minsi v316 c1023_i32_266
  let v318 : Index := Scalar.indexCast v317
  ![0, 0, v318.toNat]
def k0_off141 (i : grid0.Coords) : Fin 2 → Nat :=
  let arg1 : BitVec 32 := BitVec.ofNat 32 (i 1).val
  let c74_i32_265 : BitVec 32 := 74#32
  let v315 : BitVec 32 := Scalar.muli arg1 c74_i32_265
  let c44_i32 : BitVec 32 := 44#32
  let v316 : BitVec 32 := Scalar.addi v315 c44_i32
  let c0_i32_269 : BitVec 32 := 0#32
  ![v316.toNat, 0]
def k0_off142 (v319 : BitVec 32) : Fin 2 → Nat :=
  let c0_i32_270 : BitVec 32 := 0#32
  ![v319.toNat, 0]

def k0_chk47 (i : grid0.Coords) (v0 : BitVec 32) (v319 : BitVec 32) : Prop :=
  (∀ (k0_h4 : k0_cond4 i v0 = 1#1), ∀ a, (k0_off142 v319) a + S1x2048.size a ≤ S32768x2048.size a)
theorem k0_off142_inb : ∀ (i : grid0.Coords) (v0 : BitVec 32) (v319 : BitVec 32) (k0_hw47 : k0_chk47 i v0 v319), ∀ (k0_h4 : k0_cond4 i v0 = 1#1), ∀ a, (k0_off142 v319) a + S1x2048.size a ≤ S32768x2048.size a := fun i v0 v319 k0_hw47 k0_h4 => k0_hw47 k0_h4

def k0_off143 (i : grid0.Coords) : Fin 3 → Nat :=
  let c0_273 : Index := 0#32
  let c0_274 : Index := 0#32
  let arg1 : BitVec 32 := BitVec.ofNat 32 (i 1).val
  let c74_i32_271 : BitVec 32 := 74#32
  let v322 : BitVec 32 := Scalar.muli arg1 c74_i32_271
  let c45_i32 : BitVec 32 := 45#32
  let v323 : BitVec 32 := Scalar.addi v322 c45_i32
  let c1023_i32_272 : BitVec 32 := 1023#32
  let v324 : BitVec 32 := Scalar.minsi v323 c1023_i32_272
  let v325 : Index := Scalar.indexCast v324
  ![0, 0, v325.toNat]
def k0_off144 (i : grid0.Coords) : Fin 2 → Nat :=
  let arg1 : BitVec 32 := BitVec.ofNat 32 (i 1).val
  let c74_i32_271 : BitVec 32 := 74#32
  let v322 : BitVec 32 := Scalar.muli arg1 c74_i32_271
  let c45_i32 : BitVec 32 := 45#32
  let v323 : BitVec 32 := Scalar.addi v322 c45_i32
  let c0_i32_275 : BitVec 32 := 0#32
  ![v323.toNat, 0]
def k0_off145 (v326 : BitVec 32) : Fin 2 → Nat :=
  let c0_i32_276 : BitVec 32 := 0#32
  ![v326.toNat, 0]

def k0_chk48 (i : grid0.Coords) (v0 : BitVec 32) (v326 : BitVec 32) : Prop :=
  (∀ (k0_h4 : k0_cond4 i v0 = 1#1), ∀ a, (k0_off145 v326) a + S1x2048.size a ≤ S32768x2048.size a)
theorem k0_off145_inb : ∀ (i : grid0.Coords) (v0 : BitVec 32) (v326 : BitVec 32) (k0_hw48 : k0_chk48 i v0 v326), ∀ (k0_h4 : k0_cond4 i v0 = 1#1), ∀ a, (k0_off145 v326) a + S1x2048.size a ≤ S32768x2048.size a := fun i v0 v326 k0_hw48 k0_h4 => k0_hw48 k0_h4

def k0_off146 (i : grid0.Coords) : Fin 3 → Nat :=
  let c0_279 : Index := 0#32
  let c0_280 : Index := 0#32
  let arg1 : BitVec 32 := BitVec.ofNat 32 (i 1).val
  let c74_i32_277 : BitVec 32 := 74#32
  let v329 : BitVec 32 := Scalar.muli arg1 c74_i32_277
  let c46_i32 : BitVec 32 := 46#32
  let v330 : BitVec 32 := Scalar.addi v329 c46_i32
  let c1023_i32_278 : BitVec 32 := 1023#32
  let v331 : BitVec 32 := Scalar.minsi v330 c1023_i32_278
  let v332 : Index := Scalar.indexCast v331
  ![0, 0, v332.toNat]
def k0_off147 (i : grid0.Coords) : Fin 2 → Nat :=
  let arg1 : BitVec 32 := BitVec.ofNat 32 (i 1).val
  let c74_i32_277 : BitVec 32 := 74#32
  let v329 : BitVec 32 := Scalar.muli arg1 c74_i32_277
  let c46_i32 : BitVec 32 := 46#32
  let v330 : BitVec 32 := Scalar.addi v329 c46_i32
  let c0_i32_281 : BitVec 32 := 0#32
  ![v330.toNat, 0]
def k0_off148 (v333 : BitVec 32) : Fin 2 → Nat :=
  let c0_i32_282 : BitVec 32 := 0#32
  ![v333.toNat, 0]

def k0_chk49 (i : grid0.Coords) (v0 : BitVec 32) (v333 : BitVec 32) : Prop :=
  (∀ (k0_h4 : k0_cond4 i v0 = 1#1), ∀ a, (k0_off148 v333) a + S1x2048.size a ≤ S32768x2048.size a)
theorem k0_off148_inb : ∀ (i : grid0.Coords) (v0 : BitVec 32) (v333 : BitVec 32) (k0_hw49 : k0_chk49 i v0 v333), ∀ (k0_h4 : k0_cond4 i v0 = 1#1), ∀ a, (k0_off148 v333) a + S1x2048.size a ≤ S32768x2048.size a := fun i v0 v333 k0_hw49 k0_h4 => k0_hw49 k0_h4

def k0_off149 (i : grid0.Coords) : Fin 3 → Nat :=
  let c0_285 : Index := 0#32
  let c0_286 : Index := 0#32
  let arg1 : BitVec 32 := BitVec.ofNat 32 (i 1).val
  let c74_i32_283 : BitVec 32 := 74#32
  let v336 : BitVec 32 := Scalar.muli arg1 c74_i32_283
  let c47_i32 : BitVec 32 := 47#32
  let v337 : BitVec 32 := Scalar.addi v336 c47_i32
  let c1023_i32_284 : BitVec 32 := 1023#32
  let v338 : BitVec 32 := Scalar.minsi v337 c1023_i32_284
  let v339 : Index := Scalar.indexCast v338
  ![0, 0, v339.toNat]
def k0_off150 (i : grid0.Coords) : Fin 2 → Nat :=
  let arg1 : BitVec 32 := BitVec.ofNat 32 (i 1).val
  let c74_i32_283 : BitVec 32 := 74#32
  let v336 : BitVec 32 := Scalar.muli arg1 c74_i32_283
  let c47_i32 : BitVec 32 := 47#32
  let v337 : BitVec 32 := Scalar.addi v336 c47_i32
  let c0_i32_287 : BitVec 32 := 0#32
  ![v337.toNat, 0]
def k0_off151 (v340 : BitVec 32) : Fin 2 → Nat :=
  let c0_i32_288 : BitVec 32 := 0#32
  ![v340.toNat, 0]

def k0_chk50 (i : grid0.Coords) (v0 : BitVec 32) (v340 : BitVec 32) : Prop :=
  (∀ (k0_h4 : k0_cond4 i v0 = 1#1), ∀ a, (k0_off151 v340) a + S1x2048.size a ≤ S32768x2048.size a)
theorem k0_off151_inb : ∀ (i : grid0.Coords) (v0 : BitVec 32) (v340 : BitVec 32) (k0_hw50 : k0_chk50 i v0 v340), ∀ (k0_h4 : k0_cond4 i v0 = 1#1), ∀ a, (k0_off151 v340) a + S1x2048.size a ≤ S32768x2048.size a := fun i v0 v340 k0_hw50 k0_h4 => k0_hw50 k0_h4

def k0_off152 (i : grid0.Coords) : Fin 3 → Nat :=
  let c0_291 : Index := 0#32
  let c0_292 : Index := 0#32
  let arg1 : BitVec 32 := BitVec.ofNat 32 (i 1).val
  let c74_i32_289 : BitVec 32 := 74#32
  let v343 : BitVec 32 := Scalar.muli arg1 c74_i32_289
  let c48_i32 : BitVec 32 := 48#32
  let v344 : BitVec 32 := Scalar.addi v343 c48_i32
  let c1023_i32_290 : BitVec 32 := 1023#32
  let v345 : BitVec 32 := Scalar.minsi v344 c1023_i32_290
  let v346 : Index := Scalar.indexCast v345
  ![0, 0, v346.toNat]
def k0_off153 (i : grid0.Coords) : Fin 2 → Nat :=
  let arg1 : BitVec 32 := BitVec.ofNat 32 (i 1).val
  let c74_i32_289 : BitVec 32 := 74#32
  let v343 : BitVec 32 := Scalar.muli arg1 c74_i32_289
  let c48_i32 : BitVec 32 := 48#32
  let v344 : BitVec 32 := Scalar.addi v343 c48_i32
  let c0_i32_293 : BitVec 32 := 0#32
  ![v344.toNat, 0]
def k0_off154 (v347 : BitVec 32) : Fin 2 → Nat :=
  let c0_i32_294 : BitVec 32 := 0#32
  ![v347.toNat, 0]

def k0_chk51 (i : grid0.Coords) (v0 : BitVec 32) (v347 : BitVec 32) : Prop :=
  (∀ (k0_h4 : k0_cond4 i v0 = 1#1), ∀ a, (k0_off154 v347) a + S1x2048.size a ≤ S32768x2048.size a)
theorem k0_off154_inb : ∀ (i : grid0.Coords) (v0 : BitVec 32) (v347 : BitVec 32) (k0_hw51 : k0_chk51 i v0 v347), ∀ (k0_h4 : k0_cond4 i v0 = 1#1), ∀ a, (k0_off154 v347) a + S1x2048.size a ≤ S32768x2048.size a := fun i v0 v347 k0_hw51 k0_h4 => k0_hw51 k0_h4

def k0_off155 (i : grid0.Coords) : Fin 3 → Nat :=
  let c0_297 : Index := 0#32
  let c0_298 : Index := 0#32
  let arg1 : BitVec 32 := BitVec.ofNat 32 (i 1).val
  let c74_i32_295 : BitVec 32 := 74#32
  let v350 : BitVec 32 := Scalar.muli arg1 c74_i32_295
  let c49_i32 : BitVec 32 := 49#32
  let v351 : BitVec 32 := Scalar.addi v350 c49_i32
  let c1023_i32_296 : BitVec 32 := 1023#32
  let v352 : BitVec 32 := Scalar.minsi v351 c1023_i32_296
  let v353 : Index := Scalar.indexCast v352
  ![0, 0, v353.toNat]
def k0_off156 (i : grid0.Coords) : Fin 2 → Nat :=
  let arg1 : BitVec 32 := BitVec.ofNat 32 (i 1).val
  let c74_i32_295 : BitVec 32 := 74#32
  let v350 : BitVec 32 := Scalar.muli arg1 c74_i32_295
  let c49_i32 : BitVec 32 := 49#32
  let v351 : BitVec 32 := Scalar.addi v350 c49_i32
  let c0_i32_299 : BitVec 32 := 0#32
  ![v351.toNat, 0]
def k0_off157 (v354 : BitVec 32) : Fin 2 → Nat :=
  let c0_i32_300 : BitVec 32 := 0#32
  ![v354.toNat, 0]

def k0_chk52 (i : grid0.Coords) (v0 : BitVec 32) (v354 : BitVec 32) : Prop :=
  (∀ (k0_h4 : k0_cond4 i v0 = 1#1), ∀ a, (k0_off157 v354) a + S1x2048.size a ≤ S32768x2048.size a)
theorem k0_off157_inb : ∀ (i : grid0.Coords) (v0 : BitVec 32) (v354 : BitVec 32) (k0_hw52 : k0_chk52 i v0 v354), ∀ (k0_h4 : k0_cond4 i v0 = 1#1), ∀ a, (k0_off157 v354) a + S1x2048.size a ≤ S32768x2048.size a := fun i v0 v354 k0_hw52 k0_h4 => k0_hw52 k0_h4

def k0_off158 (i : grid0.Coords) : Fin 3 → Nat :=
  let c0_303 : Index := 0#32
  let c0_304 : Index := 0#32
  let arg1 : BitVec 32 := BitVec.ofNat 32 (i 1).val
  let c74_i32_301 : BitVec 32 := 74#32
  let v357 : BitVec 32 := Scalar.muli arg1 c74_i32_301
  let c50_i32 : BitVec 32 := 50#32
  let v358 : BitVec 32 := Scalar.addi v357 c50_i32
  let c1023_i32_302 : BitVec 32 := 1023#32
  let v359 : BitVec 32 := Scalar.minsi v358 c1023_i32_302
  let v360 : Index := Scalar.indexCast v359
  ![0, 0, v360.toNat]
def k0_off159 (i : grid0.Coords) : Fin 2 → Nat :=
  let arg1 : BitVec 32 := BitVec.ofNat 32 (i 1).val
  let c74_i32_301 : BitVec 32 := 74#32
  let v357 : BitVec 32 := Scalar.muli arg1 c74_i32_301
  let c50_i32 : BitVec 32 := 50#32
  let v358 : BitVec 32 := Scalar.addi v357 c50_i32
  let c0_i32_305 : BitVec 32 := 0#32
  ![v358.toNat, 0]
def k0_off160 (v361 : BitVec 32) : Fin 2 → Nat :=
  let c0_i32_306 : BitVec 32 := 0#32
  ![v361.toNat, 0]

def k0_chk53 (i : grid0.Coords) (v0 : BitVec 32) (v361 : BitVec 32) : Prop :=
  (∀ (k0_h4 : k0_cond4 i v0 = 1#1), ∀ a, (k0_off160 v361) a + S1x2048.size a ≤ S32768x2048.size a)
theorem k0_off160_inb : ∀ (i : grid0.Coords) (v0 : BitVec 32) (v361 : BitVec 32) (k0_hw53 : k0_chk53 i v0 v361), ∀ (k0_h4 : k0_cond4 i v0 = 1#1), ∀ a, (k0_off160 v361) a + S1x2048.size a ≤ S32768x2048.size a := fun i v0 v361 k0_hw53 k0_h4 => k0_hw53 k0_h4

def k0_off161 (i : grid0.Coords) : Fin 3 → Nat :=
  let c0_309 : Index := 0#32
  let c0_310 : Index := 0#32
  let arg1 : BitVec 32 := BitVec.ofNat 32 (i 1).val
  let c74_i32_307 : BitVec 32 := 74#32
  let v364 : BitVec 32 := Scalar.muli arg1 c74_i32_307
  let c51_i32 : BitVec 32 := 51#32
  let v365 : BitVec 32 := Scalar.addi v364 c51_i32
  let c1023_i32_308 : BitVec 32 := 1023#32
  let v366 : BitVec 32 := Scalar.minsi v365 c1023_i32_308
  let v367 : Index := Scalar.indexCast v366
  ![0, 0, v367.toNat]
def k0_off162 (i : grid0.Coords) : Fin 2 → Nat :=
  let arg1 : BitVec 32 := BitVec.ofNat 32 (i 1).val
  let c74_i32_307 : BitVec 32 := 74#32
  let v364 : BitVec 32 := Scalar.muli arg1 c74_i32_307
  let c51_i32 : BitVec 32 := 51#32
  let v365 : BitVec 32 := Scalar.addi v364 c51_i32
  let c0_i32_311 : BitVec 32 := 0#32
  ![v365.toNat, 0]
def k0_off163 (v368 : BitVec 32) : Fin 2 → Nat :=
  let c0_i32_312 : BitVec 32 := 0#32
  ![v368.toNat, 0]

def k0_chk54 (i : grid0.Coords) (v0 : BitVec 32) (v368 : BitVec 32) : Prop :=
  (∀ (k0_h4 : k0_cond4 i v0 = 1#1), ∀ a, (k0_off163 v368) a + S1x2048.size a ≤ S32768x2048.size a)
theorem k0_off163_inb : ∀ (i : grid0.Coords) (v0 : BitVec 32) (v368 : BitVec 32) (k0_hw54 : k0_chk54 i v0 v368), ∀ (k0_h4 : k0_cond4 i v0 = 1#1), ∀ a, (k0_off163 v368) a + S1x2048.size a ≤ S32768x2048.size a := fun i v0 v368 k0_hw54 k0_h4 => k0_hw54 k0_h4

def k0_off164 (i : grid0.Coords) : Fin 3 → Nat :=
  let c0_315 : Index := 0#32
  let c0_316 : Index := 0#32
  let arg1 : BitVec 32 := BitVec.ofNat 32 (i 1).val
  let c74_i32_313 : BitVec 32 := 74#32
  let v371 : BitVec 32 := Scalar.muli arg1 c74_i32_313
  let c52_i32 : BitVec 32 := 52#32
  let v372 : BitVec 32 := Scalar.addi v371 c52_i32
  let c1023_i32_314 : BitVec 32 := 1023#32
  let v373 : BitVec 32 := Scalar.minsi v372 c1023_i32_314
  let v374 : Index := Scalar.indexCast v373
  ![0, 0, v374.toNat]
def k0_off165 (i : grid0.Coords) : Fin 2 → Nat :=
  let arg1 : BitVec 32 := BitVec.ofNat 32 (i 1).val
  let c74_i32_313 : BitVec 32 := 74#32
  let v371 : BitVec 32 := Scalar.muli arg1 c74_i32_313
  let c52_i32 : BitVec 32 := 52#32
  let v372 : BitVec 32 := Scalar.addi v371 c52_i32
  let c0_i32_317 : BitVec 32 := 0#32
  ![v372.toNat, 0]
def k0_off166 (v375 : BitVec 32) : Fin 2 → Nat :=
  let c0_i32_318 : BitVec 32 := 0#32
  ![v375.toNat, 0]

def k0_chk55 (i : grid0.Coords) (v0 : BitVec 32) (v375 : BitVec 32) : Prop :=
  (∀ (k0_h4 : k0_cond4 i v0 = 1#1), ∀ a, (k0_off166 v375) a + S1x2048.size a ≤ S32768x2048.size a)
theorem k0_off166_inb : ∀ (i : grid0.Coords) (v0 : BitVec 32) (v375 : BitVec 32) (k0_hw55 : k0_chk55 i v0 v375), ∀ (k0_h4 : k0_cond4 i v0 = 1#1), ∀ a, (k0_off166 v375) a + S1x2048.size a ≤ S32768x2048.size a := fun i v0 v375 k0_hw55 k0_h4 => k0_hw55 k0_h4

def k0_off167 (i : grid0.Coords) : Fin 3 → Nat :=
  let c0_321 : Index := 0#32
  let c0_322 : Index := 0#32
  let arg1 : BitVec 32 := BitVec.ofNat 32 (i 1).val
  let c74_i32_319 : BitVec 32 := 74#32
  let v378 : BitVec 32 := Scalar.muli arg1 c74_i32_319
  let c53_i32 : BitVec 32 := 53#32
  let v379 : BitVec 32 := Scalar.addi v378 c53_i32
  let c1023_i32_320 : BitVec 32 := 1023#32
  let v380 : BitVec 32 := Scalar.minsi v379 c1023_i32_320
  let v381 : Index := Scalar.indexCast v380
  ![0, 0, v381.toNat]
def k0_off168 (i : grid0.Coords) : Fin 2 → Nat :=
  let arg1 : BitVec 32 := BitVec.ofNat 32 (i 1).val
  let c74_i32_319 : BitVec 32 := 74#32
  let v378 : BitVec 32 := Scalar.muli arg1 c74_i32_319
  let c53_i32 : BitVec 32 := 53#32
  let v379 : BitVec 32 := Scalar.addi v378 c53_i32
  let c0_i32_323 : BitVec 32 := 0#32
  ![v379.toNat, 0]
def k0_off169 (v382 : BitVec 32) : Fin 2 → Nat :=
  let c0_i32_324 : BitVec 32 := 0#32
  ![v382.toNat, 0]

def k0_chk56 (i : grid0.Coords) (v0 : BitVec 32) (v382 : BitVec 32) : Prop :=
  (∀ (k0_h4 : k0_cond4 i v0 = 1#1), ∀ a, (k0_off169 v382) a + S1x2048.size a ≤ S32768x2048.size a)
theorem k0_off169_inb : ∀ (i : grid0.Coords) (v0 : BitVec 32) (v382 : BitVec 32) (k0_hw56 : k0_chk56 i v0 v382), ∀ (k0_h4 : k0_cond4 i v0 = 1#1), ∀ a, (k0_off169 v382) a + S1x2048.size a ≤ S32768x2048.size a := fun i v0 v382 k0_hw56 k0_h4 => k0_hw56 k0_h4

def k0_off170 (i : grid0.Coords) : Fin 3 → Nat :=
  let c0_327 : Index := 0#32
  let c0_328 : Index := 0#32
  let arg1 : BitVec 32 := BitVec.ofNat 32 (i 1).val
  let c74_i32_325 : BitVec 32 := 74#32
  let v385 : BitVec 32 := Scalar.muli arg1 c74_i32_325
  let c54_i32 : BitVec 32 := 54#32
  let v386 : BitVec 32 := Scalar.addi v385 c54_i32
  let c1023_i32_326 : BitVec 32 := 1023#32
  let v387 : BitVec 32 := Scalar.minsi v386 c1023_i32_326
  let v388 : Index := Scalar.indexCast v387
  ![0, 0, v388.toNat]
def k0_off171 (i : grid0.Coords) : Fin 2 → Nat :=
  let arg1 : BitVec 32 := BitVec.ofNat 32 (i 1).val
  let c74_i32_325 : BitVec 32 := 74#32
  let v385 : BitVec 32 := Scalar.muli arg1 c74_i32_325
  let c54_i32 : BitVec 32 := 54#32
  let v386 : BitVec 32 := Scalar.addi v385 c54_i32
  let c0_i32_329 : BitVec 32 := 0#32
  ![v386.toNat, 0]
def k0_off172 (v389 : BitVec 32) : Fin 2 → Nat :=
  let c0_i32_330 : BitVec 32 := 0#32
  ![v389.toNat, 0]

def k0_chk57 (i : grid0.Coords) (v0 : BitVec 32) (v389 : BitVec 32) : Prop :=
  (∀ (k0_h4 : k0_cond4 i v0 = 1#1), ∀ a, (k0_off172 v389) a + S1x2048.size a ≤ S32768x2048.size a)
theorem k0_off172_inb : ∀ (i : grid0.Coords) (v0 : BitVec 32) (v389 : BitVec 32) (k0_hw57 : k0_chk57 i v0 v389), ∀ (k0_h4 : k0_cond4 i v0 = 1#1), ∀ a, (k0_off172 v389) a + S1x2048.size a ≤ S32768x2048.size a := fun i v0 v389 k0_hw57 k0_h4 => k0_hw57 k0_h4

def k0_off173 (i : grid0.Coords) : Fin 3 → Nat :=
  let c0_333 : Index := 0#32
  let c0_334 : Index := 0#32
  let arg1 : BitVec 32 := BitVec.ofNat 32 (i 1).val
  let c74_i32_331 : BitVec 32 := 74#32
  let v392 : BitVec 32 := Scalar.muli arg1 c74_i32_331
  let c55_i32 : BitVec 32 := 55#32
  let v393 : BitVec 32 := Scalar.addi v392 c55_i32
  let c1023_i32_332 : BitVec 32 := 1023#32
  let v394 : BitVec 32 := Scalar.minsi v393 c1023_i32_332
  let v395 : Index := Scalar.indexCast v394
  ![0, 0, v395.toNat]
def k0_off174 (i : grid0.Coords) : Fin 2 → Nat :=
  let arg1 : BitVec 32 := BitVec.ofNat 32 (i 1).val
  let c74_i32_331 : BitVec 32 := 74#32
  let v392 : BitVec 32 := Scalar.muli arg1 c74_i32_331
  let c55_i32 : BitVec 32 := 55#32
  let v393 : BitVec 32 := Scalar.addi v392 c55_i32
  let c0_i32_335 : BitVec 32 := 0#32
  ![v393.toNat, 0]
def k0_off175 (v396 : BitVec 32) : Fin 2 → Nat :=
  let c0_i32_336 : BitVec 32 := 0#32
  ![v396.toNat, 0]

def k0_chk58 (i : grid0.Coords) (v0 : BitVec 32) (v396 : BitVec 32) : Prop :=
  (∀ (k0_h4 : k0_cond4 i v0 = 1#1), ∀ a, (k0_off175 v396) a + S1x2048.size a ≤ S32768x2048.size a)
theorem k0_off175_inb : ∀ (i : grid0.Coords) (v0 : BitVec 32) (v396 : BitVec 32) (k0_hw58 : k0_chk58 i v0 v396), ∀ (k0_h4 : k0_cond4 i v0 = 1#1), ∀ a, (k0_off175 v396) a + S1x2048.size a ≤ S32768x2048.size a := fun i v0 v396 k0_hw58 k0_h4 => k0_hw58 k0_h4

def k0_off176 (i : grid0.Coords) : Fin 3 → Nat :=
  let c0_339 : Index := 0#32
  let c0_340 : Index := 0#32
  let arg1 : BitVec 32 := BitVec.ofNat 32 (i 1).val
  let c74_i32_337 : BitVec 32 := 74#32
  let v399 : BitVec 32 := Scalar.muli arg1 c74_i32_337
  let c56_i32 : BitVec 32 := 56#32
  let v400 : BitVec 32 := Scalar.addi v399 c56_i32
  let c1023_i32_338 : BitVec 32 := 1023#32
  let v401 : BitVec 32 := Scalar.minsi v400 c1023_i32_338
  let v402 : Index := Scalar.indexCast v401
  ![0, 0, v402.toNat]
def k0_off177 (i : grid0.Coords) : Fin 2 → Nat :=
  let arg1 : BitVec 32 := BitVec.ofNat 32 (i 1).val
  let c74_i32_337 : BitVec 32 := 74#32
  let v399 : BitVec 32 := Scalar.muli arg1 c74_i32_337
  let c56_i32 : BitVec 32 := 56#32
  let v400 : BitVec 32 := Scalar.addi v399 c56_i32
  let c0_i32_341 : BitVec 32 := 0#32
  ![v400.toNat, 0]
def k0_off178 (v403 : BitVec 32) : Fin 2 → Nat :=
  let c0_i32_342 : BitVec 32 := 0#32
  ![v403.toNat, 0]

def k0_chk59 (i : grid0.Coords) (v0 : BitVec 32) (v403 : BitVec 32) : Prop :=
  (∀ (k0_h4 : k0_cond4 i v0 = 1#1), ∀ a, (k0_off178 v403) a + S1x2048.size a ≤ S32768x2048.size a)
theorem k0_off178_inb : ∀ (i : grid0.Coords) (v0 : BitVec 32) (v403 : BitVec 32) (k0_hw59 : k0_chk59 i v0 v403), ∀ (k0_h4 : k0_cond4 i v0 = 1#1), ∀ a, (k0_off178 v403) a + S1x2048.size a ≤ S32768x2048.size a := fun i v0 v403 k0_hw59 k0_h4 => k0_hw59 k0_h4

def k0_off179 (i : grid0.Coords) : Fin 3 → Nat :=
  let c0_345 : Index := 0#32
  let c0_346 : Index := 0#32
  let arg1 : BitVec 32 := BitVec.ofNat 32 (i 1).val
  let c74_i32_343 : BitVec 32 := 74#32
  let v406 : BitVec 32 := Scalar.muli arg1 c74_i32_343
  let c57_i32 : BitVec 32 := 57#32
  let v407 : BitVec 32 := Scalar.addi v406 c57_i32
  let c1023_i32_344 : BitVec 32 := 1023#32
  let v408 : BitVec 32 := Scalar.minsi v407 c1023_i32_344
  let v409 : Index := Scalar.indexCast v408
  ![0, 0, v409.toNat]
def k0_off180 (i : grid0.Coords) : Fin 2 → Nat :=
  let arg1 : BitVec 32 := BitVec.ofNat 32 (i 1).val
  let c74_i32_343 : BitVec 32 := 74#32
  let v406 : BitVec 32 := Scalar.muli arg1 c74_i32_343
  let c57_i32 : BitVec 32 := 57#32
  let v407 : BitVec 32 := Scalar.addi v406 c57_i32
  let c0_i32_347 : BitVec 32 := 0#32
  ![v407.toNat, 0]
def k0_off181 (v410 : BitVec 32) : Fin 2 → Nat :=
  let c0_i32_348 : BitVec 32 := 0#32
  ![v410.toNat, 0]

def k0_chk60 (i : grid0.Coords) (v0 : BitVec 32) (v410 : BitVec 32) : Prop :=
  (∀ (k0_h4 : k0_cond4 i v0 = 1#1), ∀ a, (k0_off181 v410) a + S1x2048.size a ≤ S32768x2048.size a)
theorem k0_off181_inb : ∀ (i : grid0.Coords) (v0 : BitVec 32) (v410 : BitVec 32) (k0_hw60 : k0_chk60 i v0 v410), ∀ (k0_h4 : k0_cond4 i v0 = 1#1), ∀ a, (k0_off181 v410) a + S1x2048.size a ≤ S32768x2048.size a := fun i v0 v410 k0_hw60 k0_h4 => k0_hw60 k0_h4

def k0_off182 (i : grid0.Coords) : Fin 3 → Nat :=
  let c0_351 : Index := 0#32
  let c0_352 : Index := 0#32
  let arg1 : BitVec 32 := BitVec.ofNat 32 (i 1).val
  let c74_i32_349 : BitVec 32 := 74#32
  let v413 : BitVec 32 := Scalar.muli arg1 c74_i32_349
  let c58_i32 : BitVec 32 := 58#32
  let v414 : BitVec 32 := Scalar.addi v413 c58_i32
  let c1023_i32_350 : BitVec 32 := 1023#32
  let v415 : BitVec 32 := Scalar.minsi v414 c1023_i32_350
  let v416 : Index := Scalar.indexCast v415
  ![0, 0, v416.toNat]
def k0_off183 (i : grid0.Coords) : Fin 2 → Nat :=
  let arg1 : BitVec 32 := BitVec.ofNat 32 (i 1).val
  let c74_i32_349 : BitVec 32 := 74#32
  let v413 : BitVec 32 := Scalar.muli arg1 c74_i32_349
  let c58_i32 : BitVec 32 := 58#32
  let v414 : BitVec 32 := Scalar.addi v413 c58_i32
  let c0_i32_353 : BitVec 32 := 0#32
  ![v414.toNat, 0]
def k0_off184 (v417 : BitVec 32) : Fin 2 → Nat :=
  let c0_i32_354 : BitVec 32 := 0#32
  ![v417.toNat, 0]

def k0_chk61 (i : grid0.Coords) (v0 : BitVec 32) (v417 : BitVec 32) : Prop :=
  (∀ (k0_h4 : k0_cond4 i v0 = 1#1), ∀ a, (k0_off184 v417) a + S1x2048.size a ≤ S32768x2048.size a)
theorem k0_off184_inb : ∀ (i : grid0.Coords) (v0 : BitVec 32) (v417 : BitVec 32) (k0_hw61 : k0_chk61 i v0 v417), ∀ (k0_h4 : k0_cond4 i v0 = 1#1), ∀ a, (k0_off184 v417) a + S1x2048.size a ≤ S32768x2048.size a := fun i v0 v417 k0_hw61 k0_h4 => k0_hw61 k0_h4

def k0_off185 (i : grid0.Coords) : Fin 3 → Nat :=
  let c0_357 : Index := 0#32
  let c0_358 : Index := 0#32
  let arg1 : BitVec 32 := BitVec.ofNat 32 (i 1).val
  let c74_i32_355 : BitVec 32 := 74#32
  let v420 : BitVec 32 := Scalar.muli arg1 c74_i32_355
  let c59_i32 : BitVec 32 := 59#32
  let v421 : BitVec 32 := Scalar.addi v420 c59_i32
  let c1023_i32_356 : BitVec 32 := 1023#32
  let v422 : BitVec 32 := Scalar.minsi v421 c1023_i32_356
  let v423 : Index := Scalar.indexCast v422
  ![0, 0, v423.toNat]
def k0_off186 (i : grid0.Coords) : Fin 2 → Nat :=
  let arg1 : BitVec 32 := BitVec.ofNat 32 (i 1).val
  let c74_i32_355 : BitVec 32 := 74#32
  let v420 : BitVec 32 := Scalar.muli arg1 c74_i32_355
  let c59_i32 : BitVec 32 := 59#32
  let v421 : BitVec 32 := Scalar.addi v420 c59_i32
  let c0_i32_359 : BitVec 32 := 0#32
  ![v421.toNat, 0]
def k0_off187 (v424 : BitVec 32) : Fin 2 → Nat :=
  let c0_i32_360 : BitVec 32 := 0#32
  ![v424.toNat, 0]

def k0_chk62 (i : grid0.Coords) (v0 : BitVec 32) (v424 : BitVec 32) : Prop :=
  (∀ (k0_h4 : k0_cond4 i v0 = 1#1), ∀ a, (k0_off187 v424) a + S1x2048.size a ≤ S32768x2048.size a)
theorem k0_off187_inb : ∀ (i : grid0.Coords) (v0 : BitVec 32) (v424 : BitVec 32) (k0_hw62 : k0_chk62 i v0 v424), ∀ (k0_h4 : k0_cond4 i v0 = 1#1), ∀ a, (k0_off187 v424) a + S1x2048.size a ≤ S32768x2048.size a := fun i v0 v424 k0_hw62 k0_h4 => k0_hw62 k0_h4

def k0_off188 (i : grid0.Coords) : Fin 3 → Nat :=
  let c0_363 : Index := 0#32
  let c0_364 : Index := 0#32
  let arg1 : BitVec 32 := BitVec.ofNat 32 (i 1).val
  let c74_i32_361 : BitVec 32 := 74#32
  let v427 : BitVec 32 := Scalar.muli arg1 c74_i32_361
  let c60_i32 : BitVec 32 := 60#32
  let v428 : BitVec 32 := Scalar.addi v427 c60_i32
  let c1023_i32_362 : BitVec 32 := 1023#32
  let v429 : BitVec 32 := Scalar.minsi v428 c1023_i32_362
  let v430 : Index := Scalar.indexCast v429
  ![0, 0, v430.toNat]
def k0_off189 (i : grid0.Coords) : Fin 2 → Nat :=
  let arg1 : BitVec 32 := BitVec.ofNat 32 (i 1).val
  let c74_i32_361 : BitVec 32 := 74#32
  let v427 : BitVec 32 := Scalar.muli arg1 c74_i32_361
  let c60_i32 : BitVec 32 := 60#32
  let v428 : BitVec 32 := Scalar.addi v427 c60_i32
  let c0_i32_365 : BitVec 32 := 0#32
  ![v428.toNat, 0]
def k0_off190 (v431 : BitVec 32) : Fin 2 → Nat :=
  let c0_i32_366 : BitVec 32 := 0#32
  ![v431.toNat, 0]

def k0_chk63 (i : grid0.Coords) (v0 : BitVec 32) (v431 : BitVec 32) : Prop :=
  (∀ (k0_h4 : k0_cond4 i v0 = 1#1), ∀ a, (k0_off190 v431) a + S1x2048.size a ≤ S32768x2048.size a)
theorem k0_off190_inb : ∀ (i : grid0.Coords) (v0 : BitVec 32) (v431 : BitVec 32) (k0_hw63 : k0_chk63 i v0 v431), ∀ (k0_h4 : k0_cond4 i v0 = 1#1), ∀ a, (k0_off190 v431) a + S1x2048.size a ≤ S32768x2048.size a := fun i v0 v431 k0_hw63 k0_h4 => k0_hw63 k0_h4

def k0_off191 (i : grid0.Coords) : Fin 3 → Nat :=
  let c0_369 : Index := 0#32
  let c0_370 : Index := 0#32
  let arg1 : BitVec 32 := BitVec.ofNat 32 (i 1).val
  let c74_i32_367 : BitVec 32 := 74#32
  let v434 : BitVec 32 := Scalar.muli arg1 c74_i32_367
  let c61_i32 : BitVec 32 := 61#32
  let v435 : BitVec 32 := Scalar.addi v434 c61_i32
  let c1023_i32_368 : BitVec 32 := 1023#32
  let v436 : BitVec 32 := Scalar.minsi v435 c1023_i32_368
  let v437 : Index := Scalar.indexCast v436
  ![0, 0, v437.toNat]
def k0_off192 (i : grid0.Coords) : Fin 2 → Nat :=
  let arg1 : BitVec 32 := BitVec.ofNat 32 (i 1).val
  let c74_i32_367 : BitVec 32 := 74#32
  let v434 : BitVec 32 := Scalar.muli arg1 c74_i32_367
  let c61_i32 : BitVec 32 := 61#32
  let v435 : BitVec 32 := Scalar.addi v434 c61_i32
  let c0_i32_371 : BitVec 32 := 0#32
  ![v435.toNat, 0]
def k0_off193 (v438 : BitVec 32) : Fin 2 → Nat :=
  let c0_i32_372 : BitVec 32 := 0#32
  ![v438.toNat, 0]

def k0_chk64 (i : grid0.Coords) (v0 : BitVec 32) (v438 : BitVec 32) : Prop :=
  (∀ (k0_h4 : k0_cond4 i v0 = 1#1), ∀ a, (k0_off193 v438) a + S1x2048.size a ≤ S32768x2048.size a)
theorem k0_off193_inb : ∀ (i : grid0.Coords) (v0 : BitVec 32) (v438 : BitVec 32) (k0_hw64 : k0_chk64 i v0 v438), ∀ (k0_h4 : k0_cond4 i v0 = 1#1), ∀ a, (k0_off193 v438) a + S1x2048.size a ≤ S32768x2048.size a := fun i v0 v438 k0_hw64 k0_h4 => k0_hw64 k0_h4

def k0_off194 (i : grid0.Coords) : Fin 3 → Nat :=
  let c0_375 : Index := 0#32
  let c0_376 : Index := 0#32
  let arg1 : BitVec 32 := BitVec.ofNat 32 (i 1).val
  let c74_i32_373 : BitVec 32 := 74#32
  let v441 : BitVec 32 := Scalar.muli arg1 c74_i32_373
  let c62_i32 : BitVec 32 := 62#32
  let v442 : BitVec 32 := Scalar.addi v441 c62_i32
  let c1023_i32_374 : BitVec 32 := 1023#32
  let v443 : BitVec 32 := Scalar.minsi v442 c1023_i32_374
  let v444 : Index := Scalar.indexCast v443
  ![0, 0, v444.toNat]
def k0_off195 (i : grid0.Coords) : Fin 2 → Nat :=
  let arg1 : BitVec 32 := BitVec.ofNat 32 (i 1).val
  let c74_i32_373 : BitVec 32 := 74#32
  let v441 : BitVec 32 := Scalar.muli arg1 c74_i32_373
  let c62_i32 : BitVec 32 := 62#32
  let v442 : BitVec 32 := Scalar.addi v441 c62_i32
  let c0_i32_377 : BitVec 32 := 0#32
  ![v442.toNat, 0]
def k0_off196 (v445 : BitVec 32) : Fin 2 → Nat :=
  let c0_i32_378 : BitVec 32 := 0#32
  ![v445.toNat, 0]

def k0_chk65 (i : grid0.Coords) (v0 : BitVec 32) (v445 : BitVec 32) : Prop :=
  (∀ (k0_h4 : k0_cond4 i v0 = 1#1), ∀ a, (k0_off196 v445) a + S1x2048.size a ≤ S32768x2048.size a)
theorem k0_off196_inb : ∀ (i : grid0.Coords) (v0 : BitVec 32) (v445 : BitVec 32) (k0_hw65 : k0_chk65 i v0 v445), ∀ (k0_h4 : k0_cond4 i v0 = 1#1), ∀ a, (k0_off196 v445) a + S1x2048.size a ≤ S32768x2048.size a := fun i v0 v445 k0_hw65 k0_h4 => k0_hw65 k0_h4

def k0_off197 (i : grid0.Coords) : Fin 3 → Nat :=
  let c0_381 : Index := 0#32
  let c0_382 : Index := 0#32
  let arg1 : BitVec 32 := BitVec.ofNat 32 (i 1).val
  let c74_i32_379 : BitVec 32 := 74#32
  let v448 : BitVec 32 := Scalar.muli arg1 c74_i32_379
  let c63_i32 : BitVec 32 := 63#32
  let v449 : BitVec 32 := Scalar.addi v448 c63_i32
  let c1023_i32_380 : BitVec 32 := 1023#32
  let v450 : BitVec 32 := Scalar.minsi v449 c1023_i32_380
  let v451 : Index := Scalar.indexCast v450
  ![0, 0, v451.toNat]
def k0_off198 (i : grid0.Coords) : Fin 2 → Nat :=
  let arg1 : BitVec 32 := BitVec.ofNat 32 (i 1).val
  let c74_i32_379 : BitVec 32 := 74#32
  let v448 : BitVec 32 := Scalar.muli arg1 c74_i32_379
  let c63_i32 : BitVec 32 := 63#32
  let v449 : BitVec 32 := Scalar.addi v448 c63_i32
  let c0_i32_383 : BitVec 32 := 0#32
  ![v449.toNat, 0]
def k0_off199 (v452 : BitVec 32) : Fin 2 → Nat :=
  let c0_i32_384 : BitVec 32 := 0#32
  ![v452.toNat, 0]

def k0_chk66 (i : grid0.Coords) (v0 : BitVec 32) (v452 : BitVec 32) : Prop :=
  (∀ (k0_h4 : k0_cond4 i v0 = 1#1), ∀ a, (k0_off199 v452) a + S1x2048.size a ≤ S32768x2048.size a)
theorem k0_off199_inb : ∀ (i : grid0.Coords) (v0 : BitVec 32) (v452 : BitVec 32) (k0_hw66 : k0_chk66 i v0 v452), ∀ (k0_h4 : k0_cond4 i v0 = 1#1), ∀ a, (k0_off199 v452) a + S1x2048.size a ≤ S32768x2048.size a := fun i v0 v452 k0_hw66 k0_h4 => k0_hw66 k0_h4

def k0_off200 (i : grid0.Coords) : Fin 3 → Nat :=
  let c0_387 : Index := 0#32
  let c0_388 : Index := 0#32
  let arg1 : BitVec 32 := BitVec.ofNat 32 (i 1).val
  let c74_i32_385 : BitVec 32 := 74#32
  let v455 : BitVec 32 := Scalar.muli arg1 c74_i32_385
  let c64_i32 : BitVec 32 := 64#32
  let v456 : BitVec 32 := Scalar.addi v455 c64_i32
  let c1023_i32_386 : BitVec 32 := 1023#32
  let v457 : BitVec 32 := Scalar.minsi v456 c1023_i32_386
  let v458 : Index := Scalar.indexCast v457
  ![0, 0, v458.toNat]
def k0_off201 (i : grid0.Coords) : Fin 2 → Nat :=
  let arg1 : BitVec 32 := BitVec.ofNat 32 (i 1).val
  let c74_i32_385 : BitVec 32 := 74#32
  let v455 : BitVec 32 := Scalar.muli arg1 c74_i32_385
  let c64_i32 : BitVec 32 := 64#32
  let v456 : BitVec 32 := Scalar.addi v455 c64_i32
  let c0_i32_389 : BitVec 32 := 0#32
  ![v456.toNat, 0]
def k0_off202 (v459 : BitVec 32) : Fin 2 → Nat :=
  let c0_i32_390 : BitVec 32 := 0#32
  ![v459.toNat, 0]

def k0_chk67 (i : grid0.Coords) (v0 : BitVec 32) (v459 : BitVec 32) : Prop :=
  (∀ (k0_h4 : k0_cond4 i v0 = 1#1), ∀ a, (k0_off202 v459) a + S1x2048.size a ≤ S32768x2048.size a)
theorem k0_off202_inb : ∀ (i : grid0.Coords) (v0 : BitVec 32) (v459 : BitVec 32) (k0_hw67 : k0_chk67 i v0 v459), ∀ (k0_h4 : k0_cond4 i v0 = 1#1), ∀ a, (k0_off202 v459) a + S1x2048.size a ≤ S32768x2048.size a := fun i v0 v459 k0_hw67 k0_h4 => k0_hw67 k0_h4

def k0_off203 (i : grid0.Coords) : Fin 3 → Nat :=
  let c0_393 : Index := 0#32
  let c0_394 : Index := 0#32
  let arg1 : BitVec 32 := BitVec.ofNat 32 (i 1).val
  let c74_i32_391 : BitVec 32 := 74#32
  let v462 : BitVec 32 := Scalar.muli arg1 c74_i32_391
  let c65_i32 : BitVec 32 := 65#32
  let v463 : BitVec 32 := Scalar.addi v462 c65_i32
  let c1023_i32_392 : BitVec 32 := 1023#32
  let v464 : BitVec 32 := Scalar.minsi v463 c1023_i32_392
  let v465 : Index := Scalar.indexCast v464
  ![0, 0, v465.toNat]
def k0_off204 (i : grid0.Coords) : Fin 2 → Nat :=
  let arg1 : BitVec 32 := BitVec.ofNat 32 (i 1).val
  let c74_i32_391 : BitVec 32 := 74#32
  let v462 : BitVec 32 := Scalar.muli arg1 c74_i32_391
  let c65_i32 : BitVec 32 := 65#32
  let v463 : BitVec 32 := Scalar.addi v462 c65_i32
  let c0_i32_395 : BitVec 32 := 0#32
  ![v463.toNat, 0]
def k0_off205 (v466 : BitVec 32) : Fin 2 → Nat :=
  let c0_i32_396 : BitVec 32 := 0#32
  ![v466.toNat, 0]

def k0_chk68 (i : grid0.Coords) (v0 : BitVec 32) (v466 : BitVec 32) : Prop :=
  (∀ (k0_h4 : k0_cond4 i v0 = 1#1), ∀ a, (k0_off205 v466) a + S1x2048.size a ≤ S32768x2048.size a)
theorem k0_off205_inb : ∀ (i : grid0.Coords) (v0 : BitVec 32) (v466 : BitVec 32) (k0_hw68 : k0_chk68 i v0 v466), ∀ (k0_h4 : k0_cond4 i v0 = 1#1), ∀ a, (k0_off205 v466) a + S1x2048.size a ≤ S32768x2048.size a := fun i v0 v466 k0_hw68 k0_h4 => k0_hw68 k0_h4

def k0_off206 (i : grid0.Coords) : Fin 3 → Nat :=
  let c0_399 : Index := 0#32
  let c0_400 : Index := 0#32
  let arg1 : BitVec 32 := BitVec.ofNat 32 (i 1).val
  let c74_i32_397 : BitVec 32 := 74#32
  let v469 : BitVec 32 := Scalar.muli arg1 c74_i32_397
  let c66_i32 : BitVec 32 := 66#32
  let v470 : BitVec 32 := Scalar.addi v469 c66_i32
  let c1023_i32_398 : BitVec 32 := 1023#32
  let v471 : BitVec 32 := Scalar.minsi v470 c1023_i32_398
  let v472 : Index := Scalar.indexCast v471
  ![0, 0, v472.toNat]
def k0_off207 (i : grid0.Coords) : Fin 2 → Nat :=
  let arg1 : BitVec 32 := BitVec.ofNat 32 (i 1).val
  let c74_i32_397 : BitVec 32 := 74#32
  let v469 : BitVec 32 := Scalar.muli arg1 c74_i32_397
  let c66_i32 : BitVec 32 := 66#32
  let v470 : BitVec 32 := Scalar.addi v469 c66_i32
  let c0_i32_401 : BitVec 32 := 0#32
  ![v470.toNat, 0]
def k0_off208 (v473 : BitVec 32) : Fin 2 → Nat :=
  let c0_i32_402 : BitVec 32 := 0#32
  ![v473.toNat, 0]

def k0_chk69 (i : grid0.Coords) (v0 : BitVec 32) (v473 : BitVec 32) : Prop :=
  (∀ (k0_h4 : k0_cond4 i v0 = 1#1), ∀ a, (k0_off208 v473) a + S1x2048.size a ≤ S32768x2048.size a)
theorem k0_off208_inb : ∀ (i : grid0.Coords) (v0 : BitVec 32) (v473 : BitVec 32) (k0_hw69 : k0_chk69 i v0 v473), ∀ (k0_h4 : k0_cond4 i v0 = 1#1), ∀ a, (k0_off208 v473) a + S1x2048.size a ≤ S32768x2048.size a := fun i v0 v473 k0_hw69 k0_h4 => k0_hw69 k0_h4

def k0_off209 (i : grid0.Coords) : Fin 3 → Nat :=
  let c0_405 : Index := 0#32
  let c0_406 : Index := 0#32
  let arg1 : BitVec 32 := BitVec.ofNat 32 (i 1).val
  let c74_i32_403 : BitVec 32 := 74#32
  let v476 : BitVec 32 := Scalar.muli arg1 c74_i32_403
  let c67_i32 : BitVec 32 := 67#32
  let v477 : BitVec 32 := Scalar.addi v476 c67_i32
  let c1023_i32_404 : BitVec 32 := 1023#32
  let v478 : BitVec 32 := Scalar.minsi v477 c1023_i32_404
  let v479 : Index := Scalar.indexCast v478
  ![0, 0, v479.toNat]
def k0_off210 (i : grid0.Coords) : Fin 2 → Nat :=
  let arg1 : BitVec 32 := BitVec.ofNat 32 (i 1).val
  let c74_i32_403 : BitVec 32 := 74#32
  let v476 : BitVec 32 := Scalar.muli arg1 c74_i32_403
  let c67_i32 : BitVec 32 := 67#32
  let v477 : BitVec 32 := Scalar.addi v476 c67_i32
  let c0_i32_407 : BitVec 32 := 0#32
  ![v477.toNat, 0]
def k0_off211 (v480 : BitVec 32) : Fin 2 → Nat :=
  let c0_i32_408 : BitVec 32 := 0#32
  ![v480.toNat, 0]

def k0_chk70 (i : grid0.Coords) (v0 : BitVec 32) (v480 : BitVec 32) : Prop :=
  (∀ (k0_h4 : k0_cond4 i v0 = 1#1), ∀ a, (k0_off211 v480) a + S1x2048.size a ≤ S32768x2048.size a)
theorem k0_off211_inb : ∀ (i : grid0.Coords) (v0 : BitVec 32) (v480 : BitVec 32) (k0_hw70 : k0_chk70 i v0 v480), ∀ (k0_h4 : k0_cond4 i v0 = 1#1), ∀ a, (k0_off211 v480) a + S1x2048.size a ≤ S32768x2048.size a := fun i v0 v480 k0_hw70 k0_h4 => k0_hw70 k0_h4

def k0_off212 (i : grid0.Coords) : Fin 3 → Nat :=
  let c0_411 : Index := 0#32
  let c0_412 : Index := 0#32
  let arg1 : BitVec 32 := BitVec.ofNat 32 (i 1).val
  let c74_i32_409 : BitVec 32 := 74#32
  let v483 : BitVec 32 := Scalar.muli arg1 c74_i32_409
  let c68_i32 : BitVec 32 := 68#32
  let v484 : BitVec 32 := Scalar.addi v483 c68_i32
  let c1023_i32_410 : BitVec 32 := 1023#32
  let v485 : BitVec 32 := Scalar.minsi v484 c1023_i32_410
  let v486 : Index := Scalar.indexCast v485
  ![0, 0, v486.toNat]
def k0_off213 (i : grid0.Coords) : Fin 2 → Nat :=
  let arg1 : BitVec 32 := BitVec.ofNat 32 (i 1).val
  let c74_i32_409 : BitVec 32 := 74#32
  let v483 : BitVec 32 := Scalar.muli arg1 c74_i32_409
  let c68_i32 : BitVec 32 := 68#32
  let v484 : BitVec 32 := Scalar.addi v483 c68_i32
  let c0_i32_413 : BitVec 32 := 0#32
  ![v484.toNat, 0]
def k0_off214 (v487 : BitVec 32) : Fin 2 → Nat :=
  let c0_i32_414 : BitVec 32 := 0#32
  ![v487.toNat, 0]

def k0_chk71 (i : grid0.Coords) (v0 : BitVec 32) (v487 : BitVec 32) : Prop :=
  (∀ (k0_h4 : k0_cond4 i v0 = 1#1), ∀ a, (k0_off214 v487) a + S1x2048.size a ≤ S32768x2048.size a)
theorem k0_off214_inb : ∀ (i : grid0.Coords) (v0 : BitVec 32) (v487 : BitVec 32) (k0_hw71 : k0_chk71 i v0 v487), ∀ (k0_h4 : k0_cond4 i v0 = 1#1), ∀ a, (k0_off214 v487) a + S1x2048.size a ≤ S32768x2048.size a := fun i v0 v487 k0_hw71 k0_h4 => k0_hw71 k0_h4

def k0_off215 (i : grid0.Coords) : Fin 3 → Nat :=
  let c0_417 : Index := 0#32
  let c0_418 : Index := 0#32
  let arg1 : BitVec 32 := BitVec.ofNat 32 (i 1).val
  let c74_i32_415 : BitVec 32 := 74#32
  let v490 : BitVec 32 := Scalar.muli arg1 c74_i32_415
  let c69_i32 : BitVec 32 := 69#32
  let v491 : BitVec 32 := Scalar.addi v490 c69_i32
  let c1023_i32_416 : BitVec 32 := 1023#32
  let v492 : BitVec 32 := Scalar.minsi v491 c1023_i32_416
  let v493 : Index := Scalar.indexCast v492
  ![0, 0, v493.toNat]
def k0_off216 (i : grid0.Coords) : Fin 2 → Nat :=
  let arg1 : BitVec 32 := BitVec.ofNat 32 (i 1).val
  let c74_i32_415 : BitVec 32 := 74#32
  let v490 : BitVec 32 := Scalar.muli arg1 c74_i32_415
  let c69_i32 : BitVec 32 := 69#32
  let v491 : BitVec 32 := Scalar.addi v490 c69_i32
  let c0_i32_419 : BitVec 32 := 0#32
  ![v491.toNat, 0]
def k0_off217 (v494 : BitVec 32) : Fin 2 → Nat :=
  let c0_i32_420 : BitVec 32 := 0#32
  ![v494.toNat, 0]

def k0_chk72 (i : grid0.Coords) (v0 : BitVec 32) (v494 : BitVec 32) : Prop :=
  (∀ (k0_h4 : k0_cond4 i v0 = 1#1), ∀ a, (k0_off217 v494) a + S1x2048.size a ≤ S32768x2048.size a)
theorem k0_off217_inb : ∀ (i : grid0.Coords) (v0 : BitVec 32) (v494 : BitVec 32) (k0_hw72 : k0_chk72 i v0 v494), ∀ (k0_h4 : k0_cond4 i v0 = 1#1), ∀ a, (k0_off217 v494) a + S1x2048.size a ≤ S32768x2048.size a := fun i v0 v494 k0_hw72 k0_h4 => k0_hw72 k0_h4

def k0_off218 (i : grid0.Coords) : Fin 3 → Nat :=
  let c0_423 : Index := 0#32
  let c0_424 : Index := 0#32
  let arg1 : BitVec 32 := BitVec.ofNat 32 (i 1).val
  let c74_i32_421 : BitVec 32 := 74#32
  let v497 : BitVec 32 := Scalar.muli arg1 c74_i32_421
  let c70_i32 : BitVec 32 := 70#32
  let v498 : BitVec 32 := Scalar.addi v497 c70_i32
  let c1023_i32_422 : BitVec 32 := 1023#32
  let v499 : BitVec 32 := Scalar.minsi v498 c1023_i32_422
  let v500 : Index := Scalar.indexCast v499
  ![0, 0, v500.toNat]
def k0_off219 (i : grid0.Coords) : Fin 2 → Nat :=
  let arg1 : BitVec 32 := BitVec.ofNat 32 (i 1).val
  let c74_i32_421 : BitVec 32 := 74#32
  let v497 : BitVec 32 := Scalar.muli arg1 c74_i32_421
  let c70_i32 : BitVec 32 := 70#32
  let v498 : BitVec 32 := Scalar.addi v497 c70_i32
  let c0_i32_425 : BitVec 32 := 0#32
  ![v498.toNat, 0]
def k0_off220 (v501 : BitVec 32) : Fin 2 → Nat :=
  let c0_i32_426 : BitVec 32 := 0#32
  ![v501.toNat, 0]

def k0_chk73 (i : grid0.Coords) (v0 : BitVec 32) (v501 : BitVec 32) : Prop :=
  (∀ (k0_h4 : k0_cond4 i v0 = 1#1), ∀ a, (k0_off220 v501) a + S1x2048.size a ≤ S32768x2048.size a)
theorem k0_off220_inb : ∀ (i : grid0.Coords) (v0 : BitVec 32) (v501 : BitVec 32) (k0_hw73 : k0_chk73 i v0 v501), ∀ (k0_h4 : k0_cond4 i v0 = 1#1), ∀ a, (k0_off220 v501) a + S1x2048.size a ≤ S32768x2048.size a := fun i v0 v501 k0_hw73 k0_h4 => k0_hw73 k0_h4

def k0_off221 (i : grid0.Coords) : Fin 3 → Nat :=
  let c0_429 : Index := 0#32
  let c0_430 : Index := 0#32
  let arg1 : BitVec 32 := BitVec.ofNat 32 (i 1).val
  let c74_i32_427 : BitVec 32 := 74#32
  let v504 : BitVec 32 := Scalar.muli arg1 c74_i32_427
  let c71_i32 : BitVec 32 := 71#32
  let v505 : BitVec 32 := Scalar.addi v504 c71_i32
  let c1023_i32_428 : BitVec 32 := 1023#32
  let v506 : BitVec 32 := Scalar.minsi v505 c1023_i32_428
  let v507 : Index := Scalar.indexCast v506
  ![0, 0, v507.toNat]
def k0_off222 (i : grid0.Coords) : Fin 2 → Nat :=
  let arg1 : BitVec 32 := BitVec.ofNat 32 (i 1).val
  let c74_i32_427 : BitVec 32 := 74#32
  let v504 : BitVec 32 := Scalar.muli arg1 c74_i32_427
  let c71_i32 : BitVec 32 := 71#32
  let v505 : BitVec 32 := Scalar.addi v504 c71_i32
  let c0_i32_431 : BitVec 32 := 0#32
  ![v505.toNat, 0]
def k0_off223 (v508 : BitVec 32) : Fin 2 → Nat :=
  let c0_i32_432 : BitVec 32 := 0#32
  ![v508.toNat, 0]

def k0_chk74 (i : grid0.Coords) (v0 : BitVec 32) (v508 : BitVec 32) : Prop :=
  (∀ (k0_h4 : k0_cond4 i v0 = 1#1), ∀ a, (k0_off223 v508) a + S1x2048.size a ≤ S32768x2048.size a)
theorem k0_off223_inb : ∀ (i : grid0.Coords) (v0 : BitVec 32) (v508 : BitVec 32) (k0_hw74 : k0_chk74 i v0 v508), ∀ (k0_h4 : k0_cond4 i v0 = 1#1), ∀ a, (k0_off223 v508) a + S1x2048.size a ≤ S32768x2048.size a := fun i v0 v508 k0_hw74 k0_h4 => k0_hw74 k0_h4

def k0_off224 (i : grid0.Coords) : Fin 3 → Nat :=
  let c0_435 : Index := 0#32
  let c0_436 : Index := 0#32
  let arg1 : BitVec 32 := BitVec.ofNat 32 (i 1).val
  let c74_i32_433 : BitVec 32 := 74#32
  let v511 : BitVec 32 := Scalar.muli arg1 c74_i32_433
  let c72_i32 : BitVec 32 := 72#32
  let v512 : BitVec 32 := Scalar.addi v511 c72_i32
  let c1023_i32_434 : BitVec 32 := 1023#32
  let v513 : BitVec 32 := Scalar.minsi v512 c1023_i32_434
  let v514 : Index := Scalar.indexCast v513
  ![0, 0, v514.toNat]
def k0_off225 (i : grid0.Coords) : Fin 2 → Nat :=
  let arg1 : BitVec 32 := BitVec.ofNat 32 (i 1).val
  let c74_i32_433 : BitVec 32 := 74#32
  let v511 : BitVec 32 := Scalar.muli arg1 c74_i32_433
  let c72_i32 : BitVec 32 := 72#32
  let v512 : BitVec 32 := Scalar.addi v511 c72_i32
  let c0_i32_437 : BitVec 32 := 0#32
  ![v512.toNat, 0]
def k0_off226 (v515 : BitVec 32) : Fin 2 → Nat :=
  let c0_i32_438 : BitVec 32 := 0#32
  ![v515.toNat, 0]

def k0_chk75 (i : grid0.Coords) (v0 : BitVec 32) (v515 : BitVec 32) : Prop :=
  (∀ (k0_h4 : k0_cond4 i v0 = 1#1), ∀ a, (k0_off226 v515) a + S1x2048.size a ≤ S32768x2048.size a)
theorem k0_off226_inb : ∀ (i : grid0.Coords) (v0 : BitVec 32) (v515 : BitVec 32) (k0_hw75 : k0_chk75 i v0 v515), ∀ (k0_h4 : k0_cond4 i v0 = 1#1), ∀ a, (k0_off226 v515) a + S1x2048.size a ≤ S32768x2048.size a := fun i v0 v515 k0_hw75 k0_h4 => k0_hw75 k0_h4

def k0_off227 (i : grid0.Coords) : Fin 3 → Nat :=
  let c0_441 : Index := 0#32
  let c0_442 : Index := 0#32
  let arg1 : BitVec 32 := BitVec.ofNat 32 (i 1).val
  let c74_i32_439 : BitVec 32 := 74#32
  let v518 : BitVec 32 := Scalar.muli arg1 c74_i32_439
  let c73_i32 : BitVec 32 := 73#32
  let v519 : BitVec 32 := Scalar.addi v518 c73_i32
  let c1023_i32_440 : BitVec 32 := 1023#32
  let v520 : BitVec 32 := Scalar.minsi v519 c1023_i32_440
  let v521 : Index := Scalar.indexCast v520
  ![0, 0, v521.toNat]
def k0_off228 (i : grid0.Coords) : Fin 2 → Nat :=
  let arg1 : BitVec 32 := BitVec.ofNat 32 (i 1).val
  let c74_i32_439 : BitVec 32 := 74#32
  let v518 : BitVec 32 := Scalar.muli arg1 c74_i32_439
  let c73_i32 : BitVec 32 := 73#32
  let v519 : BitVec 32 := Scalar.addi v518 c73_i32
  let c0_i32_443 : BitVec 32 := 0#32
  ![v519.toNat, 0]
def k0_off229 (v522 : BitVec 32) : Fin 2 → Nat :=
  let c0_i32_444 : BitVec 32 := 0#32
  ![v522.toNat, 0]

def k0_chk76 (i : grid0.Coords) (v0 : BitVec 32) (v522 : BitVec 32) : Prop :=
  (∀ (k0_h4 : k0_cond4 i v0 = 1#1), ∀ a, (k0_off229 v522) a + S1x2048.size a ≤ S32768x2048.size a)
theorem k0_off229_inb : ∀ (i : grid0.Coords) (v0 : BitVec 32) (v522 : BitVec 32) (k0_hw76 : k0_chk76 i v0 v522), ∀ (k0_h4 : k0_cond4 i v0 = 1#1), ∀ a, (k0_off229 v522) a + S1x2048.size a ≤ S32768x2048.size a := fun i v0 v522 k0_hw76 k0_h4 => k0_hw76 k0_h4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c72_i32 : BitVec 32 := 72#32
  let v1 : BitVec 32 := Scalar.minsi v0 c72_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, c0_i32.toNat, arg1.toNat]

def cc0_transform_5 (k0_off1_inb : ∀ i : grid0.Coords, ∀ a, (k0_off1 i) a + S1.size a ≤ S73.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0_i32 : BitVec 32 := 0#32
  let c0_i32_0 : BitVec 32 := 0#32
  ![v1.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32768x2048 : Shape := ⟨2, ![32768, 2048]⟩
abbrev S74752 : Shape := ⟨1, ![74752]⟩
abbrev S73 : Shape := ⟨1, ![73]⟩
abbrev S1 : Shape := ⟨1, ![1]⟩
abbrev S1x8x2048x7168 : Shape := ⟨4, ![1, 8, 2048, 7168]⟩
abbrev S1x8x7168x2048 : Shape := ⟨4, ![1, 8, 7168, 2048]⟩
abbrev S8x2048x7168 : Shape := ⟨3, ![8, 2048, 7168]⟩
abbrev S8x7168x2048 : Shape := ⟨3, ![8, 7168, 2048]⟩
abbrev S_ : Shape := ⟨0, ![]⟩
abbrev S74752x1 : Shape := ⟨2, ![74752, 1]⟩
abbrev S74752x2048 : Shape := ⟨2, ![74752, 2048]⟩
abbrev S73x1024 : Shape := ⟨2, ![73, 1024]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S74752x7168 : Shape := ⟨2, ![74752, 7168]⟩

abbrev nBuf : Space → Nat
  | .hbm => 262
  | .vmem => 0
  | .smem => 0
  | _ => 0

abbrev hbmTy0_0 (i : Nat) : BufTy := match i % 128 with
  | 0 => ⟨S32768x2048, .f32⟩
  | 1 => ⟨S74752, .i32⟩
  | 2 => ⟨S73, .i32⟩
  | 3 => ⟨S1, .i32⟩
  | 4 => ⟨S1x8x2048x7168, .f32⟩
  | 5 => ⟨S1x8x2048x7168, .f32⟩
  | 6 => ⟨S1x8x7168x2048, .f32⟩
  | 7 => ⟨S8x2048x7168, .f32⟩
  | 8 => ⟨S8x2048x7168, .f32⟩
  | 9 => ⟨S8x7168x2048, .f32⟩
  | 10 => ⟨S_, .i32⟩
  | 11 => ⟨S74752, .i32⟩
  | 12 => ⟨S74752, .i1⟩
  | 13 => ⟨S_, .i32⟩
  | 14 => ⟨S74752, .i32⟩
  | 15 => ⟨S74752, .i32⟩
  | 16 => ⟨S74752, .i32⟩
  | 17 => ⟨S74752x1, .i32⟩
  | 18 => ⟨S74752x2048, .f32⟩
  | 19 => ⟨S73, .i32⟩
  | 20 => ⟨S73, .i32⟩
  | 21 => ⟨S73, .i1⟩
  | 22 => ⟨S_, .i32⟩
  | 23 => ⟨S_, .i32⟩
  | 24 => ⟨S73, .i32⟩
  | 25 => ⟨S73, .i32⟩
  | 26 => ⟨S73x1024, .i32⟩
  | 27 => ⟨S74752, .i32⟩
  | 28 => ⟨S_, .f32⟩
  | 29 => ⟨S74752x2048, .f32⟩
  | 30 => ⟨S_, .i32⟩
  | 31 => ⟨S74752, .i32⟩
  | 32 => ⟨S74752, .i1⟩
  | 33 => ⟨S74752x1, .i1⟩
  | 34 => ⟨S1x2048x7168, .f32⟩
  | 35 => ⟨S2048x7168, .f32⟩
  | 36 => ⟨S1x2048x7168, .f32⟩
  | 37 => ⟨S2048x7168, .f32⟩
  | 38 => ⟨S1x7168x2048, .f32⟩
  | 39 => ⟨S7168x2048, .f32⟩
  | 40 => ⟨S74752x7168, .f32⟩
  | 41 => ⟨S74752x7168, .f32⟩
  | 42 => ⟨S74752x7168, .f32⟩
  | 43 => ⟨S_, .f32⟩
  | 44 => ⟨S74752x7168, .f32⟩
  | 45 => ⟨S74752x7168, .f32⟩
  | 46 => ⟨S_, .f32⟩
  | 47 => ⟨S74752x7168, .f32⟩
  | 48 => ⟨S74752x7168, .f32⟩
  | 49 => ⟨S74752x7168, .f32⟩
  | 50 => ⟨S74752x7168, .f32⟩
  | 51 => ⟨S74752x7168, .f32⟩
  | 52 => ⟨S74752x2048, .f32⟩
  | 53 => ⟨S_, .f32⟩
  | 54 => ⟨S_, .f32⟩
  | 55 => ⟨S74752x2048, .i1⟩
  | 56 => ⟨S74752x2048, .f32⟩
  | 57 => ⟨S74752x2048, .f32⟩
  | 58 => ⟨S74752x2048, .f32⟩
  | 59 => ⟨S_, .i32⟩
  | 60 => ⟨S74752, .i32⟩
  | 61 => ⟨S74752, .i1⟩
  | 62 => ⟨S74752x1, .i1⟩
  | 63 => ⟨S1x2048x7168, .f32⟩
  | 64 => ⟨S2048x7168, .f32⟩
  | 65 => ⟨S1x2048x7168, .f32⟩
  | 66 => ⟨S2048x7168, .f32⟩
  | 67 => ⟨S1x7168x2048, .f32⟩
  | 68 => ⟨S7168x2048, .f32⟩
  | 69 => ⟨S74752x7168, .f32⟩
  | 70 => ⟨S74752x7168, .f32⟩
  | 71 => ⟨S74752x7168, .f32⟩
  | 72 => ⟨S_, .f32⟩
  | 73 => ⟨S74752x7168, .f32⟩
  | 74 => ⟨S74752x7168, .f32⟩
  | 75 => ⟨S_, .f32⟩
  | 76 => ⟨S74752x7168, .f32⟩
  | 77 => ⟨S74752x7168, .f32⟩
  | 78 => ⟨S74752x7168, .f32⟩
  | 79 => ⟨S74752x7168, .f32⟩
  | 80 => ⟨S74752x7168, .f32⟩
  | 81 => ⟨S74752x2048, .f32⟩
  | 82 => ⟨S_, .f32⟩
  | 83 => ⟨S_, .f32⟩
  | 84 => ⟨S74752x2048, .i1⟩
  | 85 => ⟨S74752x2048, .f32⟩
  | 86 => ⟨S74752x2048, .f32⟩
  | 87 => ⟨S74752x2048, .f32⟩
  | 88 => ⟨S_, .i32⟩
  | 89 => ⟨S74752, .i32⟩
  | 90 => ⟨S74752, .i1⟩
  | 91 => ⟨S74752x1, .i1⟩
  | 92 => ⟨S1x2048x7168, .f32⟩
  | 93 => ⟨S2048x7168, .f32⟩
  | 94 => ⟨S1x2048x7168, .f32⟩
  | 95 => ⟨S2048x7168, .f32⟩
  | 96 => ⟨S1x7168x2048, .f32⟩
  | 97 => ⟨S7168x2048, .f32⟩
  | 98 => ⟨S74752x7168, .f32⟩
  | 99 => ⟨S74752x7168, .f32⟩
  | 100 => ⟨S74752x7168, .f32⟩
  | 101 => ⟨S_, .f32⟩
  | 102 => ⟨S74752x7168, .f32⟩
  | 103 => ⟨S74752x7168, .f32⟩
  | 104 => ⟨S_, .f32⟩
  | 105 => ⟨S74752x7168, .f32⟩
  | 106 => ⟨S74752x7168, .f32⟩
  | 107 => ⟨S74752x7168, .f32⟩
  | 108 => ⟨S74752x7168, .f32⟩
  | 109 => ⟨S74752x7168, .f32⟩
  | 110 => ⟨S74752x2048, .f32⟩
  | 111 => ⟨S_, .f32⟩
  | 112 => ⟨S_, .f32⟩
  | 113 => ⟨S74752x2048, .i1⟩
  | 114 => ⟨S74752x2048, .f32⟩
  | 115 => ⟨S74752x2048, .f32⟩
  | 116 => ⟨S74752x2048, .f32⟩
  | 117 => ⟨S_, .i32⟩
  | 118 => ⟨S74752, .i32⟩
  | 119 => ⟨S74752, .i1⟩
  | 120 => ⟨S74752x1, .i1⟩
  | 121 => ⟨S1x2048x7168, .f32⟩
  | 122 => ⟨S2048x7168, .f32⟩
  | 123 => ⟨S1x2048x7168, .f32⟩
  | 124 => ⟨S2048x7168, .f32⟩
  | 125 => ⟨S1x7168x2048, .f32⟩
  | 126 => ⟨S7168x2048, .f32⟩
  | 127 => ⟨S74752x7168, .f32⟩
  | _ => ⟨S32768x2048, .f32⟩

abbrev hbmTy0_1 (i : Nat) : BufTy := match i % 128 with
  | 0 => ⟨S74752x7168, .f32⟩
  | 1 => ⟨S74752x7168, .f32⟩
  | 2 => ⟨S_, .f32⟩
  | 3 => ⟨S74752x7168, .f32⟩
  | 4 => ⟨S74752x7168, .f32⟩
  | 5 => ⟨S_, .f32⟩
  | 6 => ⟨S74752x7168, .f32⟩
  | 7 => ⟨S74752x7168, .f32⟩
  | 8 => ⟨S74752x7168, .f32⟩
  | 9 => ⟨S74752x7168, .f32⟩
  | 10 => ⟨S74752x7168, .f32⟩
  | 11 => ⟨S74752x2048, .f32⟩
  | 12 => ⟨S_, .f32⟩
  | 13 => ⟨S_, .f32⟩
  | 14 => ⟨S74752x2048, .i1⟩
  | 15 => ⟨S74752x2048, .f32⟩
  | 16 => ⟨S74752x2048, .f32⟩
  | 17 => ⟨S74752x2048, .f32⟩
  | 18 => ⟨S_, .i32⟩
  | 19 => ⟨S74752, .i32⟩
  | 20 => ⟨S74752, .i1⟩
  | 21 => ⟨S74752x1, .i1⟩
  | 22 => ⟨S1x2048x7168, .f32⟩
  | 23 => ⟨S2048x7168, .f32⟩
  | 24 => ⟨S1x2048x7168, .f32⟩
  | 25 => ⟨S2048x7168, .f32⟩
  | 26 => ⟨S1x7168x2048, .f32⟩
  | 27 => ⟨S7168x2048, .f32⟩
  | 28 => ⟨S74752x7168, .f32⟩
  | 29 => ⟨S74752x7168, .f32⟩
  | 30 => ⟨S74752x7168, .f32⟩
  | 31 => ⟨S_, .f32⟩
  | 32 => ⟨S74752x7168, .f32⟩
  | 33 => ⟨S74752x7168, .f32⟩
  | 34 => ⟨S_, .f32⟩
  | 35 => ⟨S74752x7168, .f32⟩
  | 36 => ⟨S74752x7168, .f32⟩
  | 37 => ⟨S74752x7168, .f32⟩
  | 38 => ⟨S74752x7168, .f32⟩
  | 39 => ⟨S74752x7168, .f32⟩
  | 40 => ⟨S74752x2048, .f32⟩
  | 41 => ⟨S_, .f32⟩
  | 42 => ⟨S_, .f32⟩
  | 43 => ⟨S74752x2048, .i1⟩
  | 44 => ⟨S74752x2048, .f32⟩
  | 45 => ⟨S74752x2048, .f32⟩
  | 46 => ⟨S74752x2048, .f32⟩
  | 47 => ⟨S_, .i32⟩
  | 48 => ⟨S74752, .i32⟩
  | 49 => ⟨S74752, .i1⟩
  | 50 => ⟨S74752x1, .i1⟩
  | 51 => ⟨S1x2048x7168, .f32⟩
  | 52 => ⟨S2048x7168, .f32⟩
  | 53 => ⟨S1x2048x7168, .f32⟩
  | 54 => ⟨S2048x7168, .f32⟩
  | 55 => ⟨S1x7168x2048, .f32⟩
  | 56 => ⟨S7168x2048, .f32⟩
  | 57 => ⟨S74752x7168, .f32⟩
  | 58 => ⟨S74752x7168, .f32⟩
  | 59 => ⟨S74752x7168, .f32⟩
  | 60 => ⟨S_, .f32⟩
  | 61 => ⟨S74752x7168, .f32⟩
  | 62 => ⟨S74752x7168, .f32⟩
  | 63 => ⟨S_, .f32⟩
  | 64 => ⟨S74752x7168, .f32⟩
  | 65 => ⟨S74752x7168, .f32⟩
  | 66 => ⟨S74752x7168, .f32⟩
  | 67 => ⟨S74752x7168, .f32⟩
  | 68 => ⟨S74752x7168, .f32⟩
  | 69 => ⟨S74752x2048, .f32⟩
  | 70 => ⟨S_, .f32⟩
  | 71 => ⟨S_, .f32⟩
  | 72 => ⟨S74752x2048, .i1⟩
  | 73 => ⟨S74752x2048, .f32⟩
  | 74 => ⟨S74752x2048, .f32⟩
  | 75 => ⟨S74752x2048, .f32⟩
  | 76 => ⟨S_, .i32⟩
  | 77 => ⟨S74752, .i32⟩
  | 78 => ⟨S74752, .i1⟩
  | 79 => ⟨S74752x1, .i1⟩
  | 80 => ⟨S1x2048x7168, .f32⟩
  | 81 => ⟨S2048x7168, .f32⟩
  | 82 => ⟨S1x2048x7168, .f32⟩
  | 83 => ⟨S2048x7168, .f32⟩
  | 84 => ⟨S1x7168x2048, .f32⟩
  | 85 => ⟨S7168x2048, .f32⟩
  | 86 => ⟨S74752x7168, .f32⟩
  | 87 => ⟨S74752x7168, .f32⟩
  | 88 => ⟨S74752x7168, .f32⟩
  | 89 => ⟨S_, .f32⟩
  | 90 => ⟨S74752x7168, .f32⟩
  | 91 => ⟨S74752x7168, .f32⟩
  | 92 => ⟨S_, .f32⟩
  | 93 => ⟨S74752x7168, .f32⟩
  | 94 => ⟨S74752x7168, .f32⟩
  | 95 => ⟨S74752x7168, .f32⟩
  | 96 => ⟨S74752x7168, .f32⟩
  | 97 => ⟨S74752x7168, .f32⟩
  | 98 => ⟨S74752x2048, .f32⟩
  | 99 => ⟨S_, .f32⟩
  | 100 => ⟨S_, .f32⟩
  | 101 => ⟨S74752x2048, .i1⟩
  | 102 => ⟨S74752x2048, .f32⟩
  | 103 => ⟨S74752x2048, .f32⟩
  | 104 => ⟨S74752x2048, .f32⟩
  | 105 => ⟨S_, .i32⟩
  | 106 => ⟨S74752, .i32⟩
  | 107 => ⟨S74752, .i1⟩
  | 108 => ⟨S74752x1, .i1⟩
  | 109 => ⟨S1x2048x7168, .f32⟩
  | 110 => ⟨S2048x7168, .f32⟩
  | 111 => ⟨S1x2048x7168, .f32⟩
  | 112 => ⟨S2048x7168, .f32⟩
  | 113 => ⟨S1x7168x2048, .f32⟩
  | 114 => ⟨S7168x2048, .f32⟩
  | 115 => ⟨S74752x7168, .f32⟩
  | 116 => ⟨S74752x7168, .f32⟩
  | 117 => ⟨S74752x7168, .f32⟩
  | 118 => ⟨S_, .f32⟩
  | 119 => ⟨S74752x7168, .f32⟩
  | 120 => ⟨S74752x7168, .f32⟩
  | 121 => ⟨S_, .f32⟩
  | 122 => ⟨S74752x7168, .f32⟩
  | 123 => ⟨S74752x7168, .f32⟩
  | 124 => ⟨S74752x7168, .f32⟩
  | 125 => ⟨S74752x7168, .f32⟩
  | 126 => ⟨S74752x7168, .f32⟩
  | 127 => ⟨S74752x2048, .f32⟩
  | _ => ⟨S32768x2048, .f32⟩

abbrev hbmTy0_2 (i : Nat) : BufTy := match i % 128 with
  | 0 => ⟨S_, .f32⟩
  | 1 => ⟨S_, .f32⟩
  | 2 => ⟨S74752x2048, .i1⟩
  | 3 => ⟨S74752x2048, .f32⟩
  | 4 => ⟨S74752x2048, .f32⟩
  | 5 => ⟨S74752x2048, .f32⟩
  | _ => ⟨S32768x2048, .f32⟩

abbrev hbmTy (i : Nat) : BufTy := match i / 128 with
  | 0 => hbmTy0_0 i
  | 1 => hbmTy0_1 i
  | 2 => hbmTy0_2 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_5 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v47 : Ref sig .tc := ⟨.hbm, 86, rfl⟩
abbrev main_v48 : Ref sig .tc := ⟨.hbm, 87, rfl⟩
abbrev main_c_6 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call5_v0 : Ref sig .tc := ⟨.hbm, 99, rfl⟩
abbrev main_call5_v1 : Ref sig .tc := ⟨.hbm, 100, rfl⟩
abbrev main_call5_cst : Ref sig .tc := ⟨.hbm, 101, rfl⟩
abbrev main_call5_v2 : Ref sig .tc := ⟨.hbm, 102, rfl⟩
abbrev main_call5_v3 : Ref sig .tc := ⟨.hbm, 103, rfl⟩
abbrev main_call5_cst_0 : Ref sig .tc := ⟨.hbm, 104, rfl⟩
abbrev main_call5_v4 : Ref sig .tc := ⟨.hbm, 105, rfl⟩
abbrev main_call5_v5 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_7 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_v63 : Ref sig .tc := ⟨.hbm, 115, rfl⟩
abbrev main_v64 : Ref sig .tc := ⟨.hbm, 116, rfl⟩
abbrev main_c_8 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_call7_v0 : Ref sig .tc := ⟨.hbm, 128, rfl⟩
abbrev main_call7_v1 : Ref sig .tc := ⟨.hbm, 129, rfl⟩
abbrev main_call7_cst : Ref sig .tc := ⟨.hbm, 130, rfl⟩
abbrev main_call7_v2 : Ref sig .tc := ⟨.hbm, 131, rfl⟩
abbrev main_call7_v3 : Ref sig .tc := ⟨.hbm, 132, rfl⟩
abbrev main_call7_cst_0 : Ref sig .tc := ⟨.hbm, 133, rfl⟩
abbrev main_call7_v4 : Ref sig .tc := ⟨.hbm, 134, rfl⟩
abbrev main_call7_v5 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_9 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_v79 : Ref sig .tc := ⟨.hbm, 144, rfl⟩
abbrev main_v80 : Ref sig .tc := ⟨.hbm, 145, rfl⟩
abbrev main_c_10 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_call9_v0 : Ref sig .tc := ⟨.hbm, 157, rfl⟩
abbrev main_call9_v1 : Ref sig .tc := ⟨.hbm, 158, rfl⟩
abbrev main_call9_cst : Ref sig .tc := ⟨.hbm, 159, rfl⟩
abbrev main_call9_v2 : Ref sig .tc := ⟨.hbm, 160, rfl⟩
abbrev main_call9_v3 : Ref sig .tc := ⟨.hbm, 161, rfl⟩
abbrev main_call9_cst_0 : Ref sig .tc := ⟨.hbm, 162, rfl⟩
abbrev main_call9_v4 : Ref sig .tc := ⟨.hbm, 163, rfl⟩
abbrev main_call9_v5 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_11 : Ref sig .tc := ⟨.hbm, 169, rfl⟩
abbrev main_call10_v0 : Ref sig .tc := ⟨.hbm, 170, rfl⟩
abbrev main_call10_v1 : Ref sig .tc := ⟨.hbm, 171, rfl⟩
abbrev main_call10_v2 : Ref sig .tc := ⟨.hbm, 172, rfl⟩
abbrev main_v95 : Ref sig .tc := ⟨.hbm, 173, rfl⟩
abbrev main_v96 : Ref sig .tc := ⟨.hbm, 174, rfl⟩
abbrev main_c_12 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_call11_v0 : Ref sig .tc := ⟨.hbm, 186, rfl⟩
abbrev main_call11_v1 : Ref sig .tc := ⟨.hbm, 187, rfl⟩
abbrev main_call11_cst : Ref sig .tc := ⟨.hbm, 188, rfl⟩
abbrev main_call11_v2 : Ref sig .tc := ⟨.hbm, 189, rfl⟩
abbrev main_call11_v3 : Ref sig .tc := ⟨.hbm, 190, rfl⟩
abbrev main_call11_cst_0 : Ref sig .tc := ⟨.hbm, 191, rfl⟩
abbrev main_call11_v4 : Ref sig .tc := ⟨.hbm, 192, rfl⟩
abbrev main_call11_v5 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_13 : Ref sig .tc := ⟨.hbm, 198, rfl⟩
abbrev main_call12_v0 : Ref sig .tc := ⟨.hbm, 199, rfl⟩
abbrev main_call12_v1 : Ref sig .tc := ⟨.hbm, 200, rfl⟩
abbrev main_call12_v2 : Ref sig .tc := ⟨.hbm, 201, rfl⟩
abbrev main_v111 : Ref sig .tc := ⟨.hbm, 202, rfl⟩
abbrev main_v112 : Ref sig .tc := ⟨.hbm, 203, rfl⟩
abbrev main_c_14 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_call13_v0 : Ref sig .tc := ⟨.hbm, 215, rfl⟩
abbrev main_call13_v1 : Ref sig .tc := ⟨.hbm, 216, rfl⟩
abbrev main_call13_cst : Ref sig .tc := ⟨.hbm, 217, rfl⟩
abbrev main_call13_v2 : Ref sig .tc := ⟨.hbm, 218, rfl⟩
abbrev main_call13_v3 : Ref sig .tc := ⟨.hbm, 219, rfl⟩
abbrev main_call13_cst_0 : Ref sig .tc := ⟨.hbm, 220, rfl⟩
abbrev main_call13_v4 : Ref sig .tc := ⟨.hbm, 221, rfl⟩
abbrev main_call13_v5 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_cst_15 : Ref sig .tc := ⟨.hbm, 227, rfl⟩
abbrev main_call14_v0 : Ref sig .tc := ⟨.hbm, 228, rfl⟩
abbrev main_call14_v1 : Ref sig .tc := ⟨.hbm, 229, rfl⟩
abbrev main_call14_v2 : Ref sig .tc := ⟨.hbm, 230, rfl⟩
abbrev main_v127 : Ref sig .tc := ⟨.hbm, 231, rfl⟩
abbrev main_v128 : Ref sig .tc := ⟨.hbm, 232, rfl⟩
abbrev main_c_16 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_call15_v0 : Ref sig .tc := ⟨.hbm, 244, rfl⟩
abbrev main_call15_v1 : Ref sig .tc := ⟨.hbm, 245, rfl⟩
abbrev main_call15_cst : Ref sig .tc := ⟨.hbm, 246, rfl⟩
abbrev main_call15_v2 : Ref sig .tc := ⟨.hbm, 247, rfl⟩
abbrev main_call15_v3 : Ref sig .tc := ⟨.hbm, 248, rfl⟩
abbrev main_call15_cst_0 : Ref sig .tc := ⟨.hbm, 249, rfl⟩
abbrev main_call15_v4 : Ref sig .tc := ⟨.hbm, 250, rfl⟩
abbrev main_call15_v5 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_cst_17 : Ref sig .tc := ⟨.hbm, 256, rfl⟩
abbrev main_call16_v0 : Ref sig .tc := ⟨.hbm, 257, rfl⟩
abbrev main_call16_v1 : Ref sig .tc := ⟨.hbm, 258, rfl⟩
abbrev main_call16_v2 : Ref sig .tc := ⟨.hbm, 259, rfl⟩
abbrev main_v143 : Ref sig .tc := ⟨.hbm, 260, rfl⟩
abbrev main_v144 : Ref sig .tc := ⟨.hbm, 261, rfl⟩

abbrev nD : Nat := 1
abbrev τ : Topo := Topo.v7x

variable {F : FTy → Type} [FloatOps F]
-- ==== Combine.lean ====
abbrev S65536 : Shape := ⟨1, ![65536]⟩
abbrev S32768x128 : Shape := ⟨2, ![32768, 128]⟩
abbrev S32768x2048 : Shape := ⟨2, ![32768, 2048]⟩
abbrev S2048 : Shape := ⟨1, ![2048]⟩
abbrev S74752x2048 : Shape := ⟨2, ![74752, 2048]⟩
abbrev S64x1x1024 : Shape := ⟨3, ![64, 1, 1024]⟩
abbrev S1x2048 : Shape := ⟨2, ![1, 2048]⟩
abbrev S16384x2048 : Shape := ⟨2, ![16384, 2048]⟩
abbrev S1x1x1024 : Shape := ⟨3, ![1, 1, 1024]⟩
abbrev S512x128 : Shape := ⟨2, ![512, 128]⟩
abbrev S512x2048 : Shape := ⟨2, ![512, 2048]⟩
abbrev S2x512x2048 : Shape := ⟨3, ![2, 512, 2048]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x512x2048 : Shape := ⟨3, ![1, 512, 2048]⟩
abbrev S512x1 : Shape := ⟨2, ![512, 1]⟩
abbrev S512 : Shape := ⟨1, ![512]⟩

abbrev nBuf : Space → Nat
  | .hbm => 9
  | .vmem => 10
  | .smem => 2
  | _ => 0

abbrev bufTy : (tb : Table) → Fin (tcTables nBuf tb) → BufTy
  | .hbm, ⟨0, _⟩ => ⟨S65536, .i32⟩
  | .hbm, ⟨1, _⟩ => ⟨S32768x128, .f32⟩
  | .hbm, ⟨2, _⟩ => ⟨S32768x2048, .f32⟩
  | .hbm, ⟨3, _⟩ => ⟨S2048, .f32⟩
  | .hbm, ⟨4, _⟩ => ⟨S74752x2048, .f32⟩
  | .hbm, ⟨5, _⟩ => ⟨S64x1x1024, .i32⟩
  | .hbm, ⟨6, _⟩ => ⟨S1x2048, .f32⟩
  | .hbm, ⟨7, _⟩ => ⟨S16384x2048, .f32⟩
  | .hbm, ⟨8, _⟩ => ⟨S16384x2048, .f32⟩
  | .local _ .vmem, ⟨0, _⟩ => ⟨S512x128, .f32⟩
  | .local _ .vmem, ⟨1, _⟩ => ⟨S512x128, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S2x512x2048, .f32⟩
  | .local _ .smem, ⟨0, _⟩ => ⟨S1x1x1024, .i32⟩
  | .local _ .smem, ⟨1, _⟩ => ⟨S1x1x1024, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1 : BitVec 32 := 0#32
  let c512_i32 : BitVec 32 := 512#32
  let v0 : BitVec 32 := Scalar.addi c0_i32_1 c512_i32
  let c1_i32 : BitVec 32 := 1#32
  ⟨c0_i32_1, v0, c1_i32⟩
def k0_off1 (k0_t1 : Fin k0_t1_loop.trips) : Fin 3 → Nat :=
  let c0_37 : Index := 0#32
  let c0_38 : Index := 0#32
  let c0_i32_36 : BitVec 32 := 0#32
  let c2_i32 : BitVec 32 := 2#32
  let c0_i32_1 : BitVec 32 := 0#32
  let c1_i32 : BitVec 32 := 1#32
  let arg10 : BitVec 32 := Scf.iv c0_i32_1 c1_i32 k0_t1
  let c511_i32 : BitVec 32 := 511#32
  let v38 : BitVec 32 := Scalar.minsi arg10 c511_i32
  let v39 : BitVec 32 := Scalar.muli c2_i32 v38
  let v40 : BitVec 32 := Scalar.addi c0_i32_36 v39
  let v41 : Index := Scalar.indexCast v40
  ![0, 0, v41.toNat]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c0_i32_41 : BitVec 32 := 0#32
  ![arg10.toNat, 0]
def k0_off3 (v42 : BitVec 32) : Fin 2 → Nat :=
  let c0_i32_42 : BitVec 32 := 0#32
  ![v42.toNat, 0]

def k0_chk1 (v42 : BitVec 32) : Prop :=
  (∀ a, (k0_off3 v42) a + S1x2048.size a ≤ S74752x2048.size a)
theorem k0_off3_inb : ∀ (v42 : BitVec 32) (k0_hw1 : k0_chk1 v42), ∀ a, (k0_off3 v42) a + S1x2048.size a ≤ S74752x2048.size a := fun v42 k0_hw1 => k0_hw1

@[reducible] def k0_t2_loop : Scf.Loop 32 :=
  let c0_i32_5 : BitVec 32 := 0#32
  let c512_i32_6 : BitVec 32 := 512#32
  let v1 : BitVec 32 := Scalar.addi c0_i32_5 c512_i32_6
  let c1_i32_7 : BitVec 32 := 1#32
  ⟨c0_i32_5, v1, c1_i32_7⟩
def k0_off4 (k0_t2 : Fin k0_t2_loop.trips) : Fin 3 → Nat :=
  let c0_37 : Index := 0#32
  let c0_38 : Index := 0#32
  let c1_i32_36 : BitVec 32 := 1#32
  let c2_i32 : BitVec 32 := 2#32
  let c0_i32_5 : BitVec 32 := 0#32
  let c1_i32_7 : BitVec 32 := 1#32
  let arg10 : BitVec 32 := Scf.iv c0_i32_5 c1_i32_7 k0_t2
  let c511_i32 : BitVec 32 := 511#32
  let v38 : BitVec 32 := Scalar.minsi arg10 c511_i32
  let v39 : BitVec 32 := Scalar.muli c2_i32 v38
  let v40 : BitVec 32 := Scalar.addi c1_i32_36 v39
  let v41 : Index := Scalar.indexCast v40
  ![0, 0, v41.toNat]
def k0_off5 (k0_t2 : Fin k0_t2_loop.trips) : Fin 2 → Nat :=
  let c0_i32_5 : BitVec 32 := 0#32
  let c1_i32_7 : BitVec 32 := 1#32
  let arg10 : BitVec 32 := Scf.iv c0_i32_5 c1_i32_7 k0_t2
  let c0_i32_41 : BitVec 32 := 0#32
  ![arg10.toNat, 0]
def k0_off6 (v42 : BitVec 32) : Fin 2 → Nat :=
  let c0_i32_42 : BitVec 32 := 0#32
  ![v42.toNat, 0]

def k0_chk2 (v42 : BitVec 32) : Prop :=
  (∀ a, (k0_off6 v42) a + S1x2048.size a ≤ S74752x2048.size a)
theorem k0_off6_inb : ∀ (v42 : BitVec 32) (k0_hw2 : k0_chk2 v42), ∀ a, (k0_off6 v42) a + S1x2048.size a ≤ S74752x2048.size a := fun v42 k0_hw2 => k0_hw2

@[reducible] def k0_t3_loop : Scf.Loop 32 :=
  let c0_i32_11 : BitVec 32 := 0#32
  let c512_i32_12 : BitVec 32 := 512#32
  let v2 : BitVec 32 := Scalar.addi c0_i32_11 c512_i32_12
  let c1_i32_13 : BitVec 32 := 1#32
  ⟨c0_i32_11, v2, c1_i32_13⟩
def k0_off7 (k0_t3 : Fin k0_t3_loop.trips) : Fin 3 → Nat :=
  let c0_37 : Index := 0#32
  let c0_38 : Index := 0#32
  let c0_i32_36 : BitVec 32 := 0#32
  let c2_i32 : BitVec 32 := 2#32
  let c0_i32_11 : BitVec 32 := 0#32
  let c1_i32_13 : BitVec 32 := 1#32
  let arg10 : BitVec 32 := Scf.iv c0_i32_11 c1_i32_13 k0_t3
  let c511_i32 : BitVec 32 := 511#32
  let v38 : BitVec 32 := Scalar.minsi arg10 c511_i32
  let v39 : BitVec 32 := Scalar.muli c2_i32 v38
  let v40 : BitVec 32 := Scalar.addi c0_i32_36 v39
  let v41 : Index := Scalar.indexCast v40
  ![0, 0, v41.toNat]
def k0_off8 (k0_t3 : Fin k0_t3_loop.trips) : Fin 2 → Nat :=
  let c0_i32_11 : BitVec 32 := 0#32
  let c1_i32_13 : BitVec 32 := 1#32
  let arg10 : BitVec 32 := Scf.iv c0_i32_11 c1_i32_13 k0_t3
  let c0_i32_41 : BitVec 32 := 0#32
  ![arg10.toNat, 0]
def k0_off9 (v42 : BitVec 32) : Fin 2 → Nat :=
  let c0_i32_42 : BitVec 32 := 0#32
  ![v42.toNat, 0]

def k0_chk3 (v42 : BitVec 32) : Prop :=
  (∀ a, (k0_off9 v42) a + S1x2048.size a ≤ S74752x2048.size a)
theorem k0_off9_inb : ∀ (v42 : BitVec 32) (k0_hw3 : k0_chk3 v42), ∀ a, (k0_off9 v42) a + S1x2048.size a ≤ S74752x2048.size a := fun v42 k0_hw3 => k0_hw3

@[reducible] def k0_t4_loop : Scf.Loop 32 :=
  let c0_i32_17 : BitVec 32 := 0#32
  let c512_i32_18 : BitVec 32 := 512#32
  let v3 : BitVec 32 := Scalar.addi c0_i32_17 c512_i32_18
  let c1_i32_19 : BitVec 32 := 1#32
  ⟨c0_i32_17, v3, c1_i32_19⟩
def k0_off10 (k0_t4 : Fin k0_t4_loop.trips) : Fin 3 → Nat :=
  let c0_37 : Index := 0#32
  let c0_38 : Index := 0#32
  let c1_i32_36 : BitVec 32 := 1#32
  let c2_i32 : BitVec 32 := 2#32
  let c0_i32_17 : BitVec 32 := 0#32
  let c1_i32_19 : BitVec 32 := 1#32
  let arg10 : BitVec 32 := Scf.iv c0_i32_17 c1_i32_19 k0_t4
  let c511_i32 : BitVec 32 := 511#32
  let v38 : BitVec 32 := Scalar.minsi arg10 c511_i32
  let v39 : BitVec 32 := Scalar.muli c2_i32 v38
  let v40 : BitVec 32 := Scalar.addi c1_i32_36 v39
  let v41 : Index := Scalar.indexCast v40
  ![0, 0, v41.toNat]
def k0_off11 (k0_t4 : Fin k0_t4_loop.trips) : Fin 2 → Nat :=
  let c0_i32_17 : BitVec 32 := 0#32
  let c1_i32_19 : BitVec 32 := 1#32
  let arg10 : BitVec 32 := Scf.iv c0_i32_17 c1_i32_19 k0_t4
  let c0_i32_41 : BitVec 32 := 0#32
  ![arg10.toNat, 0]
def k0_off12 (v42 : BitVec 32) : Fin 2 → Nat :=
  let c0_i32_42 : BitVec 32 := 0#32
  ![v42.toNat, 0]

def k0_chk4 (v42 : BitVec 32) : Prop :=
  (∀ a, (k0_off12 v42) a + S1x2048.size a ≤ S74752x2048.size a)
theorem k0_off12_inb : ∀ (v42 : BitVec 32) (k0_hw4 : k0_chk4 v42), ∀ a, (k0_off12 v42) a + S1x2048.size a ≤ S74752x2048.size a := fun v42 k0_hw4 => k0_hw4

def k0_cond1 (i : grid0.Coords) : BitVec 1 :=
  let arg0 : BitVec 32 := BitVec.ofNat 32 (i 0).val
  let c32_i32 : BitVec 32 := 32#32
  let v32 : BitVec 1 := Scalar.cmpi .slt arg0 c32_i32
  let v33 : BitVec 32 := Scalar.extui v32
  let c0_i32_33 : BitVec 32 := 0#32
  let v34 : BitVec 1 := Scalar.cmpi .ne v33 c0_i32_33
  v34

def k0_cond2 (i : grid0.Coords) : BitVec 1 :=
  let arg0 : BitVec 32 := BitVec.ofNat 32 (i 0).val
  let c32_i32_34 : BitVec 32 := 32#32
  let v35 : BitVec 1 := Scalar.cmpi .sge arg0 c32_i32_34
  let v36 : BitVec 32 := Scalar.extui v35
  let c0_i32_35 : BitVec 32 := 0#32
  let v37 : BitVec 1 := Scalar.cmpi .ne v36 c0_i32_35
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixtureIdeal.lean ====
abbrev S65536 : Shape := ⟨1, ![65536]⟩
abbrev S32768x128 : Shape := ⟨2, ![32768, 128]⟩
abbrev S32768x2048 : Shape := ⟨2, ![32768, 2048]⟩
abbrev S2048 : Shape := ⟨1, ![2048]⟩
abbrev S74752x2048 : Shape := ⟨2, ![74752, 2048]⟩
abbrev S32768x1 : Shape := ⟨2, ![32768, 1]⟩
abbrev S32768x2 : Shape := ⟨2, ![32768, 2]⟩
abbrev S32768 : Shape := ⟨1, ![32768]⟩
abbrev S_ : Shape := ⟨0, ![]⟩
abbrev S1x2048 : Shape := ⟨2, ![1, 2048]⟩
abbrev S16384x2048 : Shape := ⟨2, ![16384, 2048]⟩

abbrev nBuf : Space → Nat
  | .hbm => 54
  | .vmem => 0
  | .smem => 0
  | _ => 0

abbrev bufTy : (tb : Table) → Fin (tcTables nBuf tb) → BufTy
  | .hbm, ⟨0, _⟩ => ⟨S65536, .i32⟩
  | .hbm, ⟨1, _⟩ => ⟨S32768x128, .f32⟩
  | .hbm, ⟨2, _⟩ => ⟨S32768x2048, .f32⟩
  | .hbm, ⟨3, _⟩ => ⟨S2048, .f32⟩
  | .hbm, ⟨4, _⟩ => ⟨S74752x2048, .f32⟩
  | .hbm, ⟨5, _⟩ => ⟨S32768x1, .f32⟩
  | .hbm, ⟨6, _⟩ => ⟨S32768x1, .f32⟩
  | .hbm, ⟨7, _⟩ => ⟨S32768x2, .i32⟩
  | .hbm, ⟨8, _⟩ => ⟨S32768x1, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S32768x1, .i32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x1, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S16384x2048, .f32⟩
  | .hbm, ⟨53, _⟩ => ⟨S16384x2048, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Dense.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SwigluIdeal.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x5632 : Shape := ⟨2, ![2048, 5632]⟩
abbrev S5632x2048 : Shape := ⟨2, ![5632, 2048]⟩
abbrev S32768x5632 : Shape := ⟨2, ![32768, 5632]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S32768x5632, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S_, .f32⟩
  | .hbm, ⟨32, _⟩ => ⟨S32768x5632, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S32768x2048, .f32⟩
  | .hbm, ⟨38, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Outward.lean ====
abbrev S32768x1024 : Shape := ⟨2, ![32768, 1024]⟩
abbrev S1x2048x2048 : Shape := ⟨3, ![1, 2048, 2048]⟩
abbrev S32768x2048 : Shape := ⟨2, ![32768, 2048]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1x2048x2048, .f32⟩
  | .hbm, ⟨3, _⟩ => ⟨S32768x2048, .f32⟩
  | .hbm, ⟨4, _⟩ => ⟨S2048x2048, .f32⟩
  | .hbm, ⟨5, _⟩ => ⟨S2048x2048, .bf16⟩
  | .hbm, ⟨6, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixedIdeal.lean ====
abbrev S32768x1024 : Shape := ⟨2, ![32768, 1024]⟩
abbrev S1x2048x2048 : Shape := ⟨3, ![1, 2048, 2048]⟩
abbrev S32768x2048 : Shape := ⟨2, ![32768, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1x2048x2048, .f32⟩
  | .hbm, ⟨3, _⟩ => ⟨S32768x2048, .f32⟩
  | .hbm, ⟨4, _⟩ => ⟨S32768x2048, .bf16⟩
  | .hbm, ⟨5, _⟩ => ⟨S2048x2048, .f32⟩
  | .hbm, ⟨6, _⟩ => ⟨S32768x2048, .f32⟩
  | .hbm, ⟨7, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Inward.lean ====
abbrev S32768x2048 : Shape := ⟨2, ![32768, 2048]⟩
abbrev S1x2048 : Shape := ⟨2, ![1, 2048]⟩
abbrev S1x2048x4608 : Shape := ⟨3, ![1, 2048, 4608]⟩
abbrev S2048 : Shape := ⟨1, ![2048]⟩
abbrev S2048x4608 : Shape := ⟨2, ![2048, 4608]⟩
abbrev S32768x4608 : Shape := ⟨2, ![32768, 4608]⟩
abbrev S1024x2048 : Shape := ⟨2, ![1024, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x4608, .f32⟩
  | .hbm, ⟨3, _⟩ => ⟨S2048, .f32⟩
  | .hbm, ⟨4, _⟩ => ⟨S1x2048, .f32⟩
  | .hbm, ⟨5, _⟩ => ⟨S2048x4608, .f32⟩
  | .hbm, ⟨6, _⟩ => ⟨S2048x4608, .bf16⟩
  | .hbm, ⟨7, _⟩ => ⟨S32768x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormedIdeal.lean ====
abbrev S32768x2048 : Shape := ⟨2, ![32768, 2048]⟩
abbrev S1x2048 : Shape := ⟨2, ![1, 2048]⟩
abbrev S1x2048x4608 : Shape := ⟨3, ![1, 2048, 4608]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x4608 : Shape := ⟨2, ![2048, 4608]⟩
abbrev S32768x4608 : Shape := ⟨2, ![32768, 4608]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x4608, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x4608, .f32⟩
  | .hbm, ⟨21, _⟩ => ⟨S32768x4608, .f32⟩
  | .hbm, ⟨22, _⟩ => ⟨S32768x4608, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Flights.lean ====
/-
  The row gather of the routed expert call as one batch of transfers: 1036 copies of rows of the tokens, all on the
  call's one semaphore, each from its own read share of the tokens into its own row of the scratch buffer. `Stage`
  is that batch with the first `k` copies started, together with what the copies still to start need.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.ValueKit
public import Idealize.ShloMosaic.Lib.Batch
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The scratch buffer the rows are gathered into, and the tokens they are gathered from. -/
abbrev xM : Memref sig .tc .vmem S1036x2048 .f32 := Memref.whole cc0_scratch0
abbrev hM : Memref sig .tc .hbm S32768x2048 .f32 := Memref.whole main_arg0

abbrev xLoc (c : Dev nD) : Loc nD τ sig := (c : Thread nD τ).loc cc0_scratch0
abbrev hLoc (c : Dev nD) : Loc nD τ sig := (c : Thread nD τ).loc main_arg0

/-- The contents of the two buffers, by their shapes. -/
abbrev XBuf (F : FTy → Type) := S1036x2048.Idx → Elt F .f32
abbrev HBuf (F : FTy → Type) := S32768x2048.Idx → Elt F .f32

/-- Assertions that entail each other are equal, and equal ones entail each other. -/
theorem eq_of {P Q : sProp 𝕄} (h₁ : P ⊢ Q) (h₂ : Q ⊢ P) : P = Q := BI.Entails.antisymm h₁ h₂
theorem ent_of_eq {P Q : sProp 𝕄} (h : P = Q) : P ⊢ Q := by rw [h]

/-! ## Read shares -/

/-- What is left of a full share after `k` halvings. -/
def rem : ℕ → PosShare TreeShare
  | 0 => fullShare
  | k + 1 => (rem k).right

/-- A buffer held at what is left after `k` halvings is one half for each copy from the `k`-th on, and what is left
    after the last. -/
theorem shares_pending (n : ℕ) {ℓ : Loc nD τ sig} (S : Finset (Idx ℓ)) (f : Buf (Elt F) ℓ) (k : ℕ) (hk : k ≤ n) :
    (ℓ ↦[S]{rem k} f : sProp 𝕄)
      = iprop((bigSep (Transfers.pending (n := n) k) fun t => ℓ ↦[S]{(rem t.val).left} f) ∗ ℓ ↦[S]{rem n} f) := by
  induction hk using Nat.decreasingInduction with
  | self =>
    have h : Transfers.pending (n := n) n = ∅ := by
      unfold Transfers.pending
      refine Finset.filter_eq_empty_iff.mpr fun t _ => ?_
      exact Nat.not_le.mpr t.isLt
    rw [h, bigSep_empty]
    exact eq_of BI.Laws.emp_sep.2 BI.Laws.emp_sep.1
  | of_succ k hk ih =>
    rw [Transfers.bigSep_pending_step _ k hk, BI.Entails.antisymm (pointsTo_share (PosShare.mem_left_op_right (rem k))).1
      (pointsTo_share (PosShare.mem_left_op_right (rem k))).2]
    change iprop(_ ∗ (ℓ ↦[S]{rem (k + 1)} f)) = _
    rw [ih]
    exact eq_of BI.Laws.sep_assoc.2 BI.Laws.sep_assoc.1

/-! ## Rows -/

/-- Row `t` of the scratch buffer, and row `w` of the tokens. -/
def xRow (t : ℕ) : Finset S1036x2048.Idx := Finset.univ.filter fun p => (p 0).val = t
def hRow (w : ℕ) : Finset S32768x2048.Idx := Finset.univ.filter fun p => (p 0).val = w

theorem xRow_view (t : ℕ) (h : ∀ a, (![t, 0] : Fin 2 → ℕ) a + S1x2048.size a ≤ S1036x2048.size a) :
    (xM.slice (Rect.unit (s := S1036x2048) ![t, 0] S1x2048.size h) (fun _ => rfl)).view.set = xRow t := by
  refine (View.set_slice_whole cc0_scratch0 _).trans ?_
  ext p
  refine Rect.mem_set_unit.trans ?_
  rw [xRow, Finset.mem_filter]
  refine Fin.forall_fin_two.trans ?_
  have := (p 1).isLt
  simp [S1x2048] at *
  omega

theorem hRow_view (w : ℕ) (h : ∀ a, (![w, 0] : Fin 2 → ℕ) a + S1x2048.size a ≤ S32768x2048.size a) :
    (hM.slice (Rect.unit (s := S32768x2048) ![w, 0] S1x2048.size h) (fun _ => rfl)).view.set = hRow w := by
  refine (View.set_slice_whole main_arg0 _).trans ?_
  ext p
  refine Rect.mem_set_unit.trans ?_
  rw [hRow, Finset.mem_filter]
  refine Fin.forall_fin_two.trans ?_
  have := (p 1).isLt
  simp [S1x2048] at *
  omega

/-- The scratch buffer's rows are it all, and no two share an element. -/
theorem xRow_disj : ∀ t ∈ (Finset.univ : Finset (Fin 1036)), ∀ t' ∈ (Finset.univ : Finset (Fin 1036)), t ≠ t' →
    Disjoint (xRow t.val) (xRow t'.val) := by
  intro t _ t' _ h
  rw [Finset.disjoint_left]
  intro p hp hp'
  rw [xRow, Finset.mem_filter] at hp hp'
  exact h (Fin.ext (hp.2.symm.trans hp'.2))

theorem xRow_cover : (Finset.univ : Finset (Fin 1036)).biUnion (fun t => xRow t.val) = Finset.univ := by
  ext p
  simp only [Finset.mem_biUnion, Finset.mem_univ, true_and, iff_true]
  exact ⟨⟨(p 0).val, (p 0).isLt⟩, by rw [xRow, Finset.mem_filter]; exact ⟨Finset.mem_univ _, rfl⟩⟩

theorem x_rows (c : Dev nD) (f : XBuf F) :
    (xLoc c ↦{fullShare} f : sProp 𝕄) = bigSep Finset.univ fun t : Fin 1036 => xLoc c ↦[xRow t.val]{fullShare} f := by
  have h := pointsTo_biUnion (Ix := Unit) (Name := ℕ) (U := Pipeline.UD sig nD τ) (Lvl := ℕ) (Val := Elt F) (ℓ := xLoc c) (q := fullShare) (f := f)
    (Finset.univ : Finset (Fin 1036)) (fun t => xRow t.val) xRow_disj
  rw [← h]
  exact congrArg (fun S => (xLoc c ↦[S]{fullShare} f : sProp 𝕄)) xRow_cover.symm

/-! ## The gather -/

/-- The tokens' row a word names (the word taken below the number of rows). -/
def rowOf (w : BitVec 32) : Fin 32768 := ⟨w.toNat % 32768, Nat.mod_lt _ (by norm_num)⟩

/-- The scratch buffer once every row is there: row `t` is the tokens' row `w t`. -/
def gath (hb : HBuf F) (w : ℕ → BitVec 32) : XBuf F := fun p => hb (fun | 0 => rowOf (w (p 0).val) | 1 => p 1)

/-- What copy `t` gives back: its row gathered, and its share of the row it read. -/
def deliv (c : Dev nD) (hb : HBuf F) (w : ℕ → BitVec 32) (t : Fin 1036) : sProp 𝕄 :=
  iprop((xLoc c ↦[xRow t.val]{fullShare} (gath hb w)) ∗ (hLoc c ↦[hRow (w t.val).toNat]{(rem t.val).left} hb))

instance deliv_storable (c : Dev nD) (hb : HBuf F) (w : ℕ → BitVec 32) (t : Fin 1036) :
    Storable (upEmb : UEmb _ 𝕄) (deliv c hb w t) := by unfold deliv; infer_instance

/-- What copy `t` needs to start. -/
def need (c : Dev nD) (hb : HBuf F) (w : ℕ → BitVec 32) (t : Fin 1036) : sProp 𝕄 :=
  iprop((∃ f : XBuf F, xLoc c ↦[xRow t.val]{fullShare} f) ∗ (hLoc c ↦[hRow (w t.val).toNat]{(rem t.val).left} hb))

/-- The tokens' elements and shares no copy takes. -/
def hRest (c : Dev nD) (hb : HBuf F) (w : ℕ → BitVec 32) : sProp 𝕄 :=
  iprop((bigSep Finset.univ fun t : Fin 1036 => hLoc c ↦[Finset.univ \ hRow (w t.val).toNat]{(rem t.val).left} hb)
    ∗ hLoc c ↦{rem 1036} hb)

/-- One row's amount on the semaphore. -/
def amt : ℕ := (xM.slice (Rect.unit (s := S1036x2048) ![0, 0] S1x2048.size (by decide)) (fun _ => rfl)).view.amount (SemLoc.dma (sig := sig) cc0_scratch2.sem)

theorem amt_pos : 0 < amt := by unfold amt; exact View.amount_pos _ _ (by decide)

theorem amt_eq (off : Fin 2 → ℕ) (h : ∀ a, off a + S1x2048.size a ≤ S1036x2048.size a) :
    (xM.slice (Rect.unit (s := S1036x2048) off S1x2048.size h) (fun _ => rfl)).view.amount (SemLoc.dma (sig := sig) cc0_scratch2.sem) = amt := rfl

/-- The batch: `k` copies started, `u` units taken by waits. -/
def Flight (c : Dev nD) (hb : HBuf F) (w : ℕ → BitVec 32) (k u : ℕ) : sProp 𝕄 :=
  Transfers.Batch (countersEmb (U := Pipeline.UD sig nD τ)) (c : Thread nD τ) (SemLoc.dma cc0_scratch2.sem) () amt (deliv c hb w) k u

/-- The batch with `k` copies started and none waited for, with what the rest need and the tokens' remainder. -/
def Stage (c : Dev nD) (hb : HBuf F) (w : ℕ → BitVec 32) (k : ℕ) : sProp 𝕄 :=
  iprop(Flight c hb w k 0 ∗ bigSep (Transfers.pending k) (need c hb w) ∗ hRest c hb w)

/-- No copy in flight: the scratch buffer whole, the tokens whole, the semaphore at zero. -/
def Idle (c : Dev nD) (hb : HBuf F) (x : XBuf F) : sProp 𝕄 :=
  iprop((xLoc c ↦{fullShare} x) ∗ (hLoc c ↦{fullShare} hb) ∗ semVal ((c : Thread nD τ), SemLoc.dma cc0_scratch2.sem) 0)

/-- The tokens whole, as every copy's row, and the rest. -/
theorem h_split (c : Dev nD) (hb : HBuf F) (w : ℕ → BitVec 32) :
    (hLoc c ↦{fullShare} hb : sProp 𝕄)
      = iprop((bigSep Finset.univ fun t : Fin 1036 => hLoc c ↦[hRow (w t.val).toNat]{(rem t.val).left} hb) ∗ hRest c hb w) := by
  have h := shares_pending (F := F) 1036 (ℓ := hLoc c) Finset.univ hb 0 (Nat.zero_le _)
  rw [Transfers.pending_zero] at h
  refine (show (hLoc c ↦{fullShare} hb : sProp 𝕄) = hLoc c ↦[Finset.univ]{rem 0} hb from rfl).trans (h.trans ?_)
  have h2 : (bigSep Finset.univ fun t : Fin 1036 => (hLoc c ↦[Finset.univ]{(rem t.val).left} hb : sProp 𝕄))
      = iprop((bigSep Finset.univ fun t : Fin 1036 => hLoc c ↦[hRow (w t.val).toNat]{(rem t.val).left} hb)
        ∗ bigSep Finset.univ fun t : Fin 1036 => hLoc c ↦[Finset.univ \ hRow (w t.val).toNat]{(rem t.val).left} hb) := by
    rw [← bigSep_sep']
    exact bigSep_congr fun t _ => BI.Entails.antisymm (pointsTo_split_subset (Finset.subset_univ _)).1 (pointsTo_split_subset (Finset.subset_univ _)).2
  rw [h2]
  unfold hRest
  exact eq_of BI.Laws.sep_assoc.1 BI.Laws.sep_assoc.2

theorem x_any (c : Dev nD) (x : XBuf F) : (bigSep Finset.univ fun t : Fin 1036 => (xLoc c ↦[xRow t.val]{fullShare} x : sProp 𝕄))
    ⊢ bigSep Finset.univ fun t : Fin 1036 => iprop(∃ f : XBuf F, xLoc c ↦[xRow t.val]{fullShare} f) :=
  bigSep_mono fun t _ => exists_intro (Φ := fun f : XBuf F => (xLoc c ↦[xRow t.val]{fullShare} f : sProp 𝕄)) x

/-- From idle, a batch with nothing started. -/
theorem stage_alloc (c : Dev nD) (hb : HBuf F) (w : ℕ → BitVec 32) (x : XBuf F) :
    (Idle c hb x : sProp 𝕄) ⊢ |={Set.univ}=> Stage c hb w 0 := by
  unfold Idle Stage Flight
  iintro ⟨Hx, Hh, Hs⟩
  imod (Transfers.batch_alloc' (Lvl := ℕ) (countersEmb (U := Pipeline.UD sig nD τ)) (c : Thread nD τ) () amt (deliv c hb w)
    (sm := SemLoc.dma cc0_scratch2.sem) (E := Set.univ)) $$ Hs with HB
  ihave Hh := (ent_of_eq (h_split c hb w)) $$ Hh
  icases Hh with ⟨Hh, HR⟩
  ihave Hx := (ent_of_eq (x_rows c x)) $$ Hx
  imodintro
  isplitl [HB]; · iexact HB
  isplitl [Hx Hh]
  · rw [Transfers.pending_zero]
    unfold need
    rw [bigSep_sep']
    isplitl [Hx]
    · iapply (x_any c x) $$ Hx
    · iexact Hh
  · iexact HR

/-- Every copy started and every unit waited for: idle again, the rows gathered. -/
theorem stage_collect (c : Dev nD) (hb : HBuf F) (w : ℕ → BitVec 32) :
    iprop(Flight c hb w 1036 (amt * 1036) ∗ hRest c hb w) ⊢ (|={Set.univ}=> Idle c hb (gath hb w) : sProp 𝕄) := by
  unfold Flight
  iintro ⟨HB, HR⟩
  imod (Transfers.batch_collect' (countersEmb (U := Pipeline.UD sig nD τ)) (c : Thread nD τ) amt_pos) $$ HB with ⟨HD, Hs⟩
  imodintro
  unfold Idle deliv
  ihave HD := (ent_of_eq (bigSep_sep' (M := 𝕄) Finset.univ (fun t : Fin 1036 => xLoc c ↦[xRow t.val]{fullShare} (gath hb w))
    (fun t : Fin 1036 => hLoc c ↦[hRow (w t.val).toNat]{(rem t.val).left} hb))) $$ HD
  icases HD with ⟨HX, HH⟩
  isplitl [HX]
  · iapply (ent_of_eq (x_rows c (gath hb w)).symm) $$ HX
  isplitl [HH HR]
  · iapply (ent_of_eq (h_split c hb w).symm)
    isplitl [HH] <;> iassumption
  · iexact Hs

end Cert.KernelIdeal.Hand

end
-- ==== Proof.Steps.lean ====
/-
  One step of the call at a time, at the assertions of `Flights`: a vector load or store of a whole buffer, the load of one
  token word, the start of one row's copy, the wait for one row, and the two counted loops of them.
-/
module

public import proofs.«01_k».proof.Proof.Flights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A program's weakest precondition on core `c`, as the body's obligation states it. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section Steps

variable (c : Dev nD) {α : Type}

/-- A load of a buffer read at `X`. -/
theorem wp_loadOwn {Q : α → sProp 𝕄} {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpc c (k (fun x => X (r.toLoadRect.idx x))) Q)
        -∗ wpc c (.op (.load m r.toLoadRect hl) k) Q) := by
  unfold owns
  iintro ⟨%f, %hf, H⟩ Hk
  iapply (wp_load Variants.none (c : Thread nD τ) none Set.univ (m := m) (r := r.toLoadRect) (hl := hl) (k := k) (q := q) (f := f) (S := m.view.set) (View.setOn_subset_set _ _)) $$ H
  iintro H
  have e : m.view.readAt (Elt F) r.toLoadRect f = fun x => X (r.toLoadRect.idx x) := by
    funext x; rw [View.readAt_apply, hf]
  rw [e]
  iapply Hk
  iexists f
  isplitr
  · ipureintro; exact hf
  · iexact H

/-- A store of a whole buffer. -/
theorem wp_storeOwn {Q : α → sProp 𝕄} {cs : CoreSpace} {s : Shape} {e : EltTy} {m : Memref sig .tc cs s e} {off : Fin s.rank → ℕ} (h0 : off = fun _ => 0)
    {inb : ∀ a, off a + s.size a ≤ s.size a} {w : s.Idx → Elt F e}
    {hx : (m.access (Rect.unit off s.size inb)).Stores Finset.univ} {hm}
    {k : PUnit → Prog (TpuEff nD τ sig (Elt F) Λ₀ .tc) α} {X : s.Idx → Elt F e} :
    (owns (c : Thread nD τ) m fullShare X : sProp 𝕄)
      ⊢ iprop((owns (c : Thread nD τ) m fullShare w -∗ wpc c (k ⟨⟩) Q)
        -∗ wpc c (.op (.store m (Rect.unit off s.size inb) w Finset.univ hx hm) k) Q) := by
  subst h0
  unfold owns
  iintro ⟨%f, %hf, H⟩ Hk
  iapply (wp_store Variants.none (c : Thread nD τ) none Set.univ (m := m) (r := Rect.unit (fun _ => 0) s.size inb) (w := w) (Mk := Finset.univ) (hx := hx) (hm := hm) (k := k) (f := f)
    (S := m.view.set) (View.setOn_subset_set _ _ |>.trans (View.set_slice_subset _ _))) $$ H
  iintro H
  iapply Hk
  iexists _
  isplitr
  swap; · iexact H
  ipureintro
  funext x
  have h := View.read_writes_cons_emb m.view f (Rect.unit (fun _ => 0) s.size inb) w [] x
  have hx : (Rect.unit (fun _ => 0) s.size inb).emb x = x := Rect.emb_whole_apply _ x
  rw [hx] at h
  exact h

/-- A load of the whole of a buffer. -/
theorem wp_loadWhole {Q : α → sProp 𝕄} {cs : CoreSpace} {s : Shape} {e : EltTy} {m : Memref sig .tc cs s e} {off : Fin s.rank → ℕ} (h0 : off = fun _ => 0)
    {inb : ∀ a, off a + s.size a ≤ s.size a} {hl : m.view.LoadsAt (Rect.unit off s.size inb).toLoadRect}
    {k : (s.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpc c (k X) Q) -∗ wpc c (.op (.load m (Rect.unit off s.size inb).toLoadRect hl) k) Q) := by
  subst h0
  iintro H Hk
  iapply (wp_loadOwn c (m := m) (r := Rect.unit (fun _ => 0) s.size inb) (X := X) (q := q) (k := k)) $$ H
  iintro H
  have e : (fun x => X ((Rect.unit (fun _ => 0) s.size inb).toLoadRect.idx x)) = X := funext fun x => congrArg X (Rect.emb_whole_apply _ x)
  rw [e]
  iapply Hk $$ H

/-- Word `n` of a block of token words, the last from the last on. -/
def tokIdx (n : ℕ) : S1x1x1024.Idx := fun
  | 0 => ⟨0, by decide⟩
  | 1 => ⟨0, by decide⟩
  | 2 => ⟨min n 1023, by simp [S1x1x1024, Shape.size]⟩

/-- The load of one word of a block of token words. -/
theorem wp_tok {Q : α → sProp 𝕄} {m : Memref sig .tc .smem S1x1x1024 .i32} {off : Fin 3 → ℕ} (n : ℕ) (h0 : off = ![0, 0, min n 1023])
    {inb : ∀ a, off a + S1x1x1.size a ≤ S1x1x1024.size a} {hp} {h1}
    {k : Elt F .i32 → Prog (TpuEff nD τ sig (Elt F) Λ₀ .tc) α} {q : PosShare TreeShare} {X : S1x1x1024.Idx → Elt F .i32} :
    (owns (c : Thread nD τ) m q X : sProp 𝕄)
      ⊢ iprop((owns (c : Thread nD τ) m q X -∗ wpc c (k (X (tokIdx n))) Q)
        -∗ wpc c ((smemLoad m (Rect.unit (s := S1x1x1024) off S1x1x1.size inb) h1 hp).bind k) Q) := by
  subst h0
  iintro H Hk
  iapply (wp_loadOwn c (m := m) (r := Rect.unit (s := S1x1x1024) ![0, 0, min n 1023] S1x1x1.size inb) (X := X) (q := q)
    (k := fun f => k (f (Shape.Idx.first (h1.symm ▸ Nat.one_pos))))) $$ H
  iintro H
  have e : (Rect.unit (s := S1x1x1024) ![0, 0, min n 1023] S1x1x1.size inb).toLoadRect.idx (Shape.Idx.first (h1.symm ▸ Nat.one_pos)) = (tokIdx n) := by
    funext a
    match a with
    | 0 => rfl
    | 1 => rfl
    | 2 => exact Fin.ext (by simp [LoadRect.idx, Shape.Idx.first, tokIdx])
  simp only [e]
  iapply Hk $$ H

/-- What a copy of the tokens' row `w t` writes over row `t` of the scratch buffer is the gathered row. -/
theorem landed (hb : HBuf F) (w : ℕ → BitVec 32) (t : ℕ) (hw : (w t).toNat < 32768) (f : XBuf F)
    (hs : ∀ a, (![(w t).toNat, 0] : Fin 2 → ℕ) a + S1x2048.size a ≤ S32768x2048.size a)
    (hd : ∀ a, (![t, 0] : Fin 2 → ℕ) a + S1x2048.size a ≤ S1036x2048.size a)
    (i : S1036x2048.Idx) (hi : i ∈ xRow t) :
    (xM.slice (Rect.unit (s := S1036x2048) ![t, 0] S1x2048.size hd) (fun _ => rfl)).view.write (Elt F) f
      ((hM.slice (Rect.unit (s := S32768x2048) ![(w t).toNat, 0] S1x2048.size hs) (fun _ => rfl)).view.read (Elt F) hb) Finset.univ i
      = gath hb w i := by
  rw [← xRow_view t hd] at hi
  obtain ⟨x, -, rfl⟩ := Finset.mem_map.mp hi
  rw [View.write_emb_of_mem _ _ (Finset.mem_univ x)]
  change hb _ = hb _
  refine congrArg hb ?_
  have hx : ((x 0 : Fin _) : ℕ) = 0 := Nat.lt_one_iff.mp (x 0).isLt
  have e0 : ((((xM.slice (Rect.unit (s := S1036x2048) ![t, 0] S1x2048.size hd) (fun _ => rfl)).view.emb x) 0 : Fin _) : ℕ) = t := by
    refine (ValueKit.view_emb_slice_whole_unit_val cc0_scratch0 _ _ _ x 0).trans ?_
    rw [hx]; rfl
  funext a
  match a with
  | 0 =>
    refine Fin.ext ((ValueKit.view_emb_slice_whole_unit_val main_arg0 _ _ _ x 0).trans ?_)
    change (w t).toNat + _ = (w _).toNat % 32768
    rw [e0, Nat.mod_eq_of_lt hw, hx]; rfl
  | 1 =>
    refine Fin.ext ((ValueKit.view_emb_slice_whole_unit_val main_arg0 _ _ _ x 1).trans ?_)
    exact (ValueKit.view_emb_slice_whole_unit_val cc0_scratch0 _ _ _ x 1).symm

/-- The start of copy `k`, the next of the batch. -/
theorem wp_start {Q : α → sProp 𝕄} {hb : HBuf F} {w : ℕ → BitVec 32} (k : ℕ) (hk : k < 1036) (hw : (w k).toNat < 32768)
    {offs offd : Fin 2 → ℕ} (es : offs = ![(w k).toNat, 0]) (ed : offd = ![k, 0])
    {hs : ∀ a, offs a + S1x2048.size a ≤ S32768x2048.size a} {hd : ∀ a, offd a + S1x2048.size a ≤ S1036x2048.size a}
    {hsrc} {hdst} {hsem}
    {kont : PUnit → Prog (TpuEff nD τ sig (Elt F) Λ₀ .tc) α} :
    (Stage c hb w k : sProp 𝕄)
      ⊢ iprop((Stage c hb w (k + 1) -∗ wpc c (kont ⟨⟩) Q)
        -∗ wpc c (.op (.enqueueDma (hM.slice (Rect.unit (s := S32768x2048) offs S1x2048.size hs) (fun _ => rfl))
            (.here (xM.slice (Rect.unit (s := S1036x2048) offd S1x2048.size hd) (fun _ => rfl))) (.dma cc0_scratch2.sem) hsrc hdst hsem) kont) Q) := by
  subst es ed
  unfold Stage
  rw [Transfers.bigSep_pending_step (need c hb w) k hk]
  iintro ⟨HB, ⟨HN, HP⟩, HR⟩ Hk
  unfold need
  icases HN with ⟨⟨%f, Hd⟩, Hs⟩
  unfold Flight
  iapply (Transfers.wp_dmaBatch (countersEmb (U := Pipeline.UD sig nD τ)) Variants.none (c : Thread nD τ) none
    (src := hM.slice (Rect.unit (s := S32768x2048) ![(w k).toNat, 0] S1x2048.size hs) (fun _ => rfl))
    (dst := xM.slice (Rect.unit (s := S1036x2048) ![k, 0] S1x2048.size hd) (fun _ => rfl)) (via := .same) (q := (rem k).left) (fs := hb) (fd := f)
    () amt (amt_eq _ hd) (Sd := xRow k) (xRow_view k hd).le (D := deliv c hb w) (j := k) (u := 0) hk (Nat.zero_le _) ?_) $$ [Hs Hd HB]
  · rw [hRow_view]
    unfold deliv
    refine sep_mono (ent_of_eq (pointsTo_congr fun i hi => ?_)) .rfl
    exact landed hb w k hw f hs hd i hi
  · rw [hRow_view]
    isplitl [Hs]; · iexact Hs
    isplitl [Hd]; · iexact Hd
    iexact HB
  iintro HB
  iapply Hk
  isplitl [HB]; · iexact HB
  isplitl [HP]; · iexact HP
  iexact HR

/-- The wait for one row's amount, every copy started. -/
theorem wp_take {Q : α → sProp 𝕄} {hb : HBuf F} {w : ℕ → BitVec 32} (k : ℕ) (hk : k < 1036)
    {offs offd : Fin 2 → ℕ}
    {hs : ∀ a, offs a + S1x2048.size a ≤ S32768x2048.size a} {hd : ∀ a, offd a + S1x2048.size a ≤ S1036x2048.size a}
    {hsrc} {hdst} {W : Waits sig Unit}
    {kont : PUnit → Prog (TpuEff nD τ sig (Elt F) Λ₀ .tc) α} :
    iprop(Flight c hb w 1036 (amt * k) ∗ owes (c : Thread nD τ) 0 W)
      ⊢ (iprop((iprop(Flight c hb w 1036 (amt * (k + 1)) ∗ owes (c : Thread nD τ) 0 (insert (SemLoc.dma cc0_scratch2.sem, ()) W)) -∗ wpc c (kont ⟨⟩) Q)
        -∗ wpc c (.op (.waitDma2 cc0_scratch2.sem (hM.slice (Rect.unit (s := S32768x2048) offs S1x2048.size hs) (fun _ => rfl))
            (xM.slice (Rect.unit (s := S1036x2048) offd S1x2048.size hd) (fun _ => rfl)) hsrc hdst) kont) Q) : sProp 𝕄) := by
  have h := Transfers.wp_waitBatchMul (countersEmb (U := Pipeline.UD sig nD τ)) (defs := defs₀ (F := F)) Variants.none (c : Thread nD τ) none
    (Q := Q) (Lvl := ℕ) (srcw := hM.slice (Rect.unit (s := S32768x2048) offs S1x2048.size hs) (fun _ => rfl))
    (dstw := xM.slice (Rect.unit (s := S1036x2048) offd S1x2048.size hd) (fun _ => rfl)) (sem := cc0_scratch2.sem) (hsrc := hsrc) (hdst := hdst)
    (k := kont) () 1 (N := amt) ((amt_eq _ hd).trans (Nat.one_mul _).symm)
    (D := deliv c hb w) (j := 1036) (u := amt * k) (by rw [Nat.one_mul, ← Nat.mul_succ]; exact Nat.mul_le_mul_left _ hk) (W := W)
  unfold Flight
  rw [Nat.one_mul, ← Nat.mul_succ] at h
  exact h

end Steps

end Cert.KernelIdeal.Hand

end
-- ==== Proof.Rows.lean ====
/-
  The two counted loops over the rows of a tile: the first tile's copies started, and a tile's copies waited for.
-/
module

public import proofs.«01_k».proof.Proof.Steps
public import Idealize.ShloMosaic.Lib.WordArith

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Offsets -/

theorem word_nat (n : ℕ) (hn : n < 2 ^ 31) : (BitVec.ofNat 32 n).toNat = n := by
  rw [BitVec.toNat_ofNat]; exact Nat.mod_eq_of_lt (by omega)

theorem min_word (n : ℕ) (hn : n < 2 ^ 31) : (Scalar.minsi (BitVec.ofNat 32 n) 1023#32).toNat = min n 1023 := by
  have e := WordArith.toNat_minsi_of_lt (BitVec.ofNat 32 n) 1023#32 (by rw [word_nat n hn]; exact hn) (by decide)
  refine e.trans ?_
  rw [word_nat n hn]; rfl

/-- A trip's word, `0 + n * 1`. -/
theorem iv_word (n : ℕ) : Scf.iv 0#32 1#32 n = BitVec.ofNat 32 n := by
  unfold Scf.iv; simp

theorem off_tok (n : ℕ) (hn : n < 2 ^ 31) :
    (![0, 0, (Scalar.addi 0#32 (Scalar.muli 1#32 (Scalar.minsi (Scf.iv 0#32 1#32 n) 1023#32))).toNat] : Fin 3 → ℕ) = ![0, 0, min n 1023] := by
  rw [iv_word]
  have e : Scalar.addi 0#32 (Scalar.muli 1#32 (Scalar.minsi (BitVec.ofNat 32 n) 1023#32)) = Scalar.minsi (BitVec.ofNat 32 n) 1023#32 := by
    change 0#32 + 1#32 * _ = _
    simp
  rw [e, min_word n hn]

theorem off_row (n : ℕ) (hn : n < 2 ^ 31) : (![(Scf.iv 0#32 1#32 n).toNat, 0] : Fin 2 → ℕ) = ![n, 0] := by
  rw [iv_word, word_nat n hn]

/-- The row offset of the `n`-th copy a step starts, and its word's. -/
theorem off_row74 (j n : ℕ) (hn : 74 * j + n < 2 ^ 31) :
    (![(Scalar.addi (Scalar.muli (BitVec.ofNat 32 j) 74#32) (BitVec.ofNat 32 n)).toNat, 0] : Fin 2 → ℕ) = ![74 * j + n, 0] := by
  have e : Scalar.addi (Scalar.muli (BitVec.ofNat 32 j) 74#32) (BitVec.ofNat 32 n) = BitVec.ofNat 32 (74 * j + n) := by
    change BitVec.ofNat 32 j * 74#32 + BitVec.ofNat 32 n = _
    rw [BitVec.ofNat_add, BitVec.ofNat_mul, BitVec.mul_comm]
  rw [e, word_nat _ hn]

theorem off_tok74 (j n : ℕ) (hn : 74 * j + n < 2 ^ 31) :
    (![0, 0, (Scalar.minsi (Scalar.addi (Scalar.muli (BitVec.ofNat 32 j) 74#32) (BitVec.ofNat 32 n)) 1023#32).toNat] : Fin 3 → ℕ)
      = ![0, 0, min (74 * j + n) 1023] := by
  have e : Scalar.addi (Scalar.muli (BitVec.ofNat 32 j) 74#32) (BitVec.ofNat 32 n) = BitVec.ofNat 32 (74 * j + n) := by
    change BitVec.ofNat 32 j * 74#32 + BitVec.ofNat 32 n = _
    rw [BitVec.ofNat_add, BitVec.ofNat_mul, BitVec.mul_comm]
  rw [e, min_word _ hn]

theorem off00 : (![0, 0] : Fin 2 → ℕ) = fun _ => 0 := by decide
theorem off000 : (![0, 0, 0] : Fin 3 → ℕ) = fun _ => 0 := by decide

/-- A word under the number of tokens is a row of the tokens. -/
theorem row_inb (w : BitVec 32) (h : w.toNat < 32768) (a : Fin 2) : (![w.toNat, 0] : Fin 2 → ℕ) a + S1x2048.size a ≤ S32768x2048.size a := by
  match a with
  | 0 => change w.toNat + 1 ≤ 32768; omega
  | 1 => change 0 + 2048 ≤ 2048; omega

theorem ret_bind' {β γ : Type} (a : β) (k : β → Prog (TpuEff nD τ sig (Elt F) Λ₀ .tc) γ) : (Prog.ret a).bind k = k a := rfl

theorem wp_done (c : Dev nD) {β : Type} {Q : β → sProp 𝕄} (a : β) : Q a ⊢ wpc (F := F) c (Pure.pure a) Q := by
  change _ ⊢ wpc c (Prog.ret a) Q
  unfold wpc
  rw [wp_ret]
  iintro H
  imodintro
  iexact H

/-- The token words of a block, by row. -/
abbrev words (X : S1x1x1024.Idx → BitVec 32) : ℕ → BitVec 32 := fun t => X (tokIdx t)

section Loops

variable (c : Dev nD) (i : grid0.Coords)
  (arg2 : Memref sig .tc .smem S73 .i32) (harg2 : arg2.IsWhole) (arg3 : Memref sig .tc .smem S1 .i32) (harg3 : arg3.IsWhole)
  (arg4 : Memref sig .tc .smem S1x1x1024 .i32) (harg4 : arg4.IsWhole) (arg5 : Memref sig .tc .smem S1x1x1024 .i32) (harg5 : arg5.IsWhole)
  (arg7 : Memref sig .tc .vmem S1x2048x512 .bf16) (harg7 : arg7.IsWhole) (arg8 : Memref sig .tc .vmem S1x2048x512 .bf16) (harg8 : arg8.IsWhole)
  (arg9 : Memref sig .tc .vmem S1x512x2048 .bf16) (harg9 : arg9.IsWhole) (arg10 : Memref sig .tc .vmem S1024x2048 .f32) (harg10 : arg10.IsWhole)
  (arg12 : Memref sig .tc .vmem S1024x2048 .bf16) (harg12 : arg12.IsWhole) (v0 : BitVec 32)

set_option maxHeartbeats 1000000 in
/-- The loop that starts the first tile's copies. -/
theorem wp_startAll {Q : Unit → sProp 𝕄} {hb : HBuf F} {X : S1x1x1024.Idx → BitVec 32} (hX : ∀ x, (X x).toNat < 32768) (h1 : k0_cond1 i = 1#1) (h2 : k0_cond2 i = 1#1) :
    iprop(Stage c hb (words X) 0 ∗ owns (c : Thread nD τ) arg4 fullShare X)
      ⊢ iprop((iprop(Stage c hb (words X) 1036 ∗ owns (c : Thread nD τ) arg4 fullShare X) -∗ Q ())
        -∗ wpc c (Scf.Loop.for k0_t1_loop (k0_t1_ok i h1 h2) ⟨⟩ (k0_t1_body (F := F) i arg2 harg2 arg3 harg3 arg4 harg4 arg5 harg5 hM (Memref.isWhole_whole _) arg7 harg7 arg8 harg8 arg9 harg9 arg10 harg10 xM (Memref.isWhole_whole _) arg12 harg12 cc0_scratch2 h1 h2)) Q) := by
  iintro H HQ
  iapply (Scf.wp_for frame (wpE (defs₀ (F := F)) Variants.none (c : Thread nD τ) none) Set.univ _ _ _ (k0_t1_ok i h1 h2) ()
    (k0_t1_body (F := F) i arg2 harg2 arg3 harg3 arg4 harg4 arg5 harg5 hM (Memref.isWhole_whole _) arg7 harg7 arg8 harg8 arg9 harg9 arg10 harg10 xM (Memref.isWhole_whole _) arg12 harg12 cc0_scratch2 h1 h2)
    (fun k _ => iprop(Stage c hb (words X) k ∗ owns (c : Thread nD τ) arg4 fullShare X)) ?_)
  · intro t _
    have ht : t.val < 1036 := t.isLt
    unfold k0_t1_body
    iintro ⟨HS, H4⟩
    iapply (wp_tok c t.val (off_tok t.val (by omega))) $$ H4
    iintro H4
    iapply (wp_assume Variants.none (c : Thread nD τ) none Set.univ (fun _ _ => row_inb _ (hX _)))
    simp only [ret_bind']
    iapply (wp_start c t.val ht (hX _) rfl (off_row t.val (by omega))) $$ HS
    iintro HS
    simp only [ret_bind']
    iapply (wp_done c)
    isplitl [HS] <;> iassumption
  · isplitl [H]; · iexact H
    iintro %_ H
    iapply HQ
    iexact H

set_option maxHeartbeats 1000000 in
/-- The loop that waits for a tile's copies. -/
theorem wp_takeAll {Q : Unit → sProp 𝕄} {hb : HBuf F} {w : ℕ → BitVec 32} {X : S1x1x1024.Idx → BitVec 32} (hX : ∀ x, (X x).toNat < 32768) (h1 : k0_cond1 i = 1#1) (h3 : k0_cond3 i v0 = 1#1) :
    iprop(Flight c hb w 1036 0 ∗ owns (c : Thread nD τ) arg4 fullShare X ∗ ∃ W, owes (c : Thread nD τ) 0 W)
      ⊢ iprop((iprop(Flight c hb w 1036 (amt * 1036) ∗ owns (c : Thread nD τ) arg4 fullShare X ∗ ∃ W, owes (c : Thread nD τ) 0 W) -∗ Q ())
        -∗ wpc c (Scf.Loop.for k0_t2_loop (k0_t2_ok i h1) ⟨⟩ (k0_t2_body (F := F) i arg2 harg2 arg3 harg3 arg4 harg4 arg5 harg5 hM (Memref.isWhole_whole _) arg7 harg7 arg8 harg8 arg9 harg9 arg10 harg10 xM (Memref.isWhole_whole _) arg12 harg12 cc0_scratch2 v0 h1 h3)) Q) := by
  iintro H HQ
  iapply (Scf.wp_for frame (wpE (defs₀ (F := F)) Variants.none (c : Thread nD τ) none) Set.univ _ _ _ (k0_t2_ok i h1) ()
    (k0_t2_body (F := F) i arg2 harg2 arg3 harg3 arg4 harg4 arg5 harg5 hM (Memref.isWhole_whole _) arg7 harg7 arg8 harg8 arg9 harg9 arg10 harg10 xM (Memref.isWhole_whole _) arg12 harg12 cc0_scratch2 v0 h1 h3)
    (fun k _ => iprop(Flight c hb w 1036 (amt * k) ∗ owns (c : Thread nD τ) arg4 fullShare X ∗ ∃ W, owes (c : Thread nD τ) 0 W)) ?_)
  · intro t _
    have ht : t.val < 1036 := t.isLt
    unfold k0_t2_body
    iintro ⟨HS, H4, %W, HW⟩
    iapply (wp_tok c t.val (off_tok t.val (by omega))) $$ H4
    iintro H4
    iapply (wp_assume Variants.none (c : Thread nD τ) none Set.univ (fun _ _ => row_inb _ (hX _)))
    simp only [ret_bind']
    iapply (wp_take c t.val ht) $$ [HS HW]
    · isplitl [HS] <;> iassumption
    iintro ⟨HS, HW⟩
    simp only [ret_bind']
    iapply (wp_done c)
    isplitl [HS]; · iexact HS
    isplitl [H4]; · iexact H4
    iexists _
    iexact HW
  · isplitl [H]; · iexact H
    iintro %_ H
    iapply HQ
    iexact H

end Loops

end Cert.KernelIdeal.Hand
-- ==== Proof.Parts.lean ====
/-
  The 74 copy starts of one grid step, part by part as the printed body divides them.
-/
module

public import proofs.«01_k».proof.Proof.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Parts

variable (c : Dev nD) (i : grid0.Coords)
  (arg2 : Memref sig .tc .smem S73 .i32) (harg2 : arg2.IsWhole) (arg3 : Memref sig .tc .smem S1 .i32) (harg3 : arg3.IsWhole)
  (arg4 : Memref sig .tc .smem S1x1x1024 .i32) (harg4 : arg4.IsWhole) (arg5 : Memref sig .tc .smem S1x1x1024 .i32) (harg5 : arg5.IsWhole)
  (arg7 : Memref sig .tc .vmem S1x2048x512 .bf16) (harg7 : arg7.IsWhole) (arg8 : Memref sig .tc .vmem S1x2048x512 .bf16) (harg8 : arg8.IsWhole)
  (arg9 : Memref sig .tc .vmem S1x512x2048 .bf16) (harg9 : arg9.IsWhole) (arg10 : Memref sig .tc .vmem S1024x2048 .f32) (harg10 : arg10.IsWhole)
  (arg12 : Memref sig .tc .vmem S1024x2048 .bf16) (harg12 : arg12.IsWhole) (arg1 v0 : BitVec 32)

theorem lt74 (i : grid0.Coords) : (i 1).val < 14 := (i 1).isLt

set_option maxHeartbeats 4000000 in
/-- Part 1: copies 0 to 2 of the step. -/
theorem wp_part1 {Q : (Σ' (v : BitVec 32), k0_chk6 i v0 v) → sProp 𝕄} {hb : HBuf F} {X : S1x1x1024.Idx → BitVec 32} (hX : ∀ x, (X x).toNat < 32768) (h4 : k0_cond4 i v0 = 1#1) :
    iprop(Stage c hb (words X) (74 * (i 1).val + 0) ∗ owns (c : Thread nD τ) arg5 fullShare X)
      ⊢ iprop((∀ h : k0_chk6 i v0 (words X (74 * (i 1).val + 3)), iprop(Stage c hb (words X) (74 * (i 1).val + 3) ∗ owns (c : Thread nD τ) arg5 fullShare X) -∗ Q ⟨words X (74 * (i 1).val + 3), h⟩) -∗ wpc c (k0_part1 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4) Q) := by
  rw [k0_part1_eq_skeleton]
  unfold k0_part1_skel
  have hi := lt74 i
  iintro ⟨HS, H5⟩ HQ
  iapply (wp_tok c (74 * (i 1).val + 0) (off_tok74 _ 0 (by omega))) $$ H5
  iintro H5
  iapply (wp_assume Variants.none (c : Thread nD τ) none Set.univ (fun _ => row_inb _ (hX _)))
  simp only [ret_bind']
  iapply (wp_start c (74 * (i 1).val + 0) (by omega) (hX _) rfl (off_row74 _ 0 (by omega))) $$ HS
  iintro HS
  simp only [ret_bind']
  iapply (wp_tok c (74 * (i 1).val + 1) (off_tok74 _ 1 (by omega))) $$ H5
  iintro H5
  iapply (wp_assume Variants.none (c : Thread nD τ) none Set.univ (fun _ => row_inb _ (hX _)))
  simp only [ret_bind']
  iapply (wp_start c (74 * (i 1).val + 1) (by omega) (hX _) rfl (off_row74 _ 1 (by omega))) $$ HS
  iintro HS
  simp only [ret_bind']
  iapply (wp_tok c (74 * (i 1).val + 2) (off_tok74 _ 2 (by omega))) $$ H5
  iintro H5
  iapply (wp_assume Variants.none (c : Thread nD τ) none Set.univ (fun _ => row_inb _ (hX _)))
  simp only [ret_bind']
  iapply (wp_start c (74 * (i 1).val + 2) (by omega) (hX _) rfl (off_row74 _ 2 (by omega))) $$ HS
  iintro HS
  simp only [ret_bind']
  iapply (wp_tok c (74 * (i 1).val + 3) (off_tok74 _ 3 (by omega))) $$ H5
  iintro H5
  iapply (wp_assume Variants.none (c : Thread nD τ) none Set.univ (fun _ => row_inb _ (hX _)))
  simp only [ret_bind']
  iapply (wp_done c)
  iapply HQ
  isplitl [HS] <;> iassumption

set_option maxHeartbeats 4000000 in
/-- Part 2: copies 3 to 6 of the step. -/
theorem wp_part2 {Q : BitVec 32 → sProp 𝕄} {hb : HBuf F} {X : S1x1x1024.Idx → BitVec 32} (hX : ∀ x, (X x).toNat < 32768) (h4 : k0_cond4 i v0 = 1#1) (hw : k0_chk6 i v0 (words X (74 * (i 1).val + 3))) :
    iprop(Stage c hb (words X) (74 * (i 1).val + 3) ∗ owns (c : Thread nD τ) arg5 fullShare X)
      ⊢ iprop((∀ v, iprop(Stage c hb (words X) (74 * (i 1).val + 7) ∗ owns (c : Thread nD τ) arg5 fullShare X) -∗ Q v) -∗ wpc c (k0_part2 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 (words X (74 * (i 1).val + 3)) hw) Q) := by
  rw [k0_part2_eq_skeleton]
  unfold k0_part2_skel
  have hi := lt74 i
  iintro ⟨HS, H5⟩ HQ
  iapply (wp_start c (74 * (i 1).val + 3) (by omega) (hX _) rfl (off_row74 _ 3 (by omega))) $$ HS
  iintro HS
  simp only [ret_bind']
  iapply (wp_tok c (74 * (i 1).val + 4) (off_tok74 _ 4 (by omega))) $$ H5
  iintro H5
  iapply (wp_assume Variants.none (c : Thread nD τ) none Set.univ (fun _ => row_inb _ (hX _)))
  simp only [ret_bind']
  iapply (wp_start c (74 * (i 1).val + 4) (by omega) (hX _) rfl (off_row74 _ 4 (by omega))) $$ HS
  iintro HS
  simp only [ret_bind']
  iapply (wp_tok c (74 * (i 1).val + 5) (off_tok74 _ 5 (by omega))) $$ H5
  iintro H5
  iapply (wp_assume Variants.none (c : Thread nD τ) none Set.univ (fun _ => row_inb _ (hX _)))
  simp only [ret_bind']
  iapply (wp_start c (74 * (i 1).val + 5) (by omega) (hX _) rfl (off_row74 _ 5 (by omega))) $$ HS
  iintro HS
  simp only [ret_bind']
  iapply (wp_tok c (74 * (i 1).val + 6) (off_tok74 _ 6 (by omega))) $$ H5
  iintro H5
  iapply (wp_assume Variants.none (c : Thread nD τ) none Set.univ (fun _ => row_inb _ (hX _)))
  simp only [ret_bind']
  iapply (wp_start c (74 * (i 1).val + 6) (by omega) (hX _) rfl (off_row74 _ 6 (by omega))) $$ HS
  iintro HS
  simp only [ret_bind']
  iapply (wp_done c)
  iapply HQ
  isplitl [HS] <;> iassumption

set_option maxHeartbeats 4000000 in
/-- Part 3: copies 7 to 10 of the step. -/
theorem wp_part3 {Q : BitVec 32 → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 7) ∗ owns (c : Thread nD τ) arg5 fullShare X)
      ⊢ iprop((∀ v, iprop(Stage c hb (words X) (74 * (i 1).val + 11) ∗ owns (c : Thread nD τ) arg5 fullShare X) -∗ Q v) -∗ wpc c (k0_part3 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part3_eq_skeleton]
  unfold k0_part3_skel
  have hi := lt74 i
  iintro ⟨HS, H5⟩ HQ
  iapply (wp_tok c (74 * (i 1).val + 7) (off_tok74 _ 7 (by omega))) $$ H5
  iintro H5
  iapply (wp_assume Variants.none (c : Thread nD τ) none Set.univ (fun _ => row_inb _ (hX _)))
  simp only [ret_bind']
  iapply (wp_start c (74 * (i 1).val + 7) (by omega) (hX _) rfl (off_row74 _ 7 (by omega))) $$ HS
  iintro HS
  simp only [ret_bind']
  iapply (wp_tok c (74 * (i 1).val + 8) (off_tok74 _ 8 (by omega))) $$ H5
  iintro H5
  iapply (wp_assume Variants.none (c : Thread nD τ) none Set.univ (fun _ => row_inb _ (hX _)))
  simp only [ret_bind']
  iapply (wp_start c (74 * (i 1).val + 8) (by omega) (hX _) rfl (off_row74 _ 8 (by omega))) $$ HS
  iintro HS
  simp only [ret_bind']
  iapply (wp_tok c (74 * (i 1).val + 9) (off_tok74 _ 9 (by omega))) $$ H5
  iintro H5
  iapply (wp_assume Variants.none (c : Thread nD τ) none Set.univ (fun _ => row_inb _ (hX _)))
  simp only [ret_bind']
  iapply (wp_start c (74 * (i 1).val + 9) (by omega) (hX _) rfl (off_row74 _ 9 (by omega))) $$ HS
  iintro HS
  simp only [ret_bind']
  iapply (wp_tok c (74 * (i 1).val + 10) (off_tok74 _ 10 (by omega))) $$ H5
  iintro H5
  iapply (wp_assume Variants.none (c : Thread nD τ) none Set.univ (fun _ => row_inb _ (hX _)))
  simp only [ret_bind']
  iapply (wp_start c (74 * (i 1).val + 10) (by omega) (hX _) rfl (off_row74 _ 10 (by omega))) $$ HS
  iintro HS
  simp only [ret_bind']
  iapply (wp_done c)
  iapply HQ
  isplitl [HS] <;> iassumption

set_option maxHeartbeats 4000000 in
/-- Part 4: copies 11 to 14 of the step. -/
theorem wp_part4 {Q : PUnit → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 11) ∗ owns (c : Thread nD τ) arg5 fullShare X)
      ⊢ iprop((iprop(Stage c hb (words X) (74 * (i 1).val + 15) ∗ owns (c : Thread nD τ) arg5 fullShare X) -∗ Q ⟨⟩) -∗ wpc c (k0_part4 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part4_eq_skeleton]
  unfold k0_part4_skel
  have hi := lt74 i
  iintro ⟨HS, H5⟩ HQ
  iapply (wp_tok c (74 * (i 1).val + 11) (off_tok74 _ 11 (by omega))) $$ H5
  iintro H5
  iapply (wp_assume Variants.none (c : Thread nD τ) none Set.univ (fun _ => row_inb _ (hX _)))
  simp only [ret_bind']
  iapply (wp_start c (74 * (i 1).val + 11) (by omega) (hX _) rfl (off_row74 _ 11 (by omega))) $$ HS
  iintro HS
  simp only [ret_bind']
  iapply (wp_tok c (74 * (i 1).val + 12) (off_tok74 _ 12 (by omega))) $$ H5
  iintro H5
  iapply (wp_assume Variants.none (c : Thread nD τ) none Set.univ (fun _ => row_inb _ (hX _)))
  simp only [ret_bind']
  iapply (wp_start c (74 * (i 1).val + 12) (by omega) (hX _) rfl (off_row74 _ 12 (by omega))) $$ HS
  iintro HS
  simp only [ret_bind']
  iapply (wp_tok c (74 * (i 1).val + 13) (off_tok74 _ 13 (by omega))) $$ H5
  iintro H5
  iapply (wp_assume Variants.none (c : Thread nD τ) none Set.univ (fun _ => row_inb _ (hX _)))
  simp only [ret_bind']
  iapply (wp_start c (74 * (i 1).val + 13) (by omega) (hX _) rfl (off_row74 _ 13 (by omega))) $$ HS
  iintro HS
  simp only [ret_bind']
  iapply (wp_tok c (74 * (i 1).val + 14) (off_tok74 _ 14 (by omega))) $$ H5
  iintro H5
  iapply (wp_assume Variants.none (c : Thread nD τ) none Set.univ (fun _ => row_inb _ (hX _)))
  simp only [ret_bind']
  iapply (wp_start c (74 * (i 1).val + 14) (by omega) (hX _) rfl (off_row74 _ 14 (by omega))) $$ HS
  iintro HS
  simp only [ret_bind']
  iapply (wp_done c)
  iapply HQ
  isplitl [HS] <;> iassumption

set_option maxHeartbeats 4000000 in
/-- Part 5: copies 15 to 17 of the step. -/
theorem wp_part5 {Q : (Σ' (v : BitVec 32), k0_chk21 i v0 v) → sProp 𝕄} {hb : HBuf F} {X : S1x1x1024.Idx → BitVec 32} (hX : ∀ x, (X x).toNat < 32768) (h4 : k0_cond4 i v0 = 1#1) :
    iprop(Stage c hb (words X) (74 * (i 1).val + 15) ∗ owns (c : Thread nD τ) arg5 fullShare X)
      ⊢ iprop((∀ h : k0_chk21 i v0 (words X (74 * (i 1).val + 18)), iprop(Stage c hb (words X) (74 * (i 1).val + 18) ∗ owns (c : Thread nD τ) arg5 fullShare X) -∗ Q ⟨words X (74 * (i 1).val + 18), h⟩) -∗ wpc c (k0_part5 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4) Q) := by
  rw [k0_part5_eq_skeleton]
  unfold k0_part5_skel
  have hi := lt74 i
  iintro ⟨HS, H5⟩ HQ
  iapply (wp_tok c (74 * (i 1).val + 15) (off_tok74 _ 15 (by omega))) $$ H5
  iintro H5
  iapply (wp_assume Variants.none (c : Thread nD τ) none Set.univ (fun _ => row_inb _ (hX _)))
  simp only [ret_bind']
  iapply (wp_start c (74 * (i 1).val + 15) (by omega) (hX _) rfl (off_row74 _ 15 (by omega))) $$ HS
  iintro HS
  simp only [ret_bind']
  iapply (wp_tok c (74 * (i 1).val + 16) (off_tok74 _ 16 (by omega))) $$ H5
  iintro H5
  iapply (wp_assume Variants.none (c : Thread nD τ) none Set.univ (fun _ => row_inb _ (hX _)))
  simp only [ret_bind']
  iapply (wp_start c (74 * (i 1).val + 16) (by omega) (hX _) rfl (off_row74 _ 16 (by omega))) $$ HS
  iintro HS
  simp only [ret_bind']
  iapply (wp_tok c (74 * (i 1).val + 17) (off_tok74 _ 17 (by omega))) $$ H5
  iintro H5
  iapply (wp_assume Variants.none (c : Thread nD τ) none Set.univ (fun _ => row_inb _ (hX _)))
  simp only [ret_bind']
  iapply (wp_start c (74 * (i 1).val + 17) (by omega) (hX _) rfl (off_row74 _ 17 (by omega))) $$ HS
  iintro HS
  simp only [ret_bind']
  iapply (wp_tok c (74 * (i 1).val + 18) (off_tok74 _ 18 (by omega))) $$ H5
  iintro H5
  iapply (wp_assume Variants.none (c : Thread nD τ) none Set.univ (fun _ => row_inb _ (hX _)))
  simp only [ret_bind']
  iapply (wp_done c)
  iapply HQ
  isplitl [HS] <;> iassumption

set_option maxHeartbeats 4000000 in
/-- Part 6: copies 18 to 21 of the step. -/
theorem wp_part6 {Q : BitVec 32 → sProp 𝕄} {hb : HBuf F} {X : S1x1x1024.Idx → BitVec 32} (hX : ∀ x, (X x).toNat < 32768) (h4 : k0_cond4 i v0 = 1#1) (hw : k0_chk21 i v0 (words X (74 * (i 1).val + 18))) :
    iprop(Stage c hb (words X) (74 * (i 1).val + 18) ∗ owns (c : Thread nD τ) arg5 fullShare X)
      ⊢ iprop((∀ v, iprop(Stage c hb (words X) (74 * (i 1).val + 22) ∗ owns (c : Thread nD τ) arg5 fullShare X) -∗ Q v) -∗ wpc c (k0_part6 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 (words X (74 * (i 1).val + 18)) hw) Q) := by
  rw [k0_part6_eq_skeleton]
  unfold k0_part6_skel
  have hi := lt74 i
  iintro ⟨HS, H5⟩ HQ
  iapply (wp_start c (74 * (i 1).val + 18) (by omega) (hX _) rfl (off_row74 _ 18 (by omega))) $$ HS
  iintro HS
  simp only [ret_bind']
  iapply (wp_tok c (74 * (i 1).val + 19) (off_tok74 _ 19 (by omega))) $$ H5
  iintro H5
  iapply (wp_assume Variants.none (c : Thread nD τ) none Set.univ (fun _ => row_inb _ (hX _)))
  simp only [ret_bind']
  iapply (wp_start c (74 * (i 1).val + 19) (by omega) (hX _) rfl (off_row74 _ 19 (by omega))) $$ HS
  iintro HS
  simp only [ret_bind']
  iapply (wp_tok c (74 * (i 1).val + 20) (off_tok74 _ 20 (by omega))) $$ H5
  iintro H5
  iapply (wp_assume Variants.none (c : Thread nD τ) none Set.univ (fun _ => row_inb _ (hX _)))
  simp only [ret_bind']
  iapply (wp_start c (74 * (i 1).val + 20) (by omega) (hX _) rfl (off_row74 _ 20 (by omega))) $$ HS
  iintro HS
  simp only [ret_bind']
  iapply (wp_tok c (74 * (i 1).val + 21) (off_tok74 _ 21 (by omega))) $$ H5
  iintro H5
  iapply (wp_assume Variants.none (c : Thread nD τ) none Set.univ (fun _ => row_inb _ (hX _)))
  simp only [ret_bind']
  iapply (wp_start c (74 * (i 1).val + 21) (by omega) (hX _) rfl (off_row74 _ 21 (by omega))) $$ HS
  iintro HS
  simp only [ret_bind']
  iapply (wp_done c)
  iapply HQ
  isplitl [HS] <;> iassumption

set_option maxHeartbeats 4000000 in
/-- Part 7: copies 22 to 25 of the step. -/
theorem wp_part7 {Q : BitVec 32 → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 22) ∗ owns (c : Thread nD τ) arg5 fullShare X)
      ⊢ iprop((∀ v, iprop(Stage c hb (words X) (74 * (i 1).val + 26) ∗ owns (c : Thread nD τ) arg5 fullShare X) -∗ Q v) -∗ wpc c (k0_part7 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part7_eq_skeleton]
  unfold k0_part7_skel
  have hi := lt74 i
  iintro ⟨HS, H5⟩ HQ
  iapply (wp_tok c (74 * (i 1).val + 22) (off_tok74 _ 22 (by omega))) $$ H5
  iintro H5
  iapply (wp_assume Variants.none (c : Thread nD τ) none Set.univ (fun _ => row_inb _ (hX _)))
  simp only [ret_bind']
  iapply (wp_start c (74 * (i 1).val + 22) (by omega) (hX _) rfl (off_row74 _ 22 (by omega))) $$ HS
  iintro HS
  simp only [ret_bind']
  iapply (wp_tok c (74 * (i 1).val + 23) (off_tok74 _ 23 (by omega))) $$ H5
  iintro H5
  iapply (wp_assume Variants.none (c : Thread nD τ) none Set.univ (fun _ => row_inb _ (hX _)))
  simp only [ret_bind']
  iapply (wp_start c (74 * (i 1).val + 23) (by omega) (hX _) rfl (off_row74 _ 23 (by omega))) $$ HS
  iintro HS
  simp only [ret_bind']
  iapply (wp_tok c (74 * (i 1).val + 24) (off_tok74 _ 24 (by omega))) $$ H5
  iintro H5
  iapply (wp_assume Variants.none (c : Thread nD τ) none Set.univ (fun _ => row_inb _ (hX _)))
  simp only [ret_bind']
  iapply (wp_start c (74 * (i 1).val + 24) (by omega) (hX _) rfl (off_row74 _ 24 (by omega))) $$ HS
  iintro HS
  simp only [ret_bind']
  iapply (wp_tok c (74 * (i 1).val + 25) (off_tok74 _ 25 (by omega))) $$ H5
  iintro H5
  iapply (wp_assume Variants.none (c : Thread nD τ) none Set.univ (fun _ => row_inb _ (hX _)))
  simp only [ret_bind']
  iapply (wp_start c (74 * (i 1).val + 25) (by omega) (hX _) rfl (off_row74 _ 25 (by omega))) $$ HS
  iintro HS
  simp only [ret_bind']
  iapply (wp_done c)
  iapply HQ
  isplitl [HS] <;> iassumption

set_option maxHeartbeats 4000000 in
/-- Part 8: copies 26 to 29 of the step. -/
theorem wp_part8 {Q : PUnit → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 26) ∗ owns (c : Thread nD τ) arg5 fullShare X)
      ⊢ iprop((iprop(Stage c hb (words X) (74 * (i 1).val + 30) ∗ owns (c : Thread nD τ) arg5 fullShare X) -∗ Q ⟨⟩) -∗ wpc c (k0_part8 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part8_eq_skeleton]
  unfold k0_part8_skel
  have hi := lt74 i
  iintro ⟨HS, H5⟩ HQ
  iapply (wp_tok c (74 * (i 1).val + 26) (off_tok74 _ 26 (by omega))) $$ H5
  iintro H5
  iapply (wp_assume Variants.none (c : Thread nD τ) none Set.univ (fun _ => row_inb _ (hX _)))
  simp only [ret_bind']
  iapply (wp_start c (74 * (i 1).val + 26) (by omega) (hX _) rfl (off_row74 _ 26 (by omega))) $$ HS
  iintro HS
  simp only [ret_bind']
  iapply (wp_tok c (74 * (i 1).val + 27) (off_tok74 _ 27 (by omega))) $$ H5
  iintro H5
  iapply (wp_assume Variants.none (c : Thread nD τ) none Set.univ (fun _ => row_inb _ (hX _)))
  simp only [ret_bind']
  iapply (wp_start c (74 * (i 1).val + 27) (by omega) (hX _) rfl (off_row74 _ 27 (by omega))) $$ HS
  iintro HS
  simp only [ret_bind']
  iapply (wp_tok c (74 * (i 1).val + 28) (off_tok74 _ 28 (by omega))) $$ H5
  iintro H5
  iapply (wp_assume Variants.none (c : Thread nD τ) none Set.univ (fun _ => row_inb _ (hX _)))
  simp only [ret_bind']
  iapply (wp_start c (74 * (i 1).val + 28) (by omega) (hX _) rfl (off_row74 _ 28 (by omega))) $$ HS
  iintro HS
  simp only [ret_bind']
  iapply (wp_tok c (74 * (i 1).val + 29) (off_tok74 _ 29 (by omega))) $$ H5
  iintro H5
  iapply (wp_assume Variants.none (c : Thread nD τ) none Set.univ (fun _ => row_inb _ (hX _)))
  simp only [ret_bind']
  iapply (wp_start c (74 * (i 1).val + 29) (by omega) (hX _) rfl (off_row74 _ 29 (by omega))) $$ HS
  iintro HS
  simp only [ret_bind']
  iapply (wp_done c)
  iapply HQ
  isplitl [HS] <;> iassumption

set_option maxHeartbeats 4000000 in
/-- Part 9: copies 30 to 32 of the step. -/
theorem wp_part9 {Q : (Σ' (v : BitVec 32), k0_chk36 i v0 v) → sProp 𝕄} {hb : HBuf F} {X : S1x1x1024.Idx → BitVec 32} (hX : ∀ x, (X x).toNat < 32768) (h4 : k0_cond4 i v0 = 1#1) :
    iprop(Stage c hb (words X) (74 * (i 1).val + 30) ∗ owns (c : Thread nD τ) arg5 fullShare X)
      ⊢ iprop((∀ h : k0_chk36 i v0 (words X (74 * (i 1).val + 33)), iprop(Stage c hb (words X) (74 * (i 1).val + 33) ∗ owns (c : Thread nD τ) arg5 fullShare X) -∗ Q ⟨words X (74 * (i 1).val + 33), h⟩) -∗ wpc c (k0_part9 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4) Q) := by
  rw [k0_part9_eq_skeleton]
  unfold k0_part9_skel
  have hi := lt74 i
  iintro ⟨HS, H5⟩ HQ
  iapply (wp_tok c (74 * (i 1).val + 30) (off_tok74 _ 30 (by omega))) $$ H5
  iintro H5
  iapply (wp_assume Variants.none (c : Thread nD τ) none Set.univ (fun _ => row_inb _ (hX _)))
  simp only [ret_bind']
  iapply (wp_start c (74 * (i 1).val + 30) (by omega) (hX _) rfl (off_row74 _ 30 (by omega))) $$ HS
  iintro HS
  simp only [ret_bind']
  iapply (wp_tok c (74 * (i 1).val + 31) (off_tok74 _ 31 (by omega))) $$ H5
  iintro H5
  iapply (wp_assume Variants.none (c : Thread nD τ) none Set.univ (fun _ => row_inb _ (hX _)))
  simp only [ret_bind']
  iapply (wp_start c (74 * (i 1).val + 31) (by omega) (hX _) rfl (off_row74 _ 31 (by omega))) $$ HS
  iintro HS
  simp only [ret_bind']
  iapply (wp_tok c (74 * (i 1).val + 32) (off_tok74 _ 32 (by omega))) $$ H5
  iintro H5
  iapply (wp_assume Variants.none (c : Thread nD τ) none Set.univ (fun _ => row_inb _ (hX _)))
  simp only [ret_bind']
  iapply (wp_start c (74 * (i 1).val + 32) (by omega) (hX _) rfl (off_row74 _ 32 (by omega))) $$ HS
  iintro HS
  simp only [ret_bind']
  iapply (wp_tok c (74 * (i 1).val + 33) (off_tok74 _ 33 (by omega))) $$ H5
  iintro H5
  iapply (wp_assume Variants.none (c : Thread nD τ) none Set.univ (fun _ => row_inb _ (hX _)))
  simp only [ret_bind']
  iapply (wp_done c)
  iapply HQ
  isplitl [HS] <;> iassumption

set_option maxHeartbeats 4000000 in
/-- Part 10: copies 33 to 36 of the step. -/
theorem wp_part10 {Q : BitVec 32 → sProp 𝕄} {hb : HBuf F} {X : S1x1x1024.Idx → BitVec 32} (hX : ∀ x, (X x).toNat < 32768) (h4 : k0_cond4 i v0 = 1#1) (hw : k0_chk36 i v0 (words X (74 * (i 1).val + 33))) :
    iprop(Stage c hb (words X) (74 * (i 1).val + 33) ∗ owns (c : Thread nD τ) arg5 fullShare X)
      ⊢ iprop((∀ v, iprop(Stage c hb (words X) (74 * (i 1).val + 37) ∗ owns (c : Thread nD τ) arg5 fullShare X) -∗ Q v) -∗ wpc c (k0_part10 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 (words X (74 * (i 1).val + 33)) hw) Q) := by
  rw [k0_part10_eq_skeleton]
  unfold k0_part10_skel
  have hi := lt74 i
  iintro ⟨HS, H5⟩ HQ
  iapply (wp_start c (74 * (i 1).val + 33) (by omega) (hX _) rfl (off_row74 _ 33 (by omega))) $$ HS
  iintro HS
  simp only [ret_bind']
  iapply (wp_tok c (74 * (i 1).val + 34) (off_tok74 _ 34 (by omega))) $$ H5
  iintro H5
  iapply (wp_assume Variants.none (c : Thread nD τ) none Set.univ (fun _ => row_inb _ (hX _)))
  simp only [ret_bind']
  iapply (wp_start c (74 * (i 1).val + 34) (by omega) (hX _) rfl (off_row74 _ 34 (by omega))) $$ HS
  iintro HS
  simp only [ret_bind']
  iapply (wp_tok c (74 * (i 1).val + 35) (off_tok74 _ 35 (by omega))) $$ H5
  iintro H5
  iapply (wp_assume Variants.none (c : Thread nD τ) none Set.univ (fun _ => row_inb _ (hX _)))
  simp only [ret_bind']
  iapply (wp_start c (74 * (i 1).val + 35) (by omega) (hX _) rfl (off_row74 _ 35 (by omega))) $$ HS
  iintro HS
  simp only [ret_bind']
  iapply (wp_tok c (74 * (i 1).val + 36) (off_tok74 _ 36 (by omega))) $$ H5
  iintro H5
  iapply (wp_assume Variants.none (c : Thread nD τ) none Set.univ (fun _ => row_inb _ (hX _)))
  simp only [ret_bind']
  iapply (wp_start c (74 * (i 1).val + 36) (by omega) (hX _) rfl (off_row74 _ 36 (by omega))) $$ HS
  iintro HS
  simp only [ret_bind']
  iapply (wp_done c)
  iapply HQ
  isplitl [HS] <;> iassumption

set_option maxHeartbeats 4000000 in
/-- Part 11: copies 37 to 40 of the step. -/
theorem wp_part11 {Q : BitVec 32 → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 37) ∗ owns (c : Thread nD τ) arg5 fullShare X)
      ⊢ iprop((∀ v, iprop(Stage c hb (words X) (74 * (i 1).val + 41) ∗ owns (c : Thread nD τ) arg5 fullShare X) -∗ Q v) -∗ wpc c (k0_part11 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part11_eq_skeleton]
  unfold k0_part11_skel
  have hi := lt74 i
  iintro ⟨HS, H5⟩ HQ
  iapply (wp_tok c (74 * (i 1).val + 37) (off_tok74 _ 37 (by omega))) $$ H5
  iintro H5
  iapply (wp_assume Variants.none (c : Thread nD τ) none Set.univ (fun _ => row_inb _ (hX _)))
  simp only [ret_bind']
  iapply (wp_start c (74 * (i 1).val + 37) (by omega) (hX _) rfl (off_row74 _ 37 (by omega))) $$ HS
  iintro HS
  simp only [ret_bind']
  iapply (wp_tok c (74 * (i 1).val + 38) (off_tok74 _ 38 (by omega))) $$ H5
  iintro H5
  iapply (wp_assume Variants.none (c : Thread nD τ) none Set.univ (fun _ => row_inb _ (hX _)))
  simp only [ret_bind']
  iapply (wp_start c (74 * (i 1).val + 38) (by omega) (hX _) rfl (off_row74 _ 38 (by omega))) $$ HS
  iintro HS
  simp only [ret_bind']
  iapply (wp_tok c (74 * (i 1).val + 39) (off_tok74 _ 39 (by omega))) $$ H5
  iintro H5
  iapply (wp_assume Variants.none (c : Thread nD τ) none Set.univ (fun _ => row_inb _ (hX _)))
  simp only [ret_bind']
  iapply (wp_start c (74 * (i 1).val + 39) (by omega) (hX _) rfl (off_row74 _ 39 (by omega))) $$ HS
  iintro HS
  simp only [ret_bind']
  iapply (wp_tok c (74 * (i 1).val + 40) (off_tok74 _ 40 (by omega))) $$ H5
  iintro H5
  iapply (wp_assume Variants.none (c : Thread nD τ) none Set.univ (fun _ => row_inb _ (hX _)))
  simp only [ret_bind']
  iapply (wp_start c (74 * (i 1).val + 40) (by omega) (hX _) rfl (off_row74 _ 40 (by omega))) $$ HS
  iintro HS
  simp only [ret_bind']
  iapply (wp_done c)
  iapply HQ
  isplitl [HS] <;> iassumption

set_option maxHeartbeats 4000000 in
/-- Part 12: copies 41 to 44 of the step. -/
theorem wp_part12 {Q : PUnit → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 41) ∗ owns (c : Thread nD τ) arg5 fullShare X)
      ⊢ iprop((iprop(Stage c hb (words X) (74 * (i 1).val + 45) ∗ owns (c : Thread nD τ) arg5 fullShare X) -∗ Q ⟨⟩) -∗ wpc c (k0_part12 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part12_eq_skeleton]
  unfold k0_part12_skel
  have hi := lt74 i
  iintro ⟨HS, H5⟩ HQ
  iapply (wp_tok c (74 * (i 1).val + 41) (off_tok74 _ 41 (by omega))) $$ H5
  iintro H5
  iapply (wp_assume Variants.none (c : Thread nD τ) none Set.univ (fun _ => row_inb _ (hX _)))
  simp only [ret_bind']
  iapply (wp_start c (74 * (i 1).val + 41) (by omega) (hX _) rfl (off_row74 _ 41 (by omega))) $$ HS
  iintro HS
  simp only [ret_bind']
  iapply (wp_tok c (74 * (i 1).val + 42) (off_tok74 _ 42 (by omega))) $$ H5
  iintro H5
  iapply (wp_assume Variants.none (c : Thread nD τ) none Set.univ (fun _ => row_inb _ (hX _)))
  simp only [ret_bind']
  iapply (wp_start c (74 * (i 1).val + 42) (by omega) (hX _) rfl (off_row74 _ 42 (by omega))) $$ HS
  iintro HS
  simp only [ret_bind']
  iapply (wp_tok c (74 * (i 1).val + 43) (off_tok74 _ 43 (by omega))) $$ H5
  iintro H5
  iapply (wp_assume Variants.none (c : Thread nD τ) none Set.univ (fun _ => row_inb _ (hX _)))
  simp only [ret_bind']
  iapply (wp_start c (74 * (i 1).val + 43) (by omega) (hX _) rfl (off_row74 _ 43 (by omega))) $$ HS
  iintro HS
  simp only [ret_bind']
  iapply (wp_tok c (74 * (i 1).val + 44) (off_tok74 _ 44 (by omega))) $$ H5
  iintro H5
  iapply (wp_assume Variants.none (c : Thread nD τ) none Set.univ (fun _ => row_inb _ (hX _)))
  simp only [ret_bind']
  iapply (wp_start c (74 * (i 1).val + 44) (by omega) (hX _) rfl (off_row74 _ 44 (by omega))) $$ HS
  iintro HS
  simp only [ret_bind']
  iapply (wp_done c)
  iapply HQ
  isplitl [HS] <;> iassumption

set_option maxHeartbeats 4000000 in
/-- Part 13: copies 45 to 47 of the step. -/
theorem wp_part13 {Q : (Σ' (v : BitVec 32), k0_chk51 i v0 v) → sProp 𝕄} {hb : HBuf F} {X : S1x1x1024.Idx → BitVec 32} (hX : ∀ x, (X x).toNat < 32768) (h4 : k0_cond4 i v0 = 1#1) :
    iprop(Stage c hb (words X) (74 * (i 1).val + 45) ∗ owns (c : Thread nD τ) arg5 fullShare X)
      ⊢ iprop((∀ h : k0_chk51 i v0 (words X (74 * (i 1).val + 48)), iprop(Stage c hb (words X) (74 * (i 1).val + 48) ∗ owns (c : Thread nD τ) arg5 fullShare X) -∗ Q ⟨words X (74 * (i 1).val + 48), h⟩) -∗ wpc c (k0_part13 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4) Q) := by
  rw [k0_part13_eq_skeleton]
  unfold k0_part13_skel
  have hi := lt74 i
  iintro ⟨HS, H5⟩ HQ
  iapply (wp_tok c (74 * (i 1).val + 45) (off_tok74 _ 45 (by omega))) $$ H5
  iintro H5
  iapply (wp_assume Variants.none (c : Thread nD τ) none Set.univ (fun _ => row_inb _ (hX _)))
  simp only [ret_bind']
  iapply (wp_start c (74 * (i 1).val + 45) (by omega) (hX _) rfl (off_row74 _ 45 (by omega))) $$ HS
  iintro HS
  simp only [ret_bind']
  iapply (wp_tok c (74 * (i 1).val + 46) (off_tok74 _ 46 (by omega))) $$ H5
  iintro H5
  iapply (wp_assume Variants.none (c : Thread nD τ) none Set.univ (fun _ => row_inb _ (hX _)))
  simp only [ret_bind']
  iapply (wp_start c (74 * (i 1).val + 46) (by omega) (hX _) rfl (off_row74 _ 46 (by omega))) $$ HS
  iintro HS
  simp only [ret_bind']
  iapply (wp_tok c (74 * (i 1).val + 47) (off_tok74 _ 47 (by omega))) $$ H5
  iintro H5
  iapply (wp_assume Variants.none (c : Thread nD τ) none Set.univ (fun _ => row_inb _ (hX _)))
  simp only [ret_bind']
  iapply (wp_start c (74 * (i 1).val + 47) (by omega) (hX _) rfl (off_row74 _ 47 (by omega))) $$ HS
  iintro HS
  simp only [ret_bind']
  iapply (wp_tok c (74 * (i 1).val + 48) (off_tok74 _ 48 (by omega))) $$ H5
  iintro H5
  iapply (wp_assume Variants.none (c : Thread nD τ) none Set.univ (fun _ => row_inb _ (hX _)))
  simp only [ret_bind']
  iapply (wp_done c)
  iapply HQ
  isplitl [HS] <;> iassumption

set_option maxHeartbeats 4000000 in
/-- Part 14: copies 48 to 51 of the step. -/
theorem wp_part14 {Q : BitVec 32 → sProp 𝕄} {hb : HBuf F} {X : S1x1x1024.Idx → BitVec 32} (hX : ∀ x, (X x).toNat < 32768) (h4 : k0_cond4 i v0 = 1#1) (hw : k0_chk51 i v0 (words X (74 * (i 1).val + 48))) :
    iprop(Stage c hb (words X) (74 * (i 1).val + 48) ∗ owns (c : Thread nD τ) arg5 fullShare X)
      ⊢ iprop((∀ v, iprop(Stage c hb (words X) (74 * (i 1).val + 52) ∗ owns (c : Thread nD τ) arg5 fullShare X) -∗ Q v) -∗ wpc c (k0_part14 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 (words X (74 * (i 1).val + 48)) hw) Q) := by
  rw [k0_part14_eq_skeleton]
  unfold k0_part14_skel
  have hi := lt74 i
  iintro ⟨HS, H5⟩ HQ
  iapply (wp_start c (74 * (i 1).val + 48) (by omega) (hX _) rfl (off_row74 _ 48 (by omega))) $$ HS
  iintro HS
  simp only [ret_bind']
  iapply (wp_tok c (74 * (i 1).val + 49) (off_tok74 _ 49 (by omega))) $$ H5
  iintro H5
  iapply (wp_assume Variants.none (c : Thread nD τ) none Set.univ (fun _ => row_inb _ (hX _)))
  simp only [ret_bind']
  iapply (wp_start c (74 * (i 1).val + 49) (by omega) (hX _) rfl (off_row74 _ 49 (by omega))) $$ HS
  iintro HS
  simp only [ret_bind']
  iapply (wp_tok c (74 * (i 1).val + 50) (off_tok74 _ 50 (by omega))) $$ H5
  iintro H5
  iapply (wp_assume Variants.none (c : Thread nD τ) none Set.univ (fun _ => row_inb _ (hX _)))
  simp only [ret_bind']
  iapply (wp_start c (74 * (i 1).val + 50) (by omega) (hX _) rfl (off_row74 _ 50 (by omega))) $$ HS
  iintro HS
  simp only [ret_bind']
  iapply (wp_tok c (74 * (i 1).val + 51) (off_tok74 _ 51 (by omega))) $$ H5
  iintro H5
  iapply (wp_assume Variants.none (c : Thread nD τ) none Set.univ (fun _ => row_inb _ (hX _)))
  simp only [ret_bind']
  iapply (wp_start c (74 * (i 1).val + 51) (by omega) (hX _) rfl (off_row74 _ 51 (by omega))) $$ HS
  iintro HS
  simp only [ret_bind']
  iapply (wp_done c)
  iapply HQ
  isplitl [HS] <;> iassumption

set_option maxHeartbeats 4000000 in
/-- Part 15: copies 52 to 55 of the step. -/
theorem wp_part15 {Q : BitVec 32 → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 52) ∗ owns (c : Thread nD τ) arg5 fullShare X)
      ⊢ iprop((∀ v, iprop(Stage c hb (words X) (74 * (i 1).val + 56) ∗ owns (c : Thread nD τ) arg5 fullShare X) -∗ Q v) -∗ wpc c (k0_part15 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part15_eq_skeleton]
  unfold k0_part15_skel
  have hi := lt74 i
  iintro ⟨HS, H5⟩ HQ
  iapply (wp_tok c (74 * (i 1).val + 52) (off_tok74 _ 52 (by omega))) $$ H5
  iintro H5
  iapply (wp_assume Variants.none (c : Thread nD τ) none Set.univ (fun _ => row_inb _ (hX _)))
  simp only [ret_bind']
  iapply (wp_start c (74 * (i 1).val + 52) (by omega) (hX _) rfl (off_row74 _ 52 (by omega))) $$ HS
  iintro HS
  simp only [ret_bind']
  iapply (wp_tok c (74 * (i 1).val + 53) (off_tok74 _ 53 (by omega))) $$ H5
  iintro H5
  iapply (wp_assume Variants.none (c : Thread nD τ) none Set.univ (fun _ => row_inb _ (hX _)))
  simp only [ret_bind']
  iapply (wp_start c (74 * (i 1).val + 53) (by omega) (hX _) rfl (off_row74 _ 53 (by omega))) $$ HS
  iintro HS
  simp only [ret_bind']
  iapply (wp_tok c (74 * (i 1).val + 54) (off_tok74 _ 54 (by omega))) $$ H5
  iintro H5
  iapply (wp_assume Variants.none (c : Thread nD τ) none Set.univ (fun _ => row_inb _ (hX _)))
  simp only [ret_bind']
  iapply (wp_start c (74 * (i 1).val + 54) (by omega) (hX _) rfl (off_row74 _ 54 (by omega))) $$ HS
  iintro HS
  simp only [ret_bind']
  iapply (wp_tok c (74 * (i 1).val + 55) (off_tok74 _ 55 (by omega))) $$ H5
  iintro H5
  iapply (wp_assume Variants.none (c : Thread nD τ) none Set.univ (fun _ => row_inb _ (hX _)))
  simp only [ret_bind']
  iapply (wp_start c (74 * (i 1).val + 55) (by omega) (hX _) rfl (off_row74 _ 55 (by omega))) $$ HS
  iintro HS
  simp only [ret_bind']
  iapply (wp_done c)
  iapply HQ
  isplitl [HS] <;> iassumption

set_option maxHeartbeats 4000000 in
/-- Part 16: copies 56 to 59 of the step. -/
theorem wp_part16 {Q : PUnit → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 56) ∗ owns (c : Thread nD τ) arg5 fullShare X)
      ⊢ iprop((iprop(Stage c hb (words X) (74 * (i 1).val + 60) ∗ owns (c : Thread nD τ) arg5 fullShare X) -∗ Q ⟨⟩) -∗ wpc c (k0_part16 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part16_eq_skeleton]
  unfold k0_part16_skel
  have hi := lt74 i
  iintro ⟨HS, H5⟩ HQ
  iapply (wp_tok c (74 * (i 1).val + 56) (off_tok74 _ 56 (by omega))) $$ H5
  iintro H5
  iapply (wp_assume Variants.none (c : Thread nD τ) none Set.univ (fun _ => row_inb _ (hX _)))
  simp only [ret_bind']
  iapply (wp_start c (74 * (i 1).val + 56) (by omega) (hX _) rfl (off_row74 _ 56 (by omega))) $$ HS
  iintro HS
  simp only [ret_bind']
  iapply (wp_tok c (74 * (i 1).val + 57) (off_tok74 _ 57 (by omega))) $$ H5
  iintro H5
  iapply (wp_assume Variants.none (c : Thread nD τ) none Set.univ (fun _ => row_inb _ (hX _)))
  simp only [ret_bind']
  iapply (wp_start c (74 * (i 1).val + 57) (by omega) (hX _) rfl (off_row74 _ 57 (by omega))) $$ HS
  iintro HS
  simp only [ret_bind']
  iapply (wp_tok c (74 * (i 1).val + 58) (off_tok74 _ 58 (by omega))) $$ H5
  iintro H5
  iapply (wp_assume Variants.none (c : Thread nD τ) none Set.univ (fun _ => row_inb _ (hX _)))
  simp only [ret_bind']
  iapply (wp_start c (74 * (i 1).val + 58) (by omega) (hX _) rfl (off_row74 _ 58 (by omega))) $$ HS
  iintro HS
  simp only [ret_bind']
  iapply (wp_tok c (74 * (i 1).val + 59) (off_tok74 _ 59 (by omega))) $$ H5
  iintro H5
  iapply (wp_assume Variants.none (c : Thread nD τ) none Set.univ (fun _ => row_inb _ (hX _)))
  simp only [ret_bind']
  iapply (wp_start c (74 * (i 1).val + 59) (by omega) (hX _) rfl (off_row74 _ 59 (by omega))) $$ HS
  iintro HS
  simp only [ret_bind']
  iapply (wp_done c)
  iapply HQ
  isplitl [HS] <;> iassumption

set_option maxHeartbeats 4000000 in
/-- Part 17: copies 60 to 62 of the step. -/
theorem wp_part17 {Q : (Σ' (v : BitVec 32), k0_chk66 i v0 v) → sProp 𝕄} {hb : HBuf F} {X : S1x1x1024.Idx → BitVec 32} (hX : ∀ x, (X x).toNat < 32768) (h4 : k0_cond4 i v0 = 1#1) :
    iprop(Stage c hb (words X) (74 * (i 1).val + 60) ∗ owns (c : Thread nD τ) arg5 fullShare X)
      ⊢ iprop((∀ h : k0_chk66 i v0 (words X (74 * (i 1).val + 63)), iprop(Stage c hb (words X) (74 * (i 1).val + 63) ∗ owns (c : Thread nD τ) arg5 fullShare X) -∗ Q ⟨words X (74 * (i 1).val + 63), h⟩) -∗ wpc c (k0_part17 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4) Q) := by
  rw [k0_part17_eq_skeleton]
  unfold k0_part17_skel
  have hi := lt74 i
  iintro ⟨HS, H5⟩ HQ
  iapply (wp_tok c (74 * (i 1).val + 60) (off_tok74 _ 60 (by omega))) $$ H5
  iintro H5
  iapply (wp_assume Variants.none (c : Thread nD τ) none Set.univ (fun _ => row_inb _ (hX _)))
  simp only [ret_bind']
  iapply (wp_start c (74 * (i 1).val + 60) (by omega) (hX _) rfl (off_row74 _ 60 (by omega))) $$ HS
  iintro HS
  simp only [ret_bind']
  iapply (wp_tok c (74 * (i 1).val + 61) (off_tok74 _ 61 (by omega))) $$ H5
  iintro H5
  iapply (wp_assume Variants.none (c : Thread nD τ) none Set.univ (fun _ => row_inb _ (hX _)))
  simp only [ret_bind']
  iapply (wp_start c (74 * (i 1).val + 61) (by omega) (hX _) rfl (off_row74 _ 61 (by omega))) $$ HS
  iintro HS
  simp only [ret_bind']
  iapply (wp_tok c (74 * (i 1).val + 62) (off_tok74 _ 62 (by omega))) $$ H5
  iintro H5
  iapply (wp_assume Variants.none (c : Thread nD τ) none Set.univ (fun _ => row_inb _ (hX _)))
  simp only [ret_bind']
  iapply (wp_start c (74 * (i 1).val + 62) (by omega) (hX _) rfl (off_row74 _ 62 (by omega))) $$ HS
  iintro HS
  simp only [ret_bind']
  iapply (wp_tok c (74 * (i 1).val + 63) (off_tok74 _ 63 (by omega))) $$ H5
  iintro H5
  iapply (wp_assume Variants.none (c : Thread nD τ) none Set.univ (fun _ => row_inb _ (hX _)))
  simp only [ret_bind']
  iapply (wp_done c)
  iapply HQ
  isplitl [HS] <;> iassumption

set_option maxHeartbeats 4000000 in
/-- Part 18: copies 63 to 66 of the step. -/
theorem wp_part18 {Q : BitVec 32 → sProp 𝕄} {hb : HBuf F} {X : S1x1x1024.Idx → BitVec 32} (hX : ∀ x, (X x).toNat < 32768) (h4 : k0_cond4 i v0 = 1#1) (hw : k0_chk66 i v0 (words X (74 * (i 1).val + 63))) :
    iprop(Stage c hb (words X) (74 * (i 1).val + 63) ∗ owns (c : Thread nD τ) arg5 fullShare X)
      ⊢ iprop((∀ v, iprop(Stage c hb (words X) (74 * (i 1).val + 67) ∗ owns (c : Thread nD τ) arg5 fullShare X) -∗ Q v) -∗ wpc c (k0_part18 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 (words X (74 * (i 1).val + 63)) hw) Q) := by
  rw [k0_part18_eq_skeleton]
  unfold k0_part18_skel
  have hi := lt74 i
  iintro ⟨HS, H5⟩ HQ
  iapply (wp_start c (74 * (i 1).val + 63) (by omega) (hX _) rfl (off_row74 _ 63 (by omega))) $$ HS
  iintro HS
  simp only [ret_bind']
  iapply (wp_tok c (74 * (i 1).val + 64) (off_tok74 _ 64 (by omega))) $$ H5
  iintro H5
  iapply (wp_assume Variants.none (c : Thread nD τ) none Set.univ (fun _ => row_inb _ (hX _)))
  simp only [ret_bind']
  iapply (wp_start c (74 * (i 1).val + 64) (by omega) (hX _) rfl (off_row74 _ 64 (by omega))) $$ HS
  iintro HS
  simp only [ret_bind']
  iapply (wp_tok c (74 * (i 1).val + 65) (off_tok74 _ 65 (by omega))) $$ H5
  iintro H5
  iapply (wp_assume Variants.none (c : Thread nD τ) none Set.univ (fun _ => row_inb _ (hX _)))
  simp only [ret_bind']
  iapply (wp_start c (74 * (i 1).val + 65) (by omega) (hX _) rfl (off_row74 _ 65 (by omega))) $$ HS
  iintro HS
  simp only [ret_bind']
  iapply (wp_tok c (74 * (i 1).val + 66) (off_tok74 _ 66 (by omega))) $$ H5
  iintro H5
  iapply (wp_assume Variants.none (c : Thread nD τ) none Set.univ (fun _ => row_inb _ (hX _)))
  simp only [ret_bind']
  iapply (wp_start c (74 * (i 1).val + 66) (by omega) (hX _) rfl (off_row74 _ 66 (by omega))) $$ HS
  iintro HS
  simp only [ret_bind']
  iapply (wp_done c)
  iapply HQ
  isplitl [HS] <;> iassumption

set_option maxHeartbeats 4000000 in
/-- Part 19: copies 67 to 70 of the step. -/
theorem wp_part19 {Q : BitVec 32 → sProp 𝕄} {hb : HBuf F} {X : S1x1x1024.Idx → BitVec 32} (hX : ∀ x, (X x).toNat < 32768) (h4 : k0_cond4 i v0 = 1#1) (u : BitVec 32) :
    iprop(Stage c hb (words X) (74 * (i 1).val + 67) ∗ owns (c : Thread nD τ) arg5 fullShare X)
      ⊢ iprop((∀ v, iprop(Stage c hb (words X) (74 * (i 1).val + 71) ∗ owns (c : Thread nD τ) arg5 fullShare X) -∗ Q v) -∗ wpc c (k0_part19 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part19_eq_skeleton]
  unfold k0_part19_skel
  have hi := lt74 i
  iintro ⟨HS, H5⟩ HQ
  iapply (wp_tok c (74 * (i 1).val + 67) (off_tok74 _ 67 (by omega))) $$ H5
  iintro H5
  iapply (wp_assume Variants.none (c : Thread nD τ) none Set.univ (fun _ => row_inb _ (hX _)))
  simp only [ret_bind']
  iapply (wp_start c (74 * (i 1).val + 67) (by omega) (hX _) rfl (off_row74 _ 67 (by omega))) $$ HS
  iintro HS
  simp only [ret_bind']
  iapply (wp_tok c (74 * (i 1).val + 68) (off_tok74 _ 68 (by omega))) $$ H5
  iintro H5
  iapply (wp_assume Variants.none (c : Thread nD τ) none Set.univ (fun _ => row_inb _ (hX _)))
  simp only [ret_bind']
  iapply (wp_start c (74 * (i 1).val + 68) (by omega) (hX _) rfl (off_row74 _ 68 (by omega))) $$ HS
  iintro HS
  simp only [ret_bind']
  iapply (wp_tok c (74 * (i 1).val + 69) (off_tok74 _ 69 (by omega))) $$ H5
  iintro H5
  iapply (wp_assume Variants.none (c : Thread nD τ) none Set.univ (fun _ => row_inb _ (hX _)))
  simp only [ret_bind']
  iapply (wp_start c (74 * (i 1).val + 69) (by omega) (hX _) rfl (off_row74 _ 69 (by omega))) $$ HS
  iintro HS
  simp only [ret_bind']
  iapply (wp_tok c (74 * (i 1).val + 70) (off_tok74 _ 70 (by omega))) $$ H5
  iintro H5
  iapply (wp_assume Variants.none (c : Thread nD τ) none Set.univ (fun _ => row_inb _ (hX _)))
  simp only [ret_bind']
  iapply (wp_start c (74 * (i 1).val + 70) (by omega) (hX _) rfl (off_row74 _ 70 (by omega))) $$ HS
  iintro HS
  simp only [ret_bind']
  iapply (wp_done c)
  iapply HQ
  isplitl [HS] <;> iassumption

set_option maxHeartbeats 4000000 in
/-- Part 20: copies 71 to 73 of the step. -/
theorem wp_part20 {Q : (Σ' (v526 : FVec F S1024x2048 .f32) (v527 : Vec F S1024x2048 .bf16) (v529 : FVec F S2048x512 .bf16), Vec F S1x2048x512 .bf16) → sProp 𝕄} {hb : HBuf F} {X : S1x1x1024.Idx → BitVec 32} {Y : Vec F S1024x2048 .f32} {Z : Vec F S1024x2048 .bf16} {B2 B3 : Vec F S1x2048x512 .bf16} (hX : ∀ x, (X x).toNat < 32768) (h4 : k0_cond4 i v0 = 1#1) (u : BitVec 32) :
    iprop(Stage c hb (words X) (74 * (i 1).val + 71) ∗ owns (c : Thread nD τ) arg5 fullShare X ∗ owns (c : Thread nD τ) arg10 fullShare Y ∗ owns (c : Thread nD τ) arg12 fullShare Z ∗ owns (c : Thread nD τ) arg7 fullShare B2 ∗ owns (c : Thread nD τ) arg8 fullShare B3)
      ⊢ iprop((iprop(Stage c hb (words X) (74 * (i 1).val + 74) ∗ owns (c : Thread nD τ) arg5 fullShare X ∗ owns (c : Thread nD τ) arg10 fullShare Y ∗ owns (c : Thread nD τ) arg12 fullShare Z ∗ owns (c : Thread nD τ) arg7 fullShare B2 ∗ owns (c : Thread nD τ) arg8 fullShare B3) -∗ Q ⟨k0_pay4 Y, Z, k0_pay5 B2, B3⟩) -∗ wpc c (k0_part20 (F := F) i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u) Q) := by
  rw [k0_part20_eq_skeleton]
  unfold k0_part20_skel
  have hi := lt74 i
  iintro ⟨HS, H5, H10, H12, H7, H8⟩ HQ
  iapply (wp_tok c (74 * (i 1).val + 71) (off_tok74 _ 71 (by omega))) $$ H5
  iintro H5
  iapply (wp_assume Variants.none (c : Thread nD τ) none Set.univ (fun _ => row_inb _ (hX _)))
  simp only [ret_bind']
  iapply (wp_start c (74 * (i 1).val + 71) (by omega) (hX _) rfl (off_row74 _ 71 (by omega))) $$ HS
  iintro HS
  simp only [ret_bind']
  iapply (wp_tok c (74 * (i 1).val + 72) (off_tok74 _ 72 (by omega))) $$ H5
  iintro H5
  iapply (wp_assume Variants.none (c : Thread nD τ) none Set.univ (fun _ => row_inb _ (hX _)))
  simp only [ret_bind']
  iapply (wp_start c (74 * (i 1).val + 72) (by omega) (hX _) rfl (off_row74 _ 72 (by omega))) $$ HS
  iintro HS
  simp only [ret_bind']
  iapply (wp_tok c (74 * (i 1).val + 73) (off_tok74 _ 73 (by omega))) $$ H5
  iintro H5
  iapply (wp_assume Variants.none (c : Thread nD τ) none Set.univ (fun _ => row_inb _ (hX _)))
  simp only [ret_bind']
  iapply (wp_start c (74 * (i 1).val + 73) (by omega) (hX _) rfl (off_row74 _ 73 (by omega))) $$ HS
  iintro HS
  simp only [ret_bind']
  iapply (wp_loadWhole c off00) $$ H10
  iintro H10
  iapply (wp_loadWhole c off00) $$ H12
  iintro H12
  iapply (wp_loadWhole c off000) $$ H7
  iintro H7
  iapply (wp_loadWhole c off000) $$ H8
  iintro H8
  iapply (wp_done c)
  iapply HQ
  isplitl [HS]; · iexact HS
  isplitl [H5]; · iexact H5
  isplitl [H10]; · iexact H10
  isplitl [H12]; · iexact H12
  isplitl [H7] <;> iassumption

end Parts

end Cert.KernelIdeal.Hand
-- ==== Proof.Body.lean ====
/-
  The body of the routed expert call, by its cases: the first step, the first step of a later tile, the first step of a
  tile past the used ones, and every other step; then the step's copies and its share of the expert's product, or neither.
-/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Body

variable (c : Dev nD) (i : grid0.Coords)
  (arg2 : Memref sig .tc .smem S73 .i32) (harg2 : arg2.IsWhole) (arg3 : Memref sig .tc .smem S1 .i32) (harg3 : arg3.IsWhole)
  (arg4 : Memref sig .tc .smem S1x1x1024 .i32) (harg4 : arg4.IsWhole) (arg5 : Memref sig .tc .smem S1x1x1024 .i32) (harg5 : arg5.IsWhole)
  (arg7 : Memref sig .tc .vmem S1x2048x512 .bf16) (harg7 : arg7.IsWhole) (arg8 : Memref sig .tc .vmem S1x2048x512 .bf16) (harg8 : arg8.IsWhole)
  (arg9 : Memref sig .tc .vmem S1x512x2048 .bf16) (harg9 : arg9.IsWhole) (arg10 : Memref sig .tc .vmem S1024x2048 .f32) (harg10 : arg10.IsWhole)
  (arg12 : Memref sig .tc .vmem S1024x2048 .bf16) (harg12 : arg12.IsWhole)

theorem wp_seq {β γ : Type} {p : Prog (TpuEff nD τ sig (Elt F) Λ₀ .tc) β} {k : β → Prog (TpuEff nD τ sig (Elt F) Λ₀ .tc) γ} {Q : γ → sProp 𝕄} :
    wpc c p (fun a => wpc c (k a) Q) ⊢ wpc c (p >>= k) Q :=
  ent_of_eq (wp_bind _ _ _ p k Q).symm

/-- What a step does past its copies' waits: the starts of its copies and its share of the product. -/
def tailP (arg1 v0 : BitVec 32) (h4 : k0_cond4 i v0 = 1#1) : Prog (TpuEff nD τ sig (Elt F) Λ₀ .tc) PUnit := do
  let w1 ← k0_part1 i arg2 harg2 arg3 harg3 arg4 harg4 arg5 harg5 hM (Memref.isWhole_whole _) arg7 harg7 arg8 harg8 arg9 harg9 arg10 harg10 xM (Memref.isWhole_whole _) arg12 harg12 cc0_scratch2 arg1 v0 h4
  let u2 ← k0_part2 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 w1.1 w1.2
  let u3 ← k0_part3 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u2
  k0_part4 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u3
  let w5 ← k0_part5 i arg2 harg2 arg3 harg3 arg4 harg4 arg5 harg5 hM (Memref.isWhole_whole _) arg7 harg7 arg8 harg8 arg9 harg9 arg10 harg10 xM (Memref.isWhole_whole _) arg12 harg12 cc0_scratch2 arg1 v0 h4
  let u6 ← k0_part6 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 w5.1 w5.2
  let u7 ← k0_part7 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u6
  k0_part8 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u7
  let w9 ← k0_part9 i arg2 harg2 arg3 harg3 arg4 harg4 arg5 harg5 hM (Memref.isWhole_whole _) arg7 harg7 arg8 harg8 arg9 harg9 arg10 harg10 xM (Memref.isWhole_whole _) arg12 harg12 cc0_scratch2 arg1 v0 h4
  let u10 ← k0_part10 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 w9.1 w9.2
  let u11 ← k0_part11 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u10
  k0_part12 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u11
  let w13 ← k0_part13 i arg2 harg2 arg3 harg3 arg4 harg4 arg5 harg5 hM (Memref.isWhole_whole _) arg7 harg7 arg8 harg8 arg9 harg9 arg10 harg10 xM (Memref.isWhole_whole _) arg12 harg12 cc0_scratch2 arg1 v0 h4
  let u14 ← k0_part14 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 w13.1 w13.2
  let u15 ← k0_part15 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u14
  k0_part16 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u15
  let w17 ← k0_part17 i arg2 harg2 arg3 harg3 arg4 harg4 arg5 harg5 hM (Memref.isWhole_whole _) arg7 harg7 arg8 harg8 arg9 harg9 arg10 harg10 xM (Memref.isWhole_whole _) arg12 harg12 cc0_scratch2 arg1 v0 h4
  let u18 ← k0_part18 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 w17.1 w17.2
  let u19 ← k0_part19 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u18
  let r ← k0_part20 i arg2 harg2 arg3 harg3 arg4 harg4 arg5 harg5 hM (Memref.isWhole_whole _) arg7 harg7 arg8 harg8 arg9 harg9 arg10 harg10 xM (Memref.isWhole_whole _) arg12 harg12 cc0_scratch2 arg1 v0 h4 u19
  let v532 : Vec F S1x512x2048 .bf16 ← Prog.lift (.load arg9 (Rect.unit (s := S1x512x2048) ![0, 0, 0] S1x512x2048.size inb_S1x512x2048_S1x512x2048_0_0_0).toLoadRect (View.loadsAt_vmem h_S1x512x2048))
  let v546 : Vec F S1024x2048 .f32 ← Prog.lift (.load arg10 (Rect.unit (s := S1024x2048) ![0, 0] S1024x2048.size inb_S1024x2048_S1024x2048_0_0).toLoadRect (View.loadsAt_vmem h_S1024x2048))
  Prog.lift (.store arg10 (Rect.unit (s := S1024x2048) ![0, 0] S1024x2048.size inb_S1024x2048_S1024x2048_0_0) (k0_pay3 r.1 r.2.1 r.2.2.1 r.2.2.2 v532) Finset.univ (View.stores_vmem_bits_univ h_S1024x2048 rfl) (.inl rfl))
  pure ⟨⟩

def restP (v0 : BitVec 32) : Prog (TpuEff nD τ sig (Elt F) Λ₀ .tc) PUnit :=
  if h4 : k0_cond4 i v0 = 1#1 then tailP (F := F) i arg2 harg2 arg3 harg3 arg4 harg4 arg5 harg5 arg7 harg7 arg8 harg8 arg9 harg9 arg10 harg10 arg12 harg12  (BitVec.ofNat 32 (i 1).val) v0 h4 else pure ⟨⟩

set_option maxHeartbeats 4000000 in
/-- The step's copies started and its product added. -/
theorem wp_tailP {Q : PUnit → sProp 𝕄} {hb : HBuf F} {X : S1x1x1024.Idx → BitVec 32} {Y : Vec F S1024x2048 .f32} {Z : Vec F S1024x2048 .bf16} {B2 B3 : Vec F S1x2048x512 .bf16}
    {B4 : Vec F S1x512x2048 .bf16} (hX : ∀ x, (X x).toNat < 32768) (arg1 v0 : BitVec 32) (h4 : k0_cond4 i v0 = 1#1) :
    iprop(Stage c hb (words X) (74 * (i 1).val + 0) ∗ owns (c : Thread nD τ) arg5 fullShare X ∗ owns (c : Thread nD τ) arg10 fullShare Y ∗ owns (c : Thread nD τ) arg12 fullShare Z ∗ owns (c : Thread nD τ) arg7 fullShare B2 ∗ owns (c : Thread nD τ) arg8 fullShare B3 ∗ owns (c : Thread nD τ) arg9 fullShare B4)
      ⊢ iprop((iprop(Stage c hb (words X) (74 * (i 1).val + 74) ∗ owns (c : Thread nD τ) arg5 fullShare X ∗ owns (c : Thread nD τ) arg10 fullShare (k0_pay3 (k0_pay4 Y) Z (k0_pay5 B2) B3 B4) ∗ owns (c : Thread nD τ) arg12 fullShare Z ∗ owns (c : Thread nD τ) arg7 fullShare B2 ∗ owns (c : Thread nD τ) arg8 fullShare B3 ∗ owns (c : Thread nD τ) arg9 fullShare B4) -∗ Q ⟨⟩)
        -∗ wpc c (tailP (F := F) i arg2 harg2 arg3 harg3 arg4 harg4 arg5 harg5 arg7 harg7 arg8 harg8 arg9 harg9 arg10 harg10 arg12 harg12 arg1 v0 h4) Q) := by
  unfold tailP
  iintro ⟨HS, H5, H10, H12, H7, H8, H9⟩ HQ
  iapply (wp_seq c)
  iapply (wp_part1 c i arg2 harg2 arg3 harg3 arg4 harg4 arg5 harg5 arg7 harg7 arg8 harg8 arg9 harg9 arg10 harg10 arg12 harg12 arg1 v0 hX h4) $$ [HS H5]
  · isplitl [HS] <;> iassumption
  iintro %hw ⟨HS, H5⟩
  iapply (wp_seq c)
  iapply (wp_part2 c i arg2 harg2 arg3 harg3 arg4 harg4 arg5 harg5 arg7 harg7 arg8 harg8 arg9 harg9 arg10 harg10 arg12 harg12 arg1 v0 hX h4 hw) $$ [HS H5]
  · isplitl [HS] <;> iassumption
  iintro %_ ⟨HS, H5⟩
  iapply (wp_seq c)
  iapply (wp_part3 c i arg2 harg2 arg3 harg3 arg4 harg4 arg5 harg5 arg7 harg7 arg8 harg8 arg9 harg9 arg10 harg10 arg12 harg12 arg1 v0 hX h4 _) $$ [HS H5]
  · isplitl [HS] <;> iassumption
  iintro %_ ⟨HS, H5⟩
  iapply (wp_seq c)
  iapply (wp_part4 c i arg2 harg2 arg3 harg3 arg4 harg4 arg5 harg5 arg7 harg7 arg8 harg8 arg9 harg9 arg10 harg10 arg12 harg12 arg1 v0 hX h4 _) $$ [HS H5]
  · isplitl [HS] <;> iassumption
  iintro ⟨HS, H5⟩
  iapply (wp_seq c)
  iapply (wp_part5 c i arg2 harg2 arg3 harg3 arg4 harg4 arg5 harg5 arg7 harg7 arg8 harg8 arg9 harg9 arg10 harg10 arg12 harg12 arg1 v0 hX h4) $$ [HS H5]
  · isplitl [HS] <;> iassumption
  iintro %hw ⟨HS, H5⟩
  iapply (wp_seq c)
  iapply (wp_part6 c i arg2 harg2 arg3 harg3 arg4 harg4 arg5 harg5 arg7 harg7 arg8 harg8 arg9 harg9 arg10 harg10 arg12 harg12 arg1 v0 hX h4 hw) $$ [HS H5]
  · isplitl [HS] <;> iassumption
  iintro %_ ⟨HS, H5⟩
  iapply (wp_seq c)
  iapply (wp_part7 c i arg2 harg2 arg3 harg3 arg4 harg4 arg5 harg5 arg7 harg7 arg8 harg8 arg9 harg9 arg10 harg10 arg12 harg12 arg1 v0 hX h4 _) $$ [HS H5]
  · isplitl [HS] <;> iassumption
  iintro %_ ⟨HS, H5⟩
  iapply (wp_seq c)
  iapply (wp_part8 c i arg2 harg2 arg3 harg3 arg4 harg4 arg5 harg5 arg7 harg7 arg8 harg8 arg9 harg9 arg10 harg10 arg12 harg12 arg1 v0 hX h4 _) $$ [HS H5]
  · isplitl [HS] <;> iassumption
  iintro ⟨HS, H5⟩
  iapply (wp_seq c)
  iapply (wp_part9 c i arg2 harg2 arg3 harg3 arg4 harg4 arg5 harg5 arg7 harg7 arg8 harg8 arg9 harg9 arg10 harg10 arg12 harg12 arg1 v0 hX h4) $$ [HS H5]
  · isplitl [HS] <;> iassumption
  iintro %hw ⟨HS, H5⟩
  iapply (wp_seq c)
  iapply (wp_part10 c i arg2 harg2 arg3 harg3 arg4 harg4 arg5 harg5 arg7 harg7 arg8 harg8 arg9 harg9 arg10 harg10 arg12 harg12 arg1 v0 hX h4 hw) $$ [HS H5]
  · isplitl [HS] <;> iassumption
  iintro %_ ⟨HS, H5⟩
  iapply (wp_seq c)
  iapply (wp_part11 c i arg2 harg2 arg3 harg3 arg4 harg4 arg5 harg5 arg7 harg7 arg8 harg8 arg9 harg9 arg10 harg10 arg12 harg12 arg1 v0 hX h4 _) $$ [HS H5]
  · isplitl [HS] <;> iassumption
  iintro %_ ⟨HS, H5⟩
  iapply (wp_seq c)
  iapply (wp_part12 c i arg2 harg2 arg3 harg3 arg4 harg4 arg5 harg5 arg7 harg7 arg8 harg8 arg9 harg9 arg10 harg10 arg12 harg12 arg1 v0 hX h4 _) $$ [HS H5]
  · isplitl [HS] <;> iassumption
  iintro ⟨HS, H5⟩
  iapply (wp_seq c)
  iapply (wp_part13 c i arg2 harg2 arg3 harg3 arg4 harg4 arg5 harg5 arg7 harg7 arg8 harg8 arg9 harg9 arg10 harg10 arg12 harg12 arg1 v0 hX h4) $$ [HS H5]
  · isplitl [HS] <;> iassumption
  iintro %hw ⟨HS, H5⟩
  iapply (wp_seq c)
  iapply (wp_part14 c i arg2 harg2 arg3 harg3 arg4 harg4 arg5 harg5 arg7 harg7 arg8 harg8 arg9 harg9 arg10 harg10 arg12 harg12 arg1 v0 hX h4 hw) $$ [HS H5]
  · isplitl [HS] <;> iassumption
  iintro %_ ⟨HS, H5⟩
  iapply (wp_seq c)
  iapply (wp_part15 c i arg2 harg2 arg3 harg3 arg4 harg4 arg5 harg5 arg7 harg7 arg8 harg8 arg9 harg9 arg10 harg10 arg12 harg12 arg1 v0 hX h4 _) $$ [HS H5]
  · isplitl [HS] <;> iassumption
  iintro %_ ⟨HS, H5⟩
  iapply (wp_seq c)
  iapply (wp_part16 c i arg2 harg2 arg3 harg3 arg4 harg4 arg5 harg5 arg7 harg7 arg8 harg8 arg9 harg9 arg10 harg10 arg12 harg12 arg1 v0 hX h4 _) $$ [HS H5]
  · isplitl [HS] <;> iassumption
  iintro ⟨HS, H5⟩
  iapply (wp_seq c)
  iapply (wp_part17 c i arg2 harg2 arg3 harg3 arg4 harg4 arg5 harg5 arg7 harg7 arg8 harg8 arg9 harg9 arg10 harg10 arg12 harg12 arg1 v0 hX h4) $$ [HS H5]
  · isplitl [HS] <;> iassumption
  iintro %hw ⟨HS, H5⟩
  iapply (wp_seq c)
  iapply (wp_part18 c i arg2 harg2 arg3 harg3 arg4 harg4 arg5 harg5 arg7 harg7 arg8 harg8 arg9 harg9 arg10 harg10 arg12 harg12 arg1 v0 hX h4 hw) $$ [HS H5]
  · isplitl [HS] <;> iassumption
  iintro %_ ⟨HS, H5⟩
  iapply (wp_seq c)
  iapply (wp_part19 c i arg2 harg2 arg3 harg3 arg4 harg4 arg5 harg5 arg7 harg7 arg8 harg8 arg9 harg9 arg10 harg10 arg12 harg12 arg1 v0 hX h4 _) $$ [HS H5]
  · isplitl [HS] <;> iassumption
  iintro %_ ⟨HS, H5⟩
  iapply (wp_seq c)
  iapply (wp_part20 c i arg2 harg2 arg3 harg3 arg4 harg4 arg5 harg5 arg7 harg7 arg8 harg8 arg9 harg9 arg10 harg10 arg12 harg12 arg1 v0 hX h4 _) $$ [HS H5 H10 H12 H7 H8]
  · isplitl [HS]; · iexact HS
    isplitl [H5]; · iexact H5
    isplitl [H10]; · iexact H10
    isplitl [H12]; · iexact H12
    isplitl [H7] <;> iassumption
  iintro ⟨HS, H5, H10, H12, H7, H8⟩
  iapply (wp_loadWhole c off000) $$ H9
  iintro H9
  simp only [ret_bind']
  iapply (wp_loadWhole c off00) $$ H10
  iintro H10
  simp only [ret_bind']
  iapply (wp_storeOwn c off00) $$ H10
  iintro H10
  simp only [ret_bind']
  iapply (wp_done c)
  iapply HQ
  isplitl [HS]; · iexact HS
  isplitl [H5]; · iexact H5
  isplitl [H10]; · iexact H10
  isplitl [H12]; · iexact H12
  isplitl [H7]; · iexact H7
  isplitl [H8] <;> iassumption

/-- The word of the one-word table. -/
def word1 (T : S1.Idx → BitVec 32) : BitVec 32 := T (Shape.Idx.first (s := S1) (by decide))

theorem wp_word {Q : PUnit → sProp 𝕄} {m : Memref sig .tc .smem S1 .i32} {inb} {h1} {hp}
    {k : Elt F .i32 → Prog (TpuEff nD τ sig (Elt F) Λ₀ .tc) PUnit} {q : PosShare TreeShare} {T : S1.Idx → Elt F .i32} :
    (owns (c : Thread nD τ) m q T : sProp 𝕄)
      ⊢ iprop((owns (c : Thread nD τ) m q T -∗ wpc c (k (word1 T)) Q)
        -∗ wpc c ((smemLoad m (Rect.unit (s := S1) ![0] S1.size inb) h1 hp).bind k) Q) := by
  iintro H Hk
  iapply (wp_loadOwn c (m := m) (r := Rect.unit (s := S1) ![0] S1.size inb) (X := T) (q := q)
    (k := fun f => k (f (Shape.Idx.first (h1.symm ▸ Nat.one_pos))))) $$ H
  iintro H
  have e : (Rect.unit (s := S1) ![0] S1.size inb).toLoadRect.idx (Shape.Idx.first (h1.symm ▸ Nat.one_pos)) = Shape.Idx.first (s := S1) (by decide) := by
    funext a
    match a with
    | 0 => rfl
  have e' : T ((Rect.unit (s := S1) ![0] S1.size inb).toLoadRect.idx (Shape.Idx.first (h1.symm ▸ Nat.one_pos))) = word1 T := congrArg T e
  simp only [e']
  iapply Hk $$ H

/-- The expert's input block: the first 1024 gathered rows, rounded as the kernel rounds them. -/
def xbOf (x : XBuf F) : Vec F S1024x2048 .bf16 :=
  k0_pay2 fun p => x ((Rect.unit (s := S1036x2048) ![0, 0] S1024x2048.size inb_S1036x2048_S1024x2048_0_0).toLoadRect.idx p)

set_option maxHeartbeats 4000000 in
/-- The first step of all: the first tile gathered at once. -/
theorem wp_first {Q : PUnit → sProp 𝕄} {qT : PosShare TreeShare} {T : S1.Idx → BitVec 32} {hb : HBuf F} {x : XBuf F} {X : S1x1x1024.Idx → BitVec 32} {Y : Vec F S1024x2048 .f32} {Z : Vec F S1024x2048 .bf16}
    (hX : ∀ x, (X x).toNat < 32768) (h1 : k0_cond1 i = 1#1) (h2 : k0_cond2 i = 1#1) (h3 : k0_cond3 i (word1 T) = 1#1) :
    iprop(owns (c : Thread nD τ) arg3 qT T ∗ Idle c hb x ∗ owns (c : Thread nD τ) arg4 fullShare X ∗ owns (c : Thread nD τ) arg10 fullShare Y ∗ owns (c : Thread nD τ) arg12 fullShare Z ∗ ∃ W, owes (c : Thread nD τ) 0 W)
      ⊢ iprop((iprop(owns (c : Thread nD τ) arg3 qT T ∗ Idle c hb (gath hb (words X)) ∗ owns (c : Thread nD τ) arg4 fullShare X ∗ owns (c : Thread nD τ) arg10 fullShare (k0_pay1 (F := F)) ∗ owns (c : Thread nD τ) arg12 fullShare (xbOf (gath hb (words X))) ∗ ∃ W, owes (c : Thread nD τ) 0 W) -∗ wpc c (restP (F := F) i arg2 harg2 arg3 harg3 arg4 harg4 arg5 harg5 arg7 harg7 arg8 harg8 arg9 harg9 arg10 harg10 arg12 harg12  (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) arg12 harg12 cc0_scratch2) Q) := by
  rw [cc0_moe_expert_ffn_eq_skeleton]
  unfold cc0_moe_expert_ffn_skel
  simp only [dif_pos h1, dif_pos h2]
  iintro ⟨H3, HI, H4, H10, H12, HW⟩ HQ
  iapply (wp_word c) $$ H3
  iintro H3
  iapply (wp_loadWhole c off00) $$ H10
  iintro H10
  simp only [ret_bind']
  iapply (wp_storeOwn c off00) $$ H10
  iintro H10
  simp only [ret_bind']
  rw [dif_pos h3]
  imod (stage_alloc c hb (words X) x) $$ HI with HS
  iapply (wp_seq c)
  iapply (wp_startAll c i arg2 harg2 arg3 harg3 arg4 harg4 arg5 harg5 arg7 harg7 arg8 harg8 arg9 harg9 arg10 harg10 arg12 harg12  hX h1 h2) $$ [HS H4]
  · isplitl [HS] <;> iassumption
  iintro ⟨HS, H4⟩
  iapply (wp_seq c)
  unfold Stage
  icases HS with ⟨HF, -, HR⟩
  iapply (wp_takeAll c i arg2 harg2 arg3 harg3 arg4 harg4 arg5 harg5 arg7 harg7 arg8 harg8 arg9 harg9 arg10 harg10 arg12 harg12  _ hX h1 h3) $$ [HF H4 HW]
  · isplitl [HF]; · iexact HF
    isplitl [H4] <;> iassumption
  iintro ⟨HF, H4, HW⟩
  imod (stage_collect c hb (words X)) $$ [HF HR] with HI
  · isplitl [HF] <;> iassumption
  unfold Idle
  icases HI with ⟨Hx, Hh, Hs⟩
  ihave Hx := (ent_of_eq (owns_whole (c : Thread nD τ) cc0_scratch0 fullShare (gath hb (words X))).symm) $$ Hx
  iapply (wp_loadOwn c) $$ Hx
  iintro Hx
  simp only [ret_bind']
  iapply (wp_loadWhole c off00) $$ H12
  iintro H12
  simp only [ret_bind']
  iapply (wp_storeOwn c off00) $$ H12
  iintro H12
  simp only [ret_bind']
  ihave Hx := (ent_of_eq (owns_whole (c : Thread nD τ) cc0_scratch0 fullShare (gath hb (words X)))) $$ Hx
  iapply HQ
  isplitl [H3]; · iexact H3
  isplitl [Hx Hh Hs]
  · isplitl [Hx]; · iexact Hx
    isplitl [Hh] <;> iassumption
  isplitl [H4]; · iexact H4
  isplitl [H10]; · iexact H10
  isplitl [H12]; · iexact H12
  iexact HW

set_option maxHeartbeats 4000000 in
/-- The first step of a later tile: its rows are waited for. -/
theorem wp_next {Q : PUnit → sProp 𝕄} {qT : PosShare TreeShare} {T : S1.Idx → BitVec 32} {hb : HBuf F} {x : XBuf F} {X : S1x1x1024.Idx → BitVec 32} {Y : Vec F S1024x2048 .f32} {Z : Vec F S1024x2048 .bf16}
    (hX : ∀ x, (X x).toNat < 32768) (h1 : k0_cond1 i = 1#1) (h2 : ¬ k0_cond2 i = 1#1) (h3 : k0_cond3 i (word1 T) = 1#1) :
    iprop(owns (c : Thread nD τ) arg3 qT T ∗ Stage c hb (words X) 1036 ∗ owns (c : Thread nD τ) arg4 fullShare X ∗ owns (c : Thread nD τ) arg10 fullShare Y ∗ owns (c : Thread nD τ) arg12 fullShare Z ∗ ∃ W, owes (c : Thread nD τ) 0 W)
      ⊢ iprop((iprop(owns (c : Thread nD τ) arg3 qT T ∗ Idle c hb (gath hb (words X)) ∗ owns (c : Thread nD τ) arg4 fullShare X ∗ owns (c : Thread nD τ) arg10 fullShare (k0_pay1 (F := F)) ∗ owns (c : Thread nD τ) arg12 fullShare (xbOf (gath hb (words X))) ∗ ∃ W, owes (c : Thread nD τ) 0 W) -∗ wpc c (restP (F := F) i arg2 harg2 arg3 harg3 arg4 harg4 arg5 harg5 arg7 harg7 arg8 harg8 arg9 harg9 arg10 harg10 arg12 harg12  (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) arg12 harg12 cc0_scratch2) Q) := by
  rw [cc0_moe_expert_ffn_eq_skeleton]
  unfold cc0_moe_expert_ffn_skel
  simp only [dif_pos h1, dif_neg h2]
  iintro ⟨H3, HS, H4, H10, H12, HW⟩ HQ
  iapply (wp_word c) $$ H3
  iintro H3
  iapply (wp_loadWhole c off00) $$ H10
  iintro H10
  simp only [ret_bind']
  iapply (wp_storeOwn c off00) $$ H10
  iintro H10
  simp only [ret_bind']
  rw [dif_pos h3]
  iapply (wp_seq c)
  unfold Stage
  icases HS with ⟨HF, -, HR⟩
  iapply (wp_takeAll c i arg2 harg2 arg3 harg3 arg4 harg4 arg5 harg5 arg7 harg7 arg8 harg8 arg9 harg9 arg10 harg10 arg12 harg12  _ hX h1 h3) $$ [HF H4 HW]
  · isplitl [HF]; · iexact HF
    isplitl [H4] <;> iassumption
  iintro ⟨HF, H4, HW⟩
  imod (stage_collect c hb (words X)) $$ [HF HR] with HI
  · isplitl [HF] <;> iassumption
  unfold Idle
  icases HI with ⟨Hx, Hh, Hs⟩
  ihave Hx := (ent_of_eq (owns_whole (c : Thread nD τ) cc0_scratch0 fullShare (gath hb (words X))).symm) $$ Hx
  iapply (wp_loadOwn c) $$ Hx
  iintro Hx
  simp only [ret_bind']
  iapply (wp_loadWhole c off00) $$ H12
  iintro H12
  simp only [ret_bind']
  iapply (wp_storeOwn c off00) $$ H12
  iintro H12
  simp only [ret_bind']
  ihave Hx := (ent_of_eq (owns_whole (c : Thread nD τ) cc0_scratch0 fullShare (gath hb (words X)))) $$ Hx
  iapply HQ
  isplitl [H3]; · iexact H3
  isplitl [Hx Hh Hs]
  · isplitl [Hx]; · iexact Hx
    isplitl [Hh] <;> iassumption
  isplitl [H4]; · iexact H4
  isplitl [H10]; · iexact H10
  isplitl [H12]; · iexact H12
  iexact HW

set_option maxHeartbeats 4000000 in
/-- The first step of a tile past the used ones. -/
theorem wp_past {Q : PUnit → sProp 𝕄} {qT : PosShare TreeShare} {T : S1.Idx → BitVec 32} {hb : HBuf F} {x : XBuf F} {X : S1x1x1024.Idx → BitVec 32} {Y : Vec F S1024x2048 .f32} {Z : Vec F S1024x2048 .bf16}
    (hX : ∀ x, (X x).toNat < 32768) (h1 : k0_cond1 i = 1#1) (h2 : ¬ k0_cond2 i = 1#1) (h3 : ¬ k0_cond3 i (word1 T) = 1#1) :
    iprop(owns (c : Thread nD τ) arg3 qT T ∗ owns (c : Thread nD τ) arg10 fullShare Y)
      ⊢ iprop((iprop(owns (c : Thread nD τ) arg3 qT T ∗ owns (c : Thread nD τ) arg10 fullShare (k0_pay1 (F := F))) -∗ wpc c (restP (F := F) i arg2 harg2 arg3 harg3 arg4 harg4 arg5 harg5 arg7 harg7 arg8 harg8 arg9 harg9 arg10 harg10 arg12 harg12  (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) arg12 harg12 cc0_scratch2) Q) := by
  rw [cc0_moe_expert_ffn_eq_skeleton]
  unfold cc0_moe_expert_ffn_skel
  simp only [dif_pos h1, dif_neg h2]
  iintro ⟨H3, H10⟩ HQ
  iapply (wp_word c) $$ H3
  iintro H3
  iapply (wp_loadWhole c off00) $$ H10
  iintro H10
  simp only [ret_bind']
  iapply (wp_storeOwn c off00) $$ H10
  iintro H10
  simp only [ret_bind']
  rw [dif_neg h3]
  iapply HQ
  isplitl [H3]; · iexact H3
  iexact H10

set_option maxHeartbeats 4000000 in
/-- A step that is not the first of its tile. -/
theorem wp_later {Q : PUnit → sProp 𝕄} {qT : PosShare TreeShare} {T : S1.Idx → BitVec 32} {hb : HBuf F} {x : XBuf F} {X : S1x1x1024.Idx → BitVec 32} {Y : Vec F S1024x2048 .f32} {Z : Vec F S1024x2048 .bf16}
    (hX : ∀ x, (X x).toNat < 32768) (h1 : ¬ k0_cond1 i = 1#1) :
    iprop(owns (c : Thread nD τ) arg3 qT T ∗ owns (c : Thread nD τ) arg10 fullShare Y)
      ⊢ iprop((iprop(owns (c : Thread nD τ) arg3 qT T ∗ owns (c : Thread nD τ) arg10 fullShare Y) -∗ wpc c (restP (F := F) i arg2 harg2 arg3 harg3 arg4 harg4 arg5 harg5 arg7 harg7 arg8 harg8 arg9 harg9 arg10 harg10 arg12 harg12  (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) arg12 harg12 cc0_scratch2) Q) := by
  rw [cc0_moe_expert_ffn_eq_skeleton]
  unfold cc0_moe_expert_ffn_skel
  simp only [dif_neg h1]
  iintro ⟨H3, H10⟩ HQ
  iapply (wp_word c) $$ H3
  iintro H3
  iapply HQ
  isplitl [H3]; · iexact H3
  iexact H10

end Body

end Cert.KernelIdeal.Hand
-- ==== Proof.Facts.lean ====
/-
  The schedule of the routed expert call: its branch conditions as comparisons of the point's coordinates, the side
  condition its expert table meets, the points its result's block is left alone or written back at, and what the
  precondition says of the tables' words.
-/
module

public import proofs.«01_k».proof.Proof.Body
public import proofs.«01_k».proof.Proof.Gen.KernelIdeal.Launch
public import proofs.«01_k».proof.Proof.Gen.Pre_routed
public import Idealize.ShloMosaic.Lib.Pipeline.TableIdle
public import Idealize.ShloMosaic.Lib.Pipeline.Kit
public import Idealize.ShloMosaic.Lib.Pipeline.Value
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The branch conditions -/

theorem cond1_iff (i : grid0.Coords) : k0_cond1 i = 1#1 ↔ (i 1).val = 0 := by
  have h : ∀ n : Fin 14, Scalar.cmpi .ne (Scalar.extui (Scalar.cmpi .eq (BitVec.ofNat 32 n.val) 0#32) : BitVec 32) 0#32 = 1#1 ↔ n.val = 0 := by decide
  exact h (i 1)

theorem cond2_iff (i : grid0.Coords) : k0_cond2 i = 1#1 ↔ (i 0).val = 0 := by
  have h : ∀ n : Fin 73, Scalar.cmpi .ne (Scalar.extui (Scalar.cmpi .eq (BitVec.ofNat 32 n.val) 0#32) : BitVec 32) 0#32 = 1#1 ↔ n.val = 0 := by decide
  exact h (i 0)

theorem bit_ne (b : BitVec 1) : Scalar.cmpi .ne (Scalar.extui b : BitVec 32) 0#32 = b := by
  revert b; decide

theorem row_word (n : Fin 73) : (BitVec.ofNat 32 n.val).toNat = n.val := by
  revert n; decide

theorem cond3_iff (i : grid0.Coords) {v : BitVec 32} (hv : v.toNat < 73) : k0_cond3 i v = 1#1 ↔ (i 0).val ≤ v.toNat := by
  have hr : (BitVec.ofNat 32 (i 0).val).toNat = (i 0).val := row_word (i 0)
  have hi : (i 0).val < 73 := (i 0).isLt
  unfold k0_cond3
  refine (Eq.congr_left (bit_ne _)).trans ?_
  refine (Eq.congr_left (WordCmp.cmpi_sle_of_lt (w := 32) (by rw [hr]; omega) (by omega))).trans ?_
  rw [WordCmp.ofBool_decide_eq_one_iff, hr]

theorem cond4_iff (i : grid0.Coords) {v : BitVec 32} (hv : v.toNat < 73) : k0_cond4 i v = 1#1 ↔ (i 0).val < v.toNat := by
  have hr : (BitVec.ofNat 32 (i 0).val).toNat = (i 0).val := row_word (i 0)
  have hi : (i 0).val < 73 := (i 0).isLt
  unfold k0_cond4
  refine (Eq.congr_left (bit_ne _)).trans ?_
  refine (Eq.congr_left (WordCmp.cmpi_slt_of_lt (w := 32) (by rw [hr]; omega) (by omega))).trans ?_
  rw [WordCmp.ofBool_decide_eq_one_iff, hr]

/-! ## The side condition on the expert table -/

/-- Every word of the expert table names one of the eight experts. -/
def InTab (pf : pre0.Contents (Elt F)) : Prop := ∀ x : S73.Idx, (show BitVec 32 from pf 0 x).toNat < 8

theorem ok_of {pf : pre0.Contents (Elt F)} (h : InTab pf) : ok0 pf := by
  refine ⟨fun i => ⟨?_, ?_⟩, fun i => ⟨?_, ?_⟩, fun i => ⟨?_, ?_⟩⟩
  · have h0 := h ((Rect.unit (s := S73) ![(Scalar.indexCast (BitVec.ofNat 32 (i 0).val)).toNat] S1.size (k0_off1_inb i)).emb (Shape.Idx.first (numel1_S1.symm ▸ Nat.one_pos)))
    have h1 : (BitVec.ofNat 32 (i 1).val).toNat < 14 := by
      have e : ∀ n : Fin 14, (BitVec.ofNat 32 n.val).toNat < 14 := by decide
      exact e (i 1)
    intro a
    match a with
    | ⟨0, _⟩ => exact (show (_ + 1) * 1 ≤ 8 by rw [Nat.mul_one]; exact h0)
    | ⟨1, _⟩ => exact (show (0 + 1) * 2048 ≤ 2048 by decide)
    | ⟨2, _⟩ => exact (show ((BitVec.ofNat 32 (i 1).val).toNat + 1) * 512 ≤ 7168 by omega)
  · exact .inr (.inr ⟨by decide, rfl, rfl, rfl⟩)
  · have h0 := h ((Rect.unit (s := S73) ![(Scalar.indexCast (BitVec.ofNat 32 (i 0).val)).toNat] S1.size (k0_off1_inb i)).emb (Shape.Idx.first (numel1_S1.symm ▸ Nat.one_pos)))
    have h1 : (BitVec.ofNat 32 (i 1).val).toNat < 14 := by
      have e : ∀ n : Fin 14, (BitVec.ofNat 32 n.val).toNat < 14 := by decide
      exact e (i 1)
    intro a
    match a with
    | ⟨0, _⟩ => exact (show (_ + 1) * 1 ≤ 8 by rw [Nat.mul_one]; exact h0)
    | ⟨1, _⟩ => exact (show (0 + 1) * 2048 ≤ 2048 by decide)
    | ⟨2, _⟩ => exact (show ((BitVec.ofNat 32 (i 1).val).toNat + 1) * 512 ≤ 7168 by omega)
  · exact .inr (.inr ⟨by decide, rfl, rfl, rfl⟩)
  · have h0 := h ((Rect.unit (s := S73) ![(Scalar.indexCast (BitVec.ofNat 32 (i 0).val)).toNat] S1.size (k0_off1_inb i)).emb (Shape.Idx.first (numel1_S1.symm ▸ Nat.one_pos)))
    have h1 : (BitVec.ofNat 32 (i 1).val).toNat < 14 := by
      have e : ∀ n : Fin 14, (BitVec.ofNat 32 n.val).toNat < 14 := by decide
      exact e (i 1)
    intro a
    match a with
    | ⟨0, _⟩ => exact (show (_ + 1) * 1 ≤ 8 by rw [Nat.mul_one]; exact h0)
    | ⟨1, _⟩ => exact (show ((BitVec.ofNat 32 (i 1).val).toNat + 1) * 512 ≤ 7168 by omega)
    | ⟨2, _⟩ => exact (show (0 + 1) * 2048 ≤ 2048 by decide)
  · refine .inr (.inl (.inr ⟨by decide, rfl, .inl ⟨?_, ?_⟩⟩))
    · exact Dvd.dvd.mul_left (by decide : 2 ∣ 512) _
    · exact (by decide : 2 ∣ 512)

/-! ## Points and coordinates -/

theorem crd0 (t : Fin grid0.N) : (grid0.coords t 0).val = t.val / 14 := by
  have h := Pipeline.Grid.coords_val (G := grid0) t 0 (S := 14) (B := 73) (by decide) rfl
  have hN : t.val < 1022 := lt_of_lt_of_eq t.isLt N_0
  rw [h, Nat.mod_eq_of_lt (by omega)]

theorem crd1 (t : Fin grid0.N) : (grid0.coords t 1).val = t.val % 14 := by
  have h := Pipeline.Grid.coords_val (G := grid0) t 1 (S := 1) (B := 14) (by decide) rfl
  rw [h, Nat.div_one]

/-- The number of used tiles, as a count. -/
abbrev nUsed (pf : pre0.Contents (Elt F)) : Nat := (word1 (pf 1)).toNat

theorem atD_word (pf : pre0.Contents (Elt F)) : pf.atD 1 ![0] = word1 (pf 1) := by
  have h : ∀ a : Fin 1, (![0] : Fin 1 → Nat) a + 1 ≤ S1.size a := by decide
  refine (dif_pos h).trans (congrArg (pf 1) ?_)
  funext b
  have e : ∀ b : Fin 1, ∀ u v : Fin (S1.size b), u = v := by decide
  exact e b _ _

section Sched

variable (a : (pcfg0 (F := F)).Adm)

theorem idle5 (hn : nUsed a.1 < 73) (t : Fin (cfg0 a).N) :
    (cfg0 a).idle (5 : Fin 6) ((cfg0 a).grid.coords t) = (decide (t.val % 14 ≠ 0) && decide (nUsed a.1 ≤ t.val / 14)) := by
  have e : (cfg0 a).idle (5 : Fin 6) ((cfg0 a).grid.coords t)
      = (!(k0_cond1 (grid0.coords t) == 1#1) && !(k0_cond4 (grid0.coords t) (a.1.atD 1 ![0]) == 1#1)) := rfl
  rw [e, atD_word]
  congr 1
  · rw [Bool.eq_iff_iff]; simp only [Bool.not_eq_true', beq_eq_false_iff_ne, ne_eq, decide_eq_true_eq, cond1_iff]
    rw [crd1 t]
  · rw [Bool.eq_iff_iff]; simp only [Bool.not_eq_true', beq_eq_false_iff_ne, ne_eq, decide_eq_true_eq, cond4_iff (grid0.coords t) hn]
    rw [crd0 t]; exact not_lt

theorem index5 (t : Fin (cfg0 a).N) : ((cfg0 a).win (5 : Fin 6)).index t = ![t.val / 14, 0] := by
  have e : ((cfg0 a).win (5 : Fin 6)).index t = ![(BitVec.ofNat 32 (grid0.coords t 0).val).toNat, 0] := rfl
  rw [e, row_word (grid0.coords t 0), crd0 t]

theorem moved5 (t t' : Fin (cfg0 a).N) : ((cfg0 a).win (5 : Fin 6)).index t' ≠ ((cfg0 a).win (5 : Fin 6)).index t ↔ t'.val / 14 ≠ t.val / 14 := by
  rw [index5 a t, index5 a t']
  refine not_congr ⟨fun h => congrFun h 0, fun h => by rw [h]⟩

theorem flush5 (t : Fin (cfg0 a).N) : ((cfg0 a).win (5 : Fin 6)).flush t = decide (t.val % 14 = 13) := by
  have hN : t.val < 1022 := lt_of_lt_of_eq t.isLt N_0
  have hG : (cfg0 a).N = 1022 := N_0
  have e : ((cfg0 a).win (5 : Fin 6)).flush t = (decide (t.val + 1 = (cfg0 a).N)
      || decide (∃ h : t.val + 1 < (cfg0 a).N, ((cfg0 a).win (5 : Fin 6)).index ⟨t.val + 1, h⟩ ≠ ((cfg0 a).win (5 : Fin 6)).index t)) := rfl
  rw [e, Bool.eq_iff_iff, Bool.or_eq_true, decide_eq_true_eq, decide_eq_true_eq, decide_eq_true_eq]
  constructor
  · rintro (h | ⟨h, h'⟩)
    · have : t.val + 1 = 1022 := h.trans hG
      omega
    · have := (moved5 a t ⟨t.val + 1, h⟩).mp h'
      have : (t.val + 1) / 14 ≠ t.val / 14 := this
      omega
  · intro h
    by_cases hl : t.val + 1 = 1022
    · left; exact hl.trans hG.symm
    · right
      have hlt : t.val + 1 < (cfg0 a).N := lt_of_lt_of_eq (show t.val + 1 < 1022 by omega) hG.symm
      exact ⟨hlt, (moved5 a t ⟨t.val + 1, hlt⟩).mpr (show (t.val + 1) / 14 ≠ t.val / 14 by omega)⟩

theorem fresh5 (hn : nUsed a.1 < 73) (n : Nat) (h : n ≤ (cfg0 a).N) : (cfg0 a).fresh (5 : Fin 6) n = decide (n % 14 = 0) := by
  refine Pipeline.Cfg.fresh_tab (cfg0 a) (5 : Fin 6) (fun n => decide (n % 14 = 0)) rfl (fun t => ?_) n h
  rw [flush5 a t, idle5 a hn t]
  rw [Bool.eq_iff_iff]
  simp only [Bool.or_eq_true, Bool.and_eq_true, decide_eq_true_eq]
  omega

end Sched

/-! ## The precondition -/

/-- The tables' words in range: every row's token, every tile's expert, the count of used tiles. -/
def Routed (m : (ℓ : Loc nD τ sig) → Buf (Elt F) ℓ) : Prop :=
  ∀ c : Dev nD, (∀ x : S74752.Idx, (show BitVec 32 from m ((c.tc : Thread nD τ).loc main_arg1) x).toNat < 32768)
    ∧ (∀ x : S73.Idx, (show BitVec 32 from m ((c.tc : Thread nD τ).loc main_arg2) x).toNat < 8)
    ∧ (∀ x : S1.Idx, (show BitVec 32 from m ((c.tc : Thread nD τ).loc main_arg3) x).toNat < 73)

theorem in_of_bits {k : Nat} (hk : k < 2 ^ 31) {x : BitVec 32} (h : IntOp.andi (IntOp.cmpi .sge x 0#32) (IntOp.cmpi .slt x (BitVec.ofNat 32 k)) = 1#1) : x.toNat < k := by
  rw [WordCmp.andi_sge_zero_slt_ofNat (w := 32) hk x, WordCmp.ofBool_decide_eq_one_iff] at h
  exact h

/-- Bit `n` of the precondition's row. -/
def bitAt (n : Nat) (h : n < 74826) : Cert.Pre_routed.S74826.Idx := fun | ⟨0, _⟩ => ⟨n, h⟩

/-- A concatenation of bits that are all set has every bit of its pieces set. -/
theorem pieces_set {p : IVec S74752 1} {q : IVec S73 1} {r : IVec S1 1}
    (hc : Shape.Concatenates [S74752, S73, S1] Cert.Pre_routed.S74826 0)
    (h : concatenate Cert.Pre_routed.S74826 0 [⟨S74752, p⟩, ⟨S73, q⟩, ⟨S1, r⟩] hc = fun _ => 1#1) :
    (∀ x, p x = 1#1) ∧ (∀ x, q x = 1#1) ∧ (∀ x, r x = 1#1) := by
  refine ⟨fun x => ?_, fun x => ?_, fun x => ?_⟩
  · have hx : (x 0).val < 74752 := (x 0).isLt
    have hn : (x 0).val < 74826 := by omega
    exact (concatenate_apply_piece (t := Cert.Pre_routed.S74826) (0 : Fin 1) [⟨S74752, p⟩, ⟨S73, q⟩, ⟨S1, r⟩] hc (bitAt _ hn) 0 (Nat.succ_pos 2) S74752 p rfl rfl 0 rfl x (fun b hb => absurd (Subsingleton.elim (α := Fin 1) _ _) hb) (Nat.zero_add _)).symm.trans (congrFun h _)
  · have hx : (x 0).val < 73 := (x 0).isLt
    have hn : 74752 + (x 0).val < 74826 := by omega
    exact (concatenate_apply_piece (t := Cert.Pre_routed.S74826) (0 : Fin 1) [⟨S74752, p⟩, ⟨S73, q⟩, ⟨S1, r⟩] hc (bitAt _ hn) 1 (show 1 < 3 by omega) S73 q rfl rfl 74752 rfl x (fun b hb => absurd (Subsingleton.elim (α := Fin 1) _ _) hb) rfl).symm.trans (congrFun h _)
  · have hx : (x 0).val < 1 := (x 0).isLt
    have hn : 74825 + (x 0).val < 74826 := by omega
    exact (concatenate_apply_piece (t := Cert.Pre_routed.S74826) (0 : Fin 1) [⟨S74752, p⟩, ⟨S73, q⟩, ⟨S1, r⟩] hc (bitAt _ hn) 2 (show 2 < 3 by omega) S1 r rfl rfl 74825 rfl x (fun b hb => absurd (Subsingleton.elim (α := Fin 1) _ _) hb) rfl).symm.trans (congrFun h _)

/-- What the precondition says. -/
theorem routed_of {a0 : FVec F S32768x2048 .f32} {a1 : IVec S74752 32} {a2 : IVec S73 32} {a3 : IVec S1 32}
    {a4 a5 : FVec F S1x8x2048x7168 .f32} {a6 : FVec F S1x8x7168x2048 .f32}
    (h : Cert.Pre_routed.fn (F := F) a0 a1 a2 a3 a4 a5 a6 = fun _ => 1#1) :
    (∀ x, (a1 x).toNat < 32768) ∧ (∀ x, (a2 x).toNat < 8) ∧ (∀ x, (a3 x).toNat < 73) := by
  obtain ⟨h1, h2, h3⟩ := pieces_set Cert.Pre_routed.Facts.concatenates_S74752_S73_S1_S74826_d0 h
  exact ⟨fun x => in_of_bits (by decide) (h1 x), fun x => in_of_bits (by decide) (h2 x), fun x => in_of_bits (by decide) (h3 x)⟩

end Cert.KernelIdeal.Hand

end
-- ==== Proof.Data.lean ====
/-
  What the routed expert call's arrays, tables and blocks hold: the arrays after the host's casts, each tile's tokens, each
  point's blocks, the result's block point by point, and the call's proof data.
-/
module

public import proofs.«01_k».proof.Proof.Facts
public import Idealize.ShloMosaic.Lib.StableHlo.RunRead
public import Idealize.ShloMosaic.Lib.Pipeline.FrameBody
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ)

/-! ## The arrays at the call -/

/-- What core `c`'s buffers hold when the call begins. -/
abbrev V (c : Dev nD) (b : Ref sig .tc) : Buf (Elt F) ((c.tc : Thread nD τ).loc b) := StableHlo.after hostOps0 (fun b => m (c, b)) b

theorem V_keep (c : Dev nD) (r : Ref sig .tc) (hr : r ∉ [main_v0, main_v1, main_v2, main_v3, main_v4, main_v5, main_v6]) :
    V m c r = m ((c.tc : Thread nD τ).loc r) :=
  StableHlo.after_unwritten [main_v0, main_v1, main_v2, main_v3, main_v4, main_v5, main_v6] rfl hr _

/-- Each tile's row of tokens. -/
theorem V_tok (c : Dev nD) : V m c main_v0 = shapeCast S73x1x1024 (m ((c.tc : Thread nD τ).loc main_arg1)) shapeCasts_S74752_S73x1x1024 := by
  refine (StableHlo.after_last_write (ops := hostOps0) (i := 0) [main_v1, main_v2, main_v3, main_v4, main_v5, main_v6] rfl rfl (by decide) _).trans ?_
  rw [StableHlo.reshape_result]
  rfl

/-- The prefetched tables, every device being the one device. -/
def tabs : pre0.Contents (Elt F) := fun j => V m 0 (pre0.ref j)

theorem tabs_at (c : Dev nD) (j : Fin 2) : V m c (pre0.ref j) = tabs m j := by
  have hc : c = 0 := Subsingleton.elim _ _
  subst hc; rfl

theorem tabs_used : tabs m 1 = m (((0 : Dev nD).tc : Thread nD τ).loc main_arg3) := V_keep m 0 main_arg3 (by decide)
theorem tabs_exp : tabs m 0 = m (((0 : Dev nD).tc : Thread nD τ).loc main_arg2) := V_keep m 0 main_arg2 (by decide)

/-- How many tiles the routing uses. -/
abbrev nU : Nat := nUsed (tabs m)

variable (hR : Routed m)

include hR in
theorem inTab : InTab (tabs m) := fun x => by rw [tabs_exp]; exact (hR 0).2.1 x
include hR in
theorem nU_lt : nU m < 73 := by
  unfold nU nUsed word1; rw [tabs_used]; exact (hR 0).2.2 _
include hR in
theorem tok_lt (c : Dev nD) (y : S73x1x1024.Idx) : (show BitVec 32 from V m c main_v0 y).toNat < 32768 := by
  rw [V_tok]; exact (hR c).1 _

/-- The call's configuration at these tables. -/
def adm : (pcfg0 (F := F)).Adm := ⟨tabs m, ok_of (inTab m hR)⟩
abbrev cfgA : Pipeline.Cfg sig Λ₀ := cfg0 (adm m hR)
abbrev pcs : Fin 1 → Pipeline.Cfg sig Λ₀ := Pipeline.pin (pcfgs (F := F)) fun | 0 => adm m hR

theorem hN : (cfgA m hR).N = 1022 := N_0
abbrev crd (t : Fin (cfgA m hR).N) : grid0.Coords := (cfgA m hR).grid.coords t

/-! ## The tokens of a tile, and the blocks -/

/-- Tile `r`'s tokens, as a block. -/
def tokW (c : Dev nD) (r : Nat) : S1x1x1024.Idx → BitVec 32 := fun x =>
  V m c main_v0 (fun | ⟨0, _⟩ => ⟨min r 72, Nat.lt_succ_of_le (Nat.min_le_right _ _)⟩ | ⟨1, _⟩ => ⟨0, Nat.one_pos⟩ | ⟨2, _⟩ => x 2)

include hR in
theorem tokW_lt (c : Dev nD) (r : Nat) (x : S1x1x1024.Idx) : (tokW m c r x).toNat < 32768 := tok_lt m hR c _

/-- Window `w`'s block at a point, read off its array. -/
def iblk (c : Dev nD) (w : Fin (cfgA m hR).W) (t : Fin (cfgA m hR).N) : (((cfgA m hR).win w).xblock (crd m hR t)).Idx → Elt F ((cfgA m hR).win w).elt :=
  (((cfgA m hR).win w).blk t).view.read (Elt F) (V m c (Pipeline.arrRef spec0 w))

/-- The first window's block holds this tile's tokens; -/
theorem iblk0 (c : Dev nD) (t : Fin (cfgA m hR).N) : iblk m hR c (0 : Fin 6) t = tokW m c (t.val / 14) := by
  have hN : t.val < 1022 := lt_of_lt_of_eq t.isLt N_0
  have h0 : (BitVec.ofNat 32 (grid0.coords t 0).val).toNat = t.val / 14 := (row_word (grid0.coords t 0)).trans (crd0 t)
  refine funext fun (x : S1x1x1024.Idx) => ?_
  have hx0 : (x 0).val = 0 := Nat.lt_one_iff.mp (x 0).isLt
  have hx1 : (x 1).val = 0 := Nat.lt_one_iff.mp (x 1).isLt
  refine congrArg (V m c main_v0) ?_
  funext b
  match b with
  | ⟨0, _⟩ =>
    refine Fin.ext ((Pipeline.Window.rect_emb_val ((cfgA m hR).win (0 : Fin 6)) t x (0 : Fin 3)).trans ?_)
    refine (show (BitVec.ofNat 32 (grid0.coords t 0).val).toNat * 1 + (x 0).val = min (t.val / 14) 72 from ?_)
    rw [hx0, h0]; omega
  | ⟨1, _⟩ =>
    refine Fin.ext ((Pipeline.Window.rect_emb_val ((cfgA m hR).win (0 : Fin 6)) t x (1 : Fin 3)).trans ?_)
    exact (show 0 * 1 + (x 1).val = 0 by rw [hx1])
  | ⟨2, _⟩ =>
    refine Fin.ext ((Pipeline.Window.rect_emb_val ((cfgA m hR).win (0 : Fin 6)) t x (2 : Fin 3)).trans ?_)
    exact (show 0 * 1024 + (x 2).val = (x 2).val by rw [Nat.zero_mul, Nat.zero_add])

/-- the second's the next tile's. -/
theorem iblk1 (c : Dev nD) (t : Fin (cfgA m hR).N) : iblk m hR c (1 : Fin 6) t = tokW m c (t.val / 14 + 1) := by
  have hN : t.val < 1022 := lt_of_lt_of_eq t.isLt N_0
  have e : ∀ n : Fin 73, (Scalar.minsi (Scalar.addi (BitVec.ofNat 32 n.val) 1#32) 72#32).toNat = min (n.val + 1) 72 := by decide
  have h0 : (Scalar.minsi (Scalar.addi (BitVec.ofNat 32 (grid0.coords t 0).val) 1#32) 72#32).toNat = min (t.val / 14 + 1) 72 := by
    rw [e (grid0.coords t 0), crd0 t]
  refine funext fun (x : S1x1x1024.Idx) => ?_
  have hx0 : (x 0).val = 0 := Nat.lt_one_iff.mp (x 0).isLt
  have hx1 : (x 1).val = 0 := Nat.lt_one_iff.mp (x 1).isLt
  refine congrArg (V m c main_v0) ?_
  funext b
  match b with
  | ⟨0, _⟩ =>
    refine Fin.ext ((Pipeline.Window.rect_emb_val ((cfgA m hR).win (1 : Fin 6)) t x (0 : Fin 3)).trans ?_)
    refine (show (Scalar.minsi (Scalar.addi (BitVec.ofNat 32 (grid0.coords t 0).val) 1#32) 72#32).toNat * 1 + (x 0).val = min (t.val / 14 + 1) 72 from ?_)
    rw [hx0, h0]; omega
  | ⟨1, _⟩ =>
    refine Fin.ext ((Pipeline.Window.rect_emb_val ((cfgA m hR).win (1 : Fin 6)) t x (1 : Fin 3)).trans ?_)
    exact (show 0 * 1 + (x 1).val = 0 by rw [hx1])
  | ⟨2, _⟩ =>
    refine Fin.ext ((Pipeline.Window.rect_emb_val ((cfgA m hR).win (1 : Fin 6)) t x (2 : Fin 3)).trans ?_)
    exact (show 0 * 1024 + (x 2).val = (x 2).val by rw [Nat.zero_mul, Nat.zero_add])

/-! ## The result's block, point by point -/

/-- The gathered rows of tile `r`. -/
abbrev rowsOf (c : Dev nD) (r : Nat) : XBuf F := gath (V m c main_arg0) (words (tokW m c r))

/-- What a point leaves of what its block held: its share of the expert's product added, at a used tile. -/
def stepOut (c : Dev nD) (n : Nat) (base : Vec F S1024x2048 .f32) : Vec F S1024x2048 .f32 :=
  if n / 14 < nU m then
    if h : n < (cfgA m hR).N then
      k0_pay3 (k0_pay4 base) (xbOf (rowsOf m c (n / 14))) (k0_pay5 (iblk m hR c (2 : Fin 6) ⟨n, h⟩)) (iblk m hR c (3 : Fin 6) ⟨n, h⟩) (iblk m hR c (4 : Fin 6) ⟨n, h⟩)
    else base
  else base

/-- The result's block after point `n`: begun at zero at each tile's first point. -/
def outAt (c : Dev nD) : Nat → Vec F S1024x2048 .f32
  | 0 => stepOut m hR c 0 k0_pay1
  | n + 1 => stepOut m hR c (n + 1) (if (n + 1) % 14 = 0 then k0_pay1 else outAt c n)

/-- What it holds after a point, from what it held. -/
theorem outAt_eq (c : Dev nD) (n : Nat) : outAt m hR c n = stepOut m hR c n (if n % 14 = 0 then k0_pay1 else outAt m hR c (n - 1)) := by
  cases n with
  | zero => rfl
  | succ n => rfl

theorem stepOut_used (c : Dev nD) (t : Fin (cfgA m hR).N) (base : Vec F S1024x2048 .f32) (h : t.val / 14 < nU m) :
    stepOut m hR c t.val base = k0_pay3 (k0_pay4 base) (xbOf (rowsOf m c (t.val / 14))) (k0_pay5 (iblk m hR c (2 : Fin 6) t)) (iblk m hR c (3 : Fin 6) t) (iblk m hR c (4 : Fin 6) t) := by
  unfold stepOut; rw [if_pos h, dif_pos t.isLt]

theorem stepOut_past (c : Dev nD) (n : Nat) (base : Vec F S1024x2048 .f32) (h : ¬ n / 14 < nU m) : stepOut m hR c n base = base := by
  unfold stepOut; rw [if_neg h]

/-! ## The call's proof data -/

/-- The copies' state before point `n`: none in flight at the start and once the used tiles are done, else the next
    tile's begun ones, and this tile's rows in the second scratch. -/
def St (c : Dev nD) (n : Nat) : sProp 𝕄 :=
  if n = 0 ∨ 14 * nU m < n then
    iprop((∃ x, Idle c (V m c main_arg0) x) ∗ ∃ Z, owns (c : Thread nD τ) (Memref.whole cc0_scratch1) fullShare Z)
  else
    iprop(Stage c (V m c main_arg0) (words (tokW m c ((n - 1) / 14 + 1))) (74 * ((n - 1) % 14 + 1))
      ∗ owns (c : Thread nD τ) (Memref.whole cc0_scratch1) fullShare (xbOf (rowsOf m c ((n - 1) / 14))))

/-- The invariant before point `n`: the tables' halves, the generator's register, the copies' state. -/
def Phi (c : Dev nD) (n : Nat) : sProp 𝕄 :=
  iprop((((c : Thread nD τ).loc main_arg2) ↦{fullShare.right} tabs m 0) ∗ owns (c : Thread nD τ) (Memref.whole main_arg3) fullShare.right (tabs m 1)
    ∗ (∃ r, prngReg c r) ∗ St m c n)

def dats : (p : Fin 1) → (c : Dev nD) → Dat τ (Elt F) Unit ℕ (Pipeline.UD sig nD τ) ℕ (pcs m hR p) c := fun | 0 => fun c => {
  A := fun w => V m c (Pipeline.arrRef spec0 w)
  after := fun w t => match w with
    | ⟨0, _⟩ => iblk m hR c (0 : Fin 6) t
    | ⟨1, _⟩ => iblk m hR c (1 : Fin 6) t
    | ⟨2, _⟩ => iblk m hR c (2 : Fin 6) t
    | ⟨3, _⟩ => iblk m hR c (3 : Fin 6) t
    | ⟨4, _⟩ => iblk m hR c (4 : Fin 6) t
    | ⟨5, _⟩ => outAt m hR c t.val
  Φ := fun t => Phi m c t.val
  q := fun w => Pipeline.shareOf spec0 w
  owed := fun _ => 0 }

/-- The call's proof data on core `c`. -/
abbrev dat (c : Dev nD) : Dat τ (Elt F) Unit ℕ (Pipeline.UD sig nD τ) ℕ (cfgA m hR) c := dats m hR 0 c

theorem after0 (c : Dev nD) (t : Fin (cfgA m hR).N) : (dat m hR c).after (0 : Fin 6) t = iblk m hR c (0 : Fin 6) t := rfl
theorem after1 (c : Dev nD) (t : Fin (cfgA m hR).N) : (dat m hR c).after (1 : Fin 6) t = iblk m hR c (1 : Fin 6) t := rfl
theorem after2 (c : Dev nD) (t : Fin (cfgA m hR).N) : (dat m hR c).after (2 : Fin 6) t = iblk m hR c (2 : Fin 6) t := rfl
theorem after3 (c : Dev nD) (t : Fin (cfgA m hR).N) : (dat m hR c).after (3 : Fin 6) t = iblk m hR c (3 : Fin 6) t := rfl
theorem after4 (c : Dev nD) (t : Fin (cfgA m hR).N) : (dat m hR c).after (4 : Fin 6) t = iblk m hR c (4 : Fin 6) t := rfl
theorem after5 (c : Dev nD) (t : Fin (cfgA m hR).N) : (dat m hR c).after (5 : Fin 6) t = outAt m hR c t.val := rfl

theorem before0 (c : Dev nD) (t : Fin (cfgA m hR).N) (d) : (dat m hR c).before (0 : Fin 6) t d = iblk m hR c (0 : Fin 6) t :=
  ((dat m hR c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA m hR).N) (d) : (dat m hR c).before (1 : Fin 6) t d = iblk m hR c (1 : Fin 6) t :=
  ((dat m hR c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA m hR).N) (d) : (dat m hR c).before (2 : Fin 6) t d = iblk m hR c (2 : Fin 6) t :=
  ((dat m hR c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA m hR).N) (d) : (dat m hR c).before (3 : Fin 6) t d = iblk m hR c (3 : Fin 6) t :=
  ((dat m hR c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA m hR).N) (d) : (dat m hR c).before (4 : Fin 6) t d = iblk m hR c (4 : Fin 6) t :=
  ((dat m hR c).before_in_eq_fetched (4 : Fin 6) rfl (fun _ => rfl) (fun _ _ _ => rfl) (fun t => by rw [after4]; unfold Dat.blockOf iblk; rfl) t d).trans
    (by unfold Dat.fetched Dat.blockOf iblk; rfl)

theorem idleA (t : Fin (cfgA m hR).N) : (cfgA m hR).idle (5 : Fin 6) ((cfgA m hR).grid.coords t) = (decide (t.val % 14 ≠ 0) && decide (nU m ≤ t.val / 14)) :=
  idle5 (adm m hR) (nU_lt m hR) t
theorem freshA (t : Fin (cfgA m hR).N) : (cfgA m hR).fresh (5 : Fin 6) t.val = decide (t.val % 14 = 0) :=
  fresh5 (adm m hR) (nU_lt m hR) t.val (Nat.le_of_lt t.isLt)

/-- A point that leaves the result's block alone carries it on. -/
theorem carry5 (c : Dev nD) (t : Fin (cfgA m hR).N) (ht : t.val ≠ 0) (hi : (cfgA m hR).idle (5 : Fin 6) ((cfgA m hR).grid.coords t) = true)
    (hf : (cfgA m hR).fresh (5 : Fin 6) t.val = false) : (dat m hR c).after (5 : Fin 6) t = (dat m hR c).after (5 : Fin 6) ⟨t.val - 1, by omega⟩ := by
  rw [idleA, Bool.and_eq_true, decide_eq_true_eq, decide_eq_true_eq] at hi
  rw [after5, after5, outAt_eq m hR c t.val, stepOut_past m hR c _ _ (Nat.not_lt.mpr hi.2), if_neg hi.1]

theorem before5 (c : Dev nD) (t : Fin (cfgA m hR).N) (d) :
    (dat m hR c).before (5 : Fin 6) t d = if t.val % 14 = 0 then d else outAt m hR c (t.val - 1) := by
  rw [(dat m hR c).before_out_traj (5 : Fin 6) rfl (fun _ _ => rfl) (carry5 m hR c) t.val t rfl d, freshA]
  by_cases h : t.val % 14 = 0
  · rw [if_pos h, if_pos (decide_eq_true h)]
  · rw [if_neg h, if_neg (by rw [decide_eq_true_eq]; exact h), after5]

end Cert.KernelIdeal.Hand

end
-- ==== Proof.Point.lean ====
/-
  The routed expert call's body at a point of its grid: what the copies' state, the gathered rows and the result's block are
  before and after it.
-/
module

public import proofs.«01_k».proof.Proof.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

section Body

variable (c : Dev nD) (i : grid0.Coords)
  (arg2 : Memref sig .tc .smem S73 .i32) (harg2 : arg2.IsWhole) (arg3 : Memref sig .tc .smem S1 .i32) (harg3 : arg3.IsWhole)
  (arg4 : Memref sig .tc .smem S1x1x1024 .i32) (harg4 : arg4.IsWhole) (arg5 : Memref sig .tc .smem S1x1x1024 .i32) (harg5 : arg5.IsWhole)
  (arg7 : Memref sig .tc .vmem S1x2048x512 .bf16) (harg7 : arg7.IsWhole) (arg8 : Memref sig .tc .vmem S1x2048x512 .bf16) (harg8 : arg8.IsWhole)
  (arg9 : Memref sig .tc .vmem S1x512x2048 .bf16) (harg9 : arg9.IsWhole) (arg10 : Memref sig .tc .vmem S1024x2048 .f32) (harg10 : arg10.IsWhole)
  (arg12 : Memref sig .tc .vmem S1024x2048 .bf16) (harg12 : arg12.IsWhole)

/-- The rest of a step at a used tile. -/
theorem rest_used {Q : PUnit → sProp 𝕄} {hb : HBuf F} {X : S1x1x1024.Idx → BitVec 32} {Y : Vec F S1024x2048 .f32} {Z : Vec F S1024x2048 .bf16} {B2 B3 : Vec F S1x2048x512 .bf16}
    {B4 : Vec F S1x512x2048 .bf16} (hX : ∀ x, (X x).toNat < 32768) {v0 : BitVec 32} (h4 : k0_cond4 i v0 = 1#1) {j : Nat} (hj : (i 1).val = j) :
    iprop(Stage c hb (words X) (74 * j) ∗ owns (c : Thread nD τ) arg5 fullShare X ∗ owns (c : Thread nD τ) arg10 fullShare Y ∗ owns (c : Thread nD τ) arg12 fullShare Z ∗ owns (c : Thread nD τ) arg7 fullShare B2 ∗ owns (c : Thread nD τ) arg8 fullShare B3 ∗ owns (c : Thread nD τ) arg9 fullShare B4)
      ⊢ iprop((iprop(Stage c hb (words X) (74 * (j + 1)) ∗ owns (c : Thread nD τ) arg5 fullShare X ∗ owns (c : Thread nD τ) arg10 fullShare (k0_pay3 (k0_pay4 Y) Z (k0_pay5 B2) B3 B4) ∗ owns (c : Thread nD τ) arg12 fullShare Z ∗ owns (c : Thread nD τ) arg7 fullShare B2 ∗ owns (c : Thread nD τ) arg8 fullShare B3 ∗ owns (c : Thread nD τ) arg9 fullShare B4) -∗ Q ⟨⟩)
        -∗ wpc c (restP (F := F) i arg2 harg2 arg3 harg3 arg4 harg4 arg5 harg5 arg7 harg7 arg8 harg8 arg9 harg9 arg10 harg10 arg12 harg12 v0) Q) := by
  subst hj
  unfold restP
  rw [dif_pos h4]
  exact wp_tailP c i arg2 harg2 arg3 harg3 arg4 harg4 arg5 harg5 arg7 harg7 arg8 harg8 arg9 harg9 arg10 harg10 arg12 harg12 hX _ v0 h4

/-- The rest of a step past the used tiles. -/
theorem rest_past {Q : PUnit → sProp 𝕄} {v0 : BitVec 32} (h4 : ¬ k0_cond4 i v0 = 1#1) :
    Q ⟨⟩ ⊢ wpc c (restP (F := F) i arg2 harg2 arg3 harg3 arg4 harg4 arg5 harg5 arg7 harg7 arg8 harg8 arg9 harg9 arg10 harg10 arg12 harg12 v0) Q := by
  unfold restP
  rw [dif_neg h4]
  exact wp_done c _

end Body

variable (m : (ℓ : Loc nD τ sig) → Buf (Elt F) ℓ) (hR : Routed m)

theorem St_idle (c : Dev nD) {n : Nat} (h : n = 0 ∨ 14 * nU m < n) :
    St m c n = iprop((∃ x, Idle c (V m c main_arg0) x) ∗ ∃ Z, owns (c : Thread nD τ) (Memref.whole cc0_scratch1) fullShare Z) := by
  unfold St; rw [if_pos h]

theorem St_busy (c : Dev nD) {n r j : Nat} (hn : n = 14 * r + j + 1) (hj : j < 14) (hr : r < nU m) :
    St m c n = iprop(Stage c (V m c main_arg0) (words (tokW m c (r + 1))) (74 * (j + 1))
      ∗ owns (c : Thread nD τ) (Memref.whole cc0_scratch1) fullShare (xbOf (rowsOf m c r))) := by
  unfold St
  rw [if_neg (by omega), show (n - 1) / 14 = r by omega, show (n - 1) % 14 = j by omega]

/-- The copies' state once a point's waits are done. -/
def Mid (c : Dev nD) (r j : Nat) : sProp 𝕄 :=
  if r < nU m then
    iprop(Stage c (V m c main_arg0) (words (tokW m c (r + 1))) (74 * j) ∗ owns (c : Thread nD τ) (Memref.whole cc0_scratch1) fullShare (xbOf (rowsOf m c r)))
  else iprop((∃ x, Idle c (V m c main_arg0) x) ∗ ∃ Z, owns (c : Thread nD τ) (Memref.whole cc0_scratch1) fullShare Z)

theorem Mid_used (c : Dev nD) {r j : Nat} (h : r < nU m) :
    Mid m c r j = iprop(Stage c (V m c main_arg0) (words (tokW m c (r + 1))) (74 * j) ∗ owns (c : Thread nD τ) (Memref.whole cc0_scratch1) fullShare (xbOf (rowsOf m c r))) := by
  unfold Mid; rw [if_pos h]
theorem Mid_past (c : Dev nD) {r j : Nat} (h : ¬ r < nU m) :
    Mid m c r j = iprop((∃ x, Idle c (V m c main_arg0) x) ∗ ∃ Z, owns (c : Thread nD τ) (Memref.whole cc0_scratch1) fullShare Z) := by
  unfold Mid; rw [if_neg h]

/-- A tile's rows gathered and the first point's copies done, the next tile's copies can begin. -/
theorem mid_of_rows (c : Dev nD) (r : Nat) :
    iprop(Idle c (V m c main_arg0) (rowsOf m c r) ∗ owns (c : Thread nD τ) (Memref.whole cc0_scratch1) fullShare (xbOf (rowsOf m c r))) ⊢ iprop(|={Set.univ}=> Mid m c r 0) := by
  by_cases h : r < nU m
  · rw [Mid_used m c h]
    iintro ⟨HI, HZ⟩
    imod (stage_alloc c (V m c main_arg0) (words (tokW m c (r + 1))) (rowsOf m c r)) $$ HI with HS
    imodintro
    isplitl [HS] <;> iassumption
  · rw [Mid_past m c h]
    iintro ⟨HI, HZ⟩
    imodintro
    isplitl [HI]
    · iexists _; iexact HI
    · iexists _; iexact HZ

section Point

variable (c : Dev nD) (i : grid0.Coords)
  (arg2 : Memref sig .tc .smem S73 .i32) (harg2 : arg2.IsWhole) (arg3 : Memref sig .tc .smem S1 .i32) (harg3 : arg3.IsWhole)
  (arg4 : Memref sig .tc .smem S1x1x1024 .i32) (harg4 : arg4.IsWhole) (arg5 : Memref sig .tc .smem S1x1x1024 .i32) (harg5 : arg5.IsWhole)
  (arg7 : Memref sig .tc .vmem S1x2048x512 .bf16) (harg7 : arg7.IsWhole) (arg8 : Memref sig .tc .vmem S1x2048x512 .bf16) (harg8 : arg8.IsWhole)
  (arg9 : Memref sig .tc .vmem S1x512x2048 .bf16) (harg9 : arg9.IsWhole) (arg10 : Memref sig .tc .vmem S1024x2048 .f32) (harg10 : arg10.IsWhole)
  {T : S1.Idx → BitVec 32} {qT : PosShare TreeShare} {r j : Nat}

set_option maxHeartbeats 4000000 in
include hR in
/-- The first point, up to its copies' waits. -/
theorem begin_first {Q : PUnit → sProp 𝕄} {Y : Vec F S1024x2048 .f32} (hT : (word1 T).toNat = nU m) (h0 : (i 0).val = r) (h1 : (i 1).val = j) (hr : r = 0) (hj : j = 0) :
    iprop(owns (c : Thread nD τ) arg3 qT T ∗ St m c (14 * r + j) ∗ owns (c : Thread nD τ) arg4 fullShare (tokW m c r) ∗ owns (c : Thread nD τ) arg10 fullShare Y ∗ (∃ W, owes (c : Thread nD τ) 0 W))
      ⊢ iprop((iprop(owns (c : Thread nD τ) arg3 qT T ∗ Mid m c r j ∗ owns (c : Thread nD τ) arg4 fullShare (tokW m c r) ∗ owns (c : Thread nD τ) arg10 fullShare (k0_pay1 (F := F)) ∗ (∃ W, owes (c : Thread nD τ) 0 W)) -∗ wpc c (restP (F := F) i arg2 harg2 arg3 harg3 arg4 harg4 arg5 harg5 arg7 harg7 arg8 harg8 arg9 harg9 arg10 harg10 (Memref.whole cc0_scratch1) (Memref.isWhole_whole _) (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) (Memref.whole cc0_scratch1) (Memref.isWhole_whole _) cc0_scratch2) Q) := by
  subst hr hj
  have e3 := cond3_iff i (v := word1 T) (by rw [hT]; exact nU_lt m hR)
  rw [St_idle m c (Or.inl rfl)]
  iintro ⟨HT, ⟨⟨%x, HI⟩, ⟨%Z, HZ⟩⟩, H4, H10, HW⟩ HQ
  iapply (wp_first c i arg2 harg2 arg3 harg3 arg4 harg4 arg5 harg5 arg7 harg7 arg8 harg8 arg9 harg9 arg10 harg10 (Memref.whole cc0_scratch1) (Memref.isWhole_whole _) (qT := qT) (T := T) (Y := Y) (Z := Z) (x := x) (tokW_lt m hR c 0) ((cond1_iff i).mpr h1) ((cond2_iff i).mpr h0) (e3.mpr (by rw [h0]; exact Nat.zero_le _))) $$ [HT HI HZ H4 H10 HW]
  · isplitl [HT]; · iexact HT
    isplitl [HI]; · iexact HI
    isplitl [H4]; · iexact H4
    isplitl [H10]; · iexact H10
    isplitl [HZ]; · iexact HZ
    iexact HW
  iintro ⟨HT, HI, H4, H10, HZ, HW⟩
  imod (mid_of_rows m c 0) $$ [HI HZ] with HM
  · isplitl [HI]
    · iexact HI
    · iexact HZ
  iapply HQ
  isplitl [HT]; · iexact HT
  isplitl [HM]; · iexact HM
  isplitl [H4]; · iexact H4
  isplitl [H10]; · iexact H10
  iexact HW

set_option maxHeartbeats 4000000 in
include hR in
/-- A later tile's first point, up to its copies' waits: the tile used, or the one after the used ones. -/
theorem begin_next {Q : PUnit → sProp 𝕄} {Y : Vec F S1024x2048 .f32} (hT : (word1 T).toNat = nU m) (h0 : (i 0).val = r) (h1 : (i 1).val = j) (hr : r ≠ 0) (hu : r ≤ nU m) (hj : j = 0) :
    iprop(owns (c : Thread nD τ) arg3 qT T ∗ St m c (14 * r + j) ∗ owns (c : Thread nD τ) arg4 fullShare (tokW m c r) ∗ owns (c : Thread nD τ) arg10 fullShare Y ∗ (∃ W, owes (c : Thread nD τ) 0 W))
      ⊢ iprop((iprop(owns (c : Thread nD τ) arg3 qT T ∗ Mid m c r j ∗ owns (c : Thread nD τ) arg4 fullShare (tokW m c r) ∗ owns (c : Thread nD τ) arg10 fullShare (k0_pay1 (F := F)) ∗ (∃ W, owes (c : Thread nD τ) 0 W)) -∗ wpc c (restP (F := F) i arg2 harg2 arg3 harg3 arg4 harg4 arg5 harg5 arg7 harg7 arg8 harg8 arg9 harg9 arg10 harg10 (Memref.whole cc0_scratch1) (Memref.isWhole_whole _) (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) (Memref.whole cc0_scratch1) (Memref.isWhole_whole _) cc0_scratch2) Q) := by
  subst hj
  have e3 := cond3_iff i (v := word1 T) (by rw [hT]; exact nU_lt m hR)
  rw [St_busy m c (n := 14 * r + 0) (r := r - 1) (j := 13) (by omega) (by omega) (by omega), show r - 1 + 1 = r by omega]
  iintro ⟨HT, ⟨HS, HZ⟩, H4, H10, HW⟩ HQ
  iapply (wp_next c i arg2 harg2 arg3 harg3 arg4 harg4 arg5 harg5 arg7 harg7 arg8 harg8 arg9 harg9 arg10 harg10 (Memref.whole cc0_scratch1) (Memref.isWhole_whole _) (qT := qT) (T := T) (Y := Y) (x := rowsOf m c 0) (tokW_lt m hR c r) ((cond1_iff i).mpr h1) (mt (cond2_iff i).mp (by rw [h0]; exact hr)) (e3.mpr (by rw [h0, hT]; exact hu))) $$ [HT HS HZ H4 H10 HW]
  · isplitl [HT]; · iexact HT
    isplitl [HS]; · iexact HS
    isplitl [H4]; · iexact H4
    isplitl [H10]; · iexact H10
    isplitl [HZ]; · iexact HZ
    iexact HW
  iintro ⟨HT, HI, H4, H10, HZ, HW⟩
  imod (mid_of_rows m c r) $$ [HI HZ] with HM
  · isplitl [HI]
    · iexact HI
    · iexact HZ
  iapply HQ
  isplitl [HT]; · iexact HT
  isplitl [HM]; · iexact HM
  isplitl [H4]; · iexact H4
  isplitl [H10]; · iexact H10
  iexact HW

set_option maxHeartbeats 4000000 in
include hR in
/-- The first point of a tile past those. -/
theorem begin_past {Q : PUnit → sProp 𝕄} {Y : Vec F S1024x2048 .f32} (hT : (word1 T).toNat = nU m) (h0 : (i 0).val = r) (h1 : (i 1).val = j) (hu : ¬ r ≤ nU m) (hj : j = 0) :
    iprop(owns (c : Thread nD τ) arg3 qT T ∗ St m c (14 * r + j) ∗ owns (c : Thread nD τ) arg4 fullShare (tokW m c r) ∗ owns (c : Thread nD τ) arg10 fullShare Y ∗ (∃ W, owes (c : Thread nD τ) 0 W))
      ⊢ iprop((iprop(owns (c : Thread nD τ) arg3 qT T ∗ Mid m c r j ∗ owns (c : Thread nD τ) arg4 fullShare (tokW m c r) ∗ owns (c : Thread nD τ) arg10 fullShare (k0_pay1 (F := F)) ∗ (∃ W, owes (c : Thread nD τ) 0 W)) -∗ wpc c (restP (F := F) i arg2 harg2 arg3 harg3 arg4 harg4 arg5 harg5 arg7 harg7 arg8 harg8 arg9 harg9 arg10 harg10 (Memref.whole cc0_scratch1) (Memref.isWhole_whole _) (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) (Memref.whole cc0_scratch1) (Memref.isWhole_whole _) cc0_scratch2) Q) := by
  subst hj
  have e3 := cond3_iff i (v := word1 T) (by rw [hT]; exact nU_lt m hR)
  rw [St_idle m c (n := 14 * r + 0) (Or.inr (by omega)), Mid_past m c (by omega)]
  iintro ⟨HT, HM, H4, H10, HW⟩ HQ
  iapply (wp_past c i arg2 harg2 arg3 harg3 arg4 harg4 arg5 harg5 arg7 harg7 arg8 harg8 arg9 harg9 arg10 harg10 (Memref.whole cc0_scratch1) (Memref.isWhole_whole _) (qT := qT) (T := T) (Y := Y) (hb := V m c main_arg0) (x := rowsOf m c 0) (Z := xbOf (rowsOf m c 0)) (tokW_lt m hR c 0) ((cond1_iff i).mpr h1) (mt (cond2_iff i).mp (by rw [h0]; omega)) (mt e3.mp (by rw [h0, hT]; exact hu))) $$ [HT H10]
  · isplitl [HT]
    · iexact HT
    · iexact H10
  iintro ⟨HT, H10⟩
  iapply HQ
  isplitl [HT]; · iexact HT
  isplitl [HM]; · iexact HM
  isplitl [H4]; · iexact H4
  isplitl [H10]; · iexact H10
  iexact HW

set_option maxHeartbeats 4000000 in
include hR in
/-- A point that is not its tile's first. -/
theorem begin_later {Q : PUnit → sProp 𝕄} {Y : Vec F S1024x2048 .f32} (hT : (word1 T).toNat = nU m) (h0 : (i 0).val = r) (h1 : (i 1).val = j) (hj : j ≠ 0) (hj' : j < 14) :
    iprop(owns (c : Thread nD τ) arg3 qT T ∗ St m c (14 * r + j) ∗ owns (c : Thread nD τ) arg4 fullShare (tokW m c r) ∗ owns (c : Thread nD τ) arg10 fullShare Y ∗ (∃ W, owes (c : Thread nD τ) 0 W))
      ⊢ iprop((iprop(owns (c : Thread nD τ) arg3 qT T ∗ Mid m c r j ∗ owns (c : Thread nD τ) arg4 fullShare (tokW m c r) ∗ owns (c : Thread nD τ) arg10 fullShare Y ∗ (∃ W, owes (c : Thread nD τ) 0 W)) -∗ wpc c (restP (F := F) i arg2 harg2 arg3 harg3 arg4 harg4 arg5 harg5 arg7 harg7 arg8 harg8 arg9 harg9 arg10 harg10 (Memref.whole cc0_scratch1) (Memref.isWhole_whole _) (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) (Memref.whole cc0_scratch1) (Memref.isWhole_whole _) cc0_scratch2) Q) := by
  have hM : St m c (14 * r + j) = Mid m c r j := by
    by_cases hr : r < nU m
    · rw [St_busy m c (n := 14 * r + j) (r := r) (j := j - 1) (by omega) (by omega) hr, Mid_used m c hr, show j - 1 + 1 = j by omega]
    · rw [St_idle m c (Or.inr (by omega)), Mid_past m c hr]
  rw [hM]
  iintro ⟨HT, HM, H4, H10, HW⟩ HQ
  iapply (wp_later c i arg2 harg2 arg3 harg3 arg4 harg4 arg5 harg5 arg7 harg7 arg8 harg8 arg9 harg9 arg10 harg10 (Memref.whole cc0_scratch1) (Memref.isWhole_whole _) (qT := qT) (T := T) (Y := Y) (hb := V m c main_arg0) (x := rowsOf m c 0) (Z := xbOf (rowsOf m c 0)) (tokW_lt m hR c 0) (mt (cond1_iff i).mp (by rw [h1]; exact hj))) $$ [HT H10]
  · isplitl [HT]
    · iexact HT
    · iexact H10
  iintro ⟨HT, H10⟩
  iapply HQ
  isplitl [HT]; · iexact HT
  isplitl [HM]; · iexact HM
  isplitl [H4]; · iexact H4
  isplitl [H10]; · iexact H10
  iexact HW

include hR in
/-- A point up to its copies' waits. -/
theorem point_begin {Q : PUnit → sProp 𝕄} {Y : Vec F S1024x2048 .f32} (hT : (word1 T).toNat = nU m) (h0 : (i 0).val = r) (h1 : (i 1).val = j) (hj' : j < 14) :
    iprop(owns (c : Thread nD τ) arg3 qT T ∗ St m c (14 * r + j) ∗ owns (c : Thread nD τ) arg4 fullShare (tokW m c r) ∗ owns (c : Thread nD τ) arg10 fullShare Y ∗ (∃ W, owes (c : Thread nD τ) 0 W))
      ⊢ iprop((iprop(owns (c : Thread nD τ) arg3 qT T ∗ Mid m c r j ∗ owns (c : Thread nD τ) arg4 fullShare (tokW m c r) ∗ owns (c : Thread nD τ) arg10 fullShare (if j = 0 then k0_pay1 (F := F) else Y) ∗ (∃ W, owes (c : Thread nD τ) 0 W)) -∗ wpc c (restP (F := F) i arg2 harg2 arg3 harg3 arg4 harg4 arg5 harg5 arg7 harg7 arg8 harg8 arg9 harg9 arg10 harg10 (Memref.whole cc0_scratch1) (Memref.isWhole_whole _) (word1 T)) Q)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) (Memref.whole cc0_scratch1) (Memref.isWhole_whole _) cc0_scratch2) Q) := by
  by_cases hj : j = 0
  · rw [if_pos hj]
    by_cases hr : r = 0
    · exact begin_first m hR c i arg2 harg2 arg3 harg3 arg4 harg4 arg5 harg5 arg7 harg7 arg8 harg8 arg9 harg9 arg10 harg10 hT h0 h1 hr hj
    · by_cases hu : r ≤ nU m
      · exact begin_next m hR c i arg2 harg2 arg3 harg3 arg4 harg4 arg5 harg5 arg7 harg7 arg8 harg8 arg9 harg9 arg10 harg10 hT h0 h1 hr hu hj
      · exact begin_past m hR c i arg2 harg2 arg3 harg3 arg4 harg4 arg5 harg5 arg7 harg7 arg8 harg8 arg9 harg9 arg10 harg10 hT h0 h1 hu hj
  · rw [if_neg hj]
    exact begin_later m hR c i arg2 harg2 arg3 harg3 arg4 harg4 arg5 harg5 arg7 harg7 arg8 harg8 arg9 harg9 arg10 harg10 hT h0 h1 hj hj'

set_option maxHeartbeats 4000000 in
include hR in
/-- A point past its copies' waits. -/
theorem point_rest {Q : PUnit → sProp 𝕄} {Y : Vec F S1024x2048 .f32} {B2 B3 : Vec F S1x2048x512 .bf16} {B4 : Vec F S1x512x2048 .bf16} (hT : (word1 T).toNat = nU m) (h0 : (i 0).val = r) (h1 : (i 1).val = j) (hj' : j < 14) :
    iprop(Mid m c r j ∗ owns (c : Thread nD τ) arg5 fullShare (tokW m c (r + 1)) ∗ owns (c : Thread nD τ) arg10 fullShare Y ∗ owns (c : Thread nD τ) arg7 fullShare B2 ∗ owns (c : Thread nD τ) arg8 fullShare B3 ∗ owns (c : Thread nD τ) arg9 fullShare B4)
      ⊢ iprop((iprop(St m c (14 * r + j + 1) ∗ owns (c : Thread nD τ) arg5 fullShare (tokW m c (r + 1)) ∗ owns (c : Thread nD τ) arg10 fullShare (if r < nU m then k0_pay3 (k0_pay4 Y) (xbOf (rowsOf m c r)) (k0_pay5 B2) B3 B4 else Y) ∗ owns (c : Thread nD τ) arg7 fullShare B2 ∗ owns (c : Thread nD τ) arg8 fullShare B3 ∗ owns (c : Thread nD τ) arg9 fullShare B4) -∗ Q ⟨⟩)
        -∗ wpc c (restP (F := F) i arg2 harg2 arg3 harg3 arg4 harg4 arg5 harg5 arg7 harg7 arg8 harg8 arg9 harg9 arg10 harg10 (Memref.whole cc0_scratch1) (Memref.isWhole_whole _) (word1 T)) Q) := by
  have e4 := cond4_iff i (v := word1 T) (by rw [hT]; exact nU_lt m hR)
  rw [h0, hT] at e4
  by_cases hr : r < nU m
  · rw [Mid_used m c hr, St_busy m c (n := 14 * r + j + 1) (r := r) (j := j) rfl hj' hr, if_pos hr]
    iintro ⟨⟨HS, HZ⟩, H5, H10, H7, H8, H9⟩ HQ
    iapply (rest_used c i arg2 harg2 arg3 harg3 arg4 harg4 arg5 harg5 arg7 harg7 arg8 harg8 arg9 harg9 arg10 harg10 (Memref.whole cc0_scratch1) (Memref.isWhole_whole _) (Y := Y) (Z := xbOf (rowsOf m c r)) (B2 := B2) (B3 := B3) (B4 := B4) (tokW_lt m hR c (r + 1)) (e4.mpr hr) h1) $$ [HS HZ H5 H10 H7 H8 H9]
    · isplitl [HS]; · iexact HS
      isplitl [H5]; · iexact H5
      isplitl [H10]; · iexact H10
      isplitl [HZ]; · iexact HZ
      isplitl [H7]; · iexact H7
      isplitl [H8]; · iexact H8
      iexact H9
    iintro ⟨HS, H5, H10, HZ, H7, H8, H9⟩
    iapply HQ
    isplitl [HS HZ]
    · isplitl [HS]
      · iexact HS
      · iexact HZ
    isplitl [H5]; · iexact H5
    isplitl [H10]; · iexact H10
    isplitl [H7]; · iexact H7
    isplitl [H8]; · iexact H8
    iexact H9
  · rw [Mid_past m c hr, St_idle m c (n := 14 * r + j + 1) (Or.inr (by omega)), if_neg hr]
    iintro H HQ
    iapply (rest_past c i arg2 harg2 arg3 harg3 arg4 harg4 arg5 harg5 arg7 harg7 arg8 harg8 arg9 harg9 arg10 harg10 (Memref.whole cc0_scratch1) (Memref.isWhole_whole _) (mt e4.mp hr))
    iapply HQ $$ H

set_option maxHeartbeats 4000000 in
include hR in
/-- A point of the grid. -/
theorem point_all {Q : PUnit → sProp 𝕄} {Y : Vec F S1024x2048 .f32} {B2 B3 : Vec F S1x2048x512 .bf16} {B4 : Vec F S1x512x2048 .bf16} (hT : (word1 T).toNat = nU m) (h0 : (i 0).val = r) (h1 : (i 1).val = j) (hj' : j < 14) :
    iprop(owns (c : Thread nD τ) arg3 qT T ∗ St m c (14 * r + j) ∗ (∃ W, owes (c : Thread nD τ) 0 W) ∗ owns (c : Thread nD τ) arg4 fullShare (tokW m c r) ∗ owns (c : Thread nD τ) arg5 fullShare (tokW m c (r + 1)) ∗ owns (c : Thread nD τ) arg7 fullShare B2 ∗ owns (c : Thread nD τ) arg8 fullShare B3 ∗ owns (c : Thread nD τ) arg9 fullShare B4 ∗ owns (c : Thread nD τ) arg10 fullShare Y)
      ⊢ iprop((iprop(owns (c : Thread nD τ) arg3 qT T ∗ St m c (14 * r + j + 1) ∗ (∃ W, owes (c : Thread nD τ) 0 W) ∗ owns (c : Thread nD τ) arg4 fullShare (tokW m c r) ∗ owns (c : Thread nD τ) arg5 fullShare (tokW m c (r + 1)) ∗ owns (c : Thread nD τ) arg7 fullShare B2 ∗ owns (c : Thread nD τ) arg8 fullShare B3 ∗ owns (c : Thread nD τ) arg9 fullShare B4 ∗ owns (c : Thread nD τ) arg10 fullShare (if r < nU m then k0_pay3 (k0_pay4 (if j = 0 then k0_pay1 (F := F) else Y)) (xbOf (rowsOf m c r)) (k0_pay5 B2) B3 B4 else (if j = 0 then k0_pay1 (F := F) else Y))) -∗ Q ⟨⟩)
        -∗ wpc c (cc0_moe_expert_ffn (F := F) i arg2 harg2 arg3 harg3 arg4 harg4 arg5 harg5 hM (Memref.isWhole_whole _) arg7 harg7 arg8 harg8 arg9 harg9 arg10 harg10 xM (Memref.isWhole_whole _) (Memref.whole cc0_scratch1) (Memref.isWhole_whole _) cc0_scratch2) Q) := by
  iintro ⟨HT, HS, HW, H4, H5, H7, H8, H9, H10⟩ HQ
  iapply (point_begin m hR c i arg2 harg2 arg3 harg3 arg4 harg4 arg5 harg5 arg7 harg7 arg8 harg8 arg9 harg9 arg10 harg10 (Y := Y) hT h0 h1 hj') $$ [HT HS H4 H10 HW]
  · isplitl [HT]; · iexact HT
    isplitl [HS]; · iexact HS
    isplitl [H4]; · iexact H4
    isplitl [H10]; · iexact H10
    iexact HW
  iintro ⟨HT, HM, H4, H10, HW⟩
  iapply (point_rest m hR c i arg2 harg2 arg3 harg3 arg4 harg4 arg5 harg5 arg7 harg7 arg8 harg8 arg9 harg9 arg10 harg10 (B2 := B2) (B3 := B3) (B4 := B4) hT h0 h1 hj') $$ [HM H5 H10 H7 H8 H9]
  · isplitl [HM]; · iexact HM
    isplitl [H5]; · iexact H5
    isplitl [H10]; · iexact H10
    isplitl [H7]; · iexact H7
    isplitl [H8]; · iexact H8
    iexact H9
  iintro ⟨HS, H5, H10, H7, H8, H9⟩
  iapply HQ
  isplitl [HT]; · iexact HT
  isplitl [HS]; · iexact HS
  isplitl [HW]; · iexact HW
  isplitl [H4]; · iexact H4
  isplitl [H5]; · iexact H5
  isplitl [H7]; · iexact H7
  isplitl [H8]; · iexact H8
  isplitl [H9]; · iexact H9
  iexact H10

end Point

end Cert.KernelIdeal.Hand

end
-- ==== Proof.Obl.lean ====
/-
  The run of the routed expert call: the library's obligation at every point, the launch, and the frame.
-/
module

public import proofs.«01_k».proof.Proof.Point

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hR : Routed m)

abbrev ms0 (t : Fin (cfgA m hR).N) : Memref sig .tc .smem S1x1x1024 .i32 := spec0_0.stage ((cfgA m hR).slots t (0 : Fin 6))
abbrev hs0 (t : Fin (cfgA m hR).N) : (ms0 m hR t).IsWhole := hstage0_0 (((cfgA m hR).slots t (0 : Fin 6)).cast nbuf0_0)
abbrev ms1 (t : Fin (cfgA m hR).N) : Memref sig .tc .smem S1x1x1024 .i32 := spec0_1.stage ((cfgA m hR).slots t (1 : Fin 6))
abbrev hs1 (t : Fin (cfgA m hR).N) : (ms1 m hR t).IsWhole := hstage0_1 (((cfgA m hR).slots t (1 : Fin 6)).cast nbuf0_1)
abbrev ms2 (t : Fin (cfgA m hR).N) : Memref sig .tc .vmem S1x2048x512 .bf16 := spec0_2.stage ((cfgA m hR).slots t (2 : Fin 6))
abbrev hs2 (t : Fin (cfgA m hR).N) : (ms2 m hR t).IsWhole := hstage0_2 (((cfgA m hR).slots t (2 : Fin 6)).cast nbuf0_2)
abbrev ms3 (t : Fin (cfgA m hR).N) : Memref sig .tc .vmem S1x2048x512 .bf16 := spec0_3.stage ((cfgA m hR).slots t (3 : Fin 6))
abbrev hs3 (t : Fin (cfgA m hR).N) : (ms3 m hR t).IsWhole := hstage0_3 (((cfgA m hR).slots t (3 : Fin 6)).cast nbuf0_3)
abbrev ms4 (t : Fin (cfgA m hR).N) : Memref sig .tc .vmem S1x512x2048 .bf16 := spec0_4.stage ((cfgA m hR).slots t (4 : Fin 6))
abbrev hs4 (t : Fin (cfgA m hR).N) : (ms4 m hR t).IsWhole := hstage0_4 (((cfgA m hR).slots t (4 : Fin 6)).cast nbuf0_4)
abbrev ms5 (t : Fin (cfgA m hR).N) : Memref sig .tc .vmem S1024x2048 .f32 := spec0_5.stage ((cfgA m hR).slots t (5 : Fin 6))
abbrev hs5 (t : Fin (cfgA m hR).N) : (ms5 m hR t).IsWhole := hstage0_5 (((cfgA m hR).slots t (5 : Fin 6)).cast nbuf0_5)

/-- The body at a point, as the pipeline calls it. -/
abbrev bodyAt (t : Fin (cfgA m hR).N) :=
  cc0_moe_expert_ffn (F := F) (crd m hR t) (Memref.whole main_arg2) (Memref.isWhole_whole _) (Memref.whole main_arg3) (Memref.isWhole_whole _) (ms0 m hR t) (hs0 m hR t) (ms1 m hR t) (hs1 m hR t) hM (Memref.isWhole_whole _)
    (ms2 m hR t) (hs2 m hR t) (ms3 m hR t) (hs3 m hR t) (ms4 m hR t) (hs4 m hR t) (ms5 m hR t) (hs5 m hR t) xM (Memref.isWhole_whole _) (Memref.whole cc0_scratch1) (Memref.isWhole_whole _) cc0_scratch2

/-- What the result's block must be left at, as the library asks it. -/
def need5 (c : Dev nD) (t : Fin (cfgA m hR).N) : sProp 𝕄 :=
  match (cfgA m hR).idle (5 : Fin 6) ((cfgA m hR).grid.coords t) with
  | true => match ((cfgA m hR).win (5 : Fin 6)).flush t with
    | false => iprop(∃ d, owns (c : Thread nD τ) (ms5 m hR t) fullShare ((dat m hR c).before (5 : Fin 6) t d))
    | true => owns (c : Thread nD τ) (ms5 m hR t) fullShare ((dat m hR c).after (5 : Fin 6) t)
  | false => owns (c : Thread nD τ) (ms5 m hR t) fullShare ((dat m hR c).after (5 : Fin 6) t)

/-- The contents after the point serve in every case. -/
theorem need5_of (c : Dev nD) (t : Fin (cfgA m hR).N) : owns (c : Thread nD τ) (ms5 m hR t) fullShare (outAt m hR c t.val) ⊢ need5 m hR c t := by
  unfold need5
  cases hi : (cfgA m hR).idle (5 : Fin 6) ((cfgA m hR).grid.coords t) with
  | false => exact .rfl
  | true =>
    rw [idleA, Bool.and_eq_true, decide_eq_true_eq, decide_eq_true_eq] at hi
    cases hf : ((cfgA m hR).win (5 : Fin 6)).flush t with
    | true => exact .rfl
    | false =>
      have e : outAt m hR c t.val = (dat m hR c).before (5 : Fin 6) t (outAt m hR c t.val) := by
        rw [before5, if_neg hi.1, outAt_eq m hR c t.val, stepOut_past m hR c _ _ (Nat.not_lt.mpr hi.2), if_neg hi.1]
      refine (ent_of_eq (congrArg (fun d => owns (c : Thread nD τ) (ms5 m hR t) fullShare d) e)).trans ?_
      exact exists_intro (Φ := fun d => owns (c : Thread nD τ) (ms5 m hR t) fullShare ((dat m hR c).before (5 : Fin 6) t d)) (outAt m hR c t.val)

def bodyPre (c : Dev nD) (t : Fin (cfgA m hR).N) : sProp 𝕄 :=
  iprop((dat m hR c).Φ t.castSucc ∗ (dat m hR c).owesAt () t.castSucc
    ∗ (∃ d, owns (c : Thread nD τ) (ms0 m hR t) fullShare ((dat m hR c).before (0 : Fin 6) t d)) ∗ (∃ d, owns (c : Thread nD τ) (ms1 m hR t) fullShare ((dat m hR c).before (1 : Fin 6) t d)) ∗ (∃ d, owns (c : Thread nD τ) (ms2 m hR t) fullShare ((dat m hR c).before (2 : Fin 6) t d)) ∗ (∃ d, owns (c : Thread nD τ) (ms3 m hR t) fullShare ((dat m hR c).before (3 : Fin 6) t d)) ∗ (∃ d, owns (c : Thread nD τ) (ms4 m hR t) fullShare ((dat m hR c).before (4 : Fin 6) t d)) ∗ (∃ d, owns (c : Thread nD τ) (ms5 m hR t) fullShare ((dat m hR c).before (5 : Fin 6) t d)))
def bodyPost (c : Dev nD) (t : Fin (cfgA m hR).N) : sProp 𝕄 :=
  iprop((dat m hR c).Φ t.succ ∗ (dat m hR c).owesAt () t.succ
    ∗ owns (c : Thread nD τ) (ms0 m hR t) fullShare ((dat m hR c).after (0 : Fin 6) t) ∗ owns (c : Thread nD τ) (ms1 m hR t) fullShare ((dat m hR c).after (1 : Fin 6) t) ∗ owns (c : Thread nD τ) (ms2 m hR t) fullShare ((dat m hR c).after (2 : Fin 6) t) ∗ owns (c : Thread nD τ) (ms3 m hR t) fullShare ((dat m hR c).after (3 : Fin 6) t) ∗ owns (c : Thread nD τ) (ms4 m hR t) fullShare ((dat m hR c).after (4 : Fin 6) t) ∗ need5 m hR c t)

set_option maxHeartbeats 4000000 in
theorem sound_body (c : Dev nD) (t : Fin (cfgA m hR).N) :
    bodyPre m hR c t ⊢ wpc c (bodyAt m hR t) (fun _ => bodyPost m hR c t) := by
  have hn : t.val = 14 * (t.val / 14) + t.val % 14 := (Nat.div_add_mod _ _).symm
  unfold bodyPre bodyPost
  rw [show (dat m hR c).Φ t.succ = Phi m c (t.val + 1) from rfl, show (dat m hR c).Φ t.castSucc = Phi m c t.val from rfl]
  unfold Dat.owesAt Pipeline.owesWithin
  rw [show (dat m hR c).owed t.castSucc = 0 from rfl, show (dat m hR c).owed t.succ = 0 from rfl]
  simp only [before0, before1, before2, before3, before4, before5]
  rw [after0, after1, after2, after3, after4, iblk0 m hR c t, iblk1 m hR c t]
  unfold Phi
  iintro ⟨⟨HA, HT, HG, HS⟩, ⟨%W, -, HW⟩, ⟨%d0, H0⟩, ⟨%d1, H1⟩, ⟨%d2, H2⟩, ⟨%d3, H3⟩, ⟨%d4, H4⟩, ⟨%d5, H5⟩⟩
  have e1 : St m c t.val = St m c (14 * (t.val / 14) + t.val % 14) := congrArg (St m c) hn
  have e2 : St m c (14 * (t.val / 14) + t.val % 14 + 1) = St m c (t.val + 1) := congrArg (fun n => St m c (n + 1)) hn.symm
  have e3 : (if t.val / 14 < nU m then k0_pay3 (k0_pay4 (if t.val % 14 = 0 then k0_pay1 (F := F) else (if t.val % 14 = 0 then d5 else outAt m hR c (t.val - 1)))) (xbOf (rowsOf m c (t.val / 14))) (k0_pay5 (iblk m hR c (2 : Fin 6) t)) (iblk m hR c (3 : Fin 6) t) (iblk m hR c (4 : Fin 6) t)
      else (if t.val % 14 = 0 then k0_pay1 (F := F) else (if t.val % 14 = 0 then d5 else outAt m hR c (t.val - 1)))) = outAt m hR c t.val := by
    have e4 : (if t.val % 14 = 0 then k0_pay1 (F := F) else (if t.val % 14 = 0 then d5 else outAt m hR c (t.val - 1))) = (if t.val % 14 = 0 then k0_pay1 (F := F) else outAt m hR c (t.val - 1)) := by
      by_cases h : t.val % 14 = 0
      · rw [if_pos h, if_pos h]
      · rw [if_neg h, if_neg h, if_neg h]
    rw [e4, outAt_eq m hR c t.val]
    by_cases h : t.val / 14 < nU m
    · rw [if_pos h, stepOut_used m hR c t _ h]
    · rw [if_neg h, stepOut_past m hR c _ _ h]
  ihave HS := (ent_of_eq e1) $$ HS
  iapply (point_all m hR c (crd m hR t) (Memref.whole main_arg2) (Memref.isWhole_whole _) (Memref.whole main_arg3) (Memref.isWhole_whole _) (ms0 m hR t) (hs0 m hR t) (ms1 m hR t) (hs1 m hR t)
    (ms2 m hR t) (hs2 m hR t) (ms3 m hR t) (hs3 m hR t) (ms4 m hR t) (hs4 m hR t) (ms5 m hR t) (hs5 m hR t) (T := tabs m 1) (qT := fullShare.right) (r := t.val / 14) (j := t.val % 14)
    (Y := if t.val % 14 = 0 then d5 else outAt m hR c (t.val - 1)) (B2 := iblk m hR c (2 : Fin 6) t) (B3 := iblk m hR c (3 : Fin 6) t) (B4 := iblk m hR c (4 : Fin 6) t) rfl (crd0 t) (crd1 t) (Nat.mod_lt _ (by omega)))
    $$ [HT HS HW H0 H1 H2 H3 H4 H5]
  · isplitl [HT]; · iexact HT
    isplitl [HS]; · iexact HS
    isplitl [HW]; · iexists W; iexact HW
    isplitl [H0]; · iexact H0
    isplitl [H1]; · iexact H1
    isplitl [H2]; · iexact H2
    isplitl [H3]; · iexact H3
    isplitl [H4]; · iexact H4
    iexact H5
  rw [e2, e3]
  iintro ⟨HT, HS, ⟨%W', HW⟩, H0, H1, H2, H3, H4, H5⟩
  isplitl [HA HT HG HS]
  · isplitl [HA]; · iexact HA
    isplitl [HT]; · iexact HT
    isplitl [HG]; · iexact HG
    iexact HS
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (need5_of m hR c t)
  iexact H5

theorem defs₀_row (t : Fin (cfgA m hR).N) : defs₀ (F := F) .tc (cfgA m hR).body ((cfgA m hR).bodyArgs t ((cfgA m hR).slots t)) = bodyAt m hR t := by
  unfold defs₀; rw [Defs.onTc_tc]

/-- The library's obligation, at every point. -/
theorem body_obligation (c : Dev nD) : BodyObligation (dat m hR c) (defs₀ (F := F)) Variants.none () Set.univ := fun t => by
  rw [bigSep_W0, bigSep_W0, defs₀_row]
  exact triple_restated (sound_body m hR c t) rfl .rfl fun _ => .rfl

end Cert.KernelIdeal.Hand

end
-- ==== Proof.Run.lean ====
/-
  The launch of the routed expert call: what the region is handed and hands back, the run of the whole program, and its frame.
-/
module

public import proofs.«01_k».proof.Proof.Obl

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hR : Routed m)

/-- The copies' own counter. -/
abbrev osem0 : Fin 1 → SemLoc sig := fun j => (![SemLoc.dma cc0_scratch2.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The array the copies read. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = (((c : Thread nD τ).loc main_arg0) ↦{fullShare} V m c main_arg0) := by
  rw [BI.bigSep_eq_bigSepL_of_eq [main_arg0] (by decide) (by decide)]; rfl

/-- The tables as the launch hands them to the region, one by one. -/
theorem prefHeld_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem PhiD_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ (∃ r, prngReg c r) ∗ semVal ((c : Thread nD τ), SemLoc.dma cc0_scratch2.sem) 0 ∗ (((c : Thread nD τ).loc main_arg0) ↦{fullShare} V m c main_arg0)) := by
  rw [Pipeline.ΦD_eq, scopedRest0_eq, ownSems00_eq, hbmPts0_eq]

/-- The invariant at the first point, from what the region is handed; -/
theorem phi_in (c : Dev nD) :
    iprop(Pipeline.ΦD osem0 spec0 H0 (V m) c ∗ Pipeline.prefHeld pre0 c (fun _ => fullShare.right) (tabs m)) ⊢ Phi m c 0 := by
  rw [PhiD_eq, prefHeld_eq]
  unfold Phi
  rw [St_idle m c (Or.inl rfl)]
  unfold Idle
  iintro ⟨⟨⟨⟨%f, HX⟩, ⟨%g, HZ⟩⟩, HG, HS, HH⟩, ⟨HA, HT⟩⟩
  isplitl [HA]; · iexact HA
  isplitl [HT]
  · iapply (ent_of_eq (owns_whole (c : Thread nD τ) main_arg3 fullShare.right (tabs m 1)).symm); iexact HT
  isplitl [HG]; · iexact HG
  isplitl [HX HH HS]
  · iexists f
    isplitl [HX]; · iexact HX
    isplitl [HH]; · iexact HH
    iexact HS
  iexists g
  iapply (ent_of_eq (owns_whole (c : Thread nD τ) cc0_scratch1 fullShare g).symm); iexact HZ

include hR in
/-- at the end it gives them back. -/
theorem phi_out (c : Dev nD) : Phi m c 1022 ⊢ Pipeline.ΦD osem0 spec0 H0 (V m) c := by
  have hU := nU_lt m hR
  rw [PhiD_eq]
  unfold Phi
  rw [St_idle m c (n := 1022) (Or.inr (by omega))]
  unfold Idle
  iintro ⟨HA, HT, HG, ⟨%x, HX, HH, HS⟩, ⟨%Z, HZ⟩⟩
  isplitl [HX HZ]
  · isplitl [HX]
    · iexists x; iexact HX
    iexists Z
    iapply (ent_of_eq (owns_whole (c : Thread nD τ) cc0_scratch1 fullShare Z)); iexact HZ
  isplitl [HG]; · iexact HG
  isplitl [HS]; · iexact HS
  iexact HH

theorem A_eq (c : Dev nD) (w : Fin 6) : (dat m hR c).A w = V m c (Pipeline.arrRef spec0 w) := rfl

set_option backward.isDefEq.respectTransparency.types false in
set_option maxHeartbeats 4000000 in
/-- The run: every fair execution ends, with each array at what the call computes, the others as they were, and every
    counter at zero. -/
theorem run_main : θ_run defs (onTc (τ := τ) (main (F := F))) (s₀ m ρ)
    (fun r => Pipeline.FramePost (pcs m hR) (dats m hR) 0 (V m) r ∧ r.2.sem = fun _ => 0) :=
  Pipeline.θ_run_frameP_dma_shared (Q' := _) pcfgs (fun | 0 => adm m hR) (dats m hR) (0 : Fin 1) launch₀0 osem0 defs₀ Variants.none ownSemFacts0 H0 H0_sub m ρ main
    (hbody := fun c => (body_obligation m hR c).loose) (hq := fun _ _ _ => rfl) (howed := fun _ _ => rfl) (V := V m)
    (hmain := Pipeline.hmainP_prefix pcfgs 0 defs₀ Variants.none m main hostOps0 hostOps0_sub (StableHlo.forall_fresh_of_map rfl) main_chain)
    (hA := A_eq m hR) (hpf := tabs_at m) (hin := phi_in m)
    (hout := fun c => (ent_of_eq (show (dat m hR c).Φ (Fin.last (cfgA m hR).N) = Phi m c 1022 from congrArg (Phi m c) N_0)).trans (phi_out m hR c))

include hR in
/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have keep : ∀ (r : PUnit × MemSt nD τ sig (Elt F)), Pipeline.FramePost (pcs m hR) (dats m hR) 0 (V m) r → ∀ (c : Dev nD) (b : Ref sig .tc), b ∈ Pipeline.restRefs sig spec0 →
      b ∉ [main_v0, main_v1, main_v2, main_v3, main_v4, main_v5, main_v6] → r.2.mem ((c.tc : Thread nD τ).loc b) = m ((c.tc : Thread nD τ).loc b) :=
    fun r h c b hb hv => ((h c).2 b hb).trans (V_keep m c b hv)
  refine (θ_run defs _ _).mono (fun r h => ⟨fun c => ?_, h.2⟩) (run_main m ρ hR)
  have k := keep r h.1 c
  exact ⟨k main_arg0 (Pipeline.mem_restRefs_of _ (by decide) (by decide)) (by decide),
    k main_arg1 (Pipeline.mem_restRefs_of _ (by decide) (by decide)) (by decide),
    k main_arg2 (Pipeline.mem_restRefs_of _ (by decide) (by decide)) (by decide),
    k main_arg3 (Pipeline.mem_restRefs_of _ (by decide) (by decide)) (by decide),
    k main_arg4 (Pipeline.mem_restRefs_of _ (by decide) (by decide)) (by decide),
    k main_arg5 (Pipeline.mem_restRefs_of _ (by decide) (by decide)) (by decide),
    k main_arg6 (Pipeline.mem_restRefs_of _ (by decide) (by decide)) (by decide)⟩

end Cert.KernelIdeal.Hand

end
-- ==== Proof.Swiglu.lean ====
/-
  The mathematics of one expert: its gated hidden values, one element of its result as a sum over the 7168 hidden
  positions, and that sum taken in 14 blocks of 512.
-/
module

public import Idealize.ShloMosaic.Lib.IdealHost
public import Idealize.ShloMosaic.Lib.MatmulPlain
public import Idealize.ShloMosaic.Lib.StackMember
public import Idealize.ShloMosaic.Lib.ValueIdx
public import Idealize.ShloMosaic.Lib.ValueLayout
public import Idealize.ShloMosaic.Lib.ValueLayoutCasts
public import Idealize.ShloMosaic.Lib.Routing.Ops
public import Idealize.ShloMosaic.Lib.Routing.OpsPair
public import Mathlib.Algebra.BigOperators.Fin

@[expose] public section

noncomputable section

namespace Cert.Swiglu

open Idealize.ShloMosaic Idealize.ShloMosaic.ValueIdx
open scoped BigOperators

/-- A gate's silu times the up projection. -/
def act (g u : EReal) : EReal := Ideal.div g (1 + Ideal.exp (-g)) * u

theorem exp_nonneg (x : EReal) : 0 ≤ Ideal.exp x := by
  induction x with
  | bot => exact le_refl _
  | top => exact le_top
  | coe r => exact EReal.coe_nonneg.mpr (Real.exp_nonneg r)

/-- The denominator of silu is never zero. -/
theorem den_ne_zero (g : EReal) : 1 + Ideal.exp (-g) ≠ 0 := by
  have h := Ideal.one_add_sum_ne_zero (Finset.univ : Finset (Fin 1)) (fun _ => Ideal.exp (-g)) (fun _ _ => exp_nonneg _)
  simpa using h

/-- A gate times its sigmoid is the gate over one plus its exponential, on every extended real. -/
theorem act_eq (g u : EReal) : g * Ideal.div 1 (1 + Ideal.exp (-g)) * u = act g u := by
  unfold act; rw [Ideal.mul_one_div (den_ne_zero g)]

/-- One hidden value of a row, from a column of the gate's and of the up projection's weights. -/
def hid (x wg wu : Fin 2048 → EReal) : EReal := act (∑ k, x k * wg k) (∑ k, x k * wu k)

/-- One element of an expert's result on a row. -/
def expert (x : Fin 2048 → EReal) (wg wu : Fin 7168 → Fin 2048 → EReal) (wd : Fin 7168 → EReal) : EReal :=
  ∑ f, hid x (wg f) (wu f) * wd f

/-- Position `f` of hidden block `j`. -/
def pos (j : ℕ) (f : Fin 512) : Fin 7168 := ⟨(512 * j + f.val) % 7168, Nat.mod_lt _ (by norm_num)⟩

theorem pos_val {j : ℕ} (hj : j < 14) (f : Fin 512) : (pos j f).val = 512 * j + f.val := by
  unfold pos; exact Nat.mod_eq_of_lt (by have := f.isLt; omega)

/-- A sum over the hidden positions, block by block. -/
theorem sum_blocks (g : Fin 7168 → EReal) : ∑ f, g f = ∑ j ∈ Finset.range 14, ∑ f : Fin 512, g (pos j f) := by
  rw [Finset.sum_range, ← Equiv.sum_comp ((finProdFinEquiv (m := 14) (n := 512)).trans (finCongr (by norm_num : 14 * 512 = 7168))), Fintype.sum_prod_type]
  refine Finset.sum_congr rfl fun j _ => Finset.sum_congr rfl fun f _ => congrArg g (Fin.ext ?_)
  rw [pos_val j.isLt]
  simp [finProdFinEquiv]
  omega

/-- An expert's element, hidden block by hidden block. -/
theorem expert_blocks (x : Fin 2048 → EReal) (wg wu : Fin 7168 → Fin 2048 → EReal) (wd : Fin 7168 → EReal) :
    expert x wg wu wd = ∑ j ∈ Finset.range 14, ∑ f : Fin 512, hid x (wg (pos j f)) (wu (pos j f)) * wd (pos j f) :=
  sum_blocks _

/-- The tile of a row. -/
def tileOf (i : Fin 74752) : Fin 73 := ⟨i.val / 1024, by have := i.isLt; omega⟩

/-- The token a row is routed from. -/
def tokOf (tok : (⟨1, ![74752]⟩ : Shape).Idx → BitVec 32) (i : Fin 74752) : Fin 32768 :=
  ⟨(tok (ix1 i)).toNat % 32768, Nat.mod_lt _ (by norm_num)⟩

/-- The expert of a tile. -/
def expOf (te : (⟨1, ![73]⟩ : Shape).Idx → BitVec 32) (r : Fin 73) : Fin 8 := ⟨(te (ix1 r)).toNat % 8, Nat.mod_lt _ (by norm_num)⟩

/-- The routed experts' SwiGLU: row `i` of a used tile is its tile's expert on its token's row, a row past the used
    tiles is zero. -/
def rows (h : (⟨2, ![32768, 2048]⟩ : Shape).Idx → EReal) (tok : (⟨1, ![74752]⟩ : Shape).Idx → BitVec 32)
    (te : (⟨1, ![73]⟩ : Shape).Idx → BitVec 32) (nu : (⟨1, ![1]⟩ : Shape).Idx → BitVec 32)
    (wg wu : (⟨4, ![1, 8, 2048, 7168]⟩ : Shape).Idx → EReal) (wd : (⟨4, ![1, 8, 7168, 2048]⟩ : Shape).Idx → EReal)
    (i : Fin 74752) (d : Fin 2048) : EReal :=
  if i.val / 1024 < (nu (ix1 0)).toNat then
    expert (fun k => h (ix2 (tokOf tok i) k)) (fun f k => wg (ix4 0 (expOf te (tileOf i)) k f))
      (fun f k => wu (ix4 0 (expOf te (tileOf i)) k f)) (fun f => wd (ix4 0 (expOf te (tileOf i)) f d))
  else 0

end Cert.Swiglu

end
-- ==== Proof.PointValue.lean ====
/-
  One point of the routed expert call, element by element: at the extended reals it adds one hidden block's share of its
  tile's expert to each row.
-/
module

public import proofs.«01_k».proof.Proof.Swiglu
public import proofs.«01_k».proof.Proof.Data

@[expose] public section

noncomputable section

namespace Cert.KernelIdeal.Hand

open Cert.KernelIdeal Cert.KernelIdeal.Gen
open Idealize.ShloMosaic hiding ix0 ix1 ix2 ix3 ix4
open Idealize.ShloMosaic.TcCoe Idealize.ShloMosaic.ValueIdx Idealize.ShloMosaic.Routing
open Cert.Swiglu

/-! ## The payloads at an index -/

/-- What a point stores at an index: what was there, and the hidden block's share. -/
theorem pay3_apply (base : Vec Ideal S1024x2048 .f32) (x : Vec Ideal S1024x2048 .bf16) (wg wu : Vec Ideal S1x2048x512 .bf16)
    (wd : Vec Ideal S1x512x2048 .bf16) (a : Fin 1024) (d : Fin 2048) :
    (show EReal from k0_pay3 (k0_pay4 base) x (k0_pay5 wg) wu wd (ix2 a d)) = (show EReal from base (ix2 a d))
      + ∑ f : Fin 512, hid (fun k => x (ix2 a k)) (fun k => wg (ix3 0 k f)) (fun k => wu (ix3 0 k f)) * (show EReal from wd (ix3 0 f d)) := by
  unfold k0_pay3 k0_pay4 k0_pay5
  simp only [shapeCast_self]
  refine congrArg (fun z : EReal => (show EReal from base (ix2 a d)) + z) ?_
  refine (Ideal.matmul_plain_apply (M := 1024) (K := 512) (N := 2048) none _ _ _ a d).trans ?_
  rw [show (constant (F := Ideal) S1024x2048 .f32 0x00000000#32 (ix2 a d) : EReal) = 0 from Ideal.ofBits_zero_f32, zero_add]
  refine Finset.sum_congr rfl fun f _ => congrArg₂ (· * ·) ?_ (shapeCast_1ab_ab_apply wd shapeCasts_S1x512x2048_S512x2048 f d)
  have hp : ∀ w : Vec Ideal S1x2048x512 .bf16, (show EReal from matmul dot_S1024x2048_S2048x512_S1024x512_1_0_0_1_n_n none x
      (shapeCast S2048x512 w shapeCasts_S1x2048x512_S2048x512) (constant (F := Ideal) S1024x512 .f32 0x00000000#32) (ix2 a f))
        = ∑ k, (show EReal from x (ix2 a k)) * (show EReal from w (ix3 0 k f)) := fun w => by
    refine (Ideal.matmul_plain_apply (M := 1024) (K := 2048) (N := 512) none _ _ _ a f).trans ?_
    rw [show (constant (F := Ideal) S1024x512 .f32 0x00000000#32 (ix2 a f) : EReal) = 0 from Ideal.ofBits_zero_f32, zero_add]
    exact Finset.sum_congr rfl fun k _ => congrArg _ (shapeCast_1ab_ab_apply w shapeCasts_S1x2048x512_S2048x512 k f)
  unfold hid
  rw [← hp wg, ← hp wu]
  unfold act
  refine (show _ = Ideal.div _ ((Scalar.ofBits (F := Ideal) .f32 0x3F800000#32 : EReal) + Ideal.exp ((Scalar.ofBits (F := Ideal) .f32 0x00000000#32 : EReal) - _)) * _ from rfl).trans ?_
  rw [show (Scalar.ofBits (F := Ideal) .f32 0x3F800000#32 : EReal) = 1 from Ideal.ofBits_one_f32,
    show (Scalar.ofBits (F := Ideal) .f32 0x00000000#32 : EReal) = 0 from Ideal.ofBits_zero_f32, zero_sub]
  rfl

theorem pay1_apply (a : Fin 1024) (d : Fin 2048) : (show EReal from k0_pay1 (F := Ideal) (ix2 a d)) = 0 := Ideal.ofBits_zero_f32

/-- The expert's input block at an index is the gathered row's entry. -/
theorem xb_apply (x : XBuf Ideal) (a : Fin 1024) (k : Fin 2048) :
    (show EReal from xbOf x (ix2 a k)) = (show EReal from x (ix2 ⟨a.val, by have := a.isLt; omega⟩ k)) := by
  unfold xbOf k0_pay2
  simp only [shapeCast_self]
  refine (show _ = (show EReal from x _) from rfl).trans (congrArg (fun j => (show EReal from x j)) (funext fun b => Fin.ext ?_))
  match b with
  | ⟨0, _⟩ => simp [LoadRect.idx]
  | ⟨1, _⟩ => simp [LoadRect.idx]

variable (m : (ℓ : Loc nD τ sig) → Buf (Elt Ideal) ℓ) (hR : Routed m)

/-! ## The arrays -/

abbrev m0 (c : Dev nD) : S32768x2048.Idx → EReal := m ((c.tc : Thread nD τ).loc main_arg0)
abbrev m1 (c : Dev nD) : S74752.Idx → BitVec 32 := m ((c.tc : Thread nD τ).loc main_arg1)
abbrev m2 (c : Dev nD) : S73.Idx → BitVec 32 := m ((c.tc : Thread nD τ).loc main_arg2)
abbrev m3 (c : Dev nD) : S1.Idx → BitVec 32 := m ((c.tc : Thread nD τ).loc main_arg3)
abbrev m4 (c : Dev nD) : S1x8x2048x7168.Idx → EReal := m ((c.tc : Thread nD τ).loc main_arg4)
abbrev m5 (c : Dev nD) : S1x8x2048x7168.Idx → EReal := m ((c.tc : Thread nD τ).loc main_arg5)
abbrev m6 (c : Dev nD) : S1x8x7168x2048.Idx → EReal := m ((c.tc : Thread nD τ).loc main_arg6)

theorem V_gate (c : Dev nD) (e : Fin 8) (k : Fin 2048) (f : Fin 7168) : (show EReal from V m c main_v2 (ix3 e k f)) = m4 m c (ix4 0 e k f) := by
  have h : V m c main_v2 = fun i => shapeCast S8x2048x7168 (m4 m c) shapeCasts_S1x8x2048x7168_S8x2048x7168 i := by
    unfold V hostOps0
    after_results_simp <;> rfl
  rw [h]
  exact shapeCast_1abc_abc_apply (m4 m c) shapeCasts_S1x8x2048x7168_S8x2048x7168 e k f
theorem V_up (c : Dev nD) (e : Fin 8) (k : Fin 2048) (f : Fin 7168) : (show EReal from V m c main_v4 (ix3 e k f)) = m5 m c (ix4 0 e k f) := by
  have h : V m c main_v4 = fun i => shapeCast S8x2048x7168 (m5 m c) shapeCasts_S1x8x2048x7168_S8x2048x7168 i := by
    unfold V hostOps0
    after_results_simp <;> rfl
  rw [h]
  exact shapeCast_1abc_abc_apply (m5 m c) shapeCasts_S1x8x2048x7168_S8x2048x7168 e k f
theorem V_down (c : Dev nD) (e : Fin 8) (f : Fin 7168) (d : Fin 2048) : (show EReal from V m c main_v6 (ix3 e f d)) = m6 m c (ix4 0 e f d) := by
  have h : V m c main_v6 = fun i => shapeCast S8x7168x2048 (m6 m c) shapeCasts_S1x8x7168x2048_S8x7168x2048 i := by
    unfold V hostOps0
    after_results_simp <;> rfl
  rw [h]
  exact shapeCast_1abc_abc_apply (m6 m c) shapeCasts_S1x8x7168x2048_S8x7168x2048 e f d

/-- Row `a` of tile `r`, among all rows. -/
def rowAt (r : Nat) (hr : r < 73) (a : Fin 1024) : Fin 74752 := ⟨r * 1024 + a.val, by have := a.isLt; omega⟩

/-- A tile's gathered row is its token's row. -/
theorem rows_apply (c : Dev nD) (r : Nat) (hr : r < 73) (a : Fin 1024) (k : Fin 2048) :
    (show EReal from xbOf (rowsOf m c r) (ix2 a k)) = m0 m c (ix2 (tokOf (m1 m c) (rowAt r hr a)) k) := by
  rw [xb_apply]
  have ha := a.isLt
  have e : words (tokW m c r) a.val = m1 m c (ix1 (rowAt r hr a)) := by
    unfold words tokW
    rw [V_tok]
    refine (congrArg (shapeCast S73x1x1024 (m1 m c) shapeCasts_S74752_S73x1x1024) ?_).trans
      (cast13 (m1 m c) shapeCasts_S74752_S73x1x1024 (⟨r, hr⟩ : Fin 73) (0 : Fin 1) a (rowAt r hr a) ?_)
    · funext b
      match b with
      | ⟨0, _⟩ => exact Fin.ext (show min r 72 = r by omega)
      | ⟨1, _⟩ => rfl
      | ⟨2, _⟩ => exact Fin.ext (show min a.val 1023 = a.val by omega)
    · show r * 1024 + a.val = (r * 1 + 0) * 1024 + a.val
      omega
  unfold rowsOf gath
  rw [V_keep m c main_arg0 (by decide)]
  refine congrArg (m0 m c) ?_
  funext b
  match b with
  | ⟨0, _⟩ =>
    refine Fin.ext (show (words (tokW m c r) a.val).toNat % 32768 = (m1 m c (ix1 (rowAt r hr a))).toNat % 32768 from ?_)
    rw [e]
  | ⟨1, _⟩ => rfl

/-! ## The weights' blocks -/

/-- The tile of a point. -/
def tl (t : Fin (cfgA m hR).N) : Fin 73 := ⟨t.val / 14, by have : t.val < 1022 := lt_of_lt_of_eq t.isLt N_0; omega⟩

/-- The table's word at a point names its tile's expert. -/
theorem exp_word (c : Dev nD) (t : Fin (cfgA m hR).N) :
    (show BitVec 32 from tabs m 0 ((Rect.unit (s := S73) ![(Scalar.indexCast (BitVec.ofNat 32 (grid0.coords t 0).val)).toNat] S1.size (k0_off1_inb (grid0.coords t))).emb
      (Shape.Idx.first (numel1_S1.symm ▸ Nat.one_pos)))).toNat = (expOf (m2 m c) (tl m hR t)).val := by
  have hc : c = 0 := Subsingleton.elim _ _
  subst hc
  have e : (Rect.unit (s := S73) ![(Scalar.indexCast (BitVec.ofNat 32 (grid0.coords t 0).val)).toNat] S1.size (k0_off1_inb (grid0.coords t))).emb
      (Shape.Idx.first (numel1_S1.symm ▸ Nat.one_pos)) = ix1 (tl m hR t) := by
    funext b
    match b with
    | ⟨0, _⟩ =>
      refine Fin.ext (show (BitVec.ofNat 32 (grid0.coords t 0).val).toNat + 0 * 1 = t.val / 14 from ?_)
      rw [row_word (grid0.coords t 0), crd0 t]; omega
  have h := inTab m hR (ix1 (tl m hR t))
  rw [e]
  rw [tabs_exp] at h ⊢
  show (m2 m 0 (ix1 (tl m hR t))).toNat = (m2 m 0 (ix1 (tl m hR t))).toNat % 8
  exact (Nat.mod_eq_of_lt h).symm

theorem blk_word (t : Fin (cfgA m hR).N) (f : Fin 512) : (BitVec.ofNat 32 (grid0.coords t 1).val).toNat * 512 + f.val = (pos (t.val % 14) f).val := by
  have e : ∀ n : Fin 14, (BitVec.ofNat 32 n.val).toNat = n.val := by decide
  rw [e (grid0.coords t 1), crd1 t, pos_val (Nat.mod_lt _ (by norm_num))]; omega

theorem iblk2_apply (c : Dev nD) (t : Fin (cfgA m hR).N) (k : Fin 2048) (f : Fin 512) :
    (show EReal from iblk m hR c (2 : Fin 6) t (ix3 (0 : Fin 1) k f)) = m4 m c (ix4 0 (expOf (m2 m c) (tl m hR t)) k (pos (t.val % 14) f)) := by
  refine Eq.trans ?_ (V_gate m c (expOf (m2 m c) (tl m hR t)) k (pos (t.val % 14) f))
  refine congrArg (V m c main_v2) ?_
  funext b
  match b with
  | ⟨0, _⟩ =>
    refine Fin.ext ((Pipeline.Window.rect_emb_val ((cfgA m hR).win (2 : Fin 6)) t (ix3 (0 : Fin 1) k f) (0 : Fin 3)).trans ?_)
    refine (show (show BitVec 32 from tabs m 0 ((Rect.unit (s := S73) ![(Scalar.indexCast (BitVec.ofNat 32 (grid0.coords t 0).val)).toNat] S1.size (k0_off1_inb (grid0.coords t))).emb
      (Shape.Idx.first (numel1_S1.symm ▸ Nat.one_pos)))).toNat * 1 + 0 = (expOf (m2 m c) (tl m hR t)).val from ?_)
    rw [exp_word m hR c t, Nat.mul_one]; rfl
  | ⟨1, _⟩ =>
    refine Fin.ext ((Pipeline.Window.rect_emb_val ((cfgA m hR).win (2 : Fin 6)) t (ix3 (0 : Fin 1) k f) (1 : Fin 3)).trans ?_)
    exact (show 0 * 2048 + k.val = k.val by rw [Nat.zero_mul, Nat.zero_add])
  | ⟨2, _⟩ =>
    refine Fin.ext ((Pipeline.Window.rect_emb_val ((cfgA m hR).win (2 : Fin 6)) t (ix3 (0 : Fin 1) k f) (2 : Fin 3)).trans ?_)
    exact blk_word m hR t f

theorem iblk3_apply (c : Dev nD) (t : Fin (cfgA m hR).N) (k : Fin 2048) (f : Fin 512) :
    (show EReal from iblk m hR c (3 : Fin 6) t (ix3 (0 : Fin 1) k f)) = m5 m c (ix4 0 (expOf (m2 m c) (tl m hR t)) k (pos (t.val % 14) f)) := by
  refine Eq.trans ?_ (V_up m c (expOf (m2 m c) (tl m hR t)) k (pos (t.val % 14) f))
  refine congrArg (V m c main_v4) ?_
  funext b
  match b with
  | ⟨0, _⟩ =>
    refine Fin.ext ((Pipeline.Window.rect_emb_val ((cfgA m hR).win (3 : Fin 6)) t (ix3 (0 : Fin 1) k f) (0 : Fin 3)).trans ?_)
    refine (show (show BitVec 32 from tabs m 0 ((Rect.unit (s := S73) ![(Scalar.indexCast (BitVec.ofNat 32 (grid0.coords t 0).val)).toNat] S1.size (k0_off1_inb (grid0.coords t))).emb
      (Shape.Idx.first (numel1_S1.symm ▸ Nat.one_pos)))).toNat * 1 + 0 = (expOf (m2 m c) (tl m hR t)).val from ?_)
    rw [exp_word m hR c t, Nat.mul_one]; rfl
  | ⟨1, _⟩ =>
    refine Fin.ext ((Pipeline.Window.rect_emb_val ((cfgA m hR).win (3 : Fin 6)) t (ix3 (0 : Fin 1) k f) (1 : Fin 3)).trans ?_)
    exact (show 0 * 2048 + k.val = k.val by rw [Nat.zero_mul, Nat.zero_add])
  | ⟨2, _⟩ =>
    refine Fin.ext ((Pipeline.Window.rect_emb_val ((cfgA m hR).win (3 : Fin 6)) t (ix3 (0 : Fin 1) k f) (2 : Fin 3)).trans ?_)
    exact blk_word m hR t f

theorem iblk4_apply (c : Dev nD) (t : Fin (cfgA m hR).N) (f : Fin 512) (d : Fin 2048) :
    (show EReal from iblk m hR c (4 : Fin 6) t (ix3 (0 : Fin 1) f d)) = m6 m c (ix4 0 (expOf (m2 m c) (tl m hR t)) (pos (t.val % 14) f) d) := by
  refine Eq.trans ?_ (V_down m c (expOf (m2 m c) (tl m hR t)) (pos (t.val % 14) f) d)
  refine congrArg (V m c main_v6) ?_
  funext b
  match b with
  | ⟨0, _⟩ =>
    refine Fin.ext ((Pipeline.Window.rect_emb_val ((cfgA m hR).win (4 : Fin 6)) t (ix3 (0 : Fin 1) f d) (0 : Fin 3)).trans ?_)
    refine (show (show BitVec 32 from tabs m 0 ((Rect.unit (s := S73) ![(Scalar.indexCast (BitVec.ofNat 32 (grid0.coords t 0).val)).toNat] S1.size (k0_off1_inb (grid0.coords t))).emb
      (Shape.Idx.first (numel1_S1.symm ▸ Nat.one_pos)))).toNat * 1 + 0 = (expOf (m2 m c) (tl m hR t)).val from ?_)
    rw [exp_word m hR c t, Nat.mul_one]; rfl
  | ⟨1, _⟩ =>
    refine Fin.ext ((Pipeline.Window.rect_emb_val ((cfgA m hR).win (4 : Fin 6)) t (ix3 (0 : Fin 1) f d) (1 : Fin 3)).trans ?_)
    exact blk_word m hR t f
  | ⟨2, _⟩ =>
    refine Fin.ext ((Pipeline.Window.rect_emb_val ((cfgA m hR).win (4 : Fin 6)) t (ix3 (0 : Fin 1) f d) (2 : Fin 3)).trans ?_)
    exact (show 0 * 2048 + d.val = d.val by rw [Nat.zero_mul, Nat.zero_add])

/-! ## The result's block after a tile's points -/

/-- Hidden block `j`'s share of an element. -/
def share (c : Dev nD) (i : Fin 74752) (d : Fin 2048) (j : Nat) : EReal :=
  ∑ f : Fin 512, hid (fun k => m0 m c (ix2 (tokOf (m1 m c) i) k)) (fun k => m4 m c (ix4 0 (expOf (m2 m c) (tileOf i)) k (pos j f)))
    (fun k => m5 m c (ix4 0 (expOf (m2 m c) (tileOf i)) k (pos j f))) * m6 m c (ix4 0 (expOf (m2 m c) (tileOf i)) (pos j f) d)

theorem tileOf_rowAt (r : Nat) (hr : r < 73) (a : Fin 1024) : tileOf (rowAt r hr a) = ⟨r, hr⟩ :=
  Fin.ext (show (r * 1024 + a.val) / 1024 = r by have := a.isLt; omega)

/-- A point of a used tile adds its hidden block's share. -/
theorem step_apply (c : Dev nD) (r : Nat) (hr : r < 73) (hu : r < nU m) (j : Nat) (hj : j < 14) (base : Vec Ideal S1024x2048 .f32) (a : Fin 1024) (d : Fin 2048) :
    (show EReal from stepOut m hR c (14 * r + j) base (ix2 a d)) = (show EReal from base (ix2 a d)) + share m c (rowAt r hr a) d j := by
  have hn : 14 * r + j < (cfgA m hR).N := by rw [hN]; omega
  have e1 : (14 * r + j) / 14 = r := by omega
  have e2 : (14 * r + j) % 14 = j := by omega
  rw [stepOut_used m hR c ⟨14 * r + j, hn⟩ base (show (14 * r + j) / 14 < nU m by rw [e1]; exact hu)]
  rw [show (⟨14 * r + j, hn⟩ : Fin (cfgA m hR).N).val / 14 = r from e1]
  refine (pay3_apply base _ _ _ _ a d).trans (congrArg (fun z : EReal => (show EReal from base (ix2 a d)) + z) ?_)
  unfold share
  have et : tileOf (rowAt r hr a) = tl m hR ⟨14 * r + j, hn⟩ := (tileOf_rowAt r hr a).trans (Fin.ext e1.symm)
  refine Finset.sum_congr rfl fun f _ => ?_
  have hx : (fun k => (show EReal from xbOf (rowsOf m c r) (ix2 a k))) = fun k => m0 m c (ix2 (tokOf (m1 m c) (rowAt r hr a)) k) := funext fun k => rows_apply m c r hr a k
  have hg : (fun k => (show EReal from iblk m hR c (2 : Fin 6) ⟨14 * r + j, hn⟩ (ix3 (0 : Fin 1) k f))) = fun k => m4 m c (ix4 0 (expOf (m2 m c) (tileOf (rowAt r hr a))) k (pos j f)) := by
    funext k; rw [et]; refine (iblk2_apply m hR c ⟨14 * r + j, hn⟩ k f).trans ?_; rw [show (⟨14 * r + j, hn⟩ : Fin (cfgA m hR).N).val % 14 = j from e2]
  have hv : (fun k => (show EReal from iblk m hR c (3 : Fin 6) ⟨14 * r + j, hn⟩ (ix3 (0 : Fin 1) k f))) = fun k => m5 m c (ix4 0 (expOf (m2 m c) (tileOf (rowAt r hr a))) k (pos j f)) := by
    funext k; rw [et]; refine (iblk3_apply m hR c ⟨14 * r + j, hn⟩ k f).trans ?_; rw [show (⟨14 * r + j, hn⟩ : Fin (cfgA m hR).N).val % 14 = j from e2]
  have hd : (show EReal from iblk m hR c (4 : Fin 6) ⟨14 * r + j, hn⟩ (ix3 (0 : Fin 1) f d)) = m6 m c (ix4 0 (expOf (m2 m c) (tileOf (rowAt r hr a))) (pos j f) d) := by
    rw [et]; refine (iblk4_apply m hR c ⟨14 * r + j, hn⟩ f d).trans ?_; rw [show (⟨14 * r + j, hn⟩ : Fin (cfgA m hR).N).val % 14 = j from e2]
  exact congrArg₂ (fun a b : EReal => a * b) (by rw [← hx, ← hg, ← hv]) hd

/-- The block after a used tile's point `j` holds the first `j + 1` shares; -/
theorem out_used (c : Dev nD) (r : Nat) (hr : r < 73) (hu : r < nU m) (a : Fin 1024) (d : Fin 2048) :
    ∀ j < 14, (show EReal from outAt m hR c (14 * r + j) (ix2 a d)) = ∑ i ∈ Finset.range (j + 1), share m c (rowAt r hr a) d i := by
  intro j
  induction j with
  | zero =>
    intro hj
    rw [outAt_eq, if_pos (by omega)]
    refine (step_apply m hR c r hr hu 0 hj _ a d).trans ?_
    rw [Finset.sum_range_one]
    exact (congrArg (fun z : EReal => z + share m c (rowAt r hr a) d 0) (pay1_apply a d)).trans (zero_add _)
  | succ j ih =>
    intro hj
    rw [outAt_eq, if_neg (by omega), show 14 * r + (j + 1) - 1 = 14 * r + j by omega]
    refine (step_apply m hR c r hr hu (j + 1) hj _ a d).trans ?_
    rw [Finset.sum_range_succ]
    exact congrArg (fun z : EReal => z + share m c (rowAt r hr a) d (j + 1)) (ih (by omega))

/-- past the used tiles it stays zero. -/
theorem out_past (c : Dev nD) (r : Nat) (hu : ¬ r < nU m) (a : Fin 1024) (d : Fin 2048) :
    ∀ j < 14, (show EReal from outAt m hR c (14 * r + j) (ix2 a d)) = 0 := by
  intro j
  induction j with
  | zero =>
    intro hj
    rw [outAt_eq, if_pos (by omega), stepOut_past m hR c _ _ (by rw [show (14 * r + 0) / 14 = r by omega]; exact hu)]
    exact pay1_apply a d
  | succ j ih =>
    intro hj
    rw [outAt_eq, if_neg (by omega), stepOut_past m hR c _ _ (by rw [show (14 * r + (j + 1)) / 14 = r by omega]; exact hu),
      show 14 * r + (j + 1) - 1 = 14 * r + j by omega]
    exact ih (by omega)

/-- The block after a tile's last point holds the routed experts' rows. -/
theorem out_last (c : Dev nD) (r : Nat) (hr : r < 73) (a : Fin 1024) (d : Fin 2048) :
    (show EReal from outAt m hR c (14 * r + 13) (ix2 a d)) = rows (m0 m c) (m1 m c) (m2 m c) (m3 m c) (m4 m c) (m5 m c) (m6 m c) (rowAt r hr a) d := by
  have hc : c = 0 := Subsingleton.elim _ _
  have hn : nU m = (m3 m c (ix1 0)).toNat := by
    subst hc
    unfold nU nUsed word1; rw [tabs_used]
    refine congrArg (fun j => (m3 m 0 j).toNat) (funext fun b => ?_)
    match b with
    | ⟨0, _⟩ => exact Subsingleton.elim (α := Fin 1) _ _
  have er : (rowAt r hr a).val / 1024 = r := congrArg Fin.val (tileOf_rowAt r hr a)
  unfold rows
  rw [er, ← hn]
  by_cases hu : r < nU m
  · rw [if_pos hu, expert_blocks]
    exact out_used m hR c r hr hu a d 13 (by norm_num)
  · rw [if_neg hu]
    exact out_past m hR c r hu a d 13 (by norm_num)

end Cert.KernelIdeal.Hand

end
-- ==== Proof.ArrValue.lean ====
/-
  The routed expert call's result array, element by element: what each tile's last point wrote back, which is the routed
  experts' SwiGLU.
-/
module

public import proofs.«01_k».proof.Proof.PointValue
public import proofs.«01_k».proof.Proof.Run
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen
open Idealize.ShloMosaic hiding ix0 ix1 ix2 ix3 ix4
open Idealize.ShloMosaic.TcCoe Idealize.ShloMosaic.ValueIdx
open Idealize.SL.Sem
open Cert.Swiglu

variable (m : (ℓ : Loc nD τ sig) → Buf (Elt Ideal) ℓ) (hR : Routed m)

/-- The points that write back lie in different tiles. -/
theorem disj5 : ∀ t t' : Fin (cfgA m hR).N, ((cfgA m hR).win (5 : Fin 6)).flush t = true → ((cfgA m hR).win (5 : Fin 6)).flush t' = true → t ≠ t' →
    Disjoint (((cfgA m hR).win (5 : Fin 6)).blk t).view.set (((cfgA m hR).win (5 : Fin 6)).blk t').view.set :=
  Pipeline.Window.hdisj_of_index_inj ((cfgA m hR).win (5 : Fin 6)) fun t t' hf hf' hi => by
    have h1 : t.val % 14 = 13 := of_decide_eq_true ((flush5 (adm m hR) t).symm.trans hf)
    have h2 : t'.val % 14 = 13 := of_decide_eq_true ((flush5 (adm m hR) t').symm.trans hf')
    have h3 : t.val / 14 = t'.val / 14 := congrFun ((index5 (adm m hR) t).symm.trans (hi.trans (index5 (adm m hR) t'))) 0
    exact Fin.ext (by omega)

/-- The result array at an element. -/
theorem arr_apply (c : Dev nD) (i : Fin 74752) (d : Fin 2048) :
    (show EReal from (dat m hR c).arrAt (5 : Fin 6) (cfgA m hR).N (ix2 i d : S74752x2048.Idx))
      = rows (m0 m c) (m1 m c) (m2 m c) (m3 m c) (m4 m c) (m5 m c) (m6 m c) i d := by
  have hi := i.isLt
  have hr : i.val / 1024 < 73 := by omega
  have hn : 14 * (i.val / 1024) + 13 < (cfgA m hR).N := by rw [hN]; omega
  have hf : ((cfgA m hR).win (5 : Fin 6)).flush ⟨14 * (i.val / 1024) + 13, hn⟩ = true := by
    refine (flush5 (adm m hR) ⟨14 * (i.val / 1024) + 13, hn⟩).trans (decide_eq_true ?_)
    show (14 * (i.val / 1024) + 13) % 14 = 13
    omega
  have hx : ((cfgA m hR).win (5 : Fin 6)).index ⟨14 * (i.val / 1024) + 13, hn⟩ = ![i.val / 1024, 0] := by
    refine (index5 (adm m hR) ⟨14 * (i.val / 1024) + 13, hn⟩).trans ?_
    rw [show (14 * (i.val / 1024) + 13) / 14 = i.val / 1024 by omega]
  have hm : i.val % 1024 < 1024 := Nat.mod_lt _ (by norm_num)
  have he : (((cfgA m hR).win (5 : Fin 6)).blk ⟨14 * (i.val / 1024) + 13, hn⟩).view.emb (ix2 (⟨i.val % 1024, hm⟩ : Fin 1024) d) = (ix2 i d : S74752x2048.Idx) := by
    funext b
    match b with
    | ⟨0, _⟩ =>
      refine Fin.ext ((Pipeline.Window.rect_emb_val ((cfgA m hR).win (5 : Fin 6)) ⟨14 * (i.val / 1024) + 13, hn⟩ (ix2 (⟨i.val % 1024, hm⟩ : Fin 1024) d) (0 : Fin 2)).trans ?_)
      rw [hx]
      exact (show i.val / 1024 * 1024 + i.val % 1024 = i.val from Nat.div_add_mod' _ _)
    | ⟨1, _⟩ =>
      refine Fin.ext ((Pipeline.Window.rect_emb_val ((cfgA m hR).win (5 : Fin 6)) ⟨14 * (i.val / 1024) + 13, hn⟩ (ix2 (⟨i.val % 1024, hm⟩ : Fin 1024) d) (1 : Fin 2)).trans ?_)
      rw [hx]
      exact (show 0 * 2048 + d.val = d.val by rw [Nat.zero_mul, Nat.zero_add])
  rw [← he]
  refine ((dat m hR c).arrAt_emb_eq_flushed (5 : Fin 6) (disj5 m hR) ⟨14 * (i.val / 1024) + 13, hn⟩ hf (ix2 (⟨i.val % 1024, hm⟩ : Fin 1024) d)).trans ?_
  refine (show _ = (show EReal from outAt m hR c (14 * (i.val / 1024) + 13) (ix2 (⟨i.val % 1024, hm⟩ : Fin 1024) d)) from rfl).trans ?_
  refine (out_last m hR c (i.val / 1024) hr ⟨i.val % 1024, hm⟩ d).trans ?_
  rw [show rowAt (i.val / 1024) hr ⟨i.val % 1024, hm⟩ = i from Fin.ext (Nat.div_add_mod' _ _)]

/-- The routed experts' SwiGLU, as an array. -/
def result (c : Dev nD) : Buf (Elt Ideal) ((c.tc : Thread nD τ).loc main_v7) :=
  fun j : S74752x2048.Idx => (rows (m0 m c) (m1 m c) (m2 m c) (m3 m c) (m4 m c) (m5 m c) (m6 m c) (j 0) (j 1) : EReal)

theorem arr_eq (c : Dev nD) : (dat m hR c).arrAt (5 : Fin 6) (cfgA m hR).N = result m c := by
  refine funext fun (j : S74752x2048.Idx) => ?_
  rw [ValueIdx.eq_ix2 j]
  exact arr_apply m hR c (j 0) (j 1)

include hR in
/-- The run, with the result array's contents and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have keep : ∀ (r : PUnit × MemSt nD τ sig (Elt Ideal)), Pipeline.FramePost (pcs m hR) (dats m hR) 0 (V m) r → ∀ (c : Dev nD) (b : Ref sig .tc), b ∈ Pipeline.restRefs sig spec0 →
      b ∉ [main_v0, main_v1, main_v2, main_v3, main_v4, main_v5, main_v6] → r.2.mem ((c.tc : Thread nD τ).loc b) = m ((c.tc : Thread nD τ).loc b) :=
    fun r h c b hb hv => ((h c).2 b hb).trans (V_keep m c b hv)
  refine (θ_run defs _ _).mono (fun r h c => ?_) (run_main m ρ hR)
  have k := keep r h.1 c
  exact ⟨((h.1 c).1 (5 : Fin 6)).trans (arr_eq m hR c), k main_arg0 (Pipeline.mem_restRefs_of _ (by decide) (by decide)) (by decide),
    k main_arg1 (Pipeline.mem_restRefs_of _ (by decide) (by decide)) (by decide),
    k main_arg2 (Pipeline.mem_restRefs_of _ (by decide) (by decide)) (by decide),
    k main_arg3 (Pipeline.mem_restRefs_of _ (by decide) (by decide)) (by decide),
    k main_arg4 (Pipeline.mem_restRefs_of _ (by decide) (by decide)) (by decide),
    k main_arg5 (Pipeline.mem_restRefs_of _ (by decide) (by decide)) (by decide),
    k main_arg6 (Pipeline.mem_restRefs_of _ (by decide) (by decide)) (by decide)⟩

end Cert.KernelIdeal.Hand

end
-- ==== Proof.RefValue.lean ====
/-
  The reference, element by element: at the extended reals its result is the routed experts' SwiGLU.
-/
module

public import proofs.«01_k».proof.Proof.Swiglu
public import proofs.«01_k».proof.Proof.Gen.ReferenceIdeal.Run

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.ValueIdx Idealize.ShloMosaic.Routing
open Idealize.ShloMosaic.StableHlo
open Cert.Swiglu

/-! ## One expert -/

/-- A slice of the up or gate weights at an expert. -/
theorem slice_in (e : Fin 8) (x : S8x2048x7168.Idx → EReal) (hs : S8x2048x7168.Slices ![e.val, 0, 0] S1x2048x7168)
    (hc : S1x2048x7168.ShapeCasts S2048x7168) (k : Fin 2048) (f : Fin 7168) :
    shapeCast S2048x7168 (extractStridedSlice S1x2048x7168 ![e.val, 0, 0] x hs) hc (ix2 k f) = x (ix3 e k f) := by
  refine (shapeCast_1ab_ab_apply _ hc k f).trans (extractStridedSlice_apply _ x hs _ _ fun a => ?_)
  match a with
  | ⟨0, _⟩ => exact (Nat.add_zero e.val).symm
  | ⟨1, _⟩ => exact (Nat.zero_add k.val).symm
  | ⟨2, _⟩ => exact (Nat.zero_add f.val).symm

/-- A slice of the down weights at an expert. -/
theorem slice_out (e : Fin 8) (x : S8x7168x2048.Idx → EReal) (hs : S8x7168x2048.Slices ![e.val, 0, 0] S1x7168x2048)
    (hc : S1x7168x2048.ShapeCasts S7168x2048) (f : Fin 7168) (d : Fin 2048) :
    shapeCast S7168x2048 (extractStridedSlice S1x7168x2048 ![e.val, 0, 0] x hs) hc (ix2 f d) = x (ix3 e f d) := by
  refine (shapeCast_1ab_ab_apply _ hc f d).trans (extractStridedSlice_apply _ x hs _ _ fun a => ?_)
  match a with
  | ⟨0, _⟩ => exact (Nat.add_zero e.val).symm
  | ⟨1, _⟩ => exact (Nat.zero_add f.val).symm
  | ⟨2, _⟩ => exact (Nat.zero_add d.val).symm

/-- A product by an expert's gate or up weights, at an index. -/
theorem proj_apply (e : Fin 8) (x : FVec Ideal S74752x2048 .f32) (W : FVec Ideal S8x2048x7168 .f32)
    (hs : S8x2048x7168.Slices ![e.val, 0, 0] S1x2048x7168) (i : Fin 74752) (f : Fin 7168) :
    Host.dotGeneral dot_S74752x2048_S2048x7168_S74752x7168_1_0_0_1_n_n none x
      (shapeCast S2048x7168 (extractStridedSlice S1x2048x7168 ![e.val, 0, 0] W hs) shapeCasts_S1x2048x7168_S2048x7168) (ix2 i f)
      = ∑ k, x (ix2 i k) * W (ix3 e k f) := by
  refine (StackMember.dotGeneral_plain_apply (m := 74752) (n := 7168) (k := 2048) none x _ i f).trans ?_
  exact Finset.sum_congr rfl fun k _ => congrArg _ (slice_in e W hs _ k f)

/-- One expert's summand, at an index: its result where the row's own expert is this one, else zero. -/
theorem one_apply (e : Fin 8) (x : FVec Ideal S74752x2048 .f32) (ex : IVec S74752 32) (Wg Wu : FVec Ideal S8x2048x7168 .f32)
    (Wd : FVec Ideal S8x7168x2048 .f32) (hs hs' : S8x2048x7168.Slices ![e.val, 0, 0] S1x2048x7168)
    (hd : S8x7168x2048.Slices ![e.val, 0, 0] S1x7168x2048) (g : FVec Ideal S74752x7168 .f32)
    (hg : g = Host.dotGeneral dot_S74752x2048_S2048x7168_S74752x7168_1_0_0_1_n_n none x
      (shapeCast S2048x7168 (extractStridedSlice S1x2048x7168 ![e.val, 0, 0] Wg hs) shapeCasts_S1x2048x7168_S2048x7168))
    (i : Fin 74752) (d : Fin 2048) :
    select (broadcastInDim S74752x2048 ![0, 1] bcast_S74752x1_S74752x2048_0_1 (broadcastInDim S74752x1 ![0] bcast_S74752_S74752x1_0
        (cmpi .eq ex (broadcastInDim S74752 ![] bcast_S_S74752 (constantI S_ 32 (BitVec.ofNat 32 e.val))))))
      (Host.dotGeneral dot_S74752x7168_S7168x2048_S74752x2048_1_0_0_1_n_n none
        (mulf (mulf g (Host.divf (broadcastInDim S74752x7168 ![] bcast_S_S74752x7168 (constant S_ .f32 0x3F800000#32))
            (addf (broadcastInDim S74752x7168 ![] bcast_S_S74752x7168 (constant S_ .f32 0x3F800000#32)) (Host.exp (Host.negf g)))))
          (Host.dotGeneral dot_S74752x2048_S2048x7168_S74752x7168_1_0_0_1_n_n none x
            (shapeCast S2048x7168 (extractStridedSlice S1x2048x7168 ![e.val, 0, 0] Wu hs') shapeCasts_S1x2048x7168_S2048x7168)))
        (shapeCast S7168x2048 (extractStridedSlice S1x7168x2048 ![e.val, 0, 0] Wd hd) shapeCasts_S1x7168x2048_S7168x2048))
      (broadcastInDim S74752x2048 ![] bcast_S_S74752x2048 (id (constant S_ .f32 0x00000000#32))) (ix2 i d)
    = if ex (ix1 i) = BitVec.ofNat 32 e.val then
        expert (fun k => x (ix2 i k)) (fun f k => Wg (ix3 e k f)) (fun f k => Wu (ix3 e k f)) (fun f => Wd (ix3 e f d)) else (0 : EReal) := by
  rw [select_apply]
  have hc : broadcastInDim S74752x2048 ![0, 1] bcast_S74752x1_S74752x2048_0_1 (broadcastInDim S74752x1 ![0] bcast_S74752_S74752x1_0
        (cmpi .eq ex (broadcastInDim S74752 ![] bcast_S_S74752 (constantI S_ 32 (BitVec.ofNat 32 e.val))))) (ix2 i d)
      = BitVec.ofBool (decide (ex (ix1 i) = BitVec.ofNat 32 e.val)) := by
    refine (bcRows bcast_S74752_S74752x1_0 bcast_S74752x1_S74752x2048_0_1 _ i d).trans ?_
    refine (show _ = IntOp.cmpi .eq (ex (ix1 i)) (broadcastInDim S74752 ![] bcast_S_S74752 (constantI S_ 32 (BitVec.ofNat 32 e.val)) (ix1 i)) from rfl).trans ?_
    rw [bc0 bcast_S_S74752, WordCmp.cmpi_eq_eq]; rfl
  rw [hc, WordCmp.select_decide]
  refine if_congr Iff.rfl ?_ ?_
  · refine (StackMember.dotGeneral_plain_apply (m := 74752) (n := 2048) (k := 7168) none _ _ i d).trans ?_
    refine Finset.sum_congr rfl fun f _ => ?_
    refine congrArg₂ (· * ·) ?_ (slice_out e Wd hd _ f d)
    have h1 : broadcastInDim S74752x7168 ![] bcast_S_S74752x7168 (constant (F := Ideal) S_ .f32 0x3F800000#32) (ix2 i f) = (1 : EReal) :=
      (bc0 bcast_S_S74752x7168 _ _).trans Ideal.ofBits_one_f32
    have hG : g (ix2 i f) = ∑ k, x (ix2 i k) * Wg (ix3 e k f) := by rw [hg]; exact proj_apply e x Wg hs i f
    refine (show _ = g (ix2 i f) * Ideal.div (broadcastInDim S74752x7168 ![] bcast_S_S74752x7168 (constant (F := Ideal) S_ .f32 0x3F800000#32) (ix2 i f))
      (broadcastInDim S74752x7168 ![] bcast_S_S74752x7168 (constant (F := Ideal) S_ .f32 0x3F800000#32) (ix2 i f) + Ideal.exp (-(g (ix2 i f))))
        * _ from rfl).trans ?_
    rw [h1, act_eq]
    unfold hid
    rw [hG]
    exact congrArg (act _) (proj_apply e x Wu hs' i f)
  · exact (bc0 bcast_S_S74752x2048 _ _).trans Ideal.ofBits_zero_f32

/-! ## The rows, the experts of the rows, and the sum -/

section Whole

variable (V0 : Valuation τ sig (Elt Ideal))

abbrev a0 : S32768x2048.Idx → EReal := V0 (Proc.devRef .tc main_arg0)
abbrev a1 : S74752.Idx → BitVec 32 := V0 (Proc.devRef .tc main_arg1)
abbrev a2 : S73.Idx → BitVec 32 := V0 (Proc.devRef .tc main_arg2)
abbrev a3 : S1.Idx → BitVec 32 := V0 (Proc.devRef .tc main_arg3)
abbrev a4 : S1x8x2048x7168.Idx → EReal := V0 (Proc.devRef .tc main_arg4)
abbrev a5 : S1x8x2048x7168.Idx → EReal := V0 (Proc.devRef .tc main_arg5)
abbrev a6 : S1x8x7168x2048.Idx → EReal := V0 (Proc.devRef .tc main_arg6)

/-- The gathered row `i` is its token's row. -/
theorem v9_apply (h1 : ∀ x, (a1 V0 x).toNat < 32768) (i : Fin 74752) (k : Fin 2048) :
    res_main_v9 V0 (ix2 i k) = a0 V0 (ix2 (tokOf (a1 V0) i) k) := by
  unfold res_main_v9
  refine gather_row gather_S32768x2048_S74752x1_S74752x2048_1_0_n_n_0_1_12048 rfl rfl rfl rfl rfl (a0 V0) _ i k (tokOf (a1 V0) i) ?_ (by norm_num)
  refine (bcCol bcast_S74752_S74752x1_0 _ i).trans ?_
  refine (show _ = Scalar.select (IntOp.cmpi .slt (a1 V0 (ix1 i)) (broadcastInDim S74752 ![] bcast_S_S74752 (constantI S_ 32 0#32) (ix1 i)))
    (IntOp.addi (a1 V0 (ix1 i)) (broadcastInDim S74752 ![] bcast_S_S74752 (constantI S_ 32 32768#32) (ix1 i))) (a1 V0 (ix1 i)) from rfl).trans ?_
  have h := h1 (ix1 i)
  rw [bc0 bcast_S_S74752 (constantI S_ 32 0#32), constantI_apply, wrap_of_lt _ _ (by omega)]
  refine BitVec.eq_of_toNat_eq ?_
  rw [BitVec.toNat_ofNat]
  show _ = ((a1 V0 (ix1 i)).toNat % 32768) % 2 ^ 32
  omega

/-- The expert of row `i`: its tile's at a used tile, else the one past the last. -/
theorem v15_apply (h3 : ∀ x, (a3 V0 x).toNat < 73) (i : Fin 74752) :
    (show BitVec 32 from res_main_v15 V0 (ix1 i)) = if i.val / 1024 < (a3 V0 (ix1 0)).toNat then a2 V0 (ix1 (tileOf i)) else 8#32 := by
  unfold res_main_v15
  have hi := i.isLt
  refine (cast21 (a := 73) (b := 1024) (n := 74752) _ shapeCasts_S73x1024_S74752 (tileOf i) ⟨i.val % 1024, Nat.mod_lt _ (by norm_num)⟩ i ?_).trans ?_
  · exact (Nat.div_add_mod' i.val 1024).symm
  refine (broadcastInDim_apply _ bcast_S73_S73x1024_0 _ _ (ix1 (tileOf i)) fun a => ?_).trans ?_
  · match a with
    | ⟨0, _⟩ => rfl
  have hb : broadcastInDim S73 ![0] bcast_S1_S73_0 (a3 V0) (ix1 (tileOf i)) = a3 V0 (ix1 0) :=
    broadcastInDim_apply _ bcast_S1_S73_0 (a3 V0) _ _ fun a => match a with | ⟨0, _⟩ => rfl
  refine (show _ = Scalar.select (IntOp.cmpi .slt (BitVec.ofNat 32 (tileOf i).val) (broadcastInDim S73 ![0] bcast_S1_S73_0 (a3 V0) (ix1 (tileOf i))))
    (a2 V0 (ix1 (tileOf i))) (broadcastInDim S73 ![] bcast_S_S73 (id (constantI S_ 32 8#32)) (ix1 (tileOf i))) from rfl).trans ?_
  have ht := (tileOf i).isLt
  have h := h3 (ix1 0)
  have e : (BitVec.ofNat 32 (tileOf i).val).toNat = i.val / 1024 := by
    rw [BitVec.toNat_ofNat]; show i.val / 1024 % 2 ^ 32 = _; omega
  rw [hb, bc0 bcast_S_S73, WordCmp.cmpi_slt_of_lt (by rw [e]; omega) (by omega), WordCmp.select_decide, e]
  rfl

/-- Expert `e`'s summand at an element. -/
def part (e : Fin 8) (i : Fin 74752) (d : Fin 2048) : EReal :=
  expert (fun k => res_main_v9 V0 (ix2 i k)) (fun f k => res_main_v0 V0 (ix3 e k f)) (fun f k => res_main_v1 V0 (ix3 e k f)) (fun f => res_main_v2 V0 (ix3 e f d))

/-- It counted where the row's own expert is this one. -/
def pick (w : BitVec 32) (X : Fin 8 → EReal) (e : Fin 8) : EReal := if w = BitVec.ofNat 32 e.val then X e else 0

theorem v80_apply (i : Fin 74752) (d : Fin 2048) :
    (show EReal from res_main_v80 V0 (ix2 i d)) = (((0 + pick (res_main_v15 V0 (ix1 i)) (part V0 · i d) 0) + pick (res_main_v15 V0 (ix1 i)) (part V0 · i d) 1)
      + pick (res_main_v15 V0 (ix1 i)) (part V0 · i d) 2) + pick (res_main_v15 V0 (ix1 i)) (part V0 · i d) 3 := by
  unfold res_main_v80
  refine congrArg₂ (· + ·) (congrArg₂ (· + ·) (congrArg₂ (· + ·) (congrArg₂ (· + ·) ?_ ?_) ?_) ?_) ?_
  · exact (bc0 bcast_S_S74752x2048 _ _).trans Ideal.ofBits_zero_f32
  · exact one_apply 0 _ _ _ _ _ slices_S8x2048x7168_S1x2048x7168_0_0_0 slices_S8x2048x7168_S1x2048x7168_0_0_0 slices_S8x7168x2048_S1x7168x2048_0_0_0 _ rfl i d
  · exact one_apply 1 _ _ _ _ _ slices_S8x2048x7168_S1x2048x7168_1_0_0 slices_S8x2048x7168_S1x2048x7168_1_0_0 slices_S8x7168x2048_S1x7168x2048_1_0_0 _ rfl i d
  · exact one_apply 2 _ _ _ _ _ slices_S8x2048x7168_S1x2048x7168_2_0_0 slices_S8x2048x7168_S1x2048x7168_2_0_0 slices_S8x7168x2048_S1x7168x2048_2_0_0 _ rfl i d
  · exact one_apply 3 _ _ _ _ _ slices_S8x2048x7168_S1x2048x7168_3_0_0 slices_S8x2048x7168_S1x2048x7168_3_0_0 slices_S8x7168x2048_S1x7168x2048_3_0_0 _ rfl i d

theorem v144_apply (i : Fin 74752) (d : Fin 2048) :
    (show EReal from res_main_v144 V0 (ix2 i d)) = ((((show EReal from res_main_v80 V0 (ix2 i d)) + pick (res_main_v15 V0 (ix1 i)) (part V0 · i d) 4) + pick (res_main_v15 V0 (ix1 i)) (part V0 · i d) 5)
      + pick (res_main_v15 V0 (ix1 i)) (part V0 · i d) 6) + pick (res_main_v15 V0 (ix1 i)) (part V0 · i d) 7 := by
  unfold res_main_v144
  refine congrArg₂ (· + ·) (congrArg₂ (· + ·) (congrArg₂ (· + ·) (congrArg₂ (· + ·) rfl ?_) ?_) ?_) ?_
  · exact one_apply 4 _ _ _ _ _ slices_S8x2048x7168_S1x2048x7168_4_0_0 slices_S8x2048x7168_S1x2048x7168_4_0_0 slices_S8x7168x2048_S1x7168x2048_4_0_0 _ rfl i d
  · exact one_apply 5 _ _ _ _ _ slices_S8x2048x7168_S1x2048x7168_5_0_0 slices_S8x2048x7168_S1x2048x7168_5_0_0 slices_S8x7168x2048_S1x7168x2048_5_0_0 _ rfl i d
  · exact one_apply 6 _ _ _ _ _ slices_S8x2048x7168_S1x2048x7168_6_0_0 slices_S8x2048x7168_S1x2048x7168_6_0_0 slices_S8x7168x2048_S1x7168x2048_6_0_0 _ rfl i d
  · exact one_apply 7 _ _ _ _ _ slices_S8x2048x7168_S1x2048x7168_7_0_0 slices_S8x2048x7168_S1x2048x7168_7_0_0 slices_S8x7168x2048_S1x7168x2048_7_0_0 _ rfl i d

/-- A row's own expert's summand is the only one counted; -/
theorem pick_own (X : Fin 8 → EReal) (e : Fin 8) :
    (((((((0 + pick (BitVec.ofNat 32 e.val) X 0) + pick (BitVec.ofNat 32 e.val) X 1) + pick (BitVec.ofNat 32 e.val) X 2) + pick (BitVec.ofNat 32 e.val) X 3)
      + pick (BitVec.ofNat 32 e.val) X 4) + pick (BitVec.ofNat 32 e.val) X 5) + pick (BitVec.ofNat 32 e.val) X 6) + pick (BitVec.ofNat 32 e.val) X 7 = X e := by
  unfold pick
  fin_cases e <;> simp

/-- a row past the used tiles has none. -/
theorem pick_none (X : Fin 8 → EReal) :
    (((((((0 + pick 8#32 X 0) + pick 8#32 X 1) + pick 8#32 X 2) + pick 8#32 X 3) + pick 8#32 X 4) + pick 8#32 X 5) + pick 8#32 X 6) + pick 8#32 X 7 = 0 := by
  unfold pick
  simp

/-- The reference's result is the routed experts' SwiGLU. -/
theorem out_apply (h1 : ∀ x, (a1 V0 x).toNat < 32768) (h2 : ∀ x, (a2 V0 x).toNat < 8) (h3 : ∀ x, (a3 V0 x).toNat < 73) (i : Fin 74752) (d : Fin 2048) :
    (show EReal from res_main_v144 V0 (ix2 i d)) = rows (a0 V0) (a1 V0) (a2 V0) (a3 V0) (a4 V0) (a5 V0) (a6 V0) i d := by
  rw [v144_apply, v80_apply]
  unfold rows
  have hv := v15_apply V0 h3 i
  by_cases hu : i.val / 1024 < (a3 V0 (ix1 0)).toNat
  · rw [if_pos hu] at hv ⊢
    have he : a2 V0 (ix1 (tileOf i)) = BitVec.ofNat 32 (expOf (a2 V0) (tileOf i)).val := by
      have h := h2 (ix1 (tileOf i))
      refine BitVec.eq_of_toNat_eq ?_
      rw [BitVec.toNat_ofNat]
      show _ = ((a2 V0 (ix1 (tileOf i))).toNat % 8) % 2 ^ 32
      omega
    have hw : res_main_v15 V0 (ix1 i) = BitVec.ofNat 32 (expOf (a2 V0) (tileOf i)).val := hv.trans he
    rw [hw, pick_own]
    unfold part
    have e9 : (fun k => res_main_v9 V0 (ix2 i k)) = fun k => a0 V0 (ix2 (tokOf (a1 V0) i) k) := funext fun k => v9_apply V0 h1 i k
    have eg : ∀ e k f, res_main_v0 V0 (ix3 e k f) = a4 V0 (ix4 0 e k f) := fun e k f =>
      shapeCast_1abc_abc_apply (a4 V0) shapeCasts_S1x8x2048x7168_S8x2048x7168 e k f
    have eu : ∀ e k f, res_main_v1 V0 (ix3 e k f) = a5 V0 (ix4 0 e k f) := fun e k f =>
      shapeCast_1abc_abc_apply (a5 V0) shapeCasts_S1x8x2048x7168_S8x2048x7168 e k f
    have ed : ∀ e f d, res_main_v2 V0 (ix3 e f d) = a6 V0 (ix4 0 e f d) := fun e f d =>
      shapeCast_1abc_abc_apply (a6 V0) shapeCasts_S1x8x7168x2048_S8x7168x2048 e f d
    rw [e9]
    simp only [eg, eu, ed]
  · rw [if_neg hu] at hv ⊢
    have hw : res_main_v15 V0 (ix1 i) = 8#32 := hv
    rw [hw, pick_none]

end Whole

end Cert.ReferenceIdeal.Hand

end
-- ==== Proof.Same.lean ====
/-
  The kernel's program and its idealization's are one program, no rewrite having been applied: their bodies, their tables
  and their mains are equal at every choice of floats.
-/
module

public import proofs.«01_k».proof.Kernel
public import proofs.«01_k».proof.Proof.Gen.Kernel
public import proofs.«01_k».proof.KernelIdeal
public import proofs.«01_k».proof.Proof.Gen.KernelIdeal

@[expose] public section

noncomputable section

namespace Cert.Same

open Idealize.ShloMosaic Idealize.SL.Sem

variable {F : FTy → Type} [FloatOps F]

set_option maxHeartbeats 4000000 in
/-- The call's bodies, -/
theorem body_eq : Cert.Kernel.cc0_moe_expert_ffn (F := F) = Cert.KernelIdeal.cc0_moe_expert_ffn (F := F) := rfl

set_option maxHeartbeats 4000000 in
/-- the tables of bodies, -/
theorem rows_eq : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) =>
    refine Eq.trans (b := Cert.Kernel.cc0_moe_expert_ffn (F := F) _ _ _ _ _ _ _ _ _ _ _ _ _ _ _ _ _ _ _ _ _ _ _ _) rfl ?_
    rw [body_eq]
    rfl

/-- the tables with the call's own rows, -/
theorem defs_eq : Cert.Kernel.defs (F := F) = Cert.KernelIdeal.defs (F := F) := by
  unfold Cert.Kernel.defs Cert.KernelIdeal.defs
  rw [rows_eq]
  rfl

set_option maxHeartbeats 4000000 in
/-- and the mains. -/
theorem main_eq : Cert.Kernel.main (F := F) = Cert.KernelIdeal.main (F := F) := rfl

end Cert.Same

end
-- ==== Proof.CSame.lean ====
/-
  The combine call's program and its idealization's are one program, no rewrite having been applied: their bodies, their tables
  and their mains are equal at every choice of floats.
-/
module

public import proofs.«01_k».proof.Combine
public import proofs.«01_k».proof.Proof.Gen.Combine
public import proofs.«01_k».proof.CombineIdeal
public import proofs.«01_k».proof.Proof.Gen.CombineIdeal

@[expose] public section

noncomputable section

namespace Cert.SameCombine

open Idealize.ShloMosaic Idealize.SL.Sem

variable {F : FTy → Type} [FloatOps F]

set_option maxHeartbeats 4000000 in
/-- The call's bodies, -/
theorem body_eq : Cert.Combine.cc0_moe_combine (F := F) = Cert.CombineIdeal.cc0_moe_combine (F := F) := rfl

set_option maxHeartbeats 4000000 in
/-- the tables of bodies, -/
theorem rows_eq : Cert.Combine.defs₀ (F := F) = Cert.CombineIdeal.defs₀ (F := F) := by
  unfold Cert.Combine.defs₀ Cert.CombineIdeal.defs₀
  refine congrArg Defs.onTc ?_
  funext l x
  match l, x with
  | ⟨0, _⟩, (t, s) =>
    refine Eq.trans (b := Cert.Combine.cc0_moe_combine (F := F) _ _ _ _ _ _ _ _ _ _ _ _ _ _ _ _ _ _) rfl ?_
    rw [body_eq]
    rfl

/-- the tables with the call's own rows, -/
theorem defs_eq : Cert.Combine.defs (F := F) = Cert.CombineIdeal.defs (F := F) := by
  unfold Cert.Combine.defs Cert.CombineIdeal.defs
  rw [rows_eq]
  rfl

set_option maxHeartbeats 4000000 in
/-- and the mains. -/
theorem main_eq : Cert.Combine.main (F := F) = Cert.CombineIdeal.main (F := F) := rfl

end Cert.SameCombine

end
-- ==== Proof.Mixing.lean ====
/-
  The mathematics of the combine: a token's row with its two experts' rows added by their weights, over its root mean square.
-/
module

public import Idealize.ShloMosaic.Lib.IdealHost
public import Idealize.ShloMosaic.Lib.ValueIdx
public import Idealize.ShloMosaic.Lib.ValueLayout
public import Idealize.ShloMosaic.Lib.Pipeline.Value
public import Idealize.ShloMosaic.Lib.Routing.Ops
public import Idealize.ShloMosaic.Lib.Routing.OpsPair

@[expose] public section

noncomputable section

namespace Cert.Mixing

open Idealize.ShloMosaic Idealize.ShloMosaic.ValueIdx
open scoped BigOperators

/-- Element `d` of a row over its root mean square, times its weight. -/
def normed (y : Fin 2048 → EReal) (g : EReal) (d : Fin 2048) : EReal :=
  y d * Ideal.rsqrt (Ideal.div (∑ k, y k * y k) (Scalar.ofBits (F := Ideal) .f32 0x45000000#32 : EReal) + (Scalar.ofBits (F := Ideal) .f32 0x358637BD#32 : EReal)) * g

/-- The experts' row a token's slot `p` names. -/
def slotOf (slot : (⟨1, ![65536]⟩ : Shape).Idx → BitVec 32) (n : Fin 32768) (p : Fin 2) : Fin 74752 :=
  ⟨(slot (ix1 (⟨n.val * 2 + p.val, by have := n.isLt; have := p.isLt; omega⟩ : Fin 65536))).toNat % 74752, Nat.mod_lt _ (by norm_num)⟩

/-- A token's row with its two experts' rows added by their weights. -/
def token (slot : (⟨1, ![65536]⟩ : Shape).Idx → BitVec 32) (route : (⟨2, ![32768, 128]⟩ : Shape).Idx → EReal)
    (x : (⟨2, ![32768, 2048]⟩ : Shape).Idx → EReal) (ys : (⟨2, ![74752, 2048]⟩ : Shape).Idx → EReal) (n : Fin 32768) (k : Fin 2048) : EReal :=
  x (ix2 n k) + (route (ix2 n (2 : Fin 128)) * ys (ix2 (slotOf slot n 0) k) + route (ix2 n (3 : Fin 128)) * ys (ix2 (slotOf slot n 1) k))

/-- The layer's result on token `n`, element `d`. -/
def mixed (slot : (⟨1, ![65536]⟩ : Shape).Idx → BitVec 32) (route : (⟨2, ![32768, 128]⟩ : Shape).Idx → EReal)
    (x : (⟨2, ![32768, 2048]⟩ : Shape).Idx → EReal) (g : (⟨1, ![2048]⟩ : Shape).Idx → EReal) (ys : (⟨2, ![74752, 2048]⟩ : Shape).Idx → EReal)
    (n : Fin 32768) (d : Fin 2048) : EReal :=
  normed (token slot route x ys n) (g (ix1 d)) d

/-! ## Columns and rows of two-dimensional arrays -/

/-- The row `a` with column `k` put back is `(a, k)`. -/
theorem lift_row {m n : ℕ} (h : (⟨2, ![m, n]⟩ : Shape).Reduces [1] (⟨1, ![m]⟩ : Shape)) (a : Fin m)
    (k : Fin ((⟨2, ![m, n]⟩ : Shape).size 1)) : h.lift (ix1 a) k = ix2 a (⟨k.val, k.isLt⟩ : Fin n) := by
  funext c; apply Fin.ext
  fin_cases c <;> rfl

/-- A column spread over the columns, in the kernel's spelling -/
theorem col_spread {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    have := p.isLt
    split <;> omega
  | ⟨1, _⟩ => rfl

/-- and in the host's. -/
theorem col_spread_host {α : Type} {a b : ℕ} (h : (⟨2, ![a, 1]⟩ : Shape).BroadcastsInDim ⟨2, ![a, b]⟩ (![0, 1] : Fin 2 → Fin (⟨2, ![a, b]⟩ : Shape).rank))
    (v : (⟨2, ![a, 1]⟩ : Shape).Idx → α) (p : Fin a) (q : Fin b) : broadcastInDim ⟨2, ![a, b]⟩ ![0, 1] h v (ix2 p q) = v (ix2 p (0 : Fin 1)) := by
  refine broadcastInDim_apply _ h v _ _ fun ax => ?_
  match ax with
  | ⟨0, _⟩ =>
    show p.val = if a = 1 then 0 else p.val
    have := p.isLt
    split <;> omega
  | ⟨1, _⟩ => rfl

end Cert.Mixing

end
-- ==== Proof.CFlights.lean ====
/-
  The combine call's row gathers as two batches of transfers, one for each plane of the scratch buffer: 512 copies of rows of
  the experts' results, all on the plane's own semaphore, each from its own read share of the results into its own row of the
  plane. `Stage` is a plane's batch with the first `k` copies started, together with what the copies still to start need.
-/
module

public import proofs.«01_k».proof.Proof.Gen.CombineIdeal.Launch
public import proofs.«01_k».proof.Proof.Gen.CombineIdeal.Skeleton
public import proofs.«01_k».proof.Proof.Gen.CombineIdeal.Loops
public import Idealize.ShloMosaic.Lib.Pipeline.FrameBody
public import Idealize.ShloMosaic.Lib.Pipeline.ValueKit
public import Idealize.ShloMosaic.Lib.Batch
public import Idealize.ShloMosaic.Lib.ValueLayout
public import Idealize.ShloMosaic.Lib.Tactic
public import Idealize.ShloMosaic.Lib.WordCmp

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The scratch buffer the rows are gathered into, and the experts' results they are gathered from. -/
abbrev xM : Memref sig .tc .vmem S2x512x2048 .f32 := Memref.whole cc0_scratch0
abbrev hM : Memref sig .tc .hbm S74752x2048 .f32 := Memref.whole main_arg4

abbrev xLoc (c : Dev nD) : Loc nD τ sig := (c : Thread nD τ).loc cc0_scratch0
abbrev hLoc (c : Dev nD) : Loc nD τ sig := (c : Thread nD τ).loc main_arg4

/-- The contents of the two buffers, by their shapes. -/
abbrev XBuf (F : FTy → Type) := S2x512x2048.Idx → Elt F .f32
abbrev HBuf (F : FTy → Type) := S74752x2048.Idx → Elt F .f32

theorem plane_inb (p : Fin 2) (a : Fin 3) : (![p.val, 0, 0] : Fin 3 → ℕ) a + S1x512x2048.size a ≤ S2x512x2048.size a := by
  match a with
  | 0 => change p.val + 1 ≤ 2; omega
  | 1 => exact Nat.le_refl _
  | 2 => exact Nat.le_refl _

theorem psem_inb (p : Fin 2) (a : Fin 1) : (![p.val] : Fin 1 → ℕ) a + S1.size a ≤ S2.size a := by
  match a with
  | 0 => change p.val + 1 ≤ 2; omega

/-- Plane `p` of the scratch buffer, a row of it, and its semaphore. -/
abbrev planeM (p : Fin 2) : Memref sig .tc .vmem S512x2048 .f32 :=
  (xM.slice (Rect.unit (s := S2x512x2048) ![p.val, 0, 0] S1x512x2048.size (plane_inb p)) (fun _ => rfl)).squeeze S512x2048 squeezes_S1x512x2048_S512x2048
abbrev rowM (p : Fin 2) (off : Fin 2 → ℕ) (h : ∀ a, off a + S1x2048.size a ≤ S512x2048.size a) : Memref sig .tc .vmem S1x2048 .f32 :=
  (planeM p).slice (Rect.unit (s := S512x2048) off S1x2048.size h) (fun _ => rfl)
abbrev psem (p : Fin 2) : DmaSem sig := ((cc0_scratch1.slice (Rect.unit (s := S2) ![p.val] S1.size (psem_inb p))).squeeze S_ squeezes_S1_S_).sem

/-- Assertions that entail each other are equal, and equal ones entail each other. -/
theorem eq_of {P Q : sProp 𝕄} (h₁ : P ⊢ Q) (h₂ : Q ⊢ P) : P = Q := BI.Entails.antisymm h₁ h₂
theorem ent_of_eq {P Q : sProp 𝕄} (h : P = Q) : P ⊢ Q := by rw [h]

/-! ## Read shares -/

/-- The half of the experts' results plane `p`'s copies read at. -/
def half (p : Fin 2) : PosShare TreeShare := if p = 0 then fullShare.left else fullShare.right

/-- What is left of plane `p`'s half after `k` further halvings. -/
def rem (p : Fin 2) : ℕ → PosShare TreeShare
  | 0 => half p
  | k + 1 => (rem p k).right

/-- A buffer held at what is left after `k` halvings is one half for each copy from the `k`-th on, and what is left
    after the last. -/
theorem shares_pending (p : Fin 2) (n : ℕ) {ℓ : Loc nD τ sig} (S : Finset (Idx ℓ)) (f : Buf (Elt F) ℓ) (k : ℕ) (hk : k ≤ n) :
    (ℓ ↦[S]{rem p k} f : sProp 𝕄)
      = iprop((bigSep (Transfers.pending (n := n) k) fun t => ℓ ↦[S]{(rem p t.val).left} f) ∗ ℓ ↦[S]{rem p n} f) := by
  induction hk using Nat.decreasingInduction with
  | self =>
    have h : Transfers.pending (n := n) n = ∅ := by
      unfold Transfers.pending
      refine Finset.filter_eq_empty_iff.mpr fun t _ => ?_
      exact Nat.not_le.mpr t.isLt
    rw [h, bigSep_empty]
    exact eq_of BI.Laws.emp_sep.2 BI.Laws.emp_sep.1
  | of_succ k hk ih =>
    rw [Transfers.bigSep_pending_step _ k hk, BI.Entails.antisymm (pointsTo_share (PosShare.mem_left_op_right (rem p k))).1
      (pointsTo_share (PosShare.mem_left_op_right (rem p k))).2]
    change iprop(_ ∗ (ℓ ↦[S]{rem p (k + 1)} f)) = _
    rw [ih]
    exact eq_of BI.Laws.sep_assoc.2 BI.Laws.sep_assoc.1

/-! ## Rows -/

/-- Plane `p` of the scratch buffer's elements, row `t` of it, and row `w` of the experts' results. -/
def xPlane (p : Fin 2) : Finset S2x512x2048.Idx := Finset.univ.filter fun x => (x 0).val = p.val
def xRow (p : Fin 2) (t : ℕ) : Finset S2x512x2048.Idx := Finset.univ.filter fun x => (x 0).val = p.val ∧ (x 1).val = t
def hRow (w : ℕ) : Finset S74752x2048.Idx := Finset.univ.filter fun p => (p 0).val = w

/-- Element `x` of plane `p`. -/
theorem plane_emb (p : Fin 2) (a : Fin 512) (b : Fin 2048) : (planeM p).view.emb (ValueIdx.ix2 a b) = (ValueIdx.ix3 p a b : S2x512x2048.Idx) := by
  change (xM.slice (Rect.unit (s := S2x512x2048) ![p.val, 0, 0] S1x512x2048.size (plane_inb p)) (fun _ => rfl)).view.emb (Shape.reshapeEquiv _ (ValueIdx.ix2 a b)) = _
  rw [ValueIdx.reshapeEquiv_ix2_1ab]
  funext d
  refine Fin.ext ((ValueKit.view_emb_slice_whole_unit_val cc0_scratch0 _ _ _ _ d).trans ?_)
  match d with
  | 0 => exact Nat.add_zero _
  | 1 => exact Nat.zero_add _
  | 2 => exact Nat.zero_add _

/-- Element `x` of row `t` of plane `p`. -/
theorem row_emb (p : Fin 2) (t : ℕ) (ht : t < 512) (h : ∀ a, (![t, 0] : Fin 2 → ℕ) a + S1x2048.size a ≤ S512x2048.size a) (x : S1x2048.Idx) :
    (rowM p ![t, 0] h).view.emb x = (ValueIdx.ix3 p ⟨t, ht⟩ (x 1) : S2x512x2048.Idx) := by
  have e : (Rect.unit (s := S512x2048) ![t, 0] S1x2048.size h).emb x = ValueIdx.ix2 ⟨t, ht⟩ (x 1) := by
    funext a
    have hx : ((x 0 : Fin _) : ℕ) = 0 := Nat.lt_one_iff.mp (x 0).isLt
    match a with
    | 0 => exact Fin.ext ((ValueKit.rect_emb_unit_val _ _ _ _ _).trans (by rw [hx]; rfl))
    | 1 => exact Fin.ext ((ValueKit.rect_emb_unit_val _ _ _ _ _).trans (Nat.zero_add _))
  change (planeM p).view.emb ((Rect.unit (s := S512x2048) ![t, 0] S1x2048.size h).emb x) = _
  rw [e]
  exact plane_emb p ⟨t, ht⟩ (x 1)

theorem xRow_view (p : Fin 2) (t : ℕ) (ht : t < 512) (h : ∀ a, (![t, 0] : Fin 2 → ℕ) a + S1x2048.size a ≤ S512x2048.size a) :
    (rowM p ![t, 0] h).view.set = xRow p t := by
  ext y
  rw [xRow, Finset.mem_filter]
  constructor
  · intro hy
    obtain ⟨x, -, rfl⟩ := Finset.mem_map.mp hy
    rw [row_emb p t ht h x]
    exact ⟨Finset.mem_univ _, rfl, rfl⟩
  · rintro ⟨-, h0, h1⟩
    refine Finset.mem_map.mpr ⟨ValueIdx.ix2 (0 : Fin 1) (y 2), Finset.mem_univ _, ?_⟩
    rw [row_emb p t ht h]
    funext a
    match a with
    | 0 => exact Fin.ext h0.symm
    | 1 => exact Fin.ext h1.symm
    | 2 => rfl

theorem hRow_view (w : ℕ) (h : ∀ a, (![w, 0] : Fin 2 → ℕ) a + S1x2048.size a ≤ S74752x2048.size a) :
    (hM.slice (Rect.unit (s := S74752x2048) ![w, 0] S1x2048.size h) (fun _ => rfl)).view.set = hRow w := by
  refine (View.set_slice_whole main_arg4 _).trans ?_
  ext p
  refine Rect.mem_set_unit.trans ?_
  rw [hRow, Finset.mem_filter]
  refine Fin.forall_fin_two.trans ?_
  have := (p 1).isLt
  simp [S1x2048] at *
  omega

/-- A plane's rows are it all, and no two share an element. -/
theorem xRow_disj (p : Fin 2) : ∀ t ∈ (Finset.univ : Finset (Fin 512)), ∀ t' ∈ (Finset.univ : Finset (Fin 512)), t ≠ t' →
    Disjoint (xRow p t.val) (xRow p t'.val) := by
  intro t _ t' _ h
  rw [Finset.disjoint_left]
  intro y hy hy'
  rw [xRow, Finset.mem_filter] at hy hy'
  exact h (Fin.ext (hy.2.2.symm.trans hy'.2.2))

theorem xRow_cover (p : Fin 2) : (Finset.univ : Finset (Fin 512)).biUnion (fun t => xRow p t.val) = xPlane p := by
  ext y
  simp only [Finset.mem_biUnion, Finset.mem_univ, true_and, xRow, xPlane, Finset.mem_filter]
  exact ⟨fun ⟨_, h, _⟩ => h, fun h => ⟨⟨(y 1).val, (y 1).isLt⟩, h, rfl⟩⟩

theorem x_rows (c : Dev nD) (p : Fin 2) (f : XBuf F) :
    (xLoc c ↦[xPlane p]{fullShare} f : sProp 𝕄) = bigSep Finset.univ fun t : Fin 512 => xLoc c ↦[xRow p t.val]{fullShare} f := by
  have h := pointsTo_biUnion (Ix := Unit) (Name := ℕ) (U := Pipeline.UD sig nD τ) (Lvl := ℕ) (Val := Elt F) (ℓ := xLoc c) (q := fullShare) (f := f)
    (Finset.univ : Finset (Fin 512)) (fun t => xRow p t.val) (xRow_disj p)
  rw [← h]
  exact congrArg (fun S => (xLoc c ↦[S]{fullShare} f : sProp 𝕄)) (xRow_cover p).symm

/-- The scratch buffer is its two planes. -/
theorem x_planes (c : Dev nD) (f : XBuf F) :
    (xLoc c ↦{fullShare} f : sProp 𝕄) = iprop((xLoc c ↦[xPlane 0]{fullShare} f) ∗ (xLoc c ↦[xPlane 1]{fullShare} f)) := by
  have e : (Finset.univ : Finset S2x512x2048.Idx) \ xPlane 0 = xPlane 1 := by
    ext y
    have := (y 0).isLt
    simp only [xPlane, Finset.mem_sdiff, Finset.mem_univ, true_and, Finset.mem_filter]
    change ¬((y 0).val = 0) ↔ (y 0).val = 1
    have h2 : (y 0).val < 2 := (y 0).isLt
    omega
  have h := eq_of (F := F) (pointsTo_split_subset (ℓ := xLoc c) (q := fullShare) (f := f) (Finset.subset_univ (xPlane 0))).1 (pointsTo_split_subset (Finset.subset_univ _)).2
  refine h.trans ?_
  exact congrArg (fun S => iprop((xLoc c ↦[xPlane 0]{fullShare} f) ∗ (xLoc c ↦[S]{fullShare} f) : sProp 𝕄)) e

/-- The experts' results whole are the two planes' halves. -/
theorem h_halves (c : Dev nD) (hb : HBuf F) :
    (hLoc c ↦{fullShare} hb : sProp 𝕄) = iprop((hLoc c ↦{half 0} hb) ∗ (hLoc c ↦{half 1} hb)) :=
  eq_of (pointsTo_share (PosShare.mem_left_op_right fullShare)).1 (pointsTo_share (PosShare.mem_left_op_right fullShare)).2

/-! ## The gather -/

/-- The row of the experts' results a word names (the word taken below the number of rows). -/
def rowOf (w : BitVec 32) : Fin 74752 := ⟨w.toNat % 74752, Nat.mod_lt _ (by norm_num)⟩

/-- The scratch buffer once every row is there: row `t` of plane `p` is row `w p t` of the experts' results. -/
def gath (hb : HBuf F) (w : ℕ → ℕ → BitVec 32) : XBuf F := fun x => hb (fun | 0 => rowOf (w (x 0).val (x 1).val) | 1 => x 2)

/-- What copy `t` gives back: its row gathered, and its share of the row it read. -/
def deliv (c : Dev nD) (p : Fin 2) (hb : HBuf F) (w : ℕ → ℕ → BitVec 32) (t : Fin 512) : sProp 𝕄 :=
  iprop((xLoc c ↦[xRow p t.val]{fullShare} (gath hb w)) ∗ (hLoc c ↦[hRow (w p.val t.val).toNat]{(rem p t.val).left} hb))

instance deliv_storable (c : Dev nD) (p : Fin 2) (hb : HBuf F) (w : ℕ → ℕ → BitVec 32) (t : Fin 512) :
    Storable (upEmb : UEmb _ 𝕄) (deliv c p hb w t) := by unfold deliv; infer_instance

/-- What copy `t` needs to start. -/
def need (c : Dev nD) (p : Fin 2) (hb : HBuf F) (w : ℕ → ℕ → BitVec 32) (t : Fin 512) : sProp 𝕄 :=
  iprop((∃ f : XBuf F, xLoc c ↦[xRow p t.val]{fullShare} f) ∗ (hLoc c ↦[hRow (w p.val t.val).toNat]{(rem p t.val).left} hb))

/-- The experts' results' elements and shares no copy takes. -/
def hRest (c : Dev nD) (p : Fin 2) (hb : HBuf F) (w : ℕ → ℕ → BitVec 32) : sProp 𝕄 :=
  iprop((bigSep Finset.univ fun t : Fin 512 => hLoc c ↦[Finset.univ \ hRow (w p.val t.val).toNat]{(rem p t.val).left} hb)
    ∗ hLoc c ↦{rem p 512} hb)

/-- One row's amount on the semaphore. -/
def amt : ℕ := (rowM 0 ![0, 0] (by decide)).view.amount (SemLoc.dma (sig := sig) (psem 0))

theorem amt_pos : 0 < amt := by unfold amt; exact View.amount_pos _ _ (by decide)

theorem amt_eq (p : Fin 2) (off : Fin 2 → ℕ) (h : ∀ a, off a + S1x2048.size a ≤ S512x2048.size a) :
    (rowM p off h).view.amount (SemLoc.dma (sig := sig) (psem p)) = amt := rfl

/-- The batch: `k` copies started, `u` units taken by waits. -/
def Flight (c : Dev nD) (p : Fin 2) (hb : HBuf F) (w : ℕ → ℕ → BitVec 32) (k u : ℕ) : sProp 𝕄 :=
  Transfers.Batch (countersEmb (U := Pipeline.UD sig nD τ)) (c : Thread nD τ) (SemLoc.dma (psem p)) () amt (deliv c p hb w) k u

/-- The batch with `k` copies started and none waited for, with what the rest need and the results' remainder. -/
def Stage (c : Dev nD) (p : Fin 2) (hb : HBuf F) (w : ℕ → ℕ → BitVec 32) (k : ℕ) : sProp 𝕄 :=
  iprop(Flight c p hb w k 0 ∗ bigSep (Transfers.pending k) (need c p hb w) ∗ hRest c p hb w)

/-- No copy in flight on plane `p`: the plane, its half of the experts' results, its semaphore at zero. -/
def Idle1 (c : Dev nD) (p : Fin 2) (hb : HBuf F) (x : XBuf F) : sProp 𝕄 :=
  iprop((xLoc c ↦[xPlane p]{fullShare} x) ∗ (hLoc c ↦{half p} hb) ∗ semVal ((c : Thread nD τ), SemLoc.dma (psem p)) 0)

/-- The experts' results whole, as every copy's row, and the rest. -/
theorem h_split (c : Dev nD) (p : Fin 2) (hb : HBuf F) (w : ℕ → ℕ → BitVec 32) :
    (hLoc c ↦{half p} hb : sProp 𝕄)
      = iprop((bigSep Finset.univ fun t : Fin 512 => hLoc c ↦[hRow (w p.val t.val).toNat]{(rem p t.val).left} hb) ∗ hRest c p hb w) := by
  have h := shares_pending (F := F) p 512 (ℓ := hLoc c) Finset.univ hb 0 (Nat.zero_le _)
  rw [Transfers.pending_zero] at h
  refine (show (hLoc c ↦{half p} hb : sProp 𝕄) = hLoc c ↦[Finset.univ]{rem p 0} hb from rfl).trans (h.trans ?_)
  have h2 : (bigSep Finset.univ fun t : Fin 512 => (hLoc c ↦[Finset.univ]{(rem p t.val).left} hb : sProp 𝕄))
      = iprop((bigSep Finset.univ fun t : Fin 512 => hLoc c ↦[hRow (w p.val t.val).toNat]{(rem p t.val).left} hb)
        ∗ bigSep Finset.univ fun t : Fin 512 => hLoc c ↦[Finset.univ \ hRow (w p.val t.val).toNat]{(rem p t.val).left} hb) := by
    rw [← bigSep_sep']
    exact bigSep_congr fun t _ => BI.Entails.antisymm (pointsTo_split_subset (Finset.subset_univ _)).1 (pointsTo_split_subset (Finset.subset_univ _)).2
  rw [h2]
  unfold hRest
  exact eq_of BI.Laws.sep_assoc.1 BI.Laws.sep_assoc.2

theorem x_any (c : Dev nD) (p : Fin 2) (x : XBuf F) : (bigSep Finset.univ fun t : Fin 512 => (xLoc c ↦[xRow p t.val]{fullShare} x : sProp 𝕄))
    ⊢ bigSep Finset.univ fun t : Fin 512 => iprop(∃ f : XBuf F, xLoc c ↦[xRow p t.val]{fullShare} f) :=
  bigSep_mono fun t _ => exists_intro (Φ := fun f : XBuf F => (xLoc c ↦[xRow p t.val]{fullShare} f : sProp 𝕄)) x

/-- From idle, a batch with nothing started. -/
theorem stage_alloc (c : Dev nD) (p : Fin 2) (hb : HBuf F) (w : ℕ → ℕ → BitVec 32) (x : XBuf F) :
    (Idle1 c p hb x : sProp 𝕄) ⊢ |={Set.univ}=> Stage c p hb w 0 := by
  unfold Idle1 Stage Flight
  iintro ⟨Hx, Hh, Hs⟩
  imod (Transfers.batch_alloc' (Lvl := ℕ) (countersEmb (U := Pipeline.UD sig nD τ)) (c : Thread nD τ) () amt (deliv c p hb w)
    (sm := SemLoc.dma (psem p)) (E := Set.univ)) $$ Hs with HB
  ihave Hh := (ent_of_eq (h_split c p hb w)) $$ Hh
  icases Hh with ⟨Hh, HR⟩
  ihave Hx := (ent_of_eq (x_rows c p x)) $$ Hx
  imodintro
  isplitl [HB]; · iexact HB
  isplitl [Hx Hh]
  · rw [Transfers.pending_zero]
    unfold need
    rw [bigSep_sep']
    isplitl [Hx]
    · iapply (x_any c p x) $$ Hx
    · iexact Hh
  · iexact HR

/-- Every copy started and every unit waited for: idle again, the rows gathered. -/
theorem stage_collect (c : Dev nD) (p : Fin 2) (hb : HBuf F) (w : ℕ → ℕ → BitVec 32) :
    iprop(Flight c p hb w 512 (amt * 512) ∗ hRest c p hb w) ⊢ (|={Set.univ}=> Idle1 c p hb (gath hb w) : sProp 𝕄) := by
  unfold Flight
  iintro ⟨HB, HR⟩
  imod (Transfers.batch_collect' (countersEmb (U := Pipeline.UD sig nD τ)) (c : Thread nD τ) amt_pos) $$ HB with ⟨HD, Hs⟩
  imodintro
  unfold Idle1 deliv
  ihave HD := (ent_of_eq (bigSep_sep' (M := 𝕄) Finset.univ (fun t : Fin 512 => xLoc c ↦[xRow p t.val]{fullShare} (gath hb w))
    (fun t : Fin 512 => hLoc c ↦[hRow (w p.val t.val).toNat]{(rem p t.val).left} hb))) $$ HD
  icases HD with ⟨HX, HH⟩
  isplitl [HX]
  · iapply (ent_of_eq (x_rows c p (gath hb w)).symm) $$ HX
  isplitl [HH HR]
  · iapply (ent_of_eq (h_split c p hb w).symm)
    isplitl [HH] <;> iassumption
  · iexact Hs

end Cert.CombineIdeal.Hand

end
-- ==== Proof.CSteps.lean ====
/-
  One step of the combine call at a time, at the assertions of `CFlights`: a vector load or store of a whole buffer, the load of
  one slot word, the start of one row's copy and the wait for one row; and the four counted loops of them.
-/
module

public import proofs.«01_k».proof.Proof.CFlights
public import Idealize.ShloMosaic.Lib.WordArith

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A program's weakest precondition on core `c`, as the body's obligation states it. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section Steps

variable (c : Dev nD) {α : Type}

/-- A load of a buffer read at `X`. -/
theorem wp_loadOwn {Q : α → sProp 𝕄} {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpc c (k (fun x => X (r.toLoadRect.idx x))) Q)
        -∗ wpc c (.op (.load m r.toLoadRect hl) k) Q) := by
  unfold owns
  iintro ⟨%f, %hf, H⟩ Hk
  iapply (wp_load Variants.none (c : Thread nD τ) none Set.univ (m := m) (r := r.toLoadRect) (hl := hl) (k := k) (q := q) (f := f) (S := m.view.set) (View.setOn_subset_set _ _)) $$ H
  iintro H
  have e : m.view.readAt (Elt F) r.toLoadRect f = fun x => X (r.toLoadRect.idx x) := by
    funext x; rw [View.readAt_apply, hf]
  rw [e]
  iapply Hk
  iexists f
  isplitr
  · ipureintro; exact hf
  · iexact H

/-- A store of a whole buffer. -/
theorem wp_storeOwn {Q : α → sProp 𝕄} {cs : CoreSpace} {s : Shape} {e : EltTy} {m : Memref sig .tc cs s e} {off : Fin s.rank → ℕ} (h0 : off = fun _ => 0)
    {inb : ∀ a, off a + s.size a ≤ s.size a} {w : s.Idx → Elt F e}
    {hx : (m.access (Rect.unit off s.size inb)).Stores Finset.univ} {hm}
    {k : PUnit → Prog (TpuEff nD τ sig (Elt F) Λ₀ .tc) α} {X : s.Idx → Elt F e} :
    (owns (c : Thread nD τ) m fullShare X : sProp 𝕄)
      ⊢ iprop((owns (c : Thread nD τ) m fullShare w -∗ wpc c (k ⟨⟩) Q)
        -∗ wpc c (.op (.store m (Rect.unit off s.size inb) w Finset.univ hx hm) k) Q) := by
  subst h0
  unfold owns
  iintro ⟨%f, %hf, H⟩ Hk
  iapply (wp_store Variants.none (c : Thread nD τ) none Set.univ (m := m) (r := Rect.unit (fun _ => 0) s.size inb) (w := w) (Mk := Finset.univ) (hx := hx) (hm := hm) (k := k) (f := f)
    (S := m.view.set) (View.setOn_subset_set _ _ |>.trans (View.set_slice_subset _ _))) $$ H
  iintro H
  iapply Hk
  iexists _
  isplitr
  swap; · iexact H
  ipureintro
  funext x
  have h := View.read_writes_cons_emb m.view f (Rect.unit (fun _ => 0) s.size inb) w [] x
  have hx : (Rect.unit (fun _ => 0) s.size inb).emb x = x := Rect.emb_whole_apply _ x
  rw [hx] at h
  exact h

/-- A load of the whole of a buffer. -/
theorem wp_loadWhole {Q : α → sProp 𝕄} {cs : CoreSpace} {s : Shape} {e : EltTy} {m : Memref sig .tc cs s e} {off : Fin s.rank → ℕ} (h0 : off = fun _ => 0)
    {inb : ∀ a, off a + s.size a ≤ s.size a} {hl : m.view.LoadsAt (Rect.unit off s.size inb).toLoadRect}
    {k : (s.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wpc c (k X) Q) -∗ wpc c (.op (.load m (Rect.unit off s.size inb).toLoadRect hl) k) Q) := by
  subst h0
  iintro H Hk
  iapply (wp_loadOwn c (m := m) (r := Rect.unit (fun _ => 0) s.size inb) (X := X) (q := q) (k := k)) $$ H
  iintro H
  have e : (fun x => X ((Rect.unit (fun _ => 0) s.size inb).toLoadRect.idx x)) = X := funext fun x => congrArg X (Rect.emb_whole_apply _ x)
  rw [e]
  iapply Hk $$ H

/-- Word `n` of a block of slot words, the last from the last on. -/
def tokIdx (n : ℕ) : S1x1x1024.Idx := fun
  | 0 => ⟨0, by decide⟩
  | 1 => ⟨0, by decide⟩
  | 2 => ⟨min n 1023, by simp [S1x1x1024, Shape.size]⟩

/-- The load of one word of a block of slot words. -/
theorem wp_tok {Q : α → sProp 𝕄} {m : Memref sig .tc .smem S1x1x1024 .i32} {off : Fin 3 → ℕ} (n : ℕ) (h0 : off = ![0, 0, min n 1023])
    {inb : ∀ a, off a + S1x1x1.size a ≤ S1x1x1024.size a} {hp} {h1}
    {k : Elt F .i32 → Prog (TpuEff nD τ sig (Elt F) Λ₀ .tc) α} {q : PosShare TreeShare} {X : S1x1x1024.Idx → Elt F .i32} :
    (owns (c : Thread nD τ) m q X : sProp 𝕄)
      ⊢ iprop((owns (c : Thread nD τ) m q X -∗ wpc c (k (X (tokIdx n))) Q)
        -∗ wpc c ((smemLoad m (Rect.unit (s := S1x1x1024) off S1x1x1.size inb) h1 hp).bind k) Q) := by
  subst h0
  iintro H Hk
  iapply (wp_loadOwn c (m := m) (r := Rect.unit (s := S1x1x1024) ![0, 0, min n 1023] S1x1x1.size inb) (X := X) (q := q)
    (k := fun f => k (f (Shape.Idx.first (h1.symm ▸ Nat.one_pos))))) $$ H
  iintro H
  have e : (Rect.unit (s := S1x1x1024) ![0, 0, min n 1023] S1x1x1.size inb).toLoadRect.idx (Shape.Idx.first (h1.symm ▸ Nat.one_pos)) = (tokIdx n) := by
    funext a
    match a with
    | 0 => rfl
    | 1 => rfl
    | 2 => exact Fin.ext (by simp [LoadRect.idx, Shape.Idx.first, tokIdx])
  simp only [e]
  iapply Hk $$ H

/-- What a copy of row `w p t` of the experts' results writes over row `t` of plane `p` is the gathered row. -/
theorem landed (p : Fin 2) (hb : HBuf F) (w : ℕ → ℕ → BitVec 32) (t : ℕ) (ht : t < 512) (hw : (w p.val t).toNat < 74752) (f : XBuf F)
    (hs : ∀ a, (![(w p.val t).toNat, 0] : Fin 2 → ℕ) a + S1x2048.size a ≤ S74752x2048.size a)
    (hd : ∀ a, (![t, 0] : Fin 2 → ℕ) a + S1x2048.size a ≤ S512x2048.size a)
    (i : S2x512x2048.Idx) (hi : i ∈ xRow p t) :
    (rowM p ![t, 0] hd).view.write (Elt F) f
      ((hM.slice (Rect.unit (s := S74752x2048) ![(w p.val t).toNat, 0] S1x2048.size hs) (fun _ => rfl)).view.read (Elt F) hb) Finset.univ i
      = gath hb w i := by
  rw [← xRow_view p t ht hd] at hi
  obtain ⟨x, -, rfl⟩ := Finset.mem_map.mp hi
  rw [View.write_emb_of_mem _ _ (Finset.mem_univ x), row_emb p t ht hd x]
  change hb _ = hb _
  refine congrArg hb ?_
  have hx : ((x 0 : Fin _) : ℕ) = 0 := Nat.lt_one_iff.mp (x 0).isLt
  funext a
  match a with
  | 0 =>
    refine Fin.ext ((ValueKit.view_emb_slice_whole_unit_val main_arg4 _ _ _ x 0).trans ?_)
    change (w p.val t).toNat + _ = (w p.val t).toNat % 74752
    rw [Nat.mod_eq_of_lt hw, hx]; rfl
  | 1 =>
    exact Fin.ext ((ValueKit.view_emb_slice_whole_unit_val main_arg4 _ _ _ x 1).trans (Nat.zero_add _))

/-- The start of copy `k`, the next of the batch. -/
theorem wp_start {Q : α → sProp 𝕄} (p : Fin 2) {hb : HBuf F} {w : ℕ → ℕ → BitVec 32} (k : ℕ) (hk : k < 512) (hw : (w p.val k).toNat < 74752)
    {offs offd : Fin 2 → ℕ} (es : offs = ![(w p.val k).toNat, 0]) (ed : offd = ![k, 0])
    {hs : ∀ a, offs a + S1x2048.size a ≤ S74752x2048.size a} {hd : ∀ a, offd a + S1x2048.size a ≤ S512x2048.size a}
    {hsrc} {hdst} {hsem}
    {kont : PUnit → Prog (TpuEff nD τ sig (Elt F) Λ₀ .tc) α} :
    (Stage c p hb w k : sProp 𝕄)
      ⊢ iprop((Stage c p hb w (k + 1) -∗ wpc c (kont ⟨⟩) Q)
        -∗ wpc c (.op (.enqueueDma (hM.slice (Rect.unit (s := S74752x2048) offs S1x2048.size hs) (fun _ => rfl))
            (.here (rowM p offd hd)) (.dma (psem p)) hsrc hdst hsem) kont) Q) := by
  subst es ed
  unfold Stage
  rw [Transfers.bigSep_pending_step (need c p hb w) k hk]
  iintro ⟨HB, ⟨HN, HP⟩, HR⟩ Hk
  unfold need
  icases HN with ⟨⟨%f, Hd⟩, Hs⟩
  unfold Flight
  iapply (Transfers.wp_dmaBatch (countersEmb (U := Pipeline.UD sig nD τ)) Variants.none (c : Thread nD τ) none
    (src := hM.slice (Rect.unit (s := S74752x2048) ![(w p.val k).toNat, 0] S1x2048.size hs) (fun _ => rfl))
    (dst := rowM p ![k, 0] hd) (via := .same) (q := (rem p k).left) (fs := hb) (fd := f)
    () amt (amt_eq p _ hd) (Sd := xRow p k) (xRow_view p k hk hd).le (D := deliv c p hb w) (j := k) (u := 0) hk (Nat.zero_le _) ?_) $$ [Hs Hd HB]
  · rw [hRow_view]
    unfold deliv
    refine sep_mono (ent_of_eq (pointsTo_congr fun i hi => ?_)) .rfl
    exact landed p hb w k hk hw f hs hd i hi
  · rw [hRow_view]
    isplitl [Hs]; · iexact Hs
    isplitl [Hd]; · iexact Hd
    iexact HB
  iintro HB
  iapply Hk
  isplitl [HB]; · iexact HB
  isplitl [HP]; · iexact HP
  iexact HR

/-- The wait for one row's amount, every copy started. -/
theorem wp_take {Q : α → sProp 𝕄} (p : Fin 2) {hb : HBuf F} {w : ℕ → ℕ → BitVec 32} (k : ℕ) (hk : k < 512)
    {offs offd : Fin 2 → ℕ}
    {hs : ∀ a, offs a + S1x2048.size a ≤ S74752x2048.size a} {hd : ∀ a, offd a + S1x2048.size a ≤ S512x2048.size a}
    {hsrc} {hdst} {W : Waits sig Unit}
    {kont : PUnit → Prog (TpuEff nD τ sig (Elt F) Λ₀ .tc) α} :
    iprop(Flight c p hb w 512 (amt * k) ∗ owes (c : Thread nD τ) 0 W)
      ⊢ (iprop((iprop(Flight c p hb w 512 (amt * (k + 1)) ∗ owes (c : Thread nD τ) 0 (insert (SemLoc.dma (psem p), ()) W)) -∗ wpc c (kont ⟨⟩) Q)
        -∗ wpc c (.op (.waitDma2 (psem p) (hM.slice (Rect.unit (s := S74752x2048) offs S1x2048.size hs) (fun _ => rfl))
            (rowM p offd hd) hsrc hdst) kont) Q) : sProp 𝕄) := by
  have h := Transfers.wp_waitBatchMul (countersEmb (U := Pipeline.UD sig nD τ)) (defs := defs₀ (F := F)) Variants.none (c : Thread nD τ) none
    (Q := Q) (Lvl := ℕ) (srcw := hM.slice (Rect.unit (s := S74752x2048) offs S1x2048.size hs) (fun _ => rfl))
    (dstw := rowM p offd hd) (sem := psem p) (hsrc := hsrc) (hdst := hdst)
    (k := kont) () 1 (N := amt) ((amt_eq p _ hd).trans (Nat.one_mul _).symm)
    (D := deliv c p hb w) (j := 512) (u := amt * k) (by rw [Nat.one_mul, ← Nat.mul_succ]; exact Nat.mul_le_mul_left _ hk) (W := W)
  unfold Flight
  rw [Nat.one_mul, ← Nat.mul_succ] at h
  exact h

end Steps

/-! ## Offsets -/

theorem word_nat (n : ℕ) (hn : n < 2 ^ 31) : (BitVec.ofNat 32 n).toNat = n := by
  rw [BitVec.toNat_ofNat]; exact Nat.mod_eq_of_lt (by omega)

/-- A trip's word, `0 + n * 1`. -/
theorem iv_word (n : ℕ) : Scf.iv 0#32 1#32 n = BitVec.ofNat 32 n := by
  unfold Scf.iv; simp

theorem min_word (n : ℕ) (hn : n < 512) : Scalar.minsi (BitVec.ofNat 32 n) 511#32 = BitVec.ofNat 32 n := by
  refine BitVec.eq_of_toNat_eq ((WordArith.toNat_minsi_of_lt (BitVec.ofNat 32 n) 511#32 (by rw [word_nat n (by omega)]; omega) (by decide)).trans ?_)
  rw [word_nat n (by omega)]
  exact Nat.min_eq_left (Nat.le_of_lt_succ hn)

/-- The slot word of row `n` of plane `p` is word `2 n + p` of its block. -/
theorem off_slot (p : ℕ) (hp : p < 2) (n : ℕ) (hn : n < 512) :
    (![0, 0, (Scalar.addi (BitVec.ofNat 32 p) (Scalar.muli 2#32 (Scalar.minsi (Scf.iv 0#32 1#32 n) 511#32))).toNat] : Fin 3 → ℕ) = ![0, 0, min (2 * n + p) 1023] := by
  rw [iv_word, min_word n hn]
  have e : Scalar.addi (BitVec.ofNat 32 p) (Scalar.muli 2#32 (BitVec.ofNat 32 n)) = BitVec.ofNat 32 (2 * n + p) := by
    change BitVec.ofNat 32 p + 2#32 * BitVec.ofNat 32 n = _
    rw [BitVec.ofNat_add, BitVec.ofNat_mul, BitVec.add_comm]
  rw [e, word_nat _ (by omega), Nat.min_eq_left (by omega)]

theorem off_row (n : ℕ) (hn : n < 2 ^ 31) : (![(Scf.iv 0#32 1#32 n).toNat, 0] : Fin 2 → ℕ) = ![n, 0] := by
  rw [iv_word, word_nat n hn]

theorem off00 : (![0, 0] : Fin 2 → ℕ) = fun _ => 0 := by decide

/-- A word under the number of experts' results is a row of them. -/
theorem row_inb (w : BitVec 32) (h : w.toNat < 74752) (a : Fin 2) : (![w.toNat, 0] : Fin 2 → ℕ) a + S1x2048.size a ≤ S74752x2048.size a := by
  match a with
  | 0 => change w.toNat + 1 ≤ 74752; omega
  | 1 => change 0 + 2048 ≤ 2048; omega

theorem ret_bind' {β γ : Type} (a : β) (k : β → Prog (TpuEff nD τ sig (Elt F) Λ₀ .tc) γ) : (Prog.ret a).bind k = k a := rfl

theorem wp_done (c : Dev nD) {β : Type} {Q : β → sProp 𝕄} (a : β) : Q a ⊢ wpc (F := F) c (Pure.pure a) Q := by
  change _ ⊢ wpc c (Prog.ret a) Q
  unfold wpc
  rw [wp_ret]
  iintro H
  imodintro
  iexact H

/-- The slot words of a block, by plane and row. -/
abbrev words (X : S1x1x1024.Idx → BitVec 32) : ℕ → ℕ → BitVec 32 := fun p t => X (tokIdx (2 * t + p))

section Loops

variable (c : Dev nD) (i : grid0.Coords)
  (arg1 : Memref sig .tc .smem S1x1x1024 .i32) (harg1 : arg1.IsWhole) (arg2 : Memref sig .tc .vmem S512x128 .f32) (harg2 : arg2.IsWhole)
  (arg3 : Memref sig .tc .vmem S512x2048 .f32) (harg3 : arg3.IsWhole) (arg4 : Memref sig .tc .vmem S1x2048 .f32) (harg4 : arg4.IsWhole)
  (arg6 : Memref sig .tc .vmem S512x2048 .f32) (harg6 : arg6.IsWhole) (arg7 : Memref sig .tc .vmem S512x2048 .f32) (harg7 : arg7.IsWhole)

set_option maxHeartbeats 1000000 in
/-- The loop that starts plane 0's copies. -/
theorem wp_startAll0 {Q : Unit → sProp 𝕄} {hb : HBuf F} {X : S1x1x1024.Idx → BitVec 32} (hX : ∀ x, (X x).toNat < 74752) :
    iprop(Stage c 0 hb (words X) 0 ∗ owns (c : Thread nD τ) arg1 fullShare X)
      ⊢ iprop((iprop(Stage c 0 hb (words X) 512 ∗ owns (c : Thread nD τ) arg1 fullShare X) -∗ Q ())
        -∗ wpc c (Scf.Loop.for k0_t1_loop k0_t1_ok ⟨⟩ (k0_t1_body (F := F) i arg1 harg1 arg2 harg2 arg3 harg3 arg4 harg4 hM (Memref.isWhole_whole _) arg6 harg6 arg7 harg7 xM (Memref.isWhole_whole _) cc0_scratch1)) Q) := by
  iintro H HQ
  iapply (Scf.wp_for frame (wpE (defs₀ (F := F)) Variants.none (c : Thread nD τ) none) Set.univ _ _ _ k0_t1_ok ()
    (k0_t1_body (F := F) i arg1 harg1 arg2 harg2 arg3 harg3 arg4 harg4 hM (Memref.isWhole_whole _) arg6 harg6 arg7 harg7 xM (Memref.isWhole_whole _) cc0_scratch1)
    (fun k _ => iprop(Stage c 0 hb (words X) k ∗ owns (c : Thread nD τ) arg1 fullShare X)) ?_)
  · intro t _
    have ht : t.val < 512 := t.isLt
    unfold k0_t1_body
    iintro ⟨HS, H1⟩
    iapply (wp_tok c (2 * t.val + 0) (off_slot 0 (by decide) t.val ht)) $$ H1
    iintro H1
    iapply (wp_assume Variants.none (c : Thread nD τ) none Set.univ (row_inb _ (hX _)))
    simp only [ret_bind']
    iapply (wp_start c 0 t.val ht (show (words X 0 t.val).toNat < 74752 from hX _) rfl (off_row t.val (by omega))) $$ HS
    iintro HS
    simp only [ret_bind']
    iapply (wp_done c)
    isplitl [HS] <;> iassumption
  · isplitl [H]; · iexact H
    iintro %_ H
    iapply HQ
    iexact H

set_option maxHeartbeats 1000000 in
/-- The loop that starts plane 1's copies. -/
theorem wp_startAll1 {Q : Unit → sProp 𝕄} {hb : HBuf F} {X : S1x1x1024.Idx → BitVec 32} (hX : ∀ x, (X x).toNat < 74752) :
    iprop(Stage c 1 hb (words X) 0 ∗ owns (c : Thread nD τ) arg1 fullShare X)
      ⊢ iprop((iprop(Stage c 1 hb (words X) 512 ∗ owns (c : Thread nD τ) arg1 fullShare X) -∗ Q ())
        -∗ wpc c (Scf.Loop.for k0_t2_loop k0_t2_ok ⟨⟩ (k0_t2_body (F := F) i arg1 harg1 arg2 harg2 arg3 harg3 arg4 harg4 hM (Memref.isWhole_whole _) arg6 harg6 arg7 harg7 xM (Memref.isWhole_whole _) cc0_scratch1)) Q) := by
  iintro H HQ
  iapply (Scf.wp_for frame (wpE (defs₀ (F := F)) Variants.none (c : Thread nD τ) none) Set.univ _ _ _ k0_t2_ok ()
    (k0_t2_body (F := F) i arg1 harg1 arg2 harg2 arg3 harg3 arg4 harg4 hM (Memref.isWhole_whole _) arg6 harg6 arg7 harg7 xM (Memref.isWhole_whole _) cc0_scratch1)
    (fun k _ => iprop(Stage c 1 hb (words X) k ∗ owns (c : Thread nD τ) arg1 fullShare X)) ?_)
  · intro t _
    have ht : t.val < 512 := t.isLt
    unfold k0_t2_body
    iintro ⟨HS, H1⟩
    iapply (wp_tok c (2 * t.val + 1) (off_slot 1 (by decide) t.val ht)) $$ H1
    iintro H1
    iapply (wp_assume Variants.none (c : Thread nD τ) none Set.univ (row_inb _ (hX _)))
    simp only [ret_bind']
    iapply (wp_start c 1 t.val ht (show (words X 1 t.val).toNat < 74752 from hX _) rfl (off_row t.val (by omega))) $$ HS
    iintro HS
    simp only [ret_bind']
    iapply (wp_done c)
    isplitl [HS] <;> iassumption
  · isplitl [H]; · iexact H
    iintro %_ H
    iapply HQ
    iexact H

set_option maxHeartbeats 1000000 in
/-- The loop that waits for plane 0's copies. -/
theorem wp_takeAll0 {Q : Unit → sProp 𝕄} {hb : HBuf F} {w : ℕ → ℕ → BitVec 32} {X : S1x1x1024.Idx → BitVec 32} (hX : ∀ x, (X x).toNat < 74752) :
    iprop(Flight c 0 hb w 512 0 ∗ owns (c : Thread nD τ) arg1 fullShare X ∗ ∃ W, owes (c : Thread nD τ) 0 W)
      ⊢ iprop((iprop(Flight c 0 hb w 512 (amt * 512) ∗ owns (c : Thread nD τ) arg1 fullShare X ∗ ∃ W, owes (c : Thread nD τ) 0 W) -∗ Q ())
        -∗ wpc c (Scf.Loop.for k0_t3_loop k0_t3_ok ⟨⟩ (k0_t3_body (F := F) i arg1 harg1 arg2 harg2 arg3 harg3 arg4 harg4 hM (Memref.isWhole_whole _) arg6 harg6 arg7 harg7 xM (Memref.isWhole_whole _) cc0_scratch1)) Q) := by
  iintro H HQ
  iapply (Scf.wp_for frame (wpE (defs₀ (F := F)) Variants.none (c : Thread nD τ) none) Set.univ _ _ _ k0_t3_ok ()
    (k0_t3_body (F := F) i arg1 harg1 arg2 harg2 arg3 harg3 arg4 harg4 hM (Memref.isWhole_whole _) arg6 harg6 arg7 harg7 xM (Memref.isWhole_whole _) cc0_scratch1)
    (fun k _ => iprop(Flight c 0 hb w 512 (amt * k) ∗ owns (c : Thread nD τ) arg1 fullShare X ∗ ∃ W, owes (c : Thread nD τ) 0 W)) ?_)
  · intro t _
    have ht : t.val < 512 := t.isLt
    unfold k0_t3_body
    iintro ⟨HS, H1, %W, HW⟩
    iapply (wp_tok c (2 * t.val + 0) (off_slot 0 (by decide) t.val ht)) $$ H1
    iintro H1
    iapply (wp_assume Variants.none (c : Thread nD τ) none Set.univ (row_inb _ (hX _)))
    simp only [ret_bind']
    iapply (wp_take c 0 t.val ht) $$ [HS HW]
    · isplitl [HS] <;> iassumption
    iintro ⟨HS, HW⟩
    simp only [ret_bind']
    iapply (wp_done c)
    isplitl [HS]; · iexact HS
    isplitl [H1]; · iexact H1
    iexists _
    iexact HW
  · isplitl [H]; · iexact H
    iintro %_ H
    iapply HQ
    iexact H

set_option maxHeartbeats 1000000 in
/-- The loop that waits for plane 1's copies. -/
theorem wp_takeAll1 {Q : Unit → sProp 𝕄} {hb : HBuf F} {w : ℕ → ℕ → BitVec 32} {X : S1x1x1024.Idx → BitVec 32} (hX : ∀ x, (X x).toNat < 74752) :
    iprop(Flight c 1 hb w 512 0 ∗ owns (c : Thread nD τ) arg1 fullShare X ∗ ∃ W, owes (c : Thread nD τ) 0 W)
      ⊢ iprop((iprop(Flight c 1 hb w 512 (amt * 512) ∗ owns (c : Thread nD τ) arg1 fullShare X ∗ ∃ W, owes (c : Thread nD τ) 0 W) -∗ Q ())
        -∗ wpc c (Scf.Loop.for k0_t4_loop k0_t4_ok ⟨⟩ (k0_t4_body (F := F) i arg1 harg1 arg2 harg2 arg3 harg3 arg4 harg4 hM (Memref.isWhole_whole _) arg6 harg6 arg7 harg7 xM (Memref.isWhole_whole _) cc0_scratch1)) Q) := by
  iintro H HQ
  iapply (Scf.wp_for frame (wpE (defs₀ (F := F)) Variants.none (c : Thread nD τ) none) Set.univ _ _ _ k0_t4_ok ()
    (k0_t4_body (F := F) i arg1 harg1 arg2 harg2 arg3 harg3 arg4 harg4 hM (Memref.isWhole_whole _) arg6 harg6 arg7 harg7 xM (Memref.isWhole_whole _) cc0_scratch1)
    (fun k _ => iprop(Flight c 1 hb w 512 (amt * k) ∗ owns (c : Thread nD τ) arg1 fullShare X ∗ ∃ W, owes (c : Thread nD τ) 0 W)) ?_)
  · intro t _
    have ht : t.val < 512 := t.isLt
    unfold k0_t4_body
    iintro ⟨HS, H1, %W, HW⟩
    iapply (wp_tok c (2 * t.val + 1) (off_slot 1 (by decide) t.val ht)) $$ H1
    iintro H1
    iapply (wp_assume Variants.none (c : Thread nD τ) none Set.univ (row_inb _ (hX _)))
    simp only [ret_bind']
    iapply (wp_take c 1 t.val ht) $$ [HS HW]
    · isplitl [HS] <;> iassumption
    iintro ⟨HS, HW⟩
    simp only [ret_bind']
    iapply (wp_done c)
    isplitl [HS]; · iexact HS
    isplitl [H1]; · iexact H1
    iexists _
    iexact HW
  · isplitl [H]; · iexact H
    iintro %_ H
    iapply HQ
    iexact H

end Loops

end Cert.CombineIdeal.Hand

end
-- ==== Proof.CBody.lean ====
/-
  The combine call's body at a point: both planes' copies started and waited for, the two gathered rows of each token added to
  its own with their weights, and the normalised sum stored in the first result's block or the second's.
-/
module

public import proofs.«01_k».proof.Proof.CSteps

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Body

variable (c : Dev nD) (i : grid0.Coords)
  (arg1 : Memref sig .tc .smem S1x1x1024 .i32) (harg1 : arg1.IsWhole) (arg2 : Memref sig .tc .vmem S512x128 .f32) (harg2 : arg2.IsWhole)
  (arg3 : Memref sig .tc .vmem S512x2048 .f32) (harg3 : arg3.IsWhole) (arg4 : Memref sig .tc .vmem S1x2048 .f32) (harg4 : arg4.IsWhole)
  (arg6 : Memref sig .tc .vmem S512x2048 .f32) (harg6 : arg6.IsWhole) (arg7 : Memref sig .tc .vmem S512x2048 .f32) (harg7 : arg7.IsWhole)

theorem wp_seq {β γ : Type} {p : Prog (TpuEff nD τ sig (Elt F) Λ₀ .tc) β} {k : β → Prog (TpuEff nD τ sig (Elt F) Λ₀ .tc) γ} {Q : γ → sProp 𝕄} :
    wpc c p (fun a => wpc c (k a) Q) ⊢ wpc c (p >>= k) Q :=
  ent_of_eq (wp_bind _ _ _ p k Q).symm

/-- Nothing in flight: the scratch buffer, the experts' results, both semaphores at zero. -/
def Idle (hb : HBuf F) (x : XBuf F) : sProp 𝕄 :=
  iprop((xLoc c ↦{fullShare} x) ∗ (hLoc c ↦{fullShare} hb) ∗ semVal ((c : Thread nD τ), SemLoc.dma (psem 0)) 0 ∗ semVal ((c : Thread nD τ), SemLoc.dma (psem 1)) 0)

theorem idle_planes (hb : HBuf F) (x : XBuf F) : (Idle c hb x : sProp 𝕄) ⊢ iprop(Idle1 c 0 hb x ∗ Idle1 c 1 hb x) := by
  unfold Idle Idle1
  rw [x_planes, h_halves]
  iintro ⟨⟨X0, X1⟩, ⟨H0, H1⟩, S0, S1⟩
  isplitl [X0 H0 S0]
  · isplitl [X0]; · iexact X0
    isplitl [H0] <;> iassumption
  · isplitl [X1]; · iexact X1
    isplitl [H1] <;> iassumption

theorem planes_idle (hb : HBuf F) (x : XBuf F) : iprop(Idle1 c 0 hb x ∗ Idle1 c 1 hb x) ⊢ (Idle c hb x : sProp 𝕄) := by
  unfold Idle Idle1
  rw [x_planes, h_halves]
  iintro ⟨⟨X0, H0, S0⟩, ⟨X1, H1, S1⟩⟩
  isplitl [X0 X1]
  · isplitl [X0] <;> iassumption
  isplitl [H0 H1]
  · isplitl [H0] <;> iassumption
  isplitl [S0] <;> iassumption

/-- A plane's rows, as they are loaded. -/
def planeOf (p : Fin 2) (x : XBuf F) : Vec F S1x512x2048 .f32 :=
  fun y => x ((Rect.unit (s := S2x512x2048) ![p.val, 0, 0] S1x512x2048.size (plane_inb p)).toLoadRect.idx y)

/-- The weighted sum of a block's tokens and their gathered rows, -/
def sumOf (R : Vec F S512x128 .f32) (B : Vec F S512x2048 .f32) (x : XBuf F) : FVec F S512x2048 .f32 := k0_pay2 R B (planeOf 0 x) (planeOf 1 x)

/-- and its normalisation, which a point stores. -/
def outOf (R : Vec F S512x128 .f32) (B : Vec F S512x2048 .f32) (G : Vec F S1x2048 .f32) (x : XBuf F) : FVec F S512x2048 .f32 := k0_pay1 (sumOf R B x) G

variable {hb : HBuf F} {x : XBuf F} {X : S1x1x1024.Idx → BitVec 32} {R : Vec F S512x128 .f32} {B : Vec F S512x2048 .f32} {G : Vec F S1x2048 .f32}

theorem ret_eq {Q : (Σ' (arg0 : BitVec 32) (v17 : FVec F S512x2048 .f32), Vec F S1x2048 .f32) → sProp 𝕄} {a : BitVec 32} (v v' : FVec F S512x2048 .f32) (h : v = v') :
    Q ⟨a, v, G⟩ ⊢ Q ⟨a, v', G⟩ := by rw [h]

set_option maxHeartbeats 4000000 in
/-- Both gathers and the weighted sum. -/
theorem wp_gathers {Q : (Σ' (arg0 : BitVec 32) (v17 : FVec F S512x2048 .f32), Vec F S1x2048 .f32) → sProp 𝕄} (hX : ∀ x, (X x).toNat < 74752) :
    iprop(Idle c hb x ∗ owns (c : Thread nD τ) arg1 fullShare X ∗ owns (c : Thread nD τ) arg2 fullShare R ∗ owns (c : Thread nD τ) arg3 fullShare B ∗ owns (c : Thread nD τ) arg4 fullShare G ∗ ∃ W, owes (c : Thread nD τ) 0 W)
      ⊢ iprop((iprop(Idle c hb (gath hb (words X)) ∗ owns (c : Thread nD τ) arg1 fullShare X ∗ owns (c : Thread nD τ) arg2 fullShare R ∗ owns (c : Thread nD τ) arg3 fullShare B ∗ owns (c : Thread nD τ) arg4 fullShare G ∗ ∃ W, owes (c : Thread nD τ) 0 W)
          -∗ Q ⟨BitVec.ofNat 32 (i 0).val, sumOf R B (gath hb (words X)), G⟩)
        -∗ wpc c (k0_part1 (F := F) i arg1 harg1 arg2 harg2 arg3 harg3 arg4 harg4 hM (Memref.isWhole_whole _) arg6 harg6 arg7 harg7 xM (Memref.isWhole_whole _) cc0_scratch1) Q) := by
  rw [k0_part1_eq_skeleton]
  unfold k0_part1_skel
  iintro ⟨HI, H1, H2, H3, H4, HW⟩ HQ
  ihave HI := (idle_planes c hb x) $$ HI
  icases HI with ⟨I0, I1⟩
  imod (stage_alloc c 0 hb (words X) x) $$ I0 with S0
  imod (stage_alloc c 1 hb (words X) x) $$ I1 with S1
  iapply (wp_seq c)
  iapply (wp_startAll0 c i arg1 harg1 arg2 harg2 arg3 harg3 arg4 harg4 arg6 harg6 arg7 harg7 hX) $$ [S0 H1]
  · isplitl [S0] <;> iassumption
  iintro ⟨S0, H1⟩
  iapply (wp_seq c)
  iapply (wp_startAll1 c i arg1 harg1 arg2 harg2 arg3 harg3 arg4 harg4 arg6 harg6 arg7 harg7 hX) $$ [S1 H1]
  · isplitl [S1] <;> iassumption
  iintro ⟨S1, H1⟩
  unfold Stage
  icases S0 with ⟨F0, -, R0⟩
  icases S1 with ⟨F1, -, R1⟩
  iapply (wp_seq c)
  iapply (wp_takeAll0 c i arg1 harg1 arg2 harg2 arg3 harg3 arg4 harg4 arg6 harg6 arg7 harg7 hX) $$ [F0 H1 HW]
  · isplitl [F0]; · iexact F0
    isplitl [H1] <;> iassumption
  iintro ⟨F0, H1, HW⟩
  iapply (wp_seq c)
  iapply (wp_takeAll1 c i arg1 harg1 arg2 harg2 arg3 harg3 arg4 harg4 arg6 harg6 arg7 harg7 hX) $$ [F1 H1 HW]
  · isplitl [F1]; · iexact F1
    isplitl [H1] <;> iassumption
  iintro ⟨F1, H1, HW⟩
  imod (stage_collect c 0 hb (words X)) $$ [F0 R0] with I0
  · isplitl [F0] <;> iassumption
  imod (stage_collect c 1 hb (words X)) $$ [F1 R1] with I1
  · isplitl [F1] <;> iassumption
  ihave HI := (planes_idle c hb (gath hb (words X))) $$ [I0 I1]
  · isplitl [I0] <;> iassumption
  unfold Idle
  icases HI with ⟨Hx, Hh, Hs⟩
  ihave Hx := (ent_of_eq (owns_whole (c : Thread nD τ) cc0_scratch0 fullShare (gath hb (words X))).symm) $$ Hx
  iapply (wp_loadWhole c off00) $$ H2
  iintro H2
  simp only [ret_bind']
  iapply (wp_loadWhole c off00) $$ H3
  iintro H3
  simp only [ret_bind']
  iapply (wp_loadOwn c) $$ Hx
  iintro Hx
  simp only [ret_bind']
  iapply (wp_loadOwn c) $$ Hx
  iintro Hx
  simp only [ret_bind']
  iapply (wp_loadWhole c off00) $$ H4
  iintro H4
  simp only [ret_bind']
  iapply (wp_done c)
  ihave Hx := (ent_of_eq (owns_whole (c : Thread nD τ) cc0_scratch0 fullShare (gath hb (words X)))) $$ Hx
  iapply (ret_eq (Q := Q) (a := BitVec.ofNat 32 (i 0).val) (G := G) (sumOf R B (gath hb (words X))) _ ?_)
  · rfl
  iapply HQ
  isplitl [Hx Hh Hs]
  · isplitl [Hx]; · iexact Hx
    isplitl [Hh] <;> iassumption
  isplitl [H1]; · iexact H1
  isplitl [H2]; · iexact H2
  isplitl [H3]; · iexact H3
  isplitl [H4]; · iexact H4
  iexact HW

set_option maxHeartbeats 4000000 in
/-- The body at a point. -/
theorem wp_point {Q : PUnit → sProp 𝕄} {Y Z : Vec F S512x2048 .f32} (hX : ∀ x, (X x).toNat < 74752) :
    iprop(Idle c hb x ∗ owns (c : Thread nD τ) arg1 fullShare X ∗ owns (c : Thread nD τ) arg2 fullShare R ∗ owns (c : Thread nD τ) arg3 fullShare B ∗ owns (c : Thread nD τ) arg4 fullShare G ∗ owns (c : Thread nD τ) arg6 fullShare Y ∗ owns (c : Thread nD τ) arg7 fullShare Z ∗ ∃ W, owes (c : Thread nD τ) 0 W)
      ⊢ iprop((iprop(Idle c hb (gath hb (words X)) ∗ owns (c : Thread nD τ) arg1 fullShare X ∗ owns (c : Thread nD τ) arg2 fullShare R ∗ owns (c : Thread nD τ) arg3 fullShare B ∗ owns (c : Thread nD τ) arg4 fullShare G ∗ owns (c : Thread nD τ) arg6 fullShare (if k0_cond1 i = 1#1 then outOf R B G (gath hb (words X)) else Y) ∗ owns (c : Thread nD τ) arg7 fullShare (if k0_cond2 i = 1#1 then outOf R B G (gath hb (words X)) else Z) ∗ ∃ W, owes (c : Thread nD τ) 0 W) -∗ Q ⟨⟩)
        -∗ wpc c (cc0_moe_combine (F := F) i arg1 harg1 arg2 harg2 arg3 harg3 arg4 harg4 hM (Memref.isWhole_whole _) arg6 harg6 arg7 harg7 xM (Memref.isWhole_whole _) cc0_scratch1) Q) := by
  rw [cc0_moe_combine_eq_skeleton]
  unfold cc0_moe_combine_skel
  iintro ⟨HI, H1, H2, H3, H4, H6, H7, HW⟩ HQ
  iapply (wp_seq c)
  iapply (wp_gathers c i arg1 harg1 arg2 harg2 arg3 harg3 arg4 harg4 arg6 harg6 arg7 harg7 hX) $$ [HI H1 H2 H3 H4 HW]
  · isplitl [HI]; · iexact HI
    isplitl [H1]; · iexact H1
    isplitl [H2]; · iexact H2
    isplitl [H3]; · iexact H3
    isplitl [H4] <;> iassumption
  iintro ⟨HI, H1, H2, H3, H4, HW⟩
  by_cases h1 : k0_cond1 i = 1#1
  all_goals by_cases h2 : k0_cond2 i = 1#1
  all_goals simp only [dif_pos, dif_neg, if_pos, if_neg, h1, h2, not_false_eq_true, reduceDIte, reduceIte]
  · skip
    iapply (wp_loadWhole c off00) $$ H6
    iintro H6
    simp only [ret_bind']
    iapply (wp_storeOwn c off00) $$ H6
    iintro H6
    simp only [ret_bind']
    iapply (wp_loadWhole c off00) $$ H7
    iintro H7
    simp only [ret_bind']
    iapply (wp_storeOwn c off00) $$ H7
    iintro H7
    simp only [ret_bind']
    iapply (wp_done c)
    iapply HQ
    isplitl [HI]; · iexact HI
    isplitl [H1]; · iexact H1
    isplitl [H2]; · iexact H2
    isplitl [H3]; · iexact H3
    isplitl [H4]; · iexact H4
    isplitl [H6]; · iexact H6
    isplitl [H7]; · iexact H7
    iexact HW
  · skip
    iapply (wp_loadWhole c off00) $$ H6
    iintro H6
    simp only [ret_bind']
    iapply (wp_storeOwn c off00) $$ H6
    iintro H6
    simp only [ret_bind']
    iapply (wp_done c)
    iapply HQ
    isplitl [HI]; · iexact HI
    isplitl [H1]; · iexact H1
    isplitl [H2]; · iexact H2
    isplitl [H3]; · iexact H3
    isplitl [H4]; · iexact H4
    isplitl [H6]; · iexact H6
    isplitl [H7]; · iexact H7
    iexact HW
  · skip
    iapply (wp_loadWhole c off00) $$ H7
    iintro H7
    simp only [ret_bind']
    iapply (wp_storeOwn c off00) $$ H7
    iintro H7
    simp only [ret_bind']
    iapply (wp_done c)
    iapply HQ
    isplitl [HI]; · iexact HI
    isplitl [H1]; · iexact H1
    isplitl [H2]; · iexact H2
    isplitl [H3]; · iexact H3
    isplitl [H4]; · iexact H4
    isplitl [H6]; · iexact H6
    isplitl [H7]; · iexact H7
    iexact HW
  · skip
    iapply (wp_done c)
    iapply HQ
    isplitl [HI]; · iexact HI
    isplitl [H1]; · iexact H1
    isplitl [H2]; · iexact H2
    isplitl [H3]; · iexact H3
    isplitl [H4]; · iexact H4
    isplitl [H6]; · iexact H6
    isplitl [H7]; · iexact H7
    iexact HW

end Body

end Cert.CombineIdeal.Hand

end
-- ==== Proof.CData.lean ====
/-
  The combine call's schedule and data: its branches as comparisons of the point, the points that leave a result's block alone or
  write it back, what the precondition says, and what the arrays and blocks hold.
-/
module

public import proofs.«01_k».proof.Proof.CBody
public import proofs.«01_k».proof.Proof.Gen.Pre_slotted
public import Idealize.ShloMosaic.Lib.StableHlo.RunRead
public import Idealize.ShloMosaic.Lib.Pipeline.TableIdle
public import Idealize.ShloMosaic.Lib.Pipeline.Kit
public import Idealize.ShloMosaic.Lib.Pipeline.Value
public import Idealize.ShloMosaic.Lib.Pipeline.FrameBody
public import Idealize.ShloMosaic.Lib.Pipeline.Frame

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-! ## The branches and the points -/

theorem cond1_iff (i : grid0.Coords) : k0_cond1 i = 1#1 ↔ (i 0).val < 32 := by
  have h : ∀ n : Fin 64, Scalar.cmpi .ne (Scalar.extui (Scalar.cmpi .slt (BitVec.ofNat 32 n.val) 32#32) : BitVec 32) 0#32 = 1#1 ↔ n.val < 32 := by decide
  exact h (i 0)

theorem cond2_iff (i : grid0.Coords) : k0_cond2 i = 1#1 ↔ 32 ≤ (i 0).val := by
  have h : ∀ n : Fin 64, Scalar.cmpi .ne (Scalar.extui (Scalar.cmpi .sge (BitVec.ofNat 32 n.val) 32#32) : BitVec 32) 0#32 = 1#1 ↔ 32 ≤ n.val := by decide
  exact h (i 0)

theorem hN : cfg0.N = 64 := N_0
theorem lt64 (t : Fin cfg0.N) : t.val < 64 := lt_of_lt_of_eq t.isLt N_0
abbrev crd (t : Fin cfg0.N) : grid0.Coords := cfg0.grid.coords t

theorem crd0 (t : Fin cfg0.N) : (crd t 0).val = t.val := by
  have h := Pipeline.Grid.coords_val (G := grid0) t 0 (S := 1) (B := 64) (by decide) rfl
  refine h.trans ?_
  rw [Nat.div_one, Nat.mod_eq_of_lt (lt64 t)]

theorem idle4 (t : Fin cfg0.N) : cfg0.idle (4 : Fin 6) (cfg0.grid.coords t) = decide (32 ≤ t.val) := by
  have e : cfg0.idle (4 : Fin 6) (cfg0.grid.coords t) = !(k0_cond1 (crd t) == 1#1) := rfl
  rw [e, Bool.eq_iff_iff]
  simp only [Bool.not_eq_true', beq_eq_false_iff_ne, ne_eq, decide_eq_true_eq, cond1_iff]
  rw [crd0 t]; exact not_lt

theorem idle5 (t : Fin cfg0.N) : cfg0.idle (5 : Fin 6) (cfg0.grid.coords t) = decide (t.val < 32) := by
  have e : cfg0.idle (5 : Fin 6) (cfg0.grid.coords t) = !(k0_cond2 (crd t) == 1#1) := rfl
  rw [e, Bool.eq_iff_iff]
  simp only [Bool.not_eq_true', beq_eq_false_iff_ne, ne_eq, decide_eq_true_eq, cond2_iff]
  rw [crd0 t]; exact not_le

theorem index4 (t : Fin cfg0.N) : (cfg0.win (4 : Fin 6)).index t = ![min t.val 31, 0] := by
  have h : ∀ n : Fin 64, (Scalar.minsi (BitVec.ofNat 32 n.val) 31#32).toNat = min n.val 31 := by decide
  have e : (cfg0.win (4 : Fin 6)).index t = ![(Scalar.minsi (BitVec.ofNat 32 (crd t 0).val) 31#32).toNat, 0] := rfl
  rw [e, h (crd t 0), crd0 t]

theorem index5 (t : Fin cfg0.N) : (cfg0.win (5 : Fin 6)).index t = ![t.val - 32, 0] := by
  have h : ∀ n : Fin 64, (Scalar.maxsi (Scalar.subi (BitVec.ofNat 32 n.val) 32#32) 0#32).toNat = n.val - 32 := by decide
  have e : (cfg0.win (5 : Fin 6)).index t = ![(Scalar.maxsi (Scalar.subi (BitVec.ofNat 32 (crd t 0).val) 32#32) 0#32).toNat, 0] := rfl
  rw [e, h (crd t 0), crd0 t]

theorem moved4 (t t' : Fin cfg0.N) : (cfg0.win (4 : Fin 6)).index t' ≠ (cfg0.win (4 : Fin 6)).index t ↔ min t'.val 31 ≠ min t.val 31 := by
  rw [index4 t, index4 t']
  refine not_congr ⟨fun h => congrFun h 0, fun h => by rw [h]⟩
theorem moved5 (t t' : Fin cfg0.N) : (cfg0.win (5 : Fin 6)).index t' ≠ (cfg0.win (5 : Fin 6)).index t ↔ t'.val - 32 ≠ t.val - 32 := by
  rw [index5 t, index5 t']
  refine not_congr ⟨fun h => congrFun h 0, fun h => by rw [h]⟩

theorem flush4 (t : Fin cfg0.N) : (cfg0.win (4 : Fin 6)).flush t = decide (t.val < 31 ∨ t.val = 63) := by
  have hG : cfg0.N = 64 := N_0
  have hN := lt64 t
  have e : (cfg0.win (4 : Fin 6)).flush t = (decide (t.val + 1 = cfg0.N)
      || decide (∃ h : t.val + 1 < cfg0.N, (cfg0.win (4 : Fin 6)).index ⟨t.val + 1, h⟩ ≠ (cfg0.win (4 : Fin 6)).index t)) := rfl
  rw [e, Bool.eq_iff_iff, Bool.or_eq_true, decide_eq_true_eq, decide_eq_true_eq, decide_eq_true_eq]
  constructor
  · rintro (h | ⟨h, h'⟩)
    · have : t.val + 1 = 64 := h.trans hG
      omega
    · have : min (t.val + 1) 31 ≠ min t.val 31 := (moved4 t ⟨t.val + 1, h⟩).mp h'
      omega
  · intro h
    by_cases hl : t.val + 1 = 64
    · left; exact hl.trans hG.symm
    · right
      have hlt : t.val + 1 < cfg0.N := lt_of_lt_of_eq (show t.val + 1 < 64 by omega) hG.symm
      exact ⟨hlt, (moved4 t ⟨t.val + 1, hlt⟩).mpr (show min (t.val + 1) 31 ≠ min t.val 31 by omega)⟩

theorem flush5 (t : Fin cfg0.N) : (cfg0.win (5 : Fin 6)).flush t = decide (32 ≤ t.val) := by
  have hG : cfg0.N = 64 := N_0
  have hN := lt64 t
  have e : (cfg0.win (5 : Fin 6)).flush t = (decide (t.val + 1 = cfg0.N)
      || decide (∃ h : t.val + 1 < cfg0.N, (cfg0.win (5 : Fin 6)).index ⟨t.val + 1, h⟩ ≠ (cfg0.win (5 : Fin 6)).index t)) := rfl
  rw [e, Bool.eq_iff_iff, Bool.or_eq_true, decide_eq_true_eq, decide_eq_true_eq, decide_eq_true_eq]
  constructor
  · rintro (h | ⟨h, h'⟩)
    · have : t.val + 1 = 64 := h.trans hG
      omega
    · have : t.val + 1 - 32 ≠ t.val - 32 := (moved5 t ⟨t.val + 1, h⟩).mp h'
      omega
  · intro h
    by_cases hl : t.val + 1 = 64
    · left; exact hl.trans hG.symm
    · right
      have hlt : t.val + 1 < cfg0.N := lt_of_lt_of_eq (show t.val + 1 < 64 by omega) hG.symm
      exact ⟨hlt, (moved5 t ⟨t.val + 1, hlt⟩).mpr (show t.val + 1 - 32 ≠ t.val - 32 by omega)⟩

theorem fresh4 (t : Fin cfg0.N) : cfg0.fresh (4 : Fin 6) t.val = decide (t.val < 32) := by
  refine (Pipeline.Cfg.fresh_tab cfg0 (4 : Fin 6) (fun n => decide (n < 32 ∨ n = 64)) rfl (fun t => ?_) t.val (Nat.le_of_lt t.isLt)).trans ?_
  · have hN := lt64 t
    rw [flush4 t, idle4 t]
    rw [Bool.eq_iff_iff]
    simp only [Bool.or_eq_true, Bool.and_eq_true, decide_eq_true_eq]
    omega
  · have hN := lt64 t
    rw [Bool.eq_iff_iff, decide_eq_true_eq, decide_eq_true_eq]
    omega

theorem fresh5 (t : Fin cfg0.N) : cfg0.fresh (5 : Fin 6) t.val = true := by
  refine Pipeline.Cfg.fresh_tab cfg0 (5 : Fin 6) (fun n => true) rfl (fun t => ?_) t.val (Nat.le_of_lt t.isLt)
  rw [flush5 t, idle5 t, Bool.and_true]
  by_cases h : t.val < 32
  · rw [decide_eq_true h, Bool.or_true]
  · rw [decide_eq_true (Nat.not_lt.mp h), Bool.true_or]

/-! ## The precondition -/

/-- Every slot is a row of the experts' results. -/
def Slotted (m : (ℓ : Loc nD τ sig) → Buf (Elt F) ℓ) : Prop :=
  ∀ (c : Dev nD) (x : S65536.Idx), (show BitVec 32 from m ((c.tc : Thread nD τ).loc main_arg0) x).toNat < 74752

/-- What the precondition says. -/
theorem slotted_of {a0 : IVec S65536 32} {a1 : FVec F S32768x128 .f32} {a2 : FVec F S32768x2048 .f32} {a3 : FVec F S2048 .f32} {a4 : FVec F S74752x2048 .f32}
    (h : Cert.Pre_slotted.fn (F := F) a0 a1 a2 a3 a4 = fun _ => 1#1) (x : S65536.Idx) : (a0 x).toNat < 74752 := by
  have hx : IntOp.andi (IntOp.cmpi .sge (a0 x) 0#32) (IntOp.cmpi .slt (a0 x) (BitVec.ofNat 32 74752)) = 1#1 := congrFun h x
  rw [WordCmp.andi_sge_zero_slt_ofNat (w := 32) (by decide) (a0 x), WordCmp.ofBool_decide_eq_one_iff] at hx
  exact hx

/-! ## The arrays at the call -/

variable (m : (ℓ : Loc nD τ sig) → Buf (Elt F) ℓ)

/-- What core `c`'s buffers hold when the call begins. -/
abbrev V (c : Dev nD) (b : Ref sig .tc) : Buf (Elt F) ((c.tc : Thread nD τ).loc b) := StableHlo.after hostOps0 (fun b => m (c, b)) b

theorem V_keep (c : Dev nD) (r : Ref sig .tc) (hr : r ∉ [main_v0, main_v1]) : V m c r = m ((c.tc : Thread nD τ).loc r) :=
  StableHlo.after_unwritten [main_v0, main_v1] rfl hr _

/-- Each block's row of slots, -/
theorem V_slot (c : Dev nD) : V m c main_v0 = shapeCast S64x1x1024 (m ((c.tc : Thread nD τ).loc main_arg0)) shapeCasts_S65536_S64x1x1024 := by
  refine (StableHlo.after_last_write (ops := hostOps0) (i := 0) [main_v1] rfl rfl (by decide) _).trans ?_
  rw [StableHlo.reshape_result]
  rfl

/-- and the norm's weights as a row. -/
theorem V_g (c : Dev nD) : V m c main_v1 = shapeCast S1x2048 (m ((c.tc : Thread nD τ).loc main_arg3)) shapeCasts_S2048_S1x2048 := by
  refine (StableHlo.after_last_write (ops := hostOps0) (i := 1) [] rfl rfl (by decide) _).trans ?_
  rw [StableHlo.reshape_result]
  rfl

theorem slot_lt (hR : Slotted m) (c : Dev nD) (y : S64x1x1024.Idx) : (show BitVec 32 from V m c main_v0 y).toNat < 74752 := by
  rw [V_slot]; exact hR c _

/-! ## The blocks -/

/-- Window `w`'s block at a point, read off its array. -/
def iblk (c : Dev nD) (w : Fin cfg0.W) (t : Fin cfg0.N) : ((cfg0.win w).xblock (crd t)).Idx → Elt F (cfg0.win w).elt :=
  ((cfg0.win w).blk t).view.read (Elt F) (V m c (Pipeline.arrRef spec0 w))

/-- A point's slots, -/
abbrev slotsAt (c : Dev nD) (t : Fin cfg0.N) : S1x1x1024.Idx → BitVec 32 := iblk m c (0 : Fin 6) t

theorem slotsAt_lt (hR : Slotted m) (c : Dev nD) (t : Fin cfg0.N) (x : S1x1x1024.Idx) : (slotsAt m c t x).toNat < 74752 := slot_lt m hR c _

/-- the rows it gathers, -/
abbrev rowsAt (c : Dev nD) (t : Fin cfg0.N) : XBuf F := gath (V m c main_arg4) (words (slotsAt m c t))

/-- and what it stores. -/
def outT (c : Dev nD) (t : Fin cfg0.N) : FVec F S512x2048 .f32 :=
  outOf (iblk m c (1 : Fin 6) t) (iblk m c (2 : Fin 6) t) (iblk m c (3 : Fin 6) t) (rowsAt m c t)

/-- The last point to store to the first result's block, and the next to store to the second's. -/
def ptA (t : Fin cfg0.N) : Fin cfg0.N := ⟨min t.val 31, lt_of_le_of_lt (Nat.min_le_left _ _) t.isLt⟩
def ptB (t : Fin cfg0.N) : Fin cfg0.N := ⟨max t.val 32, lt_of_lt_of_eq (show max t.val 32 < 64 by have := lt64 t; omega) N_0.symm⟩

/-! ## The call's proof data -/

/-- The invariant before every point: the generator's register, and nothing in flight. -/
def Phi (c : Dev nD) : sProp 𝕄 := iprop((∃ r, prngReg c r) ∗ ∃ x, Idle c (V m c main_arg4) x)

def dats : (p : Fin 1) → (c : Dev nD) → Dat τ (Elt F) Unit ℕ (Pipeline.UD sig nD τ) ℕ (cfgs p) c := fun | 0 => fun c => {
  A := fun w => V m c (Pipeline.arrRef spec0 w)
  after := fun w t => match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => outT m c (ptA t)
    | ⟨5, _⟩ => outT m c (ptB t)
  Φ := fun _ => Phi m c
  q := fun w => Pipeline.shareOf spec0 w
  owed := fun _ => 0 }

/-- The call's proof data on core `c`. -/
abbrev dat (c : Dev nD) : Dat τ (Elt F) Unit ℕ (Pipeline.UD sig nD τ) ℕ cfg0 c := dats m 0 c

theorem after0 (c : Dev nD) (t : Fin cfg0.N) : (dat m c).after (0 : Fin 6) t = iblk m c (0 : Fin 6) t := rfl
theorem after1 (c : Dev nD) (t : Fin cfg0.N) : (dat m c).after (1 : Fin 6) t = iblk m c (1 : Fin 6) t := rfl
theorem after2 (c : Dev nD) (t : Fin cfg0.N) : (dat m c).after (2 : Fin 6) t = iblk m c (2 : Fin 6) t := rfl
theorem after3 (c : Dev nD) (t : Fin cfg0.N) : (dat m c).after (3 : Fin 6) t = iblk m c (3 : Fin 6) t := rfl
theorem after4 (c : Dev nD) (t : Fin cfg0.N) : (dat m c).after (4 : Fin 6) t = outT m c (ptA t) := rfl
theorem after5 (c : Dev nD) (t : Fin cfg0.N) : (dat m c).after (5 : Fin 6) t = outT m c (ptB t) := rfl

theorem before0 (c : Dev nD) (t : Fin cfg0.N) (d) : (dat m c).before (0 : Fin 6) t d = iblk m c (0 : Fin 6) t :=
  ((dat m c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin cfg0.N) (d) : (dat m c).before (1 : Fin 6) t d = iblk m c (1 : Fin 6) t :=
  ((dat m c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin cfg0.N) (d) : (dat m c).before (2 : Fin 6) t d = iblk m c (2 : Fin 6) t :=
  ((dat m c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin cfg0.N) (d) : (dat m c).before (3 : Fin 6) t d = iblk m c (3 : Fin 6) t :=
  ((dat m c).before_in_eq_fetched (3 : Fin 6) rfl (fun _ => rfl) (fun _ _ _ => rfl) (fun t => by rw [after3]; unfold Dat.blockOf iblk; rfl) t d).trans
    (by unfold Dat.fetched Dat.blockOf iblk; rfl)

/-- A point that leaves the first result's block alone carries it on. -/
theorem carry4 (c : Dev nD) (t : Fin cfg0.N) (ht : t.val ≠ 0) (hi : cfg0.idle (4 : Fin 6) (cfg0.grid.coords t) = true)
    (hf : cfg0.fresh (4 : Fin 6) t.val = false) : (dat m c).after (4 : Fin 6) t = (dat m c).after (4 : Fin 6) ⟨t.val - 1, by omega⟩ := by
  rw [idle4, decide_eq_true_eq] at hi
  rw [after4, after4]
  exact congrArg (outT m c) (Fin.ext (show min t.val 31 = min (t.val - 1) 31 by omega))

theorem before4 (c : Dev nD) (t : Fin cfg0.N) (d) :
    (dat m c).before (4 : Fin 6) t d = if t.val < 32 then d else outT m c (ptA t) := by
  rw [(dat m c).before_out_traj (4 : Fin 6) rfl (fun _ _ => rfl) (carry4 m c) t.val t rfl d, fresh4]
  by_cases h : t.val < 32
  · rw [if_pos h, if_pos (decide_eq_true h)]
  · rw [if_neg h, if_neg (by rw [decide_eq_true_eq]; exact h), after4]
    exact congrArg (outT m c) (Fin.ext (show min (t.val - 1) 31 = min t.val 31 by omega))

theorem before5 (c : Dev nD) (t : Fin cfg0.N) (d) : (dat m c).before (5 : Fin 6) t d = d := by
  rw [(dat m c).before_out_traj (5 : Fin 6) rfl (fun _ _ => rfl) (fun t _ _ hf => absurd ((fresh5 t).symm.trans hf) (by decide)) t.val t rfl d, fresh5]
  exact if_pos rfl

end Cert.CombineIdeal.Hand

end
-- ==== Proof.CObl.lean ====
/-
  The combine call's body meets the library's obligation at every point.
-/
module

public import proofs.«01_k».proof.Proof.CData

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (hR : Slotted m)

abbrev ms0 (t : Fin cfg0.N) : Memref sig .tc .smem S1x1x1024 .i32 := win0_0.stage (cfg0.slots t (0 : Fin 6))
abbrev hs0 (t : Fin cfg0.N) : (ms0 t).IsWhole := hstage0_0 ((cfg0.slots t (0 : Fin 6)).cast nbuf0_0)
abbrev ms1 (t : Fin cfg0.N) : Memref sig .tc .vmem S512x128 .f32 := win0_1.stage (cfg0.slots t (1 : Fin 6))
abbrev hs1 (t : Fin cfg0.N) : (ms1 t).IsWhole := hstage0_1 ((cfg0.slots t (1 : Fin 6)).cast nbuf0_1)
abbrev ms2 (t : Fin cfg0.N) : Memref sig .tc .vmem S512x2048 .f32 := win0_2.stage (cfg0.slots t (2 : Fin 6))
abbrev hs2 (t : Fin cfg0.N) : (ms2 t).IsWhole := hstage0_2 ((cfg0.slots t (2 : Fin 6)).cast nbuf0_2)
abbrev ms3 (t : Fin cfg0.N) : Memref sig .tc .vmem S1x2048 .f32 := win0_3.stage (cfg0.slots t (3 : Fin 6))
abbrev hs3 (t : Fin cfg0.N) : (ms3 t).IsWhole := hstage0_3 ((cfg0.slots t (3 : Fin 6)).cast nbuf0_3)
abbrev ms4 (t : Fin cfg0.N) : Memref sig .tc .vmem S512x2048 .f32 := win0_4.stage (cfg0.slots t (4 : Fin 6))
abbrev hs4 (t : Fin cfg0.N) : (ms4 t).IsWhole := hstage0_4 ((cfg0.slots t (4 : Fin 6)).cast nbuf0_4)
abbrev ms5 (t : Fin cfg0.N) : Memref sig .tc .vmem S512x2048 .f32 := win0_5.stage (cfg0.slots t (5 : Fin 6))
abbrev hs5 (t : Fin cfg0.N) : (ms5 t).IsWhole := hstage0_5 ((cfg0.slots t (5 : Fin 6)).cast nbuf0_5)

/-- The body at a point, as the pipeline calls it. -/
abbrev bodyAt (t : Fin cfg0.N) :=
  cc0_moe_combine (F := F) (crd t) (ms0 t) (hs0 t) (ms1 t) (hs1 t) (ms2 t) (hs2 t) (ms3 t) (hs3 t) hM (Memref.isWhole_whole _)
    (ms4 t) (hs4 t) (ms5 t) (hs5 t) xM (Memref.isWhole_whole _) cc0_scratch1

/-- What result 0's block must be left at, as the library asks it. -/
def need4 (c : Dev nD) (t : Fin cfg0.N) : sProp 𝕄 :=
  match cfg0.idle (4 : Fin 6) (cfg0.grid.coords t) with
  | true => match (cfg0.win (4 : Fin 6)).flush t with
    | false => iprop(∃ d, owns (c : Thread nD τ) (ms4 t) fullShare ((dat m c).before (4 : Fin 6) t d))
    | true => owns (c : Thread nD τ) (ms4 t) fullShare ((dat m c).after (4 : Fin 6) t)
  | false => owns (c : Thread nD τ) (ms4 t) fullShare ((dat m c).after (4 : Fin 6) t)

/-- What result 1's block must be left at, as the library asks it. -/
def need5 (c : Dev nD) (t : Fin cfg0.N) : sProp 𝕄 :=
  match cfg0.idle (5 : Fin 6) (cfg0.grid.coords t) with
  | true => match (cfg0.win (5 : Fin 6)).flush t with
    | false => iprop(∃ d, owns (c : Thread nD τ) (ms5 t) fullShare ((dat m c).before (5 : Fin 6) t d))
    | true => owns (c : Thread nD τ) (ms5 t) fullShare ((dat m c).after (5 : Fin 6) t)
  | false => owns (c : Thread nD τ) (ms5 t) fullShare ((dat m c).after (5 : Fin 6) t)

/-- What the point leaves serves in every case. -/
theorem need4_of (c : Dev nD) (t : Fin cfg0.N) (d) :
    owns (c : Thread nD τ) (ms4 t) fullShare (if k0_cond1 (crd t) = 1#1 then outT m c t else (if t.val < 32 then d else outT m c (ptA t))) ⊢ need4 m c t := by
  have e : (if k0_cond1 (crd t) = 1#1 then outT m c t else (if t.val < 32 then d else outT m c (ptA t))) = outT m c (ptA t) := by
    by_cases h : t.val < 32
    · rw [if_pos ((cond1_iff _).mpr (by rw [crd0]; exact h))]
      exact congrArg (outT m c) (Fin.ext (show t.val = min t.val 31 by omega))
    · rw [if_neg (fun k => h (by rw [← crd0 t]; exact (cond1_iff _).mp k)), if_neg h]
  rw [e]
  unfold need4
  cases hi : cfg0.idle (4 : Fin 6) (cfg0.grid.coords t) with
  | false => exact .rfl
  | true =>
    rw [idle4, decide_eq_true_eq] at hi
    cases hf : (cfg0.win (4 : Fin 6)).flush t with
    | true => exact .rfl
    | false =>
      have e : outT m c (ptA t) = (dat m c).before (4 : Fin 6) t (outT m c (ptA t)) := by
        rw [before4, if_neg (Nat.not_lt.mpr hi)]
      refine (ent_of_eq (congrArg (fun d => owns (c : Thread nD τ) (ms4 t) fullShare d) e)).trans ?_
      exact exists_intro (Φ := fun d => owns (c : Thread nD τ) (ms4 t) fullShare ((dat m c).before (4 : Fin 6) t d)) (outT m c (ptA t))

theorem need5_of (c : Dev nD) (t : Fin cfg0.N) (d : FVec F S512x2048 .f32) :
    owns (c : Thread nD τ) (ms5 t) fullShare (if k0_cond2 (crd t) = 1#1 then outT m c t else d) ⊢ need5 m c t := by
  unfold need5
  cases hi : cfg0.idle (5 : Fin 6) (cfg0.grid.coords t) with
  | false =>
    rw [idle5, decide_eq_false_iff_not] at hi
    rw [if_pos ((cond2_iff _).mpr (by rw [crd0]; omega))]
    have e : t = ptB t := Fin.ext (show t.val = max t.val 32 by omega)
    exact ent_of_eq (congrArg (fun X => owns (c : Thread nD τ) (ms5 t) fullShare X) (congrArg (outT m c) e))
  | true =>
    rw [idle5, decide_eq_true_eq] at hi
    rw [if_neg (fun k => absurd ((cond2_iff _).mp k) (by rw [crd0]; omega))]
    have hf : (cfg0.win (5 : Fin 6)).flush t = false := (flush5 t).trans (decide_eq_false (by omega))
    rw [hf]
    refine (ent_of_eq (congrArg (fun d => owns (c : Thread nD τ) (ms5 t) fullShare d) (before5 m c t d).symm)).trans ?_
    exact exists_intro (Φ := fun d => owns (c : Thread nD τ) (ms5 t) fullShare ((dat m c).before (5 : Fin 6) t d)) d

def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before (0 : Fin 6) t d)) ∗ (∃ d, owns (c : Thread nD τ) (ms1 t) fullShare ((dat m c).before (1 : Fin 6) t d)) ∗ (∃ d, owns (c : Thread nD τ) (ms2 t) fullShare ((dat m c).before (2 : Fin 6) t d)) ∗ (∃ d, owns (c : Thread nD τ) (ms3 t) fullShare ((dat m c).before (3 : Fin 6) t d)) ∗ (∃ d, owns (c : Thread nD τ) (ms4 t) fullShare ((dat m c).before (4 : Fin 6) t d)) ∗ (∃ d, owns (c : Thread nD τ) (ms5 t) fullShare ((dat m c).before (5 : Fin 6) t d)))
def bodyPost (c : Dev nD) (t : Fin cfg0.N) : sProp 𝕄 :=
  iprop((dat m c).Φ t.succ ∗ (dat m c).owesAt () t.succ
    ∗ owns (c : Thread nD τ) (ms0 t) fullShare ((dat m c).after (0 : Fin 6) t) ∗ owns (c : Thread nD τ) (ms1 t) fullShare ((dat m c).after (1 : Fin 6) t) ∗ owns (c : Thread nD τ) (ms2 t) fullShare ((dat m c).after (2 : Fin 6) t) ∗ owns (c : Thread nD τ) (ms3 t) fullShare ((dat m c).after (3 : Fin 6) t) ∗ need4 m c t ∗ need5 m c t)

include hR in
set_option maxHeartbeats 4000000 in
theorem sound_body (c : Dev nD) (t : Fin cfg0.N) :
    bodyPre m c t ⊢ wpc c (bodyAt t) (fun _ => bodyPost m c t) := by
  unfold bodyPre bodyPost
  rw [show (dat m c).Φ t.succ = Phi m c from rfl, show (dat m c).Φ t.castSucc = Phi m c from rfl]
  unfold Dat.owesAt Pipeline.owesWithin
  rw [show (dat m c).owed t.castSucc = 0 from rfl, show (dat m c).owed t.succ = 0 from rfl]
  simp only [before0, before1, before2, before3, before4, before5]
  rw [after0, after1, after2, after3]
  unfold Phi
  iintro ⟨⟨HG, ⟨%x, HI⟩⟩, ⟨%W, -, HW⟩, ⟨%d0, H0⟩, ⟨%d1, H1⟩, ⟨%d2, H2⟩, ⟨%d3, H3⟩, ⟨%d4, H4⟩, ⟨%d5, H5⟩⟩
  iapply (wp_point c (crd t) (ms0 t) (hs0 t) (ms1 t) (hs1 t) (ms2 t) (hs2 t) (ms3 t) (hs3 t) (ms4 t) (hs4 t) (ms5 t) (hs5 t) (x := x) (hb := V m c main_arg4) (X := slotsAt m c t) (R := iblk m c (1 : Fin 6) t) (B := iblk m c (2 : Fin 6) t)
    (G := iblk m c (3 : Fin 6) t) (Y := if t.val < 32 then d4 else outT m c (ptA t)) (Z := d5) (slotsAt_lt m hR c t)) $$ [HI HW H0 H1 H2 H3 H4 H5]
  · isplitl [HI]; · iexact HI
    isplitl [H0]; · iexact H0
    isplitl [H1]; · iexact H1
    isplitl [H2]; · iexact H2
    isplitl [H3]; · iexact H3
    isplitl [H4]; · iexact H4
    isplitl [H5]; · iexact H5
    iexists W; iexact HW
  iintro ⟨HI, H0, H1, H2, H3, H4, H5, ⟨%W', HW⟩⟩
  isplitl [HG HI]
  · isplitl [HG]; · iexact HG
    iexists _; iexact HI
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]
  · iapply (need4_of m c t d4)
    iexact H4
  iapply (need5_of m c t d5)
  iexact H5

theorem defs₀_row (t : Fin cfg0.N) : defs₀ (F := F) .tc cfg0.body (cfg0.bodyArgs t (cfg0.slots t)) = bodyAt t := by
  unfold defs₀; rw [Defs.onTc_tc]

include hR in
/-- The library's obligation, at every point. -/
theorem body_obligation (c : Dev nD) : BodyObligation (dat m c) (defs₀ (F := F)) Variants.none () Set.univ := fun t => by
  rw [bigSep_W0, bigSep_W0, defs₀_row]
  exact triple_restated (sound_body m hR c t) rfl .rfl fun _ => .rfl

end Cert.CombineIdeal.Hand

end
-- ==== Proof.CRun.lean ====
/-
  The launch of the combine call: what the region is handed and hands back, the run of the whole program, and its frame.
-/
module

public import proofs.«01_k».proof.Proof.CObl

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hR : Slotted m)

/-- The copies' own counters, one a plane. -/
abbrev osem0 : Fin 2 → SemLoc sig := fun j => SemLoc.dma (psem j)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (psem 0)) 0 ∗ semVal ((c : Thread nD τ), SemLoc.dma (psem 1)) 0) := by
  rw [Pipeline.ownSems0_eq_of_list c osem0 [0, 1] (by decide) (by decide)]; rfl
/-- The array the copies read. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄) = (((c : Thread nD τ).loc main_arg4) ↦{fullShare} V m c main_arg4) := by
  rw [BI.bigSep_eq_bigSepL_of_eq [main_arg4] (by decide) (by decide)]; rfl

theorem PhiD_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f)
          ∗ (∃ r, prngReg c r) ∗ iprop(semVal ((c : Thread nD τ), SemLoc.dma (psem 0)) 0 ∗ semVal ((c : Thread nD τ), SemLoc.dma (psem 1)) 0)
          ∗ (((c : Thread nD τ).loc main_arg4) ↦{fullShare} V m c main_arg4)) := by
  rw [Pipeline.ΦD_eq, scopedRest0_eq, ownSems00_eq, hbmPts0_eq]

/-- The invariant at the first point, from what the region is handed; -/
theorem phi_in (c : Dev nD) : Pipeline.ΦD osem0 spec0 H0 (V m) c ⊢ Phi m c := by
  rw [PhiD_eq]
  unfold Phi Idle
  iintro ⟨⟨%f, HX⟩, HG, ⟨S0, S1⟩, HH⟩
  isplitl [HG]; · iexact HG
  iexists f
  isplitl [HX]; · iexact HX
  isplitl [HH]; · iexact HH
  isplitl [S0] <;> iassumption

/-- at the end it gives them back. -/
theorem phi_out (c : Dev nD) : Phi m c ⊢ Pipeline.ΦD osem0 spec0 H0 (V m) c := by
  rw [PhiD_eq]
  unfold Phi Idle
  iintro ⟨HG, ⟨%x, HX, HH, S0, S1⟩⟩
  isplitl [HX]; · iexists x; iexact HX
  isplitl [HG]; · iexact HG
  isplitl [S0 S1]
  · isplitl [S0] <;> iassumption
  iexact HH

theorem A_eq (c : Dev nD) (w : Fin 6) : (dat m c).A w = V m c (Pipeline.arrRef spec0 w) := rfl

theorem share_eq (c : Dev nD) (w : Fin 6) : (dat m c).share w = fullShare := by
  unfold Dat.share
  split
  · rfl
  · fin_cases w <;> rfl

include hR in
set_option backward.isDefEq.respectTransparency.types false in
set_option maxHeartbeats 4000000 in
/-- The run: every fair execution ends, with each array at what the call computes, the others as they were, and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hR c).loose) (hshare := share_eq m) (howed := fun _ _ => rfl) (V := V m)
    (hmain := Pipeline.hmain_prefix cfgs 0 defs₀ Variants.none m main hostOps0 hostOps0_sub (StableHlo.forall_fresh_of_map rfl) main_chain)
    (hA := A_eq m) (hin := phi_in m) (hout := phi_out m)

include hR in
/-- The run, with the results as the call leaves them and the arguments unchanged. -/
theorem run_args : θ_run defs (onTc (τ := τ) (main (F := F))) ⟨m, fun _ => 0, ρ⟩ (fun r => (∀ c : Dev nD,
      r.2.mem ((c.tc : Thread nD τ).loc main_v2_0) = (dat m c).arrAt (4 : Fin 6) cfg0.N
      ∧ r.2.mem ((c.tc : Thread nD τ).loc main_v2_1) = (dat m c).arrAt (5 : Fin 6) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have keep : ∀ (r : PUnit × MemSt nD τ sig (Elt F)), Pipeline.FramePost cfgs (dats m) 0 (V m) r → ∀ (c : Dev nD) (b : Ref sig .tc), b ∈ Pipeline.restRefs sig spec0 →
      b ∉ [main_v0, main_v1] → r.2.mem ((c.tc : Thread nD τ).loc b) = m ((c.tc : Thread nD τ).loc b) :=
    fun r h c b hb hv => ((h c).2 b hb).trans (V_keep m c b hv)
  refine (θ_run defs _ _).mono (fun r h => ⟨fun c => ?_, h.2⟩) (run_main m ρ hR)
  have k := keep r h.1 c
  exact ⟨(h.1 c).1 (4 : Fin 6), (h.1 c).1 (5 : Fin 6), k main_arg0 (Pipeline.mem_restRefs_of _ (by decide) (by decide)) (by decide),
    ((h.1 c).1 (1 : Fin 6)).trans (((dat m c).arrAt_in (1 : Fin 6) rfl _).trans (V_keep m c main_arg1 (by decide))),
    ((h.1 c).1 (2 : Fin 6)).trans (((dat m c).arrAt_in (2 : Fin 6) rfl _).trans (V_keep m c main_arg2 (by decide))),
    k main_arg3 (Pipeline.mem_restRefs_of _ (by decide) (by decide)) (by decide),
    k main_arg4 (Pipeline.mem_restRefs_of _ (by decide) (by decide)) (by decide)⟩

end Cert.CombineIdeal.Hand

end
-- ==== Proof.CValue.lean ====
/-
  The combine call's results, element by element: each block's last point to store writes the mixed tokens of that block.
-/
module

public import proofs.«01_k».proof.Proof.Mixing
public import proofs.«01_k».proof.Proof.CRun
public import Idealize.ShloMosaic.Lib.Pipeline.Value
public import Idealize.ShloMosaic.Lib.Pipeline.ValueKit.Geometry

@[expose] public section

noncomputable section

namespace Cert.CombineIdeal.Hand

open Cert.CombineIdeal Cert.CombineIdeal.Gen
open Idealize.ShloMosaic hiding ix0 ix1 ix2 ix3 ix4
open Idealize.ShloMosaic.TcCoe Idealize.ShloMosaic.ValueIdx Idealize.ShloMosaic.Routing
open Idealize.SL.Sem
open Cert.Mixing

/-! ## The payloads at an index -/

/-- The normalised block at an index. -/
theorem pay1_apply (y : FVec Ideal S512x2048 .f32) (G : Vec Ideal S1x2048 .f32) (a : Fin 512) (d : Fin 2048) :
    (show EReal from k0_pay1 y G (ix2 a d)) = normed (fun k => y (ix2 a k)) (G (ix2 0 d)) d := by
  unfold k0_pay1 normed
  simp only [shapeCast_self]
  refine congrArg₂ (fun u v : EReal => u * v) (congrArg (fun v : EReal => (show EReal from y (ix2 a d)) * v) ?_) ?_
  · refine (col_spread (a := 512) (b := 2048) _ broadcasts_S512x1_S512x2048 a d).trans ?_
    refine congrArg Ideal.rsqrt (congrArg₂ (fun u v : EReal => u + v) (congrArg₂ Ideal.div ?_ rfl) rfl)
    refine (cast12 (a := 512) (b := 1) (n := 512) _ shapeCasts_S512_S512x1 a (0 : Fin 1) a (by simp)).trans ?_
    refine (Ideal.multiReduction_add_single _ _ reduces_S512x2048_S512 (.inl rfl) rfl (ix1 a)).trans ?_
    refine Finset.sum_congr rfl fun k _ => ?_
    exact congrArg (fun j => (show EReal from y j) * (show EReal from y j)) (lift_row _ a k)
  · exact broadcastTo_1b_ab_apply (a := 512) (b := 2048) G broadcasts_S1x2048_S512x2048 a d

/-- The weighted sum of a block at an index. -/
theorem pay2_apply (R : Vec Ideal S512x128 .f32) (B : Vec Ideal S512x2048 .f32) (x0 x1 : Vec Ideal S1x512x2048 .f32) (a : Fin 512) (k : Fin 2048) :
    (show EReal from k0_pay2 R B x0 x1 (ix2 a k)) = (show EReal from B (ix2 a k)) + ((show EReal from R (ix2 a (2 : Fin 128))) * (show EReal from x0 (ix3 0 a k))
      + (show EReal from R (ix2 a (3 : Fin 128))) * (show EReal from x1 (ix3 0 a k))) := by
  have w : ∀ (q : Fin 128) (hs : S512x128.Slices ![0, q.val] S512x1),
      broadcastTo S512x2048 (extractStridedSlice S512x1 ![0, q.val] R hs) broadcasts_S512x1_S512x2048 (ix2 a k) = R (ix2 a q) := fun q hs =>
    (col_spread (a := 512) (b := 2048) _ broadcasts_S512x1_S512x2048 a k).trans
      (slice2_axis1_apply (n0 := 512) (n1 := 128) (m := 1) q.val R hs a (0 : Fin 1) q rfl)
  have s : ∀ x : Vec Ideal S1x512x2048 .f32, shapeCast S512x2048 x shapeCasts_S1x512x2048_S512x2048 (ix2 a k) = x (ix3 0 a k) := fun x =>
    shapeCast_1ab_ab_apply (a := 512) (b := 2048) x shapeCasts_S1x512x2048_S512x2048 a k
  rw [← add_assoc]
  unfold k0_pay2
  refine congrArg₂ (fun u v : EReal => u + v) (congrArg₂ (fun u v : EReal => u + v) rfl (congrArg₂ (fun u v : EReal => u * v) ?_ (s x0)))
    (congrArg₂ (fun u v : EReal => u * v) ?_ (s x1))
  · exact w 2 slices_S512x128_o0_2_S512x1
  · exact w 3 slices_S512x128_o0_3_S512x1

/-- A plane's rows at an index. -/
theorem planeOf_apply (p : Fin 2) (x : XBuf Ideal) (a : Fin 512) (k : Fin 2048) : planeOf p x (ix3 0 a k) = x (ix3 p a k) := by
  unfold planeOf
  refine congrArg x (funext fun b => Fin.ext ?_)
  match b with
  | ⟨0, _⟩ => simp [LoadRect.idx]
  | ⟨1, _⟩ => simp [LoadRect.idx]
  | ⟨2, _⟩ => simp [LoadRect.idx]

/-! ## The arrays and their blocks -/

variable (m : (ℓ : Loc nD τ sig) → Buf (Elt Ideal) ℓ)

abbrev m0 (c : Dev nD) : S65536.Idx → BitVec 32 := m ((c.tc : Thread nD τ).loc main_arg0)
abbrev m1 (c : Dev nD) : S32768x128.Idx → EReal := m ((c.tc : Thread nD τ).loc main_arg1)
abbrev m2 (c : Dev nD) : S32768x2048.Idx → EReal := m ((c.tc : Thread nD τ).loc main_arg2)
abbrev m3 (c : Dev nD) : S2048.Idx → EReal := m ((c.tc : Thread nD τ).loc main_arg3)
abbrev m4 (c : Dev nD) : S74752x2048.Idx → EReal := m ((c.tc : Thread nD τ).loc main_arg4)

/-- Row `a` of a point's block, among all tokens. -/
def tokenAt (t : Fin cfg0.N) (a : Fin 512) : Fin 32768 := ⟨t.val * 512 + a.val, by have := a.isLt; have := lt64 t; omega⟩

theorem point_word (t : Fin cfg0.N) : (BitVec.ofNat 32 (grid0.coords t 0).val).toNat = t.val := by
  have e : ∀ n : Fin 64, (BitVec.ofNat 32 n.val).toNat = n.val := by decide
  exact (e (grid0.coords t 0)).trans (crd0 t)

theorem route_apply (c : Dev nD) (t : Fin cfg0.N) (a : Fin 512) (q : Fin 128) :
    (show EReal from iblk m c (1 : Fin 6) t (ix2 a q)) = m1 m c (ix2 (tokenAt t a) q) := by
  have e : ((cfg0.win (1 : Fin 6)).blk t).view.emb (ix2 a q) = (ix2 (tokenAt t a) q : S32768x128.Idx) := by
    funext b
    match b with
    | ⟨0, _⟩ =>
      refine Fin.ext ((Pipeline.Window.rect_emb_val (cfg0.win (1 : Fin 6)) t (ix2 a q) (0 : Fin 2)).trans ?_)
      exact congrArg (fun n => n * 512 + a.val) (point_word t)
    | ⟨1, _⟩ =>
      refine Fin.ext ((Pipeline.Window.rect_emb_val (cfg0.win (1 : Fin 6)) t (ix2 a q) (1 : Fin 2)).trans ?_)
      exact (show 0 * 128 + q.val = q.val by rw [Nat.zero_mul, Nat.zero_add])
  refine (show _ = (show EReal from V m c main_arg1 (((cfg0.win (1 : Fin 6)).blk t).view.emb (ix2 a q))) from rfl).trans ?_
  rw [e, V_keep m c main_arg1 (by decide)]

theorem resid_apply (c : Dev nD) (t : Fin cfg0.N) (a : Fin 512) (k : Fin 2048) :
    (show EReal from iblk m c (2 : Fin 6) t (ix2 a k)) = m2 m c (ix2 (tokenAt t a) k) := by
  have e : ((cfg0.win (2 : Fin 6)).blk t).view.emb (ix2 a k) = (ix2 (tokenAt t a) k : S32768x2048.Idx) := by
    funext b
    match b with
    | ⟨0, _⟩ =>
      refine Fin.ext ((Pipeline.Window.rect_emb_val (cfg0.win (2 : Fin 6)) t (ix2 a k) (0 : Fin 2)).trans ?_)
      exact congrArg (fun n => n * 512 + a.val) (point_word t)
    | ⟨1, _⟩ =>
      refine Fin.ext ((Pipeline.Window.rect_emb_val (cfg0.win (2 : Fin 6)) t (ix2 a k) (1 : Fin 2)).trans ?_)
      exact (show 0 * 2048 + k.val = k.val by rw [Nat.zero_mul, Nat.zero_add])
  refine (show _ = (show EReal from V m c main_arg2 (((cfg0.win (2 : Fin 6)).blk t).view.emb (ix2 a k))) from rfl).trans ?_
  rw [e, V_keep m c main_arg2 (by decide)]

theorem gain_apply (c : Dev nD) (t : Fin cfg0.N) (d : Fin 2048) :
    (show EReal from iblk m c (3 : Fin 6) t (ix2 (0 : Fin 1) d)) = m3 m c (ix1 d) := by
  have e : ((cfg0.win (3 : Fin 6)).blk t).view.emb (ix2 (0 : Fin 1) d) = (ix2 (0 : Fin 1) d : S1x2048.Idx) := by
    funext b
    match b with
    | ⟨0, _⟩ => exact Fin.ext ((Pipeline.Window.rect_emb_val (cfg0.win (3 : Fin 6)) t (ix2 (0 : Fin 1) d) (0 : Fin 2)).trans (show 0 * 1 + 0 = 0 from rfl))
    | ⟨1, _⟩ => exact Fin.ext ((Pipeline.Window.rect_emb_val (cfg0.win (3 : Fin 6)) t (ix2 (0 : Fin 1) d) (1 : Fin 2)).trans (show 0 * 2048 + d.val = d.val by rw [Nat.zero_mul, Nat.zero_add]))
  refine (show _ = (show EReal from V m c main_v1 (((cfg0.win (3 : Fin 6)).blk t).view.emb (ix2 (0 : Fin 1) d))) from rfl).trans ?_
  rw [e, V_g]
  exact shapeCast_a_1a_apply (a := 2048) (m3 m c) shapeCasts_S2048_S1x2048 (0 : Fin 1) d

theorem slots_apply (c : Dev nD) (t : Fin cfg0.N) (l : Fin 1024) :
    slotsAt m c t (ix3 (0 : Fin 1) (0 : Fin 1) l) = m0 m c (ix1 (⟨t.val * 1024 + l.val, by have := l.isLt; have := lt64 t; omega⟩ : Fin 65536)) := by
  have e : ((cfg0.win (0 : Fin 6)).blk t).view.emb (ix3 (0 : Fin 1) (0 : Fin 1) l) = (ix3 (⟨t.val, lt64 t⟩ : Fin 64) (0 : Fin 1) l : S64x1x1024.Idx) := by
    funext b
    match b with
    | ⟨0, _⟩ =>
      refine Fin.ext ((Pipeline.Window.rect_emb_val (cfg0.win (0 : Fin 6)) t (ix3 (0 : Fin 1) (0 : Fin 1) l) (0 : Fin 3)).trans ?_)
      exact (congrArg (fun n => n * 1 + 0) (point_word t)).trans (show t.val * 1 + 0 = t.val by omega)
    | ⟨1, _⟩ => exact Fin.ext ((Pipeline.Window.rect_emb_val (cfg0.win (0 : Fin 6)) t (ix3 (0 : Fin 1) (0 : Fin 1) l) (1 : Fin 3)).trans (show 0 * 1 + 0 = 0 from rfl))
    | ⟨2, _⟩ => exact Fin.ext ((Pipeline.Window.rect_emb_val (cfg0.win (0 : Fin 6)) t (ix3 (0 : Fin 1) (0 : Fin 1) l) (2 : Fin 3)).trans (show 0 * 1024 + l.val = l.val by rw [Nat.zero_mul, Nat.zero_add]))
  refine (show _ = V m c main_v0 (((cfg0.win (0 : Fin 6)).blk t).view.emb (ix3 (0 : Fin 1) (0 : Fin 1) l)) from rfl).trans ?_
  rw [e, V_slot]
  refine cast13 (m0 m c) shapeCasts_S65536_S64x1x1024 (⟨t.val, lt64 t⟩ : Fin 64) (0 : Fin 1) l _ ?_
  show t.val * 1024 + l.val = (t.val * 1 + 0) * 1024 + l.val
  omega

/-- A gathered row is the experts' row its token's slot names. -/
theorem rows_apply (c : Dev nD) (t : Fin cfg0.N) (p : Fin 2) (a : Fin 512) (k : Fin 2048) :
    (show EReal from rowsAt m c t (ix3 p a k)) = m4 m c (ix2 (slotOf (m0 m c) (tokenAt t a) p) k) := by
  have ha := a.isLt
  have hp := p.isLt
  have e : words (slotsAt m c t) p.val a.val = m0 m c (ix1 (⟨(tokenAt t a).val * 2 + p.val, by have := (tokenAt t a).isLt; omega⟩ : Fin 65536)) := by
    unfold words
    refine (congrArg (slotsAt m c t) ?_).trans ((slots_apply m c t (⟨2 * a.val + p.val, by omega⟩ : Fin 1024)).trans (congrArg (m0 m c) ?_))
    · funext b
      match b with
      | ⟨0, _⟩ => rfl
      | ⟨1, _⟩ => rfl
      | ⟨2, _⟩ => exact Fin.ext (show min (2 * a.val + p.val) 1023 = 2 * a.val + p.val by omega)
    · refine congrArg ix1 (Fin.ext ?_)
      show t.val * 1024 + (2 * a.val + p.val) = (t.val * 512 + a.val) * 2 + p.val
      omega
  unfold rowsAt gath
  rw [V_keep m c main_arg4 (by decide)]
  refine congrArg (m4 m c) ?_
  funext b
  match b with
  | ⟨0, _⟩ =>
    refine Fin.ext (show (words (slotsAt m c t) p.val a.val).toNat % 74752 = (m0 m c (ix1 (⟨(tokenAt t a).val * 2 + p.val, _⟩ : Fin 65536))).toNat % 74752 from ?_)
    rw [e]
  | ⟨1, _⟩ => rfl

/-- What a point stores is its block of mixed tokens. -/
theorem outT_apply (c : Dev nD) (t : Fin cfg0.N) (a : Fin 512) (d : Fin 2048) :
    (show EReal from outT m c t (ix2 a d)) = mixed (m0 m c) (m1 m c) (m2 m c) (m3 m c) (m4 m c) (tokenAt t a) d := by
  unfold outT outOf sumOf mixed
  refine (pay1_apply _ _ a d).trans ?_
  refine congrArg₂ (fun y g => normed y g d) (funext fun k => ?_) (gain_apply m c t d)
  refine (pay2_apply _ _ _ _ a k).trans ?_
  unfold token
  rw [planeOf_apply, planeOf_apply]
  refine congrArg₂ (fun u v : EReal => u + v) (resid_apply m c t a k) (congrArg₂ (fun u v : EReal => u + v)
    (congrArg₂ (fun u v : EReal => u * v) (route_apply m c t a 2) (rows_apply m c t 0 a k)) (congrArg₂ (fun u v : EReal => u * v) (route_apply m c t a 3) (rows_apply m c t 1 a k)))

/-! ## The result arrays -/

/-- The points that write the first result back write different blocks, -/
theorem disj4 : ∀ t t' : Fin cfg0.N, (cfg0.win (4 : Fin 6)).flush t = true → (cfg0.win (4 : Fin 6)).flush t' = true → t ≠ t' →
    Disjoint ((cfg0.win (4 : Fin 6)).blk t).view.set ((cfg0.win (4 : Fin 6)).blk t').view.set :=
  Pipeline.Window.hdisj_of_index_inj (cfg0.win (4 : Fin 6)) fun t t' hf hf' hi => by
    have h1 : t.val < 31 ∨ t.val = 63 := of_decide_eq_true ((flush4 t).symm.trans hf)
    have h2 : t'.val < 31 ∨ t'.val = 63 := of_decide_eq_true ((flush4 t').symm.trans hf')
    have h3 : min t.val 31 = min t'.val 31 := congrFun ((index4 t).symm.trans (hi.trans (index4 t'))) 0
    exact Fin.ext (by omega)

/-- and so do the second's. -/
theorem disj5 : ∀ t t' : Fin cfg0.N, (cfg0.win (5 : Fin 6)).flush t = true → (cfg0.win (5 : Fin 6)).flush t' = true → t ≠ t' →
    Disjoint ((cfg0.win (5 : Fin 6)).blk t).view.set ((cfg0.win (5 : Fin 6)).blk t').view.set :=
  Pipeline.Window.hdisj_of_index_inj (cfg0.win (5 : Fin 6)) fun t t' hf hf' hi => by
    have h1 : 32 ≤ t.val := of_decide_eq_true ((flush5 t).symm.trans hf)
    have h2 : 32 ≤ t'.val := of_decide_eq_true ((flush5 t').symm.trans hf')
    have h3 : t.val - 32 = t'.val - 32 := congrFun ((index5 t).symm.trans (hi.trans (index5 t'))) 0
    exact Fin.ext (by omega)

/-- The point that writes back block `b` of the first result, and of the second. -/
def backA (b : Fin 32) : Fin cfg0.N := ⟨if b.val < 31 then b.val else 63, lt_of_lt_of_eq (show (if b.val < 31 then b.val else 63) < 64 by split <;> omega) N_0.symm⟩
def backB (b : Fin 32) : Fin cfg0.N := ⟨32 + b.val, lt_of_lt_of_eq (show 32 + b.val < 64 by have := b.isLt; omega) N_0.symm⟩

theorem backA_min (b : Fin 32) : min (backA b).val 31 = b.val := by
  have := b.isLt
  show min (if b.val < 31 then b.val else 63) 31 = b.val
  split <;> omega

theorem backA_flush (b : Fin 32) : (cfg0.win (4 : Fin 6)).flush (backA b) = true := by
  refine (flush4 (backA b)).trans (decide_eq_true ?_)
  show (if b.val < 31 then b.val else 63) < 31 ∨ (if b.val < 31 then b.val else 63) = 63
  split
  · exact Or.inl (by assumption)
  · exact Or.inr rfl

theorem backB_flush (b : Fin 32) : (cfg0.win (5 : Fin 6)).flush (backB b) = true :=
  (flush5 (backB b)).trans (decide_eq_true (show 32 ≤ 32 + b.val by omega))

theorem arr4_apply (c : Dev nD) (i : Fin 16384) (d : Fin 2048) :
    (show EReal from (dat m c).arrAt (4 : Fin 6) cfg0.N (ix2 i d : S16384x2048.Idx))
      = mixed (m0 m c) (m1 m c) (m2 m c) (m3 m c) (m4 m c) ⟨i.val, by have := i.isLt; omega⟩ d := by
  have hi := i.isLt
  obtain ⟨b, hb⟩ : ∃ b : Fin 32, b.val = i.val / 512 := ⟨⟨i.val / 512, by omega⟩, rfl⟩
  obtain ⟨a, hA⟩ : ∃ a : Fin 512, a.val = i.val % 512 := ⟨⟨i.val % 512, Nat.mod_lt _ (by norm_num)⟩, rfl⟩
  have he : ((cfg0.win (4 : Fin 6)).blk (backA b)).view.emb (ix2 a d) = (ix2 i d : S16384x2048.Idx) := by
    funext z
    match z with
    | ⟨0, _⟩ =>
      refine Fin.ext ((Pipeline.Window.rect_emb_val (cfg0.win (4 : Fin 6)) (backA b) (ix2 a d) (0 : Fin 2)).trans ?_)
      rw [index4, backA_min]
      show b.val * 512 + a.val = i.val
      omega
    | ⟨1, _⟩ =>
      refine Fin.ext ((Pipeline.Window.rect_emb_val (cfg0.win (4 : Fin 6)) (backA b) (ix2 a d) (1 : Fin 2)).trans ?_)
      rw [index4]
      exact (show 0 * 2048 + d.val = d.val by rw [Nat.zero_mul, Nat.zero_add])
  rw [← he]
  refine ((dat m c).arrAt_emb_eq_flushed (4 : Fin 6) disj4 (backA b) (backA_flush b) (ix2 a d)).trans ?_
  refine (show _ = (show EReal from outT m c (ptA (backA b)) (ix2 a d)) from rfl).trans ?_
  rw [outT_apply]
  refine congrArg (fun n => mixed _ _ _ _ _ n d) (Fin.ext ?_)
  show min (backA b).val 31 * 512 + a.val = i.val
  rw [backA_min]
  omega

theorem arr5_apply (c : Dev nD) (i : Fin 16384) (d : Fin 2048) :
    (show EReal from (dat m c).arrAt (5 : Fin 6) cfg0.N (ix2 i d : S16384x2048.Idx))
      = mixed (m0 m c) (m1 m c) (m2 m c) (m3 m c) (m4 m c) ⟨16384 + i.val, by have := i.isLt; omega⟩ d := by
  have hi := i.isLt
  obtain ⟨b, hb⟩ : ∃ b : Fin 32, b.val = i.val / 512 := ⟨⟨i.val / 512, by omega⟩, rfl⟩
  obtain ⟨a, hA⟩ : ∃ a : Fin 512, a.val = i.val % 512 := ⟨⟨i.val % 512, Nat.mod_lt _ (by norm_num)⟩, rfl⟩
  have he : ((cfg0.win (5 : Fin 6)).blk (backB b)).view.emb (ix2 a d) = (ix2 i d : S16384x2048.Idx) := by
    funext z
    match z with
    | ⟨0, _⟩ =>
      refine Fin.ext ((Pipeline.Window.rect_emb_val (cfg0.win (5 : Fin 6)) (backB b) (ix2 a d) (0 : Fin 2)).trans ?_)
      rw [index5]
      show (32 + b.val - 32) * 512 + a.val = i.val
      omega
    | ⟨1, _⟩ =>
      refine Fin.ext ((Pipeline.Window.rect_emb_val (cfg0.win (5 : Fin 6)) (backB b) (ix2 a d) (1 : Fin 2)).trans ?_)
      rw [index5]
      exact (show 0 * 2048 + d.val = d.val by rw [Nat.zero_mul, Nat.zero_add])
  rw [← he]
  refine ((dat m c).arrAt_emb_eq_flushed (5 : Fin 6) disj5 (backB b) (backB_flush b) (ix2 a d)).trans ?_
  refine (show _ = (show EReal from outT m c (ptB (backB b)) (ix2 a d)) from rfl).trans ?_
  rw [outT_apply]
  refine congrArg (fun n => mixed _ _ _ _ _ n d) (Fin.ext ?_)
  show max (32 + b.val) 32 * 512 + a.val = 16384 + i.val
  omega

theorem idx_lt0 (j : S16384x2048.Idx) : (j 0).val < 16384 := (j 0).isLt

/-- The mixed tokens, as the two results. -/
def resultA (c : Dev nD) : Buf (Elt Ideal) ((c.tc : Thread nD τ).loc main_v2_0) :=
  fun j : S16384x2048.Idx => (mixed (m0 m c) (m1 m c) (m2 m c) (m3 m c) (m4 m c) ⟨(j 0).val, lt_of_lt_of_le (idx_lt0 j) (by norm_num)⟩ (j 1) : EReal)
def resultB (c : Dev nD) : Buf (Elt Ideal) ((c.tc : Thread nD τ).loc main_v2_1) :=
  fun j : S16384x2048.Idx => (mixed (m0 m c) (m1 m c) (m2 m c) (m3 m c) (m4 m c) ⟨16384 + (j 0).val, by have := idx_lt0 j; omega⟩ (j 1) : EReal)

theorem arr4_eq (c : Dev nD) : (dat m c).arrAt (4 : Fin 6) cfg0.N = resultA m c := by
  refine funext fun (j : S16384x2048.Idx) => ?_
  rw [ValueIdx.eq_ix2 j]
  exact arr4_apply m c (j 0) (j 1)

theorem arr5_eq (c : Dev nD) : (dat m c).arrAt (5 : Fin 6) cfg0.N = resultB m c := by
  refine funext fun (j : S16384x2048.Idx) => ?_
  rw [ValueIdx.eq_ix2 j]
  exact arr5_apply m c (j 0) (j 1)

end Cert.CombineIdeal.Hand

end
-- ==== Proof.MixValue.lean ====
/-
  The combine's reference, element by element: at the extended reals its results are the two halves of the mixed tokens.
-/
module

public import proofs.«01_k».proof.Proof.Mixing
public import proofs.«01_k».proof.Proof.Gen.MixtureIdeal.Run

@[expose] public section

noncomputable section

namespace Cert.MixtureIdeal.Hand

open Cert.MixtureIdeal Cert.MixtureIdeal.Gen Cert.MixtureIdeal.Value
open Idealize.ShloMosaic Idealize.ShloMosaic.TcCoe Idealize.ShloMosaic.ValueIdx Idealize.ShloMosaic.Routing
open Idealize.ShloMosaic.StableHlo
open Cert.Mixing

/-- The slots of one side, as the reference slices them out, -/
abbrev slots (a0 : IVec S65536 32) (p : Fin 2) (hs : S32768x2.Slices ![0, p.val] S32768x1) : IVec S32768 32 :=
  shapeCast S32768 (extractStridedSlice S32768x1 ![0, p.val] (shapeCast S32768x2 a0 shapeCasts_S65536_S32768x2) hs) shapeCasts_S32768x1_S32768

/-- and the rows gathered from them. -/
abbrev gathered (a0 : IVec S65536 32) (a4 : FVec Ideal S74752x2048 .f32) (p : Fin 2) (hs : S32768x2.Slices ![0, p.val] S32768x1) : FVec Ideal S32768x2048 .f32 :=
  Host.gather gather_S74752x2048_S32768x1_S32768x2048_1_0_n_n_0_1_12048 a4
    (broadcastInDim S32768x1 ![0] bcast_S32768_S32768x1_0
      (select (cmpi .slt (slots a0 p hs) (broadcastInDim S32768 ![] bcast_S_S32768 (constantI S_ 32 0#32)))
        (addi (slots a0 p hs) (broadcastInDim S32768 ![] bcast_S_S32768 (constantI S_ 32 74752#32))) (slots a0 p hs)))

/-- The mixed tokens before the norm, -/
abbrev mix (a0 : IVec S65536 32) (a1 : FVec Ideal S32768x128 .f32) (a2 : FVec Ideal S32768x2048 .f32) (a4 : FVec Ideal S74752x2048 .f32) : FVec Ideal S32768x2048 .f32 :=
  addf a2 (addf
    (mulf (broadcastInDim S32768x2048 ![0, 1] bcast_S32768x1_S32768x2048_0_1 (extractStridedSlice S32768x1 ![0, 2] a1 slices_S32768x128_S32768x1_0_2))
      (gathered a0 a4 0 slices_S32768x2_S32768x1_0_0))
    (mulf (broadcastInDim S32768x2048 ![0, 1] bcast_S32768x1_S32768x2048_0_1 (extractStridedSlice S32768x1 ![0, 3] a1 slices_S32768x128_S32768x1_0_3))
      (gathered a0 a4 1 slices_S32768x2_S32768x1_0_1)))

/-- and after it. -/
abbrev norm (y : FVec Ideal S32768x2048 .f32) (a3 : FVec Ideal S2048 .f32) : FVec Ideal S32768x2048 .f32 :=
  mulf (mulf y (broadcastInDim S32768x2048 ![0, 1] bcast_S32768x1_S32768x2048_0_1 (Host.rsqrt (addf
      (Host.divf (broadcastInDim S32768x1 ![0] bcast_S32768_S32768x1_0 (Host.reduceAdd (mulf y y) (constant S_ .f32 0x00000000#32) reducesTo_S32768x2048_S32768_d1 h_S_))
        (broadcastInDim S32768x1 ![] bcast_S_S32768x1 (constant S_ .f32 0x45000000#32)))
      (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 a3))

theorem slots_apply (a0 : IVec S65536 32) (p : Fin 2) (hs : S32768x2.Slices ![0, p.val] S32768x1) (n : Fin 32768) :
    slots a0 p hs (ix1 n) = a0 (ix1 (⟨n.val * 2 + p.val, by have := n.isLt; have := p.isLt; omega⟩ : Fin 65536)) := by
  refine (cast21 (a := 32768) (b := 1) (n := 32768) _ shapeCasts_S32768x1_S32768 n (0 : Fin 1) n (by simp)).trans ?_
  refine (slice2_axis1_apply (n0 := 32768) (n1 := 2) (m := 1) p.val _ hs n (0 : Fin 1) p rfl).trans ?_
  exact cast12 (a := 32768) (b := 2) (n := 65536) a0 shapeCasts_S65536_S32768x2 n p _ rfl

theorem gathered_apply (a0 : IVec S65536 32) (a4 : FVec Ideal S74752x2048 .f32) (h0 : ∀ x, (a0 x).toNat < 74752) (p : Fin 2)
    (hs : S32768x2.Slices ![0, p.val] S32768x1) (n : Fin 32768) (k : Fin 2048) :
    gathered a0 a4 p hs (ix2 n k) = a4 (ix2 (slotOf a0 n p) k) := by
  refine gather_row gather_S74752x2048_S32768x1_S32768x2048_1_0_n_n_0_1_12048 rfl rfl rfl rfl rfl a4 _ n k (slotOf a0 n p) ?_ (by norm_num)
  refine (bcCol bcast_S32768_S32768x1_0 _ n).trans ?_
  refine (show _ = Scalar.select (IntOp.cmpi .slt (slots a0 p hs (ix1 n)) (broadcastInDim S32768 ![] bcast_S_S32768 (constantI S_ 32 0#32) (ix1 n)))
    (IntOp.addi (slots a0 p hs (ix1 n)) (broadcastInDim S32768 ![] bcast_S_S32768 (constantI S_ 32 74752#32) (ix1 n))) (slots a0 p hs (ix1 n)) from rfl).trans ?_
  rw [bc0 bcast_S_S32768 (constantI S_ 32 0#32), constantI_apply, slots_apply]
  have h := h0 (ix1 (⟨n.val * 2 + p.val, by have := n.isLt; have := p.isLt; omega⟩ : Fin 65536))
  rw [wrap_of_lt _ _ (by omega)]
  refine BitVec.eq_of_toNat_eq ?_
  rw [BitVec.toNat_ofNat]
  show _ = ((a0 (ix1 (⟨n.val * 2 + p.val, _⟩ : Fin 65536))).toNat % 74752) % 2 ^ 32
  omega

theorem mix_apply (a0 : IVec S65536 32) (a1 : FVec Ideal S32768x128 .f32) (a2 : FVec Ideal S32768x2048 .f32) (a4 : FVec Ideal S74752x2048 .f32)
    (h0 : ∀ x, (a0 x).toNat < 74752) (n : Fin 32768) (k : Fin 2048) : (show EReal from mix a0 a1 a2 a4 (ix2 n k)) = token a0 a1 a2 a4 n k := by
  have w : ∀ (q : Fin 128) (hs : S32768x128.Slices ![0, q.val] S32768x1),
      broadcastInDim S32768x2048 ![0, 1] bcast_S32768x1_S32768x2048_0_1 (extractStridedSlice S32768x1 ![0, q.val] a1 hs) (ix2 n k) = a1 (ix2 n q) := fun q hs =>
    (col_spread_host (a := 32768) (b := 2048) bcast_S32768x1_S32768x2048_0_1 _ n k).trans
      (slice2_axis1_apply (n0 := 32768) (n1 := 128) (m := 1) q.val a1 hs n (0 : Fin 1) q rfl)
  refine congrArg₂ (fun u v : EReal => u + v) rfl (congrArg₂ (fun u v : EReal => u + v) (congrArg₂ (fun u v : EReal => u * v) ?_ ?_) (congrArg₂ (fun u v : EReal => u * v) ?_ ?_))
  · exact w 2 slices_S32768x128_S32768x1_0_2
  · exact gathered_apply a0 a4 h0 0 _ n k
  · exact w 3 slices_S32768x128_S32768x1_0_3
  · exact gathered_apply a0 a4 h0 1 _ n k

theorem norm_apply (y : FVec Ideal S32768x2048 .f32) (a3 : FVec Ideal S2048 .f32) (n : Fin 32768) (d : Fin 2048) :
    (show EReal from norm y a3 (ix2 n d)) = normed (fun k => y (ix2 n k)) (a3 (ix1 d)) d := by
  unfold normed
  refine congrArg₂ (fun u v : EReal => u * v) (congrArg (fun v : EReal => (show EReal from y (ix2 n d)) * v) ?_) ?_
  · refine (col_spread_host (a := 32768) (b := 2048) bcast_S32768x1_S32768x2048_0_1 _ n d).trans ?_
    refine congrArg Ideal.rsqrt (congrArg₂ (fun u v : EReal => u + v) (congrArg₂ Ideal.div ?_ ?_) ?_)
    · refine (bcCol bcast_S32768_S32768x1_0 _ n).trans ?_
      refine (Ideal.hostReduceAdd_single reducesTo_S32768x2048_S32768_d1 ⟨reducesTo_S32768x2048_S32768_d1.1, Nat.one_pos, reducesTo_S32768x2048_S32768_d1.2⟩ _ _ (ix1 n)).trans ?_
      refine (congrArg₂ (fun u v : EReal => u + v) Ideal.ofBits_zero_f32 (Finset.sum_congr rfl fun k _ => ?_)).trans (zero_add _)
      exact congrArg (fun j => (show EReal from y j) * (show EReal from y j)) (lift_row _ n k)
    · exact bc0 bcast_S_S32768x1 _ _
    · exact bc0 bcast_S_S32768x1 _ _
  · exact bcCols bcast_S2048_S1x2048_1 bcast_S1x2048_S32768x2048_0_1 a3 n d

variable (m : (ℓ : Loc nD τ sig) → Buf (Elt Ideal) ℓ)

abbrev a0 (c : Dev nD) : S65536.Idx → BitVec 32 := m ((c.tc : Thread nD τ).loc main_arg0)
abbrev a1 (c : Dev nD) : S32768x128.Idx → EReal := m ((c.tc : Thread nD τ).loc main_arg1)
abbrev a2 (c : Dev nD) : S32768x2048.Idx → EReal := m ((c.tc : Thread nD τ).loc main_arg2)
abbrev a3 (c : Dev nD) : S2048.Idx → EReal := m ((c.tc : Thread nD τ).loc main_arg3)
abbrev a4 (c : Dev nD) : S74752x2048.Idx → EReal := m ((c.tc : Thread nD τ).loc main_arg4)

theorem whole_apply (c : Dev nD) (h0 : ∀ x, (a0 m c x).toNat < 74752) (n : Fin 32768) (d : Fin 2048) :
    (show EReal from norm (mix (a0 m c) (a1 m c) (a2 m c) (a4 m c)) (a3 m c) (ix2 n d)) = mixed (a0 m c) (a1 m c) (a2 m c) (a3 m c) (a4 m c) n d := by
  rw [norm_apply]
  unfold mixed
  exact congrArg (fun y => normed y _ d) (funext fun k => mix_apply _ _ _ _ h0 n k)

/-- The first result: the first half of the tokens, -/
theorem out0_apply (c : Dev nD) (h0 : ∀ x, (a0 m c x).toNat < 74752) (i : Fin 16384) (d : Fin 2048) :
    (show EReal from res_main_v40 m c (ix2 i d)) = mixed (a0 m c) (a1 m c) (a2 m c) (a3 m c) (a4 m c) ⟨i.val, by have := i.isLt; omega⟩ d := by
  unfold res_main_v40
  exact (slice2_axis0_apply (n0 := 32768) (n1 := 2048) (m := 16384) 0 (norm (mix (a0 m c) (a1 m c) (a2 m c) (a4 m c)) (a3 m c)) slices_S32768x2048_S16384x2048_0_0 i d
    ⟨i.val, by have := i.isLt; omega⟩ (by simp)).trans (whole_apply m c h0 _ d)

/-- and the second: the other half. -/
theorem out1_apply (c : Dev nD) (h0 : ∀ x, (a0 m c x).toNat < 74752) (i : Fin 16384) (d : Fin 2048) :
    (show EReal from res_main_v41 m c (ix2 i d)) = mixed (a0 m c) (a1 m c) (a2 m c) (a3 m c) (a4 m c) ⟨16384 + i.val, by have := i.isLt; omega⟩ d := by
  unfold res_main_v41
  exact (slice2_axis0_apply (n0 := 32768) (n1 := 2048) (m := 16384) 16384 (norm (mix (a0 m c) (a1 m c) (a2 m c) (a4 m c)) (a3 m c)) slices_S32768x2048_S16384x2048_16384_0 i d
    ⟨16384 + i.val, by have := i.isLt; omega⟩ rfl).trans (whole_apply m c h0 _ d)

end Cert.MixtureIdeal.Hand

end
-- ==== Proof.DenseSame.lean ====
/-
  The dense SwiGLU call's program and its idealization's are one program, no rewrite having been applied: their bodies, their tables
  and their mains are equal at every choice of floats.
-/
module

public import proofs.«01_k».proof.Dense
public import proofs.«01_k».proof.Proof.Gen.Dense
public import proofs.«01_k».proof.DenseIdeal
public import proofs.«01_k».proof.Proof.Gen.DenseIdeal

@[expose] public section

noncomputable section

namespace Cert.SameDense

open Idealize.ShloMosaic Idealize.SL.Sem

variable {F : FTy → Type} [FloatOps F]

set_option maxHeartbeats 4000000 in
/-- The call's bodies, -/
theorem body_eq : Cert.Dense.cc0_ffn_swiglu (F := F) = Cert.DenseIdeal.cc0_ffn_swiglu (F := F) := rfl

set_option maxHeartbeats 4000000 in
/-- the tables of bodies, -/
theorem rows_eq : Cert.Dense.defs₀ (F := F) = Cert.DenseIdeal.defs₀ (F := F) := by
  unfold Cert.Dense.defs₀ Cert.DenseIdeal.defs₀
  refine congrArg Defs.onTc ?_
  funext l x
  match l, x with
  | ⟨0, _⟩, (t, s) =>
    refine Eq.trans (b := Cert.Dense.cc0_ffn_swiglu (F := F) _ _ _ _ _ _ _ _ _ _ _ _ _ _ _) rfl ?_
    rw [body_eq]
    rfl

/-- the tables with the call's own rows, -/
theorem defs_eq : Cert.Dense.defs (F := F) = Cert.DenseIdeal.defs (F := F) := by
  unfold Cert.Dense.defs Cert.DenseIdeal.defs
  rw [rows_eq]
  rfl

set_option maxHeartbeats 4000000 in
/-- and the mains. -/
theorem main_eq : Cert.Dense.main (F := F) = Cert.DenseIdeal.main (F := F) := rfl

end Cert.SameDense

end
-- ==== Proof.DenseMath.lean ====
/-
  The mathematics of the dense SwiGLU: a token's row over its root mean square, its 5632 gated hidden values brought back by
  the down projection and added to the row, and the sum over the hidden positions taken in 11 blocks of 512.
-/
module

public import proofs.«01_k».proof.Proof.Swiglu
public import proofs.«01_k».proof.Proof.Mixing

@[expose] public section

noncomputable section

namespace Cert.Ffn

open Idealize.ShloMosaic Idealize.ShloMosaic.ValueIdx
open Cert.Swiglu Cert.Mixing
open scoped BigOperators

/-- Position `f` of hidden block `j`. -/
def spot (j : ℕ) (f : Fin 512) : Fin 5632 := ⟨(512 * j + f.val) % 5632, Nat.mod_lt _ (by norm_num)⟩

theorem spot_val {j : ℕ} (hj : j < 11) (f : Fin 512) : (spot j f).val = 512 * j + f.val := by
  unfold spot; exact Nat.mod_eq_of_lt (by have := f.isLt; omega)

/-- A sum over the hidden positions, block by block. -/
theorem sum_spots (g : Fin 5632 → EReal) : ∑ f, g f = ∑ j ∈ Finset.range 11, ∑ f : Fin 512, g (spot j f) := by
  rw [Finset.sum_range, ← Equiv.sum_comp ((finProdFinEquiv (m := 11) (n := 512)).trans (finCongr (by norm_num : 11 * 512 = 5632))), Fintype.sum_prod_type]
  refine Finset.sum_congr rfl fun j _ => Finset.sum_congr rfl fun f _ => congrArg g (Fin.ext ?_)
  rw [spot_val j.isLt]
  simp [finProdFinEquiv]
  omega

section Layer

variable (x : (⟨2, ![32768, 2048]⟩ : Shape).Idx → EReal) (g : (⟨2, ![1, 2048]⟩ : Shape).Idx → EReal)
  (wg wu : (⟨3, ![1, 2048, 5632]⟩ : Shape).Idx → EReal) (wd : (⟨3, ![1, 5632, 2048]⟩ : Shape).Idx → EReal)

/-- Element `k` of token `n`'s row after the norm. -/
def row (n : Fin 32768) (k : Fin 2048) : EReal := normed (fun l => x (ix2 n l)) (g (ix2 0 k)) k

/-- Hidden position `f`'s share of element `d` of token `n`. -/
def term (n : Fin 32768) (d : Fin 2048) (f : Fin 5632) : EReal :=
  hid (row x g n) (fun k => wg (ix3 0 k f)) (fun k => wu (ix3 0 k f)) * wd (ix3 0 f d)

/-- Hidden block `j`'s share. -/
def share (n : Fin 32768) (d : Fin 2048) (j : ℕ) : EReal := ∑ f : Fin 512, term x g wg wu wd n d (spot j f)

/-- The layer's result on token `n`, element `d`. -/
def layer (n : Fin 32768) (d : Fin 2048) : EReal := x (ix2 n d) + ∑ f, term x g wg wu wd n d f

theorem layer_blocks (n : Fin 32768) (d : Fin 2048) :
    layer x g wg wu wd n d = x (ix2 n d) + ∑ j ∈ Finset.range 11, share x g wg wu wd n d j := by
  unfold layer share
  rw [sum_spots]

end Layer

end Cert.Ffn

end
-- ==== Proof.DensePoint.lean ====
/-
  What one point of the dense SwiGLU call leaves: the body's stores in their two cases read back as the payloads of the blocks
  it loaded.
-/
module

public import proofs.«01_k».proof.Proof.Gen.DenseIdeal.Frame
public import Idealize.ShloMosaic.Lib.Pipeline.Value
public import Idealize.ShloMosaic.Lib.Tactic

@[expose] public section

noncomputable section

namespace Cert.DenseIdeal.Hand

open Cert.DenseIdeal Cert.DenseIdeal.Gen
open Idealize.ShloMosaic Idealize.ShloMosaic.TcCoe Idealize.SL.Sem

variable {F : FTy → Type} [FloatOps F]

theorem zeros : (![0, 0] : Fin 2 → Nat) = fun _ => 0 := funext fun a => by fin_cases a <;> rfl

section Cases

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x2048 .bf16) (harg6 : arg6.IsWhole)
  (arg7 : Memref sig .tc .vmem S1024x2048 .f32) (harg7 : arg7.IsWhole) (arg8 : Memref sig .tc .vmem S1024x2048 .bf16) (harg8 : arg8.IsWhole)
  (x0 : Vec F S1024x2048 .f32) (x1 : Vec F S1x2048 .f32) (x2 : Vec F S2048x512 .bf16) (x3 : Vec F S2048x512 .bf16) (x4 : Vec F S512x2048 .bf16)

/-- At a token block's first point the scratch ends with the normalised rows, -/
theorem scratch_first (hc0 : cond0_0 i) :
    sout0_A_0 c i arg2 harg2 arg3 harg3 arg4 harg4 arg5 harg5 arg6 harg6 arg7 harg7 arg8 harg8 hc0 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero zeros]
  simp only [View.readAt_eq_ld, harg2.read_unread, harg3.read_unread, View.ld_unit_zero (S := S1024x2048) zeros, View.ld_unit_zero (S := S1x2048) zeros]

/-- and the result's block with the rows and their first hidden block's share; -/
theorem out_first (hc0 : cond0_0 i) :
    out0_A_5 c i arg2 harg2 arg3 harg3 arg4 harg4 arg5 harg5 arg6 harg6 arg7 harg7 arg8 harg8 hc0 x0 x1 x2 x3 x4 = k0_pay2 x0 (k0_pay1 x0 x1) x2 x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1024x2048) zeros]
  simp only [View.readCov_unit_zero (S := S1024x2048) _ zeros]
  simp only [View.readAt_eq_ld, harg2.read_unread, harg3.read_unread, harg4.read_unread, harg5.read_unread, harg6.read_unread,
    View.ld_unit_zero (S := S1024x2048) zeros, View.ld_unit_zero (S := S1x2048) zeros, View.ld_unit_zero (S := S2048x512) zeros,
    View.ld_unit_zero (S := S512x2048) zeros]

/-- at the others the block gains a hidden block's share. -/
theorem out_next (hc0 : ¬cond0_0 i) (xo : Vec F S1024x2048 .f32) (xs : Vec F S1024x2048 .bf16) :
    out0_B_5 c i arg2 harg2 arg3 harg3 arg4 harg4 arg5 harg5 arg6 harg6 arg7 harg7 arg8 harg8 hc0 x0 x1 x2 x3 x4 xo xs = k0_pay2 xo xs x2 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo xs)]
  unfold kernelRun0_B
  dsimp only
  rw [View.canon_unit_zero zeros]
  simp only [View.readAt_eq_ld, harg4.read_unread, harg5.read_unread, harg6.read_unread, harg7.read_unread, harg8.read_unread,
    View.ld_unit_zero (S := S1024x2048) zeros, View.ld_unit_zero (S := S2048x512) zeros, View.ld_unit_zero (S := S512x2048) zeros]

end Cases

end Cert.DenseIdeal.Hand

end
-- ==== Proof.DenseValue.lean ====
/-
  The dense SwiGLU call's result, element by element: each token block's last point leaves the layer's rows.
-/
module

public import proofs.«01_k».proof.Proof.DenseMath
public import proofs.«01_k».proof.Proof.DensePoint
public import proofs.«01_k».proof.Proof.Gen.DenseIdeal.Value

@[expose] public section

noncomputable section

namespace Cert.DenseIdeal.Hand

open Cert.DenseIdeal Cert.DenseIdeal.Gen Cert.DenseIdeal.Value
open Idealize.ShloMosaic
open Idealize.ShloMosaic.TcCoe Idealize.ShloMosaic.ValueIdx Idealize.ShloMosaic.Routing
open Idealize.SL.Sem
open Cert.Swiglu Cert.Mixing Cert.Ffn

/-! ## The payloads at an index -/

/-- The normalised block at an index. -/
theorem pay1_apply (y : Vec Ideal S1024x2048 .f32) (G : Vec Ideal S1x2048 .f32) (a : Fin 1024) (d : Fin 2048) :
    (show EReal from k0_pay1 y G (ix2 a d)) = normed (fun k => y (ix2 a k)) (G (ix2 0 d)) d := by
  unfold k0_pay1 normed
  simp only [shapeCast_self]
  refine congrArg₂ (fun u v : EReal => u * v) (congrArg (fun v : EReal => (show EReal from y (ix2 a d)) * v) ?_) ?_
  · refine (col_spread (a := 1024) (b := 2048) _ broadcasts_S1024x1_S1024x2048 a d).trans ?_
    refine congrArg Ideal.rsqrt (congrArg₂ (fun u v : EReal => u + v) (congrArg₂ Ideal.div ?_ rfl) rfl)
    refine (cast12 (a := 1024) (b := 1) (n := 1024) _ shapeCasts_S1024_S1024x1 a (0 : Fin 1) a (by simp)).trans ?_
    refine (Ideal.multiReduction_add_single _ _ reduces_S1024x2048_S1024 (.inl rfl) rfl (ix1 a)).trans ?_
    refine Finset.sum_congr rfl fun k _ => ?_
    exact congrArg (fun j => (show EReal from y j) * (show EReal from y j)) (lift_row _ a k)
  · exact broadcastTo_1b_ab_apply (a := 1024) (b := 2048) G broadcasts_S1x2048_S1024x2048 a d

/-- What a point leaves at an index: what was there, and the hidden block's share. -/
theorem pay2_apply (base : Vec Ideal S1024x2048 .f32) (x : Vec Ideal S1024x2048 .bf16) (wg wu : Vec Ideal S2048x512 .bf16)
    (wd : Vec Ideal S512x2048 .bf16) (a : Fin 1024) (d : Fin 2048) :
    (show EReal from k0_pay2 base x wg wu wd (ix2 a d)) = (show EReal from base (ix2 a d))
      + ∑ f : Fin 512, hid (fun k => x (ix2 a k)) (fun k => wg (ix2 k f)) (fun k => wu (ix2 k f)) * (show EReal from wd (ix2 f d)) := by
  unfold k0_pay2
  simp only [shapeCast_self]
  refine congrArg (fun z : EReal => (show EReal from base (ix2 a d)) + z) ?_
  refine (Ideal.matmul_plain_apply (M := 1024) (K := 512) (N := 2048) none _ _ _ a d).trans ?_
  rw [show (constant (F := Ideal) S1024x2048 .f32 0x00000000#32 (ix2 a d) : EReal) = 0 from Ideal.ofBits_zero_f32, zero_add]
  refine Finset.sum_congr rfl fun f _ => congrArg₂ (· * ·) ?_ rfl
  have hp : ∀ w : Vec Ideal S2048x512 .bf16, (show EReal from matmul dot_S1024x2048_S2048x512_S1024x512_1_0_0_1_n_n none x
      w (constant (F := Ideal) S1024x512 .f32 0x00000000#32) (ix2 a f)) = ∑ k, (show EReal from x (ix2 a k)) * (show EReal from w (ix2 k f)) := fun w => by
    refine (Ideal.matmul_plain_apply (M := 1024) (K := 2048) (N := 512) none _ _ _ a f).trans ?_
    rw [show (constant (F := Ideal) S1024x512 .f32 0x00000000#32 (ix2 a f) : EReal) = 0 from Ideal.ofBits_zero_f32, zero_add]
  unfold hid
  rw [← hp wg, ← hp wu]
  unfold act
  refine (show _ = Ideal.div _ ((Scalar.ofBits (F := Ideal) .f32 0x3F800000#32 : EReal) + Ideal.exp ((Scalar.ofBits (F := Ideal) .f32 0x00000000#32 : EReal) - _)) * _ from rfl).trans ?_
  rw [show (Scalar.ofBits (F := Ideal) .f32 0x3F800000#32 : EReal) = 1 from Ideal.ofBits_one_f32,
    show (Scalar.ofBits (F := Ideal) .f32 0x00000000#32 : EReal) = 0 from Ideal.ofBits_zero_f32, zero_sub]
  rfl

/-! ## The arrays -/

variable (m : (ℓ : Loc nD τ sig) → Buf (Elt Ideal) ℓ)

abbrev m0 (c : Dev nD) : S32768x2048.Idx → EReal := m ((c.tc : Thread nD τ).loc main_arg0)
abbrev m1 (c : Dev nD) : S1x2048.Idx → EReal := m ((c.tc : Thread nD τ).loc main_arg1)
abbrev m2 (c : Dev nD) : S1x2048x5632.Idx → EReal := m ((c.tc : Thread nD τ).loc main_arg2)
abbrev m3 (c : Dev nD) : S1x2048x5632.Idx → EReal := m ((c.tc : Thread nD τ).loc main_arg3)
abbrev m4 (c : Dev nD) : S1x5632x2048.Idx → EReal := m ((c.tc : Thread nD τ).loc main_arg4)

theorem V_gain (c : Dev nD) (k : Fin 2048) : (show EReal from V m c main_v1 (ix2 (0 : Fin 1) k)) = m1 m c (ix2 0 k) := by
  have h : V m c main_v1 = fun i => shapeCast S1x2048 (shapeCast S2048 (m1 m c) shapeCasts_S1x2048_S2048) shapeCasts_S2048_S1x2048 i := by
    unfold V hostOps0
    after_results_simp <;> rfl
  rw [h]
  exact (shapeCast_a_1a_apply (a := 2048) _ shapeCasts_S2048_S1x2048 (0 : Fin 1) k).trans
    (shapeCast_1a_a_apply (a := 2048) (m1 m c) shapeCasts_S1x2048_S2048 k)
theorem V_gate (c : Dev nD) (k : Fin 2048) (f : Fin 5632) : (show EReal from V m c main_v3 (ix2 k f)) = m2 m c (ix3 0 k f) := by
  have h : V m c main_v3 = fun i => shapeCast S2048x5632 (m2 m c) shapeCasts_S1x2048x5632_S2048x5632 i := by
    unfold V hostOps0
    after_results_simp <;> rfl
  rw [h]
  exact shapeCast_1ab_ab_apply (m2 m c) shapeCasts_S1x2048x5632_S2048x5632 k f
theorem V_up (c : Dev nD) (k : Fin 2048) (f : Fin 5632) : (show EReal from V m c main_v5 (ix2 k f)) = m3 m c (ix3 0 k f) := by
  have h : V m c main_v5 = fun i => shapeCast S2048x5632 (m3 m c) shapeCasts_S1x2048x5632_S2048x5632 i := by
    unfold V hostOps0
    after_results_simp <;> rfl
  rw [h]
  exact shapeCast_1ab_ab_apply (m3 m c) shapeCasts_S1x2048x5632_S2048x5632 k f
theorem V_down (c : Dev nD) (f : Fin 5632) (d : Fin 2048) : (show EReal from V m c main_v7 (ix2 f d)) = m4 m c (ix3 0 f d) := by
  have h : V m c main_v7 = fun i => shapeCast S5632x2048 (m4 m c) shapeCasts_S1x5632x2048_S5632x2048 i := by
    unfold V hostOps0
    after_results_simp <;> rfl
  rw [h]
  exact shapeCast_1ab_ab_apply (m4 m c) shapeCasts_S1x5632x2048_S5632x2048 f d

/-! ## The blocks -/

theorem lt352 (t : Fin cfg0.N) : t.val < 352 := lt_of_lt_of_eq t.isLt N_0

theorem crd0 (t : Fin cfg0.N) : (grid0.coords t 0).val = t.val / 11 := by
  have h := Pipeline.Grid.coords_val (G := grid0) t 0 (S := 11) (B := 32) (by decide) rfl
  have hN := lt352 t
  rw [h, Nat.mod_eq_of_lt (by omega)]

theorem crd1 (t : Fin cfg0.N) : (grid0.coords t 1).val = t.val % 11 := by
  have h := Pipeline.Grid.coords_val (G := grid0) t 1 (S := 1) (B := 11) (by decide) rfl
  rw [h, Nat.div_one]

theorem word0 (t : Fin cfg0.N) : (BitVec.ofNat 32 (grid0.coords t 0).val).toNat = t.val / 11 := by
  have e : ∀ n : Fin 32, (BitVec.ofNat 32 n.val).toNat = n.val := by decide
  exact (e (grid0.coords t 0)).trans (crd0 t)

theorem word1 (t : Fin cfg0.N) : (BitVec.ofNat 32 (grid0.coords t 1).val).toNat = t.val % 11 := by
  have e : ∀ n : Fin 11, (BitVec.ofNat 32 n.val).toNat = n.val := by decide
  exact (e (grid0.coords t 1)).trans (crd1 t)

theorem spot_word (t : Fin cfg0.N) (f : Fin 512) : (BitVec.ofNat 32 (grid0.coords t 1).val).toNat * 512 + f.val = (spot (t.val % 11) f).val := by
  rw [word1 t, spot_val (Nat.mod_lt _ (by norm_num))]; omega

/-- Row `a` of a point's token block, among all tokens. -/
def tokenAt (t : Fin cfg0.N) (a : Fin 1024) : Fin 32768 := ⟨t.val / 11 * 1024 + a.val, by have := a.isLt; have := lt352 t; omega⟩

theorem x_apply (c : Dev nD) (t : Fin cfg0.N) (a : Fin 1024) (k : Fin 2048) :
    (show EReal from iblk m c (0 : Fin 6) t (ix2 a k)) = m0 m c (ix2 (tokenAt t a) k) := by
  have e : ((cfg0.win (0 : Fin 6)).blk t).view.emb (ix2 a k) = (ix2 (tokenAt t a) k : S32768x2048.Idx) := by
    funext b
    match b with
    | ⟨0, _⟩ =>
      refine Fin.ext ((Pipeline.Window.rect_emb_val (cfg0.win (0 : Fin 6)) t (ix2 a k) (0 : Fin 2)).trans ?_)
      exact congrArg (fun n => n * 1024 + a.val) (word0 t)
    | ⟨1, _⟩ =>
      refine Fin.ext ((Pipeline.Window.rect_emb_val (cfg0.win (0 : Fin 6)) t (ix2 a k) (1 : Fin 2)).trans ?_)
      exact (show 0 * 2048 + k.val = k.val by rw [Nat.zero_mul, Nat.zero_add])
  refine (show _ = (show EReal from V m c main_arg0 (((cfg0.win (0 : Fin 6)).blk t).view.emb (ix2 a k))) from rfl).trans ?_
  rw [e, V_main_arg0]

theorem gain_apply (c : Dev nD) (t : Fin cfg0.N) (d : Fin 2048) :
    (show EReal from iblk m c (1 : Fin 6) t (ix2 (0 : Fin 1) d)) = m1 m c (ix2 0 d) := by
  refine Eq.trans ?_ (V_gain m c d)
  refine congrArg (V m c main_v1) ?_
  funext b
  match b with
  | ⟨0, _⟩ => exact Fin.ext ((Pipeline.Window.rect_emb_val (cfg0.win (1 : Fin 6)) t (ix2 (0 : Fin 1) d) (0 : Fin 2)).trans (show 0 * 1 + 0 = 0 from rfl))
  | ⟨1, _⟩ => exact Fin.ext ((Pipeline.Window.rect_emb_val (cfg0.win (1 : Fin 6)) t (ix2 (0 : Fin 1) d) (1 : Fin 2)).trans (show 0 * 2048 + d.val = d.val by rw [Nat.zero_mul, Nat.zero_add]))

theorem gate_apply (c : Dev nD) (t : Fin cfg0.N) (k : Fin 2048) (f : Fin 512) :
    (show EReal from iblk m c (2 : Fin 6) t (ix2 k f)) = m2 m c (ix3 0 k (spot (t.val % 11) f)) := by
  refine Eq.trans ?_ (V_gate m c k (spot (t.val % 11) f))
  refine congrArg (V m c main_v3) ?_
  funext b
  match b with
  | ⟨0, _⟩ => exact Fin.ext ((Pipeline.Window.rect_emb_val (cfg0.win (2 : Fin 6)) t (ix2 k f) (0 : Fin 2)).trans (show 0 * 2048 + k.val = k.val by rw [Nat.zero_mul, Nat.zero_add]))
  | ⟨1, _⟩ => exact Fin.ext ((Pipeline.Window.rect_emb_val (cfg0.win (2 : Fin 6)) t (ix2 k f) (1 : Fin 2)).trans (spot_word t f))

theorem up_apply (c : Dev nD) (t : Fin cfg0.N) (k : Fin 2048) (f : Fin 512) :
    (show EReal from iblk m c (3 : Fin 6) t (ix2 k f)) = m3 m c (ix3 0 k (spot (t.val % 11) f)) := by
  refine Eq.trans ?_ (V_up m c k (spot (t.val % 11) f))
  refine congrArg (V m c main_v5) ?_
  funext b
  match b with
  | ⟨0, _⟩ => exact Fin.ext ((Pipeline.Window.rect_emb_val (cfg0.win (3 : Fin 6)) t (ix2 k f) (0 : Fin 2)).trans (show 0 * 2048 + k.val = k.val by rw [Nat.zero_mul, Nat.zero_add]))
  | ⟨1, _⟩ => exact Fin.ext ((Pipeline.Window.rect_emb_val (cfg0.win (3 : Fin 6)) t (ix2 k f) (1 : Fin 2)).trans (spot_word t f))

theorem down_apply (c : Dev nD) (t : Fin cfg0.N) (f : Fin 512) (d : Fin 2048) :
    (show EReal from iblk m c (4 : Fin 6) t (ix2 f d)) = m4 m c (ix3 0 (spot (t.val % 11) f) d) := by
  refine Eq.trans ?_ (V_down m c (spot (t.val % 11) f) d)
  refine congrArg (V m c main_v7) ?_
  funext b
  match b with
  | ⟨0, _⟩ => exact Fin.ext ((Pipeline.Window.rect_emb_val (cfg0.win (4 : Fin 6)) t (ix2 f d) (0 : Fin 2)).trans (spot_word t f))
  | ⟨1, _⟩ => exact Fin.ext ((Pipeline.Window.rect_emb_val (cfg0.win (4 : Fin 6)) t (ix2 f d) (1 : Fin 2)).trans (show 0 * 2048 + d.val = d.val by rw [Nat.zero_mul, Nat.zero_add]))

/-! ## The result's block after a token block's points -/

/-- A point adds its hidden block's share to rows whose normalised form it is given. -/
theorem step_apply (c : Dev nD) (t : Fin cfg0.N) (base : Vec Ideal S1024x2048 .f32) (x : Vec Ideal S1024x2048 .bf16)
    (hx : ∀ (a : Fin 1024) (k : Fin 2048), (show EReal from x (ix2 a k)) = row (m0 m c) (m1 m c) (tokenAt t a) k) (a : Fin 1024) (d : Fin 2048) :
    (show EReal from k0_pay2 base x (iblk m c 2 t) (iblk m c 3 t) (iblk m c 4 t) (ix2 a d))
      = (show EReal from base (ix2 a d)) + share (m0 m c) (m1 m c) (m2 m c) (m3 m c) (m4 m c) (tokenAt t a) d (t.val % 11) := by
  refine (pay2_apply base x _ _ _ a d).trans (congrArg (fun z : EReal => (show EReal from base (ix2 a d)) + z) ?_)
  unfold share term
  refine Finset.sum_congr rfl fun f _ => ?_
  have h1 : (fun k => (show EReal from x (ix2 a k))) = row (m0 m c) (m1 m c) (tokenAt t a) := funext fun k => hx a k
  have h2 : (fun k => (show EReal from iblk m c (2 : Fin 6) t (ix2 k f))) = fun k => m2 m c (ix3 0 k (spot (t.val % 11) f)) := funext fun k => gate_apply m c t k f
  have h3 : (fun k => (show EReal from iblk m c (3 : Fin 6) t (ix2 k f))) = fun k => m3 m c (ix3 0 k (spot (t.val % 11) f)) := funext fun k => up_apply m c t k f
  exact congrArg₂ (fun a b : EReal => a * b) (by rw [← h1, ← h2, ← h3]) (down_apply m c t f d)

/-- The normalised rows a token block's first point leaves in the scratch. -/
theorem norm_block (c : Dev nD) (t : Fin cfg0.N) (a : Fin 1024) (k : Fin 2048) :
    (show EReal from k0_pay1 (F := Ideal) (iblk m c 0 t) (iblk m c 1 t) (ix2 a k)) = row (m0 m c) (m1 m c) (tokenAt t a) k := by
  refine (pay1_apply (iblk m c 0 t) (iblk m c 1 t) a k).trans ?_
  unfold row
  have h1 : (fun l => (show EReal from iblk m c (0 : Fin 6) t (ix2 a l))) = fun l => m0 m c (ix2 (tokenAt t a) l) := funext fun l => x_apply m c t a l
  exact congrArg₂ (fun u v => normed u v k) h1 (gain_apply m c t k)

/-- After hidden block `j` of token block `r` the scratch holds the normalised rows, and the result's block the rows and the
    first `j + 1` shares. -/
theorem after_block (c : Dev nD) (r : ℕ) : ∀ (j : ℕ), j < 11 → ∀ (h : 11 * r + j < cfg0.N),
    (∀ (a : Fin 1024) (k : Fin 2048), (show EReal from (outsAt0 m c (11 * r + j) h).2 (ix2 a k)) = row (m0 m c) (m1 m c) (tokenAt ⟨11 * r + j, h⟩ a) k)
    ∧ ∀ (a : Fin 1024) (d : Fin 2048), (show EReal from (outsAt0 m c (11 * r + j) h).1 (ix2 a d)) = m0 m c (ix2 (tokenAt ⟨11 * r + j, h⟩ a) d)
        + ∑ i ∈ Finset.range (j + 1), share (m0 m c) (m1 m c) (m2 m c) (m3 m c) (m4 m c) (tokenAt ⟨11 * r + j, h⟩ a) d i := by
  intro j
  induction j with
  | zero =>
    intro hj h
    have hA := outsAt0_A m c ⟨11 * r + 0, h⟩ (show (11 * r + 0) % 11 = 0 by omega)
    rw [out_first, scratch_first] at hA
    rw [hA]
    refine ⟨fun a k => norm_block m c _ a k, fun a d => ?_⟩
    refine (step_apply m c ⟨11 * r + 0, h⟩ _ _ (fun a k => norm_block m c _ a k) a d).trans ?_
    rw [Finset.sum_range_one, show (⟨11 * r + 0, h⟩ : Fin cfg0.N).val % 11 = 0 from (show (11 * r + 0) % 11 = 0 by omega)]
    exact congrArg (fun z : EReal => z + _) (x_apply m c ⟨11 * r + 0, h⟩ a d)
  | succ j ih =>
    intro hj h
    have h' : 11 * r + j < cfg0.N := Nat.lt_of_succ_lt h
    obtain ⟨i2, i1⟩ := ih (by omega) h'
    have ht : ∀ a, tokenAt ⟨11 * r + j, h'⟩ a = tokenAt ⟨11 * r + (j + 1), h⟩ a := fun a =>
      Fin.ext (show (11 * r + j) / 11 * 1024 + a.val = (11 * r + (j + 1)) / 11 * 1024 + a.val by
        rw [show (11 * r + j) / 11 = r by omega, show (11 * r + (j + 1)) / 11 = r by omega])
    have hB := outsAt0_B m c ⟨11 * r + (j + 1), h⟩ (show ¬(11 * r + (j + 1)) % 11 = 0 by omega)
    rw [out_next] at hB
    rw [hB]
    refine ⟨fun a k => (i2 a k).trans (by rw [ht]), fun a d => ?_⟩
    refine (step_apply m c ⟨11 * r + (j + 1), h⟩ _ _ (fun a k => (i2 a k).trans (by rw [ht])) a d).trans ?_
    rw [Finset.sum_range_succ, ← add_assoc (m0 m c (ix2 (tokenAt ⟨11 * r + (j + 1), h⟩ a) d)), show (⟨11 * r + (j + 1), h⟩ : Fin cfg0.N).val % 11 = j + 1 from (show (11 * r + (j + 1)) % 11 = j + 1 by omega)]
    exact congrArg (fun z : EReal => z + _) ((i1 a d).trans (by rw [ht]))

/-- The result's array at an element. -/
theorem result_apply (c : Dev nD) (n : Fin 32768) (d : Fin 2048) :
    (show EReal from G5 m c (ix2 n d)) = layer (m0 m c) (m1 m c) (m2 m c) (m3 m c) (m4 m c) n d := by
  have hn := n.isLt
  have hd := d.isLt
  have hp : pt5Of (ix2 n d) = 11 * (n.val / 1024) + 10 := by
    show 11 * (1 * (n.val / 1024 - 0) + 1 * (d.val / 2048 - 0)) + 10 = _
    rw [Nat.div_eq_of_lt hd]; omega
  have h : 11 * (n.val / 1024) + 10 < cfg0.N := lt_of_lt_of_eq (by omega) N_0.symm
  have h5 : pt5Of (ix2 n d) < cfg0.N := by rw [hp]; exact h
  have hl : loc5Of (ix2 n d) = (ix2 (⟨n.val % 1024, Nat.mod_lt _ (by norm_num)⟩ : Fin 1024) d : S1024x2048.Idx) := by
    funext b
    match b with
    | ⟨0, _⟩ => rfl
    | ⟨1, _⟩ => exact Fin.ext (Nat.mod_eq_of_lt hd)
  have ho : ∀ (p : ℕ) (hp : p < cfg0.N), p = 11 * (n.val / 1024) + 10 → outsAt0 m c p hp = outsAt0 m c (11 * (n.val / 1024) + 10) h := by
    intro p hp e; subst e; rfl
  have hg : G5 m c (ix2 n d) = (outsAt0 m c (11 * (n.val / 1024) + 10) h).1 (ix2 (⟨n.val % 1024, Nat.mod_lt _ (by norm_num)⟩ : Fin 1024) d) := by
    unfold G5
    rw [dif_pos h5, ← outsAt0_sweep m c (pt5Of (ix2 n d)) h5, hl, ho _ h5 hp]
  refine (congrArg (fun z => (show EReal from z)) hg).trans ?_
  refine ((after_block m c (n.val / 1024) 10 (by norm_num) h).2 _ d).trans ?_
  rw [layer_blocks, show tokenAt ⟨11 * (n.val / 1024) + 10, h⟩ (⟨n.val % 1024, Nat.mod_lt _ (by norm_num)⟩ : Fin 1024) = n from
    Fin.ext (show (11 * (n.val / 1024) + 10) / 11 * 1024 + n.val % 1024 = n.val by omega)]

end Cert.DenseIdeal.Hand

end
-- ==== Proof.ProjectionsSame.lean ====
/-
  The two projections' programs and their idealizations are one program each, no rewrite having been applied: their bodies, their
  tables and their mains are equal at every choice of floats.
-/
module

public import proofs.«01_k».proof.Outward
public import proofs.«01_k».proof.Proof.Gen.Outward
public import proofs.«01_k».proof.OutwardIdeal
public import proofs.«01_k».proof.Proof.Gen.OutwardIdeal
public import proofs.«01_k».proof.Inward
public import proofs.«01_k».proof.Proof.Gen.Inward
public import proofs.«01_k».proof.InwardIdeal
public import proofs.«01_k».proof.Proof.Gen.InwardIdeal

@[expose] public section

noncomputable section

namespace Cert.SameOutward

open Idealize.ShloMosaic Idealize.SL.Sem

variable {F : FTy → Type} [FloatOps F]

set_option maxHeartbeats 4000000 in
/-- The output projection's bodies, -/
theorem body_eq : Cert.Outward.cc0_out_proj (F := F) = Cert.OutwardIdeal.cc0_out_proj (F := F) := rfl

set_option maxHeartbeats 4000000 in
/-- the tables of bodies, -/
theorem rows_eq : Cert.Outward.defs₀ (F := F) = Cert.OutwardIdeal.defs₀ (F := F) := by
  unfold Cert.Outward.defs₀ Cert.OutwardIdeal.defs₀
  refine congrArg Defs.onTc ?_
  funext l x
  match l, x with
  | ⟨0, _⟩, (t, s) =>
    refine Eq.trans (b := Cert.Outward.cc0_out_proj (F := F) _ _ _ _ _ _ _ _ _ _ _) rfl ?_
    rw [body_eq]
    rfl

/-- the tables with the call's own rows, -/
theorem defs_eq : Cert.Outward.defs (F := F) = Cert.OutwardIdeal.defs (F := F) := by
  unfold Cert.Outward.defs Cert.OutwardIdeal.defs
  rw [rows_eq]
  rfl

set_option maxHeartbeats 4000000 in
/-- and the mains. -/
theorem main_eq : Cert.Outward.main (F := F) = Cert.OutwardIdeal.main (F := F) := rfl

end Cert.SameOutward

namespace Cert.SameInward

open Idealize.ShloMosaic Idealize.SL.Sem

variable {F : FTy → Type} [FloatOps F]

set_option maxHeartbeats 4000000 in
/-- The input projection's bodies, -/
theorem body_eq : Cert.Inward.cc0_rms_matmul (F := F) = Cert.InwardIdeal.cc0_rms_matmul (F := F) := rfl

set_option maxHeartbeats 4000000 in
/-- the tables of bodies, -/
theorem rows_eq : Cert.Inward.defs₀ (F := F) = Cert.InwardIdeal.defs₀ (F := F) := by
  unfold Cert.Inward.defs₀ Cert.InwardIdeal.defs₀
  refine congrArg Defs.onTc ?_
  funext l x
  match l, x with
  | ⟨0, _⟩, (t, s) =>
    refine Eq.trans (b := Cert.Inward.cc0_rms_matmul (F := F) _ _ _ _ _ _ _ _ _ _ _) rfl ?_
    rw [body_eq]
    rfl

/-- the tables with the call's own rows, -/
theorem defs_eq : Cert.Inward.defs (F := F) = Cert.InwardIdeal.defs (F := F) := by
  unfold Cert.Inward.defs Cert.InwardIdeal.defs
  rw [rows_eq]
  rfl

set_option maxHeartbeats 4000000 in
/-- and the mains. -/
theorem main_eq : Cert.Inward.main (F := F) = Cert.InwardIdeal.main (F := F) := rfl

end Cert.SameInward

end
-- ==== Proof.Projections.lean ====
/-
  The mathematics of two projections: a token's two mixed halves by the halves of the output weights, added to the residual, and
  its normalised row by the input weights.
-/
module

public import proofs.«01_k».proof.Proof.DenseMath

@[expose] public section

noncomputable section

namespace Cert.Proj

open Idealize.ShloMosaic Idealize.ShloMosaic.ValueIdx
open Cert.Mixing Cert.Ffn
open scoped BigOperators

/-- Position `k` of the first half of the weights' rows, -/
def low (k : Fin 1024) : Fin 2048 := ⟨k.val, by have := k.isLt; omega⟩
/-- and of the second. -/
def high (k : Fin 1024) : Fin 2048 := ⟨1024 + k.val, by have := k.isLt; omega⟩

/-- A sum over 2048 positions is the halves' sums. -/
theorem sum_halves (g : Fin 2048 → EReal) : ∑ k, g k = ∑ k, g (low k) + ∑ k, g (high k) :=
  Fin.sum_univ_add (a := 1024) (b := 1024) g

/-- The output projection on token `n`, element `d`, with the residual. -/
def outward (p q : (⟨2, ![32768, 1024]⟩ : Shape).Idx → EReal) (w : (⟨3, ![1, 2048, 2048]⟩ : Shape).Idx → EReal)
    (x : (⟨2, ![32768, 2048]⟩ : Shape).Idx → EReal) (n : Fin 32768) (d : Fin 2048) : EReal :=
  x (ix2 n d) + (∑ k : Fin 1024, p (ix2 n k) * w (ix3 0 (low k) d) + ∑ k : Fin 1024, q (ix2 n k) * w (ix3 0 (high k) d))

/-- The input projection of the normalised token `n`, column `e`. -/
def inward (x : (⟨2, ![32768, 2048]⟩ : Shape).Idx → EReal) (g : (⟨2, ![1, 2048]⟩ : Shape).Idx → EReal)
    (w : (⟨3, ![1, 2048, 4608]⟩ : Shape).Idx → EReal) (n : Fin 32768) (e : Fin 4608) : EReal :=
  ∑ k, row x g n k * w (ix3 0 k e)

end Cert.Proj

end
-- ==== Proof.OutwardValue.lean ====
/-
  The output projection's result, element by element: each point leaves its 512 tokens' rows.
-/
module

public import proofs.«01_k».proof.Proof.Projections
public import proofs.«01_k».proof.Proof.Gen.OutwardIdeal.Value

@[expose] public section

noncomputable section

namespace Cert.OutwardIdeal.Hand

open Cert.OutwardIdeal Cert.OutwardIdeal.Gen Cert.OutwardIdeal.Value
open Idealize.ShloMosaic
open Idealize.ShloMosaic.TcCoe Idealize.ShloMosaic.ValueIdx Idealize.ShloMosaic.Routing
open Idealize.SL.Sem
open Cert.Proj

theorem zeros : (![0, 0] : Fin 2 → Nat) = fun _ => 0 := funext fun a => by fin_cases a <;> rfl

/-! ## What a point leaves -/

/-- The block a point leaves is its payload of the blocks it loaded, the weights' taken in halves. -/
theorem out_eq {F : FTy → Type} [FloatOps F] (p q : Vec F S512x1024 .bf16) (w : Vec F S2048x2048 .bf16) (x : Vec F S512x2048 .f32) :
    out0_4 p q w x = k0_pay1 p (View.ld w r0_1) q (View.ld w r0_2) x := by
  unfold out0_4
  rw [View.canon_unit_zero zeros, View.ld_unit_zero (S := S512x1024) zeros _ p, View.ld_unit_zero (S := S512x1024) zeros _ q,
    View.ld_unit_zero (S := S512x2048) zeros _ x]

/-- At an index: the residual, and the halves' products. -/
theorem out_at (p q : Vec Ideal S512x1024 .bf16) (w : Vec Ideal S2048x2048 .bf16) (x : Vec Ideal S512x2048 .f32) (a : Fin 512) (d : Fin 2048) :
    (show EReal from out0_4 p q w x (ix2 a d)) = (show EReal from x (ix2 a d))
      + (∑ k : Fin 1024, (show EReal from p (ix2 a k)) * (show EReal from w (ix2 (low k) d))
        + ∑ k : Fin 1024, (show EReal from q (ix2 a k)) * (show EReal from w (ix2 (high k) d))) := by
  rw [out_eq]
  unfold k0_pay1
  simp only [shapeCast_self]
  have hp : ∀ (y : Vec Ideal S512x1024 .bf16) (v : Vec Ideal S1024x2048 .bf16), (show EReal from matmul dot_S512x1024_S1024x2048_S512x2048_1_0_0_1_n_n none y
      v (constant (F := Ideal) S512x2048 .f32 0x00000000#32) (ix2 a d)) = ∑ k, (show EReal from y (ix2 a k)) * (show EReal from v (ix2 k d)) := fun y v => by
    refine (Ideal.matmul_plain_apply (M := 512) (K := 1024) (N := 2048) none _ _ _ a d).trans ?_
    rw [show (constant (F := Ideal) S512x2048 .f32 0x00000000#32 (ix2 a d) : EReal) = 0 from Ideal.ofBits_zero_f32, zero_add]
  refine congrArg (fun z : EReal => (show EReal from x (ix2 a d)) + z) ?_
  refine congrArg₂ (fun u v : EReal => u + v) ((hp _ _).trans ?_) ((hp _ _).trans ?_)
  · refine Finset.sum_congr rfl fun k _ => congrArg (fun z : EReal => (show EReal from p (ix2 a k)) * z) (congrArg w ?_)
    funext b
    match b with
    | ⟨0, _⟩ => exact Fin.ext (show 0 + 1 * k.val = k.val by omega)
    | ⟨1, _⟩ => exact Fin.ext (show 0 + 1 * d.val = d.val by omega)
  · refine Finset.sum_congr rfl fun k _ => congrArg (fun z : EReal => (show EReal from q (ix2 a k)) * z) (congrArg w ?_)
    funext b
    match b with
    | ⟨0, _⟩ => exact Fin.ext (show 1024 + 1 * k.val = 1024 + k.val by omega)
    | ⟨1, _⟩ => exact Fin.ext (show 0 + 1 * d.val = d.val by omega)

/-! ## The arrays -/

variable (m : (ℓ : Loc nD τ sig) → Buf (Elt Ideal) ℓ)

abbrev m0 (c : Dev nD) : S32768x1024.Idx → EReal := m ((c.tc : Thread nD τ).loc main_arg0)
abbrev m1 (c : Dev nD) : S32768x1024.Idx → EReal := m ((c.tc : Thread nD τ).loc main_arg1)
abbrev m2 (c : Dev nD) : S1x2048x2048.Idx → EReal := m ((c.tc : Thread nD τ).loc main_arg2)
abbrev m3 (c : Dev nD) : S32768x2048.Idx → EReal := m ((c.tc : Thread nD τ).loc main_arg3)

theorem V_weights (c : Dev nD) (k d : Fin 2048) : (show EReal from V m c main_v1 (ix2 k d)) = m2 m c (ix3 0 k d) := by
  have h : V m c main_v1 = fun i => shapeCast S2048x2048 (m2 m c) shapeCasts_S1x2048x2048_S2048x2048 i := by
    unfold V hostOps0
    after_results_simp <;> rfl
  rw [h]
  exact shapeCast_1ab_ab_apply (m2 m c) shapeCasts_S1x2048x2048_S2048x2048 k d

/-! ## The blocks -/

theorem lt64 (t : Fin cfg0.N) : t.val < 64 := lt_of_lt_of_eq t.isLt N_0

/-- Row `a` of a point's token block, among all tokens. -/
def tokenAt (t : Fin cfg0.N) (a : Fin 512) : Fin 32768 := ⟨t.val * 512 + a.val, by have := a.isLt; have := lt64 t; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem flushes : ∀ t : Fin cfg0.N, (cfg0.win 4).flush t = true :=
  (by decide +kernel : ∀ t : Fin grid0.N, win0_4.flush t = true)

theorem p_apply (c : Dev nD) (t : Fin cfg0.N) (a : Fin 512) (k : Fin 1024) :
    (show EReal from iblk m c (0 : Fin 5) t (ix2 a k)) = m0 m c (ix2 (tokenAt t a) k) := by
  have e : ((cfg0.win (0 : Fin 5)).blk t).view.emb (ix2 a k) = (ix2 (tokenAt t a) k : S32768x1024.Idx) := by
    funext b
    match b with
    | ⟨0, _⟩ => exact Fin.ext ((Pipeline.Window.rect_emb_val (cfg0.win (0 : Fin 5)) t (ix2 a k) (0 : Fin 2)).trans (congrArg (fun n => n * 512 + a.val) (idx0 t).1))
    | ⟨1, _⟩ => exact Fin.ext ((Pipeline.Window.rect_emb_val (cfg0.win (0 : Fin 5)) t (ix2 a k) (1 : Fin 2)).trans ((congrArg (fun n => n * 1024 + k.val) (idx0 t).2).trans (by rw [Nat.zero_mul, Nat.zero_add])))
  refine (show _ = (show EReal from V m c main_arg0 (((cfg0.win (0 : Fin 5)).blk t).view.emb (ix2 a k))) from rfl).trans ?_
  rw [e, V_main_arg0]

theorem q_apply (c : Dev nD) (t : Fin cfg0.N) (a : Fin 512) (k : Fin 1024) :
    (show EReal from iblk m c (1 : Fin 5) t (ix2 a k)) = m1 m c (ix2 (tokenAt t a) k) := by
  have e : ((cfg0.win (1 : Fin 5)).blk t).view.emb (ix2 a k) = (ix2 (tokenAt t a) k : S32768x1024.Idx) := by
    funext b
    match b with
    | ⟨0, _⟩ => exact Fin.ext ((Pipeline.Window.rect_emb_val (cfg0.win (1 : Fin 5)) t (ix2 a k) (0 : Fin 2)).trans (congrArg (fun n => n * 512 + a.val) (idx1 t).1))
    | ⟨1, _⟩ => exact Fin.ext ((Pipeline.Window.rect_emb_val (cfg0.win (1 : Fin 5)) t (ix2 a k) (1 : Fin 2)).trans ((congrArg (fun n => n * 1024 + k.val) (idx1 t).2).trans (by rw [Nat.zero_mul, Nat.zero_add])))
  refine (show _ = (show EReal from V m c main_arg1 (((cfg0.win (1 : Fin 5)).blk t).view.emb (ix2 a k))) from rfl).trans ?_
  rw [e, V_main_arg1]

theorem w_apply (c : Dev nD) (t : Fin cfg0.N) (k d : Fin 2048) :
    (show EReal from iblk m c (2 : Fin 5) t (ix2 k d)) = m2 m c (ix3 0 k d) := by
  refine Eq.trans ?_ (V_weights m c k d)
  refine congrArg (V m c main_v1) ?_
  funext b
  match b with
  | ⟨0, _⟩ => exact Fin.ext ((Pipeline.Window.rect_emb_val (cfg0.win (2 : Fin 5)) t (ix2 k d) (0 : Fin 2)).trans ((congrArg (fun n => n * 2048 + k.val) (idx2 t).1).trans (by rw [Nat.zero_mul, Nat.zero_add])))
  | ⟨1, _⟩ => exact Fin.ext ((Pipeline.Window.rect_emb_val (cfg0.win (2 : Fin 5)) t (ix2 k d) (1 : Fin 2)).trans ((congrArg (fun n => n * 2048 + d.val) (idx2 t).2).trans (by rw [Nat.zero_mul, Nat.zero_add])))

theorem x_apply (c : Dev nD) (t : Fin cfg0.N) (a : Fin 512) (d : Fin 2048) :
    (show EReal from iblk m c (3 : Fin 5) t (ix2 a d)) = m3 m c (ix2 (tokenAt t a) d) := by
  have e : ((cfg0.win (3 : Fin 5)).blk t).view.emb (ix2 a d) = (ix2 (tokenAt t a) d : S32768x2048.Idx) := by
    funext b
    match b with
    | ⟨0, _⟩ => exact Fin.ext ((Pipeline.Window.rect_emb_val (cfg0.win (3 : Fin 5)) t (ix2 a d) (0 : Fin 2)).trans (congrArg (fun n => n * 512 + a.val) (idx3 t).1))
    | ⟨1, _⟩ => exact Fin.ext ((Pipeline.Window.rect_emb_val (cfg0.win (3 : Fin 5)) t (ix2 a d) (1 : Fin 2)).trans ((congrArg (fun n => n * 2048 + d.val) (idx3 t).2).trans (by rw [Nat.zero_mul, Nat.zero_add])))
  refine (show _ = (show EReal from V m c main_arg3 (((cfg0.win (3 : Fin 5)).blk t).view.emb (ix2 a d))) from rfl).trans ?_
  rw [e, V_main_arg3]

theorem emb_out (t : Fin cfg0.N) (a : Fin 512) (d : Fin 2048) :
    ((cfg0.win (4 : Fin 5)).blk t).view.emb (ix2 a d) = (ix2 (tokenAt t a) d : S32768x2048.Idx) := by
  funext b
  match b with
  | ⟨0, _⟩ => exact Fin.ext ((Pipeline.Window.rect_emb_val (cfg0.win (4 : Fin 5)) t (ix2 a d) (0 : Fin 2)).trans (congrArg (fun n => n * 512 + a.val) (idx4 t).1))
  | ⟨1, _⟩ => exact Fin.ext ((Pipeline.Window.rect_emb_val (cfg0.win (4 : Fin 5)) t (ix2 a d) (1 : Fin 2)).trans ((congrArg (fun n => n * 2048 + d.val) (idx4 t).2).trans (by rw [Nat.zero_mul, Nat.zero_add])))

/-! ## The result's array -/

/-- The array after the run. -/
abbrev result (c : Dev nD) : Buf (Elt Ideal) ((c : Thread nD τ).loc main_v2) := (dats m 0 c).arrAt 4 cfg0.N

/-- A point's block of the result. -/
theorem block_apply (c : Dev nD) (t : Fin cfg0.N) (a : Fin 512) (d : Fin 2048) :
    (show EReal from result m c (ix2 (tokenAt t a) d)) = outward (m0 m c) (m1 m c) (m2 m c) (m3 m c) (tokenAt t a) d := by
  have hb := congrFun ((blocks4 m c t (flushes t)).trans (flushed4 m c t)) (ix2 a d)
  have hl : (show EReal from result m c (((cfg0.win (4 : Fin 5)).blk t).view.emb (ix2 a d)))
      = (show EReal from out0_4 (iblk m c 0 t) (iblk m c 1 t) (iblk m c 2 t) (iblk m c 3 t) (ix2 a d)) := hb
  rw [emb_out] at hl
  refine hl.trans ((out_at _ _ _ _ a d).trans ?_)
  unfold outward
  refine congrArg₂ (fun u v : EReal => u + v) (x_apply m c t a d) (congrArg₂ (fun u v : EReal => u + v) ?_ ?_)
  · exact Finset.sum_congr rfl fun k _ => congrArg₂ (fun u v : EReal => u * v) (p_apply m c t a k) (w_apply m c t (low k) d)
  · exact Finset.sum_congr rfl fun k _ => congrArg₂ (fun u v : EReal => u * v) (q_apply m c t a k) (w_apply m c t (high k) d)

/-- The result's array at an element. -/
theorem result_apply (c : Dev nD) (n : Fin 32768) (d : Fin 2048) :
    (show EReal from result m c (ix2 n d)) = outward (m0 m c) (m1 m c) (m2 m c) (m3 m c) n d := by
  have hn := n.isLt
  have h : n.val / 512 < cfg0.N := lt_of_lt_of_eq (by omega) N_0.symm
  have ht : tokenAt ⟨n.val / 512, h⟩ (⟨n.val % 512, Nat.mod_lt _ (by norm_num)⟩ : Fin 512) = n :=
    Fin.ext (show n.val / 512 * 512 + n.val % 512 = n.val by omega)
  have k := block_apply m c ⟨n.val / 512, h⟩ (⟨n.val % 512, Nat.mod_lt _ (by norm_num)⟩ : Fin 512) d
  rw [ht] at k
  exact k

end Cert.OutwardIdeal.Hand

end
-- ==== Proof.MixedValue.lean ====
/-
  The output projection's reference, element by element.
-/
module

public import proofs.«01_k».proof.Proof.Projections
public import proofs.«01_k».proof.Proof.Gen.MixedIdeal.Run

@[expose] public section

noncomputable section

namespace Cert.MixedIdeal.Hand

open Cert.MixedIdeal Cert.MixedIdeal.Gen Cert.MixedIdeal.Value
open Idealize.ShloMosaic Idealize.ShloMosaic.TcCoe Idealize.ShloMosaic.ValueIdx Idealize.ShloMosaic.Routing
open Idealize.ShloMosaic.StableHlo
open Cert.Proj

/-- The two mixed halves side by side, -/
abbrev both (p q : FVec Ideal S32768x1024 .bf16) : FVec Ideal S32768x2048 .bf16 :=
  concatenate S32768x2048 1 [⟨S32768x1024, p⟩, ⟨S32768x1024, q⟩] concatenates_S32768x1024_S32768x1024_S32768x2048_d1

/-- and their product by the weights, added to the residual. -/
abbrev out (p q : FVec Ideal S32768x1024 .bf16) (w : FVec Ideal S1x2048x2048 .f32) (x : FVec Ideal S32768x2048 .f32) : FVec Ideal S32768x2048 .f32 :=
  addf x (Host.dotGeneral dot_S32768x2048_S2048x2048_S32768x2048_1_0_0_1_n_n none (both p q) (shapeCast S2048x2048 w shapeCasts_S1x2048x2048_S2048x2048))

theorem both_low (p q : FVec Ideal S32768x1024 .bf16) (n : Fin 32768) (k : Fin 1024) :
    (show EReal from both p q (ix2 n (low k))) = (show EReal from p (ix2 n k)) :=
  concatenate_pair_apply_left (t := S32768x2048) (1 : Fin 2) p q concatenates_S32768x1024_S32768x1024_S32768x2048_d1 (ix2 n (low k)) rfl (ix2 n k)
    (fun b => by match b with | ⟨0, _⟩ => rfl | ⟨1, _⟩ => rfl)

theorem both_high (p q : FVec Ideal S32768x1024 .bf16) (n : Fin 32768) (k : Fin 1024) :
    (show EReal from both p q (ix2 n (high k))) = (show EReal from q (ix2 n k)) :=
  concatenate_pair_apply_right (t := S32768x2048) (1 : Fin 2) p q concatenates_S32768x1024_S32768x1024_S32768x2048_d1 (ix2 n (high k)) rfl rfl (ix2 n k)
    (fun b hb => by match b with | ⟨0, _⟩ => rfl | ⟨1, _⟩ => exact absurd rfl hb)
    (show k.val + 1024 = 1024 + k.val from Nat.add_comm _ _)

theorem out_apply (p q : FVec Ideal S32768x1024 .bf16) (w : FVec Ideal S1x2048x2048 .f32) (x : FVec Ideal S32768x2048 .f32)
    (n : Fin 32768) (d : Fin 2048) : (show EReal from out p q w x (ix2 n d)) = outward p q w x n d := by
  unfold outward
  refine congrArg (fun z : EReal => (show EReal from x (ix2 n d)) + z) ?_
  refine (StackMember.dotGeneral_plain_apply (m := 32768) (n := 2048) (k := 2048) none _ _ n d).trans ((sum_halves _).trans ?_)
  refine congrArg₂ (fun u v : EReal => u + v) ?_ ?_
  · exact Finset.sum_congr rfl fun k _ => congrArg₂ (fun u v : EReal => u * v) (both_low p q n k)
      (shapeCast_1ab_ab_apply w shapeCasts_S1x2048x2048_S2048x2048 (low k) d)
  · exact Finset.sum_congr rfl fun k _ => congrArg₂ (fun u v : EReal => u * v) (both_high p q n k)
      (shapeCast_1ab_ab_apply w shapeCasts_S1x2048x2048_S2048x2048 (high k) d)

variable (m : (ℓ : Loc nD τ sig) → Buf (Elt Ideal) ℓ)

abbrev a0 (c : Dev nD) : S32768x1024.Idx → EReal := m ((c.tc : Thread nD τ).loc main_arg0)
abbrev a1 (c : Dev nD) : S32768x1024.Idx → EReal := m ((c.tc : Thread nD τ).loc main_arg1)
abbrev a2 (c : Dev nD) : S1x2048x2048.Idx → EReal := m ((c.tc : Thread nD τ).loc main_arg2)
abbrev a3 (c : Dev nD) : S32768x2048.Idx → EReal := m ((c.tc : Thread nD τ).loc main_arg3)

end Cert.MixedIdeal.Hand

end
-- ==== Proof.InwardPoint.lean ====
/-
  What one point of the input projection leaves: the body's stores in their two cases read back as the payloads of the blocks it
  loaded.
-/
module

public import proofs.«01_k».proof.Proof.Gen.InwardIdeal.Frame
public import Idealize.ShloMosaic.Lib.Pipeline.Value
public import Idealize.ShloMosaic.Lib.Tactic

@[expose] public section

noncomputable section

namespace Cert.InwardIdeal.Hand

open Cert.InwardIdeal Cert.InwardIdeal.Gen
open Idealize.ShloMosaic Idealize.ShloMosaic.TcCoe Idealize.SL.Sem

variable {F : FTy → Type} [FloatOps F]

theorem zeros : (![0, 0] : Fin 2 → Nat) = fun _ => 0 := funext fun a => by fin_cases a <;> rfl

section Cases

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x1536 .bf16) (harg4 : arg4.IsWhole)
  (arg5 : Memref sig .tc .vmem S1024x1536 .bf16) (harg5 : arg5.IsWhole) (arg6 : Memref sig .tc .vmem S1024x2048 .bf16) (harg6 : arg6.IsWhole)
  (x0 : Vec F S1024x2048 .f32) (x1 : Vec F S1x2048 .f32) (x2 : Vec F S2048x1536 .bf16)

/-- At a token block's first point the scratch ends with the normalised rows, -/
theorem scratch_first (hc0 : cond0_0 i) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zeros]
  simp only [View.readAt_eq_ld, harg2.read_unread, harg3.read_unread, View.ld_unit_zero (S := S1024x2048) zeros, View.ld_unit_zero (S := S1x2048) zeros]

/-- and the result's block with their product by the weights' columns; -/
theorem out_first (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero zeros]
  simp only [View.readCov_unit_zero (S := S1024x2048) _ zeros]
  simp only [View.readAt_eq_ld, harg2.read_unread, harg3.read_unread, harg4.read_unread,
    View.ld_unit_zero (S := S1024x2048) zeros, View.ld_unit_zero (S := S1x2048) zeros, View.ld_unit_zero (S := S2048x1536) zeros]

/-- at the others the scratch's rows are multiplied. -/
theorem out_next (hc0 : ¬cond0_0 i) (xs : Vec F S1024x2048 .bf16) :
    out0_B_3 c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  rw [View.canon_unit_zero zeros]
  simp only [View.readAt_eq_ld, harg4.read_unread, harg6.read_unread,
    View.ld_unit_zero (S := S1024x2048) zeros, View.ld_unit_zero (S := S2048x1536) zeros]

end Cases

end Cert.InwardIdeal.Hand

end
-- ==== Proof.InwardValue.lean ====
/-
  The input projection's result, element by element: each point leaves its token block's columns of the projection.
-/
module

public import proofs.«01_k».proof.Proof.Projections
public import proofs.«01_k».proof.Proof.InwardPoint
public import proofs.«01_k».proof.Proof.Gen.InwardIdeal.Frame
public import Idealize.ShloMosaic.Lib.Pipeline.Value

@[expose] public section

noncomputable section

namespace Cert.InwardIdeal.Hand

open Cert.InwardIdeal Cert.InwardIdeal.Gen
open Idealize.ShloMosaic
open Idealize.ShloMosaic.TcCoe Idealize.ShloMosaic.ValueIdx Idealize.ShloMosaic.Routing
open Idealize.SL.Sem
open Cert.Swiglu Cert.Mixing Cert.Ffn Cert.Proj

/-! ## The payloads at an index -/

/-- The normalised block at an index. -/
theorem pay1_apply (y : Vec Ideal S1024x2048 .f32) (G : Vec Ideal S1x2048 .f32) (a : Fin 1024) (d : Fin 2048) :
    (show EReal from k0_pay1 y G (ix2 a d)) = normed (fun k => y (ix2 a k)) (G (ix2 0 d)) d := by
  unfold k0_pay1 normed
  simp only [shapeCast_self]
  refine congrArg₂ (fun u v : EReal => u * v) (congrArg (fun v : EReal => (show EReal from y (ix2 a d)) * v) ?_) ?_
  · refine (col_spread (a := 1024) (b := 2048) _ broadcasts_S1024x1_S1024x2048 a d).trans ?_
    refine congrArg Ideal.rsqrt (congrArg₂ (fun u v : EReal => u + v) (congrArg₂ Ideal.div ?_ rfl) rfl)
    refine (cast12 (a := 1024) (b := 1) (n := 1024) _ shapeCasts_S1024_S1024x1 a (0 : Fin 1) a (by simp)).trans ?_
    refine (Ideal.multiReduction_add_single _ _ reduces_S1024x2048_S1024 (.inl rfl) rfl (ix1 a)).trans ?_
    refine Finset.sum_congr rfl fun k _ => ?_
    exact congrArg (fun j => (show EReal from y j) * (show EReal from y j)) (lift_row _ a k)
  · exact broadcastTo_1b_ab_apply (a := 1024) (b := 2048) G broadcasts_S1x2048_S1024x2048 a d

/-- The product block at an index. -/
theorem pay2_apply (x : Vec Ideal S1024x2048 .bf16) (w : Vec Ideal S2048x1536 .bf16) (a : Fin 1024) (f : Fin 1536) :
    (show EReal from k0_pay2 x w (ix2 a f)) = ∑ k, (show EReal from x (ix2 a k)) * (show EReal from w (ix2 k f)) := by
  unfold k0_pay2
  simp only [shapeCast_self]
  refine (show _ = (show EReal from matmul (φ₁ := .bf16) (φ₂ := .bf16) dot_S1024x2048_S2048x1536_S1024x1536_1_0_0_1_n_n none x w
    (constant (F := Ideal) S1024x1536 .f32 0x00000000#32) (ix2 a f)) from rfl).trans ?_
  refine (Ideal.matmul_plain_apply (M := 1024) (K := 2048) (N := 1536) (φ₁ := .bf16) (φ₂ := .bf16) none x w _ a f).trans ?_
  rw [show (constant (F := Ideal) S1024x1536 .f32 0x00000000#32 (ix2 a f) : EReal) = 0 from Ideal.ofBits_zero_f32, zero_add]

/-! ## The arrays -/

variable (m : (ℓ : Loc nD τ sig) → Buf (Elt Ideal) ℓ)

abbrev m0 (c : Dev nD) : S32768x2048.Idx → EReal := m ((c.tc : Thread nD τ).loc main_arg0)
abbrev m1 (c : Dev nD) : S1x2048.Idx → EReal := m ((c.tc : Thread nD τ).loc main_arg1)
abbrev m2 (c : Dev nD) : S1x2048x4608.Idx → EReal := m ((c.tc : Thread nD τ).loc main_arg2)

theorem V_gain (c : Dev nD) (k : Fin 2048) : (show EReal from V m c main_v1 (ix2 (0 : Fin 1) k)) = m1 m c (ix2 0 k) := by
  have h : V m c main_v1 = fun i => shapeCast S1x2048 (shapeCast S2048 (m1 m c) shapeCasts_S1x2048_S2048) shapeCasts_S2048_S1x2048 i := by
    unfold V hostOps0
    after_results_simp <;> rfl
  rw [h]
  exact (shapeCast_a_1a_apply (a := 2048) _ shapeCasts_S2048_S1x2048 (0 : Fin 1) k).trans
    (shapeCast_1a_a_apply (a := 2048) (m1 m c) shapeCasts_S1x2048_S2048 k)
theorem V_weights (c : Dev nD) (k : Fin 2048) (e : Fin 4608) : (show EReal from V m c main_v3 (ix2 k e)) = m2 m c (ix3 0 k e) := by
  have h : V m c main_v3 = fun i => shapeCast S2048x4608 (m2 m c) shapeCasts_S1x2048x4608_S2048x4608 i := by
    unfold V hostOps0
    after_results_simp <;> rfl
  rw [h]
  exact shapeCast_1ab_ab_apply (m2 m c) shapeCasts_S1x2048x4608_S2048x4608 k e

/-! ## The blocks -/

theorem lt96 (t : Fin cfg0.N) : t.val < 96 := lt_of_lt_of_eq t.isLt N_0

theorem idx0 : ∀ t : Fin cfg0.N, win0_0.index t (0 : Fin 2) = t.val / 3 ∧ win0_0.index t (1 : Fin 2) = 0 :=
  (by decide +kernel : ∀ t : Fin grid0.N, win0_0.index t (0 : Fin 2) = t.val / 3 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx3 : ∀ t : Fin cfg0.N, win0_3.index t (0 : Fin 2) = t.val / 3 ∧ win0_3.index t (1 : Fin 2) = t.val % 3 :=
  (by decide +kernel : ∀ t : Fin grid0.N, win0_3.index t (0 : Fin 2) = t.val / 3 ∧ win0_3.index t (1 : Fin 2) = t.val % 3)
theorem flushes : ∀ t : Fin cfg0.N, (cfg0.win 3).flush t = true :=
  (by decide +kernel : ∀ t : Fin grid0.N, win0_3.flush t = true)
theorem idx2 : ∀ t : Fin cfg0.N, win0_2.index t (0 : Fin 2) = 0 ∧ win0_2.index t (1 : Fin 2) = t.val % 3 :=
  (by decide +kernel : ∀ t : Fin grid0.N, win0_2.index t (0 : Fin 2) = 0 ∧ win0_2.index t (1 : Fin 2) = t.val % 3)

/-- Row `a` of a point's token block, among all tokens, -/
def tokenAt (t : Fin cfg0.N) (a : Fin 1024) : Fin 32768 := ⟨t.val / 3 * 1024 + a.val, by have := a.isLt; have := lt96 t; omega⟩
/-- and column `f` of its column block, among all columns. -/
def columnAt (t : Fin cfg0.N) (f : Fin 1536) : Fin 4608 := ⟨t.val % 3 * 1536 + f.val, by have := f.isLt; omega⟩

theorem x_apply (c : Dev nD) (t : Fin cfg0.N) (a : Fin 1024) (k : Fin 2048) :
    (show EReal from iblk m c (0 : Fin 4) t (ix2 a k)) = m0 m c (ix2 (tokenAt t a) k) := by
  have e : ((cfg0.win (0 : Fin 4)).blk t).view.emb (ix2 a k) = (ix2 (tokenAt t a) k : S32768x2048.Idx) := by
    funext b
    match b with
    | ⟨0, _⟩ => exact Fin.ext ((Pipeline.Window.rect_emb_val (cfg0.win (0 : Fin 4)) t (ix2 a k) (0 : Fin 2)).trans (congrArg (fun n => n * 1024 + a.val) (idx0 t).1))
    | ⟨1, _⟩ => exact Fin.ext ((Pipeline.Window.rect_emb_val (cfg0.win (0 : Fin 4)) t (ix2 a k) (1 : Fin 2)).trans ((congrArg (fun n => n * 2048 + k.val) (idx0 t).2).trans (by rw [Nat.zero_mul, Nat.zero_add])))
  refine (show _ = (show EReal from V m c main_arg0 (((cfg0.win (0 : Fin 4)).blk t).view.emb (ix2 a k))) from rfl).trans ?_
  rw [e, V_main_arg0]

theorem gain_apply (c : Dev nD) (t : Fin cfg0.N) (d : Fin 2048) :
    (show EReal from iblk m c (1 : Fin 4) t (ix2 (0 : Fin 1) d)) = m1 m c (ix2 0 d) := by
  refine Eq.trans ?_ (V_gain m c d)
  refine congrArg (V m c main_v1) ?_
  funext b
  match b with
  | ⟨0, _⟩ => exact Fin.ext ((Pipeline.Window.rect_emb_val (cfg0.win (1 : Fin 4)) t (ix2 (0 : Fin 1) d) (0 : Fin 2)).trans (congrArg (fun n => n * 1 + 0) (idx1 t).1))
  | ⟨1, _⟩ => exact Fin.ext ((Pipeline.Window.rect_emb_val (cfg0.win (1 : Fin 4)) t (ix2 (0 : Fin 1) d) (1 : Fin 2)).trans ((congrArg (fun n => n * 2048 + d.val) (idx1 t).2).trans (by rw [Nat.zero_mul, Nat.zero_add])))

theorem w_apply (c : Dev nD) (t : Fin cfg0.N) (k : Fin 2048) (f : Fin 1536) :
    (show EReal from iblk m c (2 : Fin 4) t (ix2 k f)) = m2 m c (ix3 0 k (columnAt t f)) := by
  refine Eq.trans ?_ (V_weights m c k (columnAt t f))
  refine congrArg (V m c main_v3) ?_
  funext b
  match b with
  | ⟨0, _⟩ => exact Fin.ext ((Pipeline.Window.rect_emb_val (cfg0.win (2 : Fin 4)) t (ix2 k f) (0 : Fin 2)).trans ((congrArg (fun n => n * 2048 + k.val) (idx2 t).1).trans (by rw [Nat.zero_mul, Nat.zero_add])))
  | ⟨1, _⟩ => exact Fin.ext ((Pipeline.Window.rect_emb_val (cfg0.win (2 : Fin 4)) t (ix2 k f) (1 : Fin 2)).trans (congrArg (fun n => n * 1536 + f.val) (idx2 t).2))

/-! ## The result's block after a point -/

/-- A point multiplies rows whose normalised form it is given. -/
theorem step_apply (c : Dev nD) (t : Fin cfg0.N) (x : Vec Ideal S1024x2048 .bf16)
    (hx : ∀ (a : Fin 1024) (k : Fin 2048), (show EReal from x (ix2 a k)) = row (m0 m c) (m1 m c) (tokenAt t a) k) (a : Fin 1024) (f : Fin 1536) :
    (show EReal from k0_pay2 x (iblk m c 2 t) (ix2 a f)) = inward (m0 m c) (m1 m c) (m2 m c) (tokenAt t a) (columnAt t f) :=
  (pay2_apply x _ a f).trans (Finset.sum_congr rfl fun k _ => congrArg₂ (fun u v : EReal => u * v) (hx a k) (w_apply m c t k f))

/-- The normalised rows a token block's first point leaves in the scratch. -/
theorem norm_block (c : Dev nD) (t : Fin cfg0.N) (a : Fin 1024) (k : Fin 2048) :
    (show EReal from k0_pay1 (F := Ideal) (iblk m c 0 t) (iblk m c 1 t) (ix2 a k)) = row (m0 m c) (m1 m c) (tokenAt t a) k := by
  refine (pay1_apply (iblk m c 0 t) (iblk m c 1 t) a k).trans ?_
  unfold row
  have h1 : (fun l => (show EReal from iblk m c (0 : Fin 4) t (ix2 a l))) = fun l => m0 m c (ix2 (tokenAt t a) l) := funext fun l => x_apply m c t a l
  exact congrArg₂ (fun u v => normed u v k) h1 (gain_apply m c t k)

/-- After column block `j` of token block `r` the scratch holds the normalised rows, and the result's block their projection. -/
theorem after_block (c : Dev nD) (r : ℕ) : ∀ (j : ℕ), j < 3 → ∀ (h : 3 * r + j < cfg0.N),
    (∀ (a : Fin 1024) (k : Fin 2048), (show EReal from (outsAt0 m c (3 * r + j) h).2 (ix2 a k)) = row (m0 m c) (m1 m c) (tokenAt ⟨3 * r + j, h⟩ a) k)
    ∧ ∀ (a : Fin 1024) (f : Fin 1536), (show EReal from (outsAt0 m c (3 * r + j) h).1 (ix2 a f))
        = inward (m0 m c) (m1 m c) (m2 m c) (tokenAt ⟨3 * r + j, h⟩ a) (columnAt ⟨3 * r + j, h⟩ f) := by
  intro j
  induction j with
  | zero =>
    intro hj h
    have hA := outsAt0_A m c ⟨3 * r + 0, h⟩ (show (3 * r + 0) % 3 = 0 by omega)
    rw [out_first, scratch_first] at hA
    rw [hA]
    exact ⟨fun a k => norm_block m c _ a k, fun a f => step_apply m c ⟨3 * r + 0, h⟩ _ (fun a k => norm_block m c _ a k) a f⟩
  | succ j ih =>
    intro hj h
    have h' : 3 * r + j < cfg0.N := Nat.lt_of_succ_lt h
    obtain ⟨i2, -⟩ := ih (by omega) h'
    have ht : ∀ a, tokenAt ⟨3 * r + j, h'⟩ a = tokenAt ⟨3 * r + (j + 1), h⟩ a := fun a =>
      Fin.ext (show (3 * r + j) / 3 * 1024 + a.val = (3 * r + (j + 1)) / 3 * 1024 + a.val by
        rw [show (3 * r + j) / 3 = r by omega, show (3 * r + (j + 1)) / 3 = r by omega])
    have hB := outsAt0_B m c ⟨3 * r + (j + 1), h⟩ (show ¬(3 * r + (j + 1)) % 3 = 0 by omega)
    rw [out_next] at hB
    rw [hB]
    exact ⟨fun a k => (i2 a k).trans (by rw [ht]),
      fun a f => step_apply m c ⟨3 * r + (j + 1), h⟩ _ (fun a k => (i2 a k).trans (by rw [ht])) a f⟩

/-! ## The result's array -/

/-- The array after the run. -/
abbrev result (c : Dev nD) : Buf (Elt Ideal) ((c : Thread nD τ).loc main_v4) := (dats m 0 c).arrAt 3 cfg0.N

/-- Two points that leave one block are one point, -/
theorem same_point (t t' : Fin cfg0.N) (h : win0_3.index t = win0_3.index t') : t = t' := by
  have h0 : t.val / 3 = t'.val / 3 := (idx3 t).1.symm.trans ((congrFun h (0 : Fin 2)).trans (idx3 t').1)
  have h1 : t.val % 3 = t'.val % 3 := (idx3 t).2.symm.trans ((congrFun h (1 : Fin 2)).trans (idx3 t').2)
  exact Fin.ext (by omega)

/-- so a point's block of the result is what it leaves. -/
theorem block_read (c : Dev nD) (t : Fin cfg0.N) :
    ((cfg0.win 3).blk t).view.read (Elt Ideal) (result m c) = (cfg0.win 3).cut (grid0.coords t) ((outsAt0 m c t.val t.isLt).1) := by
  refine ((dats m 0 c).read_blk_arrAt_eq_flushed 3
    (fun t t' _ _ hne => (cfg0.win 3).disjoint_blk fun h => hne (same_point t t' h)) cfg0.N t t.isLt (flushes t)).trans ?_
  refine (show _ = (cfg0.win 3).cut (grid0.coords t) ((dats m 0 c).after 3 t) from rfl).trans ?_
  rw [after0_3]

theorem emb_out (t : Fin cfg0.N) (a : Fin 1024) (f : Fin 1536) :
    ((cfg0.win (3 : Fin 4)).blk t).view.emb (ix2 a f) = (ix2 (tokenAt t a) (columnAt t f) : S32768x4608.Idx) := by
  funext b
  match b with
  | ⟨0, _⟩ => exact Fin.ext ((Pipeline.Window.rect_emb_val (cfg0.win (3 : Fin 4)) t (ix2 a f) (0 : Fin 2)).trans (congrArg (fun n => n * 1024 + a.val) (idx3 t).1))
  | ⟨1, _⟩ => exact Fin.ext ((Pipeline.Window.rect_emb_val (cfg0.win (3 : Fin 4)) t (ix2 a f) (1 : Fin 2)).trans (congrArg (fun n => n * 1536 + f.val) (idx3 t).2))

/-- A point's block of the result, at an index. -/
theorem block_apply (c : Dev nD) (r j : ℕ) (hj : j < 3) (h : 3 * r + j < cfg0.N) (a : Fin 1024) (f : Fin 1536) :
    (show EReal from result m c (ix2 (tokenAt ⟨3 * r + j, h⟩ a) (columnAt ⟨3 * r + j, h⟩ f)))
      = inward (m0 m c) (m1 m c) (m2 m c) (tokenAt ⟨3 * r + j, h⟩ a) (columnAt ⟨3 * r + j, h⟩ f) := by
  have hb := congrFun (block_read m c ⟨3 * r + j, h⟩) (ix2 a f)
  have hl : (show EReal from result m c (((cfg0.win (3 : Fin 4)).blk ⟨3 * r + j, h⟩).view.emb (ix2 a f)))
      = (show EReal from (outsAt0 m c (3 * r + j) h).1 (ix2 a f)) := hb
  rw [emb_out] at hl
  exact hl.trans ((after_block m c r j hj h).2 a f)

/-- The result's array at an element. -/
theorem result_apply (c : Dev nD) (n : Fin 32768) (e : Fin 4608) :
    (show EReal from result m c (ix2 n e)) = inward (m0 m c) (m1 m c) (m2 m c) n e := by
  have hn := n.isLt
  have he := e.isLt
  have hj : e.val / 1536 < 3 := by omega
  have h : 3 * (n.val / 1024) + e.val / 1536 < cfg0.N := lt_of_lt_of_eq (by omega) N_0.symm
  have k := block_apply m c (n.val / 1024) (e.val / 1536) hj h (⟨n.val % 1024, Nat.mod_lt _ (by norm_num)⟩ : Fin 1024)
    (⟨e.val % 1536, Nat.mod_lt _ (by norm_num)⟩ : Fin 1536)
  rw [show tokenAt ⟨3 * (n.val / 1024) + e.val / 1536, h⟩ (⟨n.val % 1024, Nat.mod_lt _ (by norm_num)⟩ : Fin 1024) = n from
      Fin.ext (show (3 * (n.val / 1024) + e.val / 1536) / 3 * 1024 + n.val % 1024 = n.val by omega),
    show columnAt ⟨3 * (n.val / 1024) + e.val / 1536, h⟩ (⟨e.val % 1536, Nat.mod_lt _ (by norm_num)⟩ : Fin 1536) = e from
      Fin.ext (show (3 * (n.val / 1024) + e.val / 1536) % 3 * 1536 + e.val % 1536 = e.val by omega)] at k
  exact k

/-- The run ends with that array and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.InwardIdeal.Hand

end
-- ==== Proof.NormedValue.lean ====
/-
  The input projection's reference, element by element.
-/
module

public import proofs.«01_k».proof.Proof.Projections
public import proofs.«01_k».proof.Proof.Gen.NormedIdeal.Run

@[expose] public section

noncomputable section

namespace Cert.NormedIdeal.Hand

open Cert.NormedIdeal Cert.NormedIdeal.Gen Cert.NormedIdeal.Value
open Idealize.ShloMosaic Idealize.ShloMosaic.TcCoe Idealize.ShloMosaic.ValueIdx Idealize.ShloMosaic.Routing
open Idealize.ShloMosaic.StableHlo
open Cert.Swiglu Cert.Mixing Cert.Ffn Cert.Proj

/-- The normalised tokens, -/
abbrev norm (y : FVec Ideal S32768x2048 .f32) (g : FVec Ideal S1x2048 .f32) : FVec Ideal S32768x2048 .f32 :=
  mulf (mulf y (broadcastInDim S32768x2048 ![0, 1] bcast_S32768x1_S32768x2048_0_1 (Host.rsqrt (addf
      (Host.divf (broadcastInDim S32768x1 ![0] bcast_S32768_S32768x1_0 (Host.reduceAdd (mulf y y) (constant S_ .f32 0x00000000#32) reducesTo_S32768x2048_S32768_d1 h_S_))
        (broadcastInDim S32768x1 ![] bcast_S_S32768x1 (constant S_ .f32 0x45000000#32)))
      (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1
      (shapeCast S2048 g shapeCasts_S1x2048_S2048)))

/-- and their product by the weights. -/
abbrev out (y : FVec Ideal S32768x2048 .f32) (g : FVec Ideal S1x2048 .f32) (w : FVec Ideal S1x2048x4608 .f32) : FVec Ideal S32768x4608 .bf16 :=
  truncf .bf16 (Host.dotGeneral dot_S32768x2048_S2048x4608_S32768x4608_1_0_0_1_n_n none (norm y g)
    (shapeCast S2048x4608 w shapeCasts_S1x2048x4608_S2048x4608)) bitsLt_bf16_f32

theorem norm_apply (y : FVec Ideal S32768x2048 .f32) (g : FVec Ideal S1x2048 .f32) (n : Fin 32768) (d : Fin 2048) :
    (show EReal from norm y g (ix2 n d)) = row y g n d := by
  unfold row normed
  refine congrArg₂ (fun u v : EReal => u * v) (congrArg (fun v : EReal => (show EReal from y (ix2 n d)) * v) ?_) ?_
  · refine (col_spread_host (a := 32768) (b := 2048) bcast_S32768x1_S32768x2048_0_1 _ n d).trans ?_
    refine congrArg Ideal.rsqrt (congrArg₂ (fun u v : EReal => u + v) (congrArg₂ Ideal.div ?_ ?_) ?_)
    · refine (bcCol bcast_S32768_S32768x1_0 _ n).trans ?_
      refine (Ideal.hostReduceAdd_single reducesTo_S32768x2048_S32768_d1 ⟨reducesTo_S32768x2048_S32768_d1.1, Nat.one_pos, reducesTo_S32768x2048_S32768_d1.2⟩ _ _ (ix1 n)).trans ?_
      refine (congrArg₂ (fun u v : EReal => u + v) Ideal.ofBits_zero_f32 (Finset.sum_congr rfl fun k _ => ?_)).trans (zero_add _)
      exact congrArg (fun j => (show EReal from y j) * (show EReal from y j)) (lift_row _ n k)
    · exact bc0 bcast_S_S32768x1 _ _
    · exact bc0 bcast_S_S32768x1 _ _
  · exact (bcCols bcast_S2048_S1x2048_1 bcast_S1x2048_S32768x2048_0_1 (shapeCast S2048 g shapeCasts_S1x2048_S2048) n d).trans
      (shapeCast_1a_a_apply (a := 2048) g shapeCasts_S1x2048_S2048 d)

theorem out_apply (y : FVec Ideal S32768x2048 .f32) (g : FVec Ideal S1x2048 .f32) (w : FVec Ideal S1x2048x4608 .f32) (n : Fin 32768) (e : Fin 4608) :
    (show EReal from out y g w (ix2 n e)) = inward y g w n e := by
  refine (StackMember.dotGeneral_plain_apply (m := 32768) (n := 4608) (k := 2048) none _ _ n e).trans ?_
  exact Finset.sum_congr rfl fun k _ => congrArg₂ (fun u v : EReal => u * v) (norm_apply y g n k)
    (shapeCast_1ab_ab_apply w shapeCasts_S1x2048x4608_S2048x4608 k e)

variable (m : (ℓ : Loc nD τ sig) → Buf (Elt Ideal) ℓ)

abbrev a0 (c : Dev nD) : S32768x2048.Idx → EReal := m ((c.tc : Thread nD τ).loc main_arg0)
abbrev a1 (c : Dev nD) : S1x2048.Idx → EReal := m ((c.tc : Thread nD τ).loc main_arg1)
abbrev a2 (c : Dev nD) : S1x2048x4608.Idx → EReal := m ((c.tc : Thread nD τ).loc main_arg2)

end Cert.NormedIdeal.Hand

end
-- ==== Proof.SwigluValue.lean ====
/-
  The dense SwiGLU's reference, element by element: at the extended reals its result is the layer's rows.
-/
module

public import proofs.«01_k».proof.Proof.DenseMath
public import proofs.«01_k».proof.Proof.Gen.SwigluIdeal.Run

@[expose] public section

noncomputable section

namespace Cert.SwigluIdeal.Hand

open Cert.SwigluIdeal Cert.SwigluIdeal.Gen Cert.SwigluIdeal.Value
open Idealize.ShloMosaic Idealize.ShloMosaic.TcCoe Idealize.ShloMosaic.ValueIdx Idealize.ShloMosaic.Routing
open Idealize.ShloMosaic.StableHlo
open Cert.Swiglu Cert.Mixing Cert.Ffn

/-- The normalised tokens, -/
abbrev norm (y : FVec Ideal S32768x2048 .f32) (g : FVec Ideal S1x2048 .f32) : FVec Ideal S32768x2048 .f32 :=
  mulf (mulf y (broadcastInDim S32768x2048 ![0, 1] bcast_S32768x1_S32768x2048_0_1 (Host.rsqrt (addf
      (Host.divf (broadcastInDim S32768x1 ![0] bcast_S32768_S32768x1_0 (Host.reduceAdd (mulf y y) (constant S_ .f32 0x00000000#32) reducesTo_S32768x2048_S32768_d1 h_S_))
        (broadcastInDim S32768x1 ![] bcast_S_S32768x1 (constant S_ .f32 0x45000000#32)))
      (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1
      (shapeCast S2048 g shapeCasts_S1x2048_S2048)))

/-- their products by the gate's or the up projection's weights, -/
abbrev proj (x : FVec Ideal S32768x2048 .f32) (w : FVec Ideal S1x2048x5632 .f32) : FVec Ideal S32768x5632 .f32 :=
  Host.dotGeneral dot_S32768x2048_S2048x5632_S32768x5632_1_0_0_1_n_n none x (shapeCast S2048x5632 w shapeCasts_S1x2048x5632_S2048x5632)

/-- and the whole layer. -/
abbrev out (y : FVec Ideal S32768x2048 .f32) (g : FVec Ideal S1x2048 .f32) (wg wu : FVec Ideal S1x2048x5632 .f32) (wd : FVec Ideal S1x5632x2048 .f32) :
    FVec Ideal S32768x2048 .f32 :=
  addf y (Host.dotGeneral dot_S32768x5632_S5632x2048_S32768x2048_1_0_0_1_n_n none
    (mulf (mulf (proj (norm y g) wg) (Host.divf (broadcastInDim S32768x5632 ![] bcast_S_S32768x5632 (constant S_ .f32 0x3F800000#32))
        (addf (broadcastInDim S32768x5632 ![] bcast_S_S32768x5632 (constant S_ .f32 0x3F800000#32)) (Host.exp (Host.negf (proj (norm y g) wg))))))
      (proj (norm y g) wu))
    (shapeCast S5632x2048 wd shapeCasts_S1x5632x2048_S5632x2048))

theorem norm_apply (y : FVec Ideal S32768x2048 .f32) (g : FVec Ideal S1x2048 .f32) (n : Fin 32768) (d : Fin 2048) :
    (show EReal from norm y g (ix2 n d)) = row y g n d := by
  unfold row normed
  refine congrArg₂ (fun u v : EReal => u * v) (congrArg (fun v : EReal => (show EReal from y (ix2 n d)) * v) ?_) ?_
  · refine (col_spread_host (a := 32768) (b := 2048) bcast_S32768x1_S32768x2048_0_1 _ n d).trans ?_
    refine congrArg Ideal.rsqrt (congrArg₂ (fun u v : EReal => u + v) (congrArg₂ Ideal.div ?_ ?_) ?_)
    · refine (bcCol bcast_S32768_S32768x1_0 _ n).trans ?_
      refine (Ideal.hostReduceAdd_single reducesTo_S32768x2048_S32768_d1 ⟨reducesTo_S32768x2048_S32768_d1.1, Nat.one_pos, reducesTo_S32768x2048_S32768_d1.2⟩ _ _ (ix1 n)).trans ?_
      refine (congrArg₂ (fun u v : EReal => u + v) Ideal.ofBits_zero_f32 (Finset.sum_congr rfl fun k _ => ?_)).trans (zero_add _)
      exact congrArg (fun j => (show EReal from y j) * (show EReal from y j)) (lift_row _ n k)
    · exact bc0 bcast_S_S32768x1 _ _
    · exact bc0 bcast_S_S32768x1 _ _
  · exact (bcCols bcast_S2048_S1x2048_1 bcast_S1x2048_S32768x2048_0_1 (shapeCast S2048 g shapeCasts_S1x2048_S2048) n d).trans
      (shapeCast_1a_a_apply (a := 2048) g shapeCasts_S1x2048_S2048 d)

theorem proj_apply (y : FVec Ideal S32768x2048 .f32) (g : FVec Ideal S1x2048 .f32) (w : FVec Ideal S1x2048x5632 .f32) (n : Fin 32768) (f : Fin 5632) :
    (show EReal from proj (norm y g) w (ix2 n f)) = ∑ k, row y g n k * (show EReal from w (ix3 0 k f)) := by
  refine (StackMember.dotGeneral_plain_apply (m := 32768) (n := 5632) (k := 2048) none _ _ n f).trans ?_
  exact Finset.sum_congr rfl fun k _ => congrArg₂ (fun u v : EReal => u * v) (norm_apply y g n k)
    (shapeCast_1ab_ab_apply w shapeCasts_S1x2048x5632_S2048x5632 k f)

theorem out_apply (y : FVec Ideal S32768x2048 .f32) (g : FVec Ideal S1x2048 .f32) (wg wu : FVec Ideal S1x2048x5632 .f32) (wd : FVec Ideal S1x5632x2048 .f32)
    (n : Fin 32768) (d : Fin 2048) : (show EReal from out y g wg wu wd (ix2 n d)) = layer y g wg wu wd n d := by
  unfold layer
  refine congrArg (fun z : EReal => (show EReal from y (ix2 n d)) + z) ?_
  refine (StackMember.dotGeneral_plain_apply (m := 32768) (n := 2048) (k := 5632) none _ _ n d).trans ?_
  refine Finset.sum_congr rfl fun f _ => ?_
  unfold term
  refine congrArg₂ (fun u v : EReal => u * v) ?_ (shapeCast_1ab_ab_apply wd shapeCasts_S1x5632x2048_S5632x2048 f d)
  have h1 : broadcastInDim S32768x5632 ![] bcast_S_S32768x5632 (constant (F := Ideal) S_ .f32 0x3F800000#32) (ix2 n f) = (1 : EReal) :=
    (bc0 bcast_S_S32768x5632 _ _).trans Ideal.ofBits_one_f32
  refine (show _ = (show EReal from proj (norm y g) wg (ix2 n f)) * Ideal.div (broadcastInDim S32768x5632 ![] bcast_S_S32768x5632 (constant (F := Ideal) S_ .f32 0x3F800000#32) (ix2 n f))
    (broadcastInDim S32768x5632 ![] bcast_S_S32768x5632 (constant (F := Ideal) S_ .f32 0x3F800000#32) (ix2 n f) + Ideal.exp (-(show EReal from proj (norm y g) wg (ix2 n f))))
      * (show EReal from proj (norm y g) wu (ix2 n f)) from rfl).trans ?_
  rw [h1, act_eq]
  unfold hid
  exact congrArg₂ act (proj_apply y g wg n f) (proj_apply y g wu n f)

variable (m : (ℓ : Loc nD τ sig) → Buf (Elt Ideal) ℓ)

abbrev a0 (c : Dev nD) : S32768x2048.Idx → EReal := m ((c.tc : Thread nD τ).loc main_arg0)
abbrev a1 (c : Dev nD) : S1x2048.Idx → EReal := m ((c.tc : Thread nD τ).loc main_arg1)
abbrev a2 (c : Dev nD) : S1x2048x5632.Idx → EReal := m ((c.tc : Thread nD τ).loc main_arg2)
abbrev a3 (c : Dev nD) : S1x2048x5632.Idx → EReal := m ((c.tc : Thread nD τ).loc main_arg3)
abbrev a4 (c : Dev nD) : S1x5632x2048.Idx → EReal := m ((c.tc : Thread nD τ).loc main_arg4)

end Cert.SwigluIdeal.Hand

end
-- ==== Proof.lean ====
/-
  The proof of `Cert.Claim`: the routed expert call, the combine call, the dense SwiGLU call, their idealizations and the references each end, with
  every argument array as it began and every counter at zero; the idealizations' rewrites are sanctioned; and at the extended
  reals the calls' results are the references'. Each run is proved once, of the idealized program over any floats; the kernel's
  own is that run at the bit-exact floats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed
public import proofs.«01_k».proof.Proof.Run
public import proofs.«01_k».proof.Proof.ArrValue
public import proofs.«01_k».proof.Proof.RefValue
public import proofs.«01_k».proof.Proof.Gen.Combine
public import proofs.«01_k».proof.Proof.Gen.CombineIdeal
public import proofs.«01_k».proof.Proof.Gen.CombineIdeal.Launch
public import proofs.«01_k».proof.Proof.Gen.CombineIdeal.Skeleton
public import proofs.«01_k».proof.Proof.Gen.CombineIdeal.Loops
public import proofs.«01_k».proof.Proof.Gen.MixtureIdeal
public import proofs.«01_k».proof.Proof.Gen.MixtureIdeal.Run
public import proofs.«01_k».proof.Proof.Gen.Pre_slotted
public import proofs.«01_k».proof.Proof.Same
public import proofs.«01_k».proof.Proof.CSame
public import proofs.«01_k».proof.Proof.CValue
public import proofs.«01_k».proof.Proof.MixValue
public import proofs.«01_k».proof.Proof.Gen.Dense
public import proofs.«01_k».proof.Proof.Gen.Outward
public import proofs.«01_k».proof.Proof.Gen.OutwardIdeal
public import proofs.«01_k».proof.Proof.Gen.OutwardIdeal.Value
public import proofs.«01_k».proof.Proof.Gen.MixedIdeal
public import proofs.«01_k».proof.Proof.Gen.MixedIdeal.Run
public import proofs.«01_k».proof.Proof.Gen.Inward
public import proofs.«01_k».proof.Proof.Gen.InwardIdeal
public import proofs.«01_k».proof.Proof.Gen.InwardIdeal.Frame
public import proofs.«01_k».proof.Proof.Gen.NormedIdeal
public import proofs.«01_k».proof.Proof.Gen.NormedIdeal.Run
public import proofs.«01_k».proof.Proof.Gen.DenseIdeal
public import proofs.«01_k».proof.Proof.Gen.DenseIdeal.Value
public import proofs.«01_k».proof.Proof.Gen.SwigluIdeal
public import proofs.«01_k».proof.Proof.Gen.SwigluIdeal.Run
public import proofs.«01_k».proof.Proof.DenseSame
public import proofs.«01_k».proof.Proof.DenseValue
public import proofs.«01_k».proof.Proof.ProjectionsSame
public import proofs.«01_k».proof.Proof.OutwardValue
public import proofs.«01_k».proof.Proof.MixedValue
public import proofs.«01_k».proof.Proof.InwardValue
public import proofs.«01_k».proof.Proof.NormedValue
public import proofs.«01_k».proof.Proof.SwigluValue

@[expose] public section

noncomputable section

namespace Cert.Proof

open Idealize.ShloMosaic Idealize.SL.Sem Cert.KernelIdeal Cert.KernelIdeal.Hand

/-- The precondition, at any floats, says the tables are in range. -/
theorem routed_kernel (m : (ℓ : Loc nD τ sig) → Buf (Elt Bits) ℓ) (h : Cert.Pre_Kernel m) : Routed m := fun c => routed_of (h c)
theorem routed_ideal (m : (ℓ : Loc nD τ sig) → Buf (Elt Ideal) ℓ) (h : Cert.Pre_KernelIdeal m) : Routed m := fun c => routed_of (h c)

theorem frame_kernel : Cert.quiescent_Kernel (hKernel := Cert.Kernel.Gen.facts) (hPre_routed := Cert.Pre_routed.Gen.facts) := fun m g h => by
  rw [Cert.Same.main_eq, Cert.Same.defs_eq]
  exact frame (F := Bits) m g (routed_kernel m h)

theorem frame_ideal : Cert.quiescent_KernelIdeal (hKernelIdeal := Cert.KernelIdeal.Gen.facts) (hPre_routed := Cert.Pre_routed.Gen.facts) :=
  fun m g h => frame (F := Ideal) m g (routed_ideal m h)

theorem frame_ref : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems (by decide) _⟩)
    (Cert.ReferenceIdeal.Value.run (F := Ideal) m g)

theorem frame_ref_pre : Cert.quiescent_ReferenceIdeal_pre_routed (hReferenceIdeal := Cert.ReferenceIdeal.Gen.facts)
    (hPre_routed := Cert.Pre_routed.Gen.facts) := fun m g _ =>
  (θ_run Cert.ReferenceIdeal.defs _ _).mono (fun _ h => ⟨fun c => (h c).2, sem_eq_zero_of_no_sems (by decide) _⟩)
    (Cert.ReferenceIdeal.Value.run (F := Ideal) m g)

/-- At the extended reals, from equal arguments in range, the call's result is the reference's: both are the routed
    experts' SwiGLU, element by element. -/
theorem algebraic : Cert.algebraic_KernelIdeal_ReferenceIdeal (hKernelIdeal := Cert.KernelIdeal.Gen.facts)
    (hReferenceIdeal := Cert.ReferenceIdeal.Gen.facts) (hPre_routed := Cert.Pre_routed.Gen.facts) := fun m g m' g' h e => by
  have hR := routed_ideal m h
  refine ⟨result m, run_value m hR g, (θ_run Cert.ReferenceIdeal.defs _ _).mono (fun r k c => ⟨(k c).1.trans ?_, (k c).2⟩)
    (Cert.ReferenceIdeal.Value.run (F := Ideal) m' g')⟩
  obtain ⟨e0, e1, e2, e3, e4, e5, e6⟩ := e c
  refine funext fun (j : S74752x2048.Idx) => ?_
  have b0 : Cert.ReferenceIdeal.Hand.a0 (StableHlo.launchContents m' c) = m0 m c := e0
  have b1 : Cert.ReferenceIdeal.Hand.a1 (StableHlo.launchContents m' c) = m1 m c := e1
  have b2 : Cert.ReferenceIdeal.Hand.a2 (StableHlo.launchContents m' c) = m2 m c := e2
  have b3 : Cert.ReferenceIdeal.Hand.a3 (StableHlo.launchContents m' c) = m3 m c := e3
  have b4 : Cert.ReferenceIdeal.Hand.a4 (StableHlo.launchContents m' c) = m4 m c := e4
  have b5 : Cert.ReferenceIdeal.Hand.a5 (StableHlo.launchContents m' c) = m5 m c := e5
  have b6 : Cert.ReferenceIdeal.Hand.a6 (StableHlo.launchContents m' c) = m6 m c := e6
  have k := Cert.ReferenceIdeal.Hand.out_apply (StableHlo.launchContents m' c) (by rw [b1]; exact (hR c).1) (by rw [b2]; exact (hR c).2.1)
    (by rw [b3]; exact (hR c).2.2) (j 0) (j 1)
  rw [b0, b1, b2, b3, b4, b5, b6] at k
  rw [ValueIdx.eq_ix2 j]
  exact k

/-! ## The combine call -/

/-- The precondition, at any floats, says the slots are in range. -/
theorem slotted_kernel (m : (ℓ : Loc Cert.Combine.nD Cert.Combine.τ Cert.Combine.sig) → Buf (Elt Bits) ℓ) (h : Cert.Pre_Combine m) :
    Cert.CombineIdeal.Hand.Slotted m := fun c => Cert.CombineIdeal.Hand.slotted_of (h c)
theorem slotted_ideal (m : (ℓ : Loc Cert.CombineIdeal.nD Cert.CombineIdeal.τ Cert.CombineIdeal.sig) → Buf (Elt Ideal) ℓ) (h : Cert.Pre_CombineIdeal m) :
    Cert.CombineIdeal.Hand.Slotted m := fun c => Cert.CombineIdeal.Hand.slotted_of (h c)

theorem frame_combine : Cert.quiescent_Combine (hCombine := Cert.Combine.Gen.facts) (hPre_slotted := Cert.Pre_slotted.Gen.facts) := fun m g h => by
  rw [Cert.SameCombine.main_eq, Cert.SameCombine.defs_eq]
  exact (θ_run Cert.CombineIdeal.defs _ _).mono (fun _ h => ⟨fun c => (h.1 c).2.2, h.2⟩)
    (Cert.CombineIdeal.Hand.run_args (F := Bits) m g (slotted_kernel m h))

theorem frame_combineIdeal : Cert.quiescent_CombineIdeal (hCombineIdeal := Cert.CombineIdeal.Gen.facts) (hPre_slotted := Cert.Pre_slotted.Gen.facts) :=
  fun m g h => (θ_run Cert.CombineIdeal.defs _ _).mono (fun _ h => ⟨fun c => (h.1 c).2.2, h.2⟩)
    (Cert.CombineIdeal.Hand.run_args (F := Ideal) m g (slotted_ideal m h))

theorem frame_mixture : Cert.quiescent_MixtureIdeal (hMixtureIdeal := Cert.MixtureIdeal.Gen.facts) := fun m g _ =>
  (θ_run Cert.MixtureIdeal.defs _ _).mono (fun _ h => ⟨fun c => (h c).2.2, sem_eq_zero_of_no_sems (by decide) _⟩)
    (Cert.MixtureIdeal.Value.run (F := Ideal) m g)

theorem frame_mixture_pre : Cert.quiescent_MixtureIdeal_pre_slotted (hMixtureIdeal := Cert.MixtureIdeal.Gen.facts)
    (hPre_slotted := Cert.Pre_slotted.Gen.facts) := fun m g _ =>
  (θ_run Cert.MixtureIdeal.defs _ _).mono (fun _ h => ⟨fun c => (h c).2.2, sem_eq_zero_of_no_sems (by decide) _⟩)
    (Cert.MixtureIdeal.Value.run (F := Ideal) m g)

/-- At the extended reals, from equal arguments with the slots in range, the combine's two results are the reference's: both
    are the mixed tokens over their root mean square, element by element. -/
theorem algebraic_combine : Cert.algebraic_CombineIdeal_MixtureIdeal (hCombineIdeal := Cert.CombineIdeal.Gen.facts)
    (hMixtureIdeal := Cert.MixtureIdeal.Gen.facts) (hPre_slotted := Cert.Pre_slotted.Gen.facts) := fun m g m' g' h e => by
  have hR := slotted_ideal m h
  refine ⟨Cert.CombineIdeal.Hand.resultA m, Cert.CombineIdeal.Hand.resultB m,
    (θ_run Cert.CombineIdeal.defs _ _).mono (fun r k c => ⟨(k.1 c).1.trans (Cert.CombineIdeal.Hand.arr4_eq m c),
      (k.1 c).2.1.trans (Cert.CombineIdeal.Hand.arr5_eq m c), (k.1 c).2.2⟩) (Cert.CombineIdeal.Hand.run_args (F := Ideal) m g hR),
    (θ_run Cert.MixtureIdeal.defs _ _).mono (fun r k c => ⟨(k c).1.trans ?_, (k c).2.1.trans ?_, (k c).2.2⟩)
      (Cert.MixtureIdeal.Value.run (F := Ideal) m' g')⟩
  all_goals
    obtain ⟨e0, e1, e2, e3, e4⟩ := e c
    have b0 : Cert.MixtureIdeal.Hand.a0 m' c = Cert.CombineIdeal.Hand.m0 m c := e0
    have b1 : Cert.MixtureIdeal.Hand.a1 m' c = Cert.CombineIdeal.Hand.m1 m c := e1
    have b2 : Cert.MixtureIdeal.Hand.a2 m' c = Cert.CombineIdeal.Hand.m2 m c := e2
    have b3 : Cert.MixtureIdeal.Hand.a3 m' c = Cert.CombineIdeal.Hand.m3 m c := e3
    have b4 : Cert.MixtureIdeal.Hand.a4 m' c = Cert.CombineIdeal.Hand.m4 m c := e4
    refine funext fun (j : Cert.CombineIdeal.S16384x2048.Idx) => ?_
  · have k := Cert.MixtureIdeal.Hand.out0_apply m' c (by rw [b0]; exact hR c) (j 0) (j 1)
    rw [b0, b1, b2, b3, b4] at k
    rw [ValueIdx.eq_ix2 j]
    exact k
  · have k := Cert.MixtureIdeal.Hand.out1_apply m' c (by rw [b0]; exact hR c) (j 0) (j 1)
    rw [b0, b1, b2, b3, b4] at k
    rw [ValueIdx.eq_ix2 j]
    exact k

/-! ## The dense SwiGLU call -/

theorem frame_dense : Cert.quiescent_Dense (hDense := Cert.Dense.Gen.facts) := fun m g _ => by
  rw [Cert.SameDense.main_eq, Cert.SameDense.defs_eq]
  exact Cert.DenseIdeal.Gen.frame (F := Bits) m g

theorem frame_denseIdeal : Cert.quiescent_DenseIdeal (hDenseIdeal := Cert.DenseIdeal.Gen.facts) :=
  fun m g _ => Cert.DenseIdeal.Gen.frame (F := Ideal) m g

theorem frame_swiglu : Cert.quiescent_SwigluIdeal (hSwigluIdeal := Cert.SwigluIdeal.Gen.facts) := fun m g _ =>
  (θ_run Cert.SwigluIdeal.defs _ _).mono (fun _ h => ⟨fun c => (h c).2, sem_eq_zero_of_no_sems (by decide) _⟩)
    (Cert.SwigluIdeal.Value.run (F := Ideal) m g)

/-- At the extended reals, from equal arguments, the dense call's result is the reference's: both are the layer's rows,
    element by element. -/
theorem algebraic_dense : Cert.algebraic_DenseIdeal_SwigluIdeal (hDenseIdeal := Cert.DenseIdeal.Gen.facts)
    (hSwigluIdeal := Cert.SwigluIdeal.Gen.facts) := fun m g m' g' _ e => by
  refine ⟨Cert.DenseIdeal.Value.G5 m, Cert.DenseIdeal.Value.run (F := Ideal) m g,
    (θ_run Cert.SwigluIdeal.defs _ _).mono (fun r k c => ⟨(k c).1.trans ?_, (k c).2⟩) (Cert.SwigluIdeal.Value.run (F := Ideal) m' g')⟩
  obtain ⟨e0, e1, e2, e3, e4⟩ := e c
  have b0 : Cert.SwigluIdeal.Hand.a0 m' c = Cert.DenseIdeal.Hand.m0 m c := e0
  have b1 : Cert.SwigluIdeal.Hand.a1 m' c = Cert.DenseIdeal.Hand.m1 m c := e1
  have b2 : Cert.SwigluIdeal.Hand.a2 m' c = Cert.DenseIdeal.Hand.m2 m c := e2
  have b3 : Cert.SwigluIdeal.Hand.a3 m' c = Cert.DenseIdeal.Hand.m3 m c := e3
  have b4 : Cert.SwigluIdeal.Hand.a4 m' c = Cert.DenseIdeal.Hand.m4 m c := e4
  refine funext fun (j : Cert.DenseIdeal.S32768x2048.Idx) => ?_
  have k := Cert.SwigluIdeal.Hand.out_apply (Cert.SwigluIdeal.Hand.a0 m' c) (Cert.SwigluIdeal.Hand.a1 m' c) (Cert.SwigluIdeal.Hand.a2 m' c)
    (Cert.SwigluIdeal.Hand.a3 m' c) (Cert.SwigluIdeal.Hand.a4 m' c) (j 0) (j 1)
  have l := Cert.DenseIdeal.Hand.result_apply m c (j 0) (j 1)
  rw [← b0, ← b1, ← b2, ← b3, ← b4] at l
  rw [ValueIdx.eq_ix2 j]
  exact k.trans l.symm

theorem frame_outward : Cert.quiescent_Outward (hOutward := Cert.Outward.Gen.facts) := fun m g _ => by
  rw [Cert.SameOutward.main_eq, Cert.SameOutward.defs_eq]
  exact Cert.OutwardIdeal.Gen.frame (F := Bits) m g

theorem frame_outwardIdeal : Cert.quiescent_OutwardIdeal (hOutwardIdeal := Cert.OutwardIdeal.Gen.facts) :=
  fun m g _ => Cert.OutwardIdeal.Gen.frame (F := Ideal) m g

theorem frame_mixed : Cert.quiescent_MixedIdeal (hMixedIdeal := Cert.MixedIdeal.Gen.facts) := fun m g _ =>
  (θ_run Cert.MixedIdeal.defs _ _).mono (fun _ h => ⟨fun c => (h c).2, sem_eq_zero_of_no_sems (by decide) _⟩)
    (Cert.MixedIdeal.Value.run (F := Ideal) m g)

/-- At the extended reals, from equal arguments, the output projection's result is the reference's: the two halves' products are
    the whole rows'. -/
theorem algebraic_outward : Cert.algebraic_OutwardIdeal_MixedIdeal (hOutwardIdeal := Cert.OutwardIdeal.Gen.facts)
    (hMixedIdeal := Cert.MixedIdeal.Gen.facts) := fun m g m' g' _ e => by
  refine ⟨Cert.OutwardIdeal.Hand.result m, Cert.OutwardIdeal.Value.run_blocks (F := Ideal) m g,
    (θ_run Cert.MixedIdeal.defs _ _).mono (fun r k c => ⟨(k c).1.trans ?_, (k c).2⟩) (Cert.MixedIdeal.Value.run (F := Ideal) m' g')⟩
  obtain ⟨e0, e1, e2, e3⟩ := e c
  have b0 : Cert.MixedIdeal.Hand.a0 m' c = Cert.OutwardIdeal.Hand.m0 m c := e0
  have b1 : Cert.MixedIdeal.Hand.a1 m' c = Cert.OutwardIdeal.Hand.m1 m c := e1
  have b2 : Cert.MixedIdeal.Hand.a2 m' c = Cert.OutwardIdeal.Hand.m2 m c := e2
  have b3 : Cert.MixedIdeal.Hand.a3 m' c = Cert.OutwardIdeal.Hand.m3 m c := e3
  refine funext fun (j : Cert.OutwardIdeal.S32768x2048.Idx) => ?_
  have k := Cert.MixedIdeal.Hand.out_apply (Cert.MixedIdeal.Hand.a0 m' c) (Cert.MixedIdeal.Hand.a1 m' c) (Cert.MixedIdeal.Hand.a2 m' c)
    (Cert.MixedIdeal.Hand.a3 m' c) (j 0) (j 1)
  have l := Cert.OutwardIdeal.Hand.result_apply m c (j 0) (j 1)
  rw [← b0, ← b1, ← b2, ← b3] at l
  rw [ValueIdx.eq_ix2 j]
  exact k.trans l.symm

theorem frame_inward : Cert.quiescent_Inward (hInward := Cert.Inward.Gen.facts) := fun m g _ => by
  rw [Cert.SameInward.main_eq, Cert.SameInward.defs_eq]
  exact Cert.InwardIdeal.Gen.frame (F := Bits) m g

theorem frame_inwardIdeal : Cert.quiescent_InwardIdeal (hInwardIdeal := Cert.InwardIdeal.Gen.facts) :=
  fun m g _ => Cert.InwardIdeal.Gen.frame (F := Ideal) m g

theorem frame_normed : Cert.quiescent_NormedIdeal (hNormedIdeal := Cert.NormedIdeal.Gen.facts) := fun m g _ =>
  (θ_run Cert.NormedIdeal.defs _ _).mono (fun _ h => ⟨fun c => (h c).2, sem_eq_zero_of_no_sems (by decide) _⟩)
    (Cert.NormedIdeal.Value.run (F := Ideal) m g)

/-- At the extended reals, from equal arguments, the input projection's result is the reference's: both are the normalised rows'
    products by the weights. -/
theorem algebraic_inward : Cert.algebraic_InwardIdeal_NormedIdeal (hInwardIdeal := Cert.InwardIdeal.Gen.facts)
    (hNormedIdeal := Cert.NormedIdeal.Gen.facts) := fun m g m' g' _ e => by
  refine ⟨Cert.InwardIdeal.Hand.result m, Cert.InwardIdeal.Hand.run m g,
    (θ_run Cert.NormedIdeal.defs _ _).mono (fun r k c => ⟨(k c).1.trans ?_, (k c).2⟩) (Cert.NormedIdeal.Value.run (F := Ideal) m' g')⟩
  obtain ⟨e0, e1, e2⟩ := e c
  have b0 : Cert.NormedIdeal.Hand.a0 m' c = Cert.InwardIdeal.Hand.m0 m c := e0
  have b1 : Cert.NormedIdeal.Hand.a1 m' c = Cert.InwardIdeal.Hand.m1 m c := e1
  have b2 : Cert.NormedIdeal.Hand.a2 m' c = Cert.InwardIdeal.Hand.m2 m c := e2
  refine funext fun (j : Cert.InwardIdeal.S32768x4608.Idx) => ?_
  have k := Cert.NormedIdeal.Hand.out_apply (Cert.NormedIdeal.Hand.a0 m' c) (Cert.NormedIdeal.Hand.a1 m' c) (Cert.NormedIdeal.Hand.a2 m' c) (j 0) (j 1)
  have l := Cert.InwardIdeal.Hand.result_apply m c (j 0) (j 1)
  rw [← b0, ← b1, ← b2] at l
  rw [ValueIdx.eq_ix2 j]
  exact k.trans l.symm

theorem claim : Cert.Claim := ⟨Cert.Kernel.Gen.facts, Cert.KernelIdeal.Gen.facts, Cert.ReferenceIdeal.Gen.facts, Cert.Combine.Gen.facts,
  Cert.CombineIdeal.Gen.facts, Cert.MixtureIdeal.Gen.facts, Cert.Dense.Gen.facts, Cert.DenseIdeal.Gen.facts, Cert.SwigluIdeal.Gen.facts,
  Cert.Outward.Gen.facts, Cert.OutwardIdeal.Gen.facts, Cert.MixedIdeal.Gen.facts, Cert.Inward.Gen.facts, Cert.InwardIdeal.Gen.facts, Cert.NormedIdeal.Gen.facts,
  Cert.Pre_routed.Gen.facts, Cert.Pre_slotted.Gen.facts,
  frame_kernel, frame_ideal, frame_ref, frame_ref_pre, frame_combine, frame_combineIdeal, frame_mixture, frame_mixture_pre,
  frame_dense, frame_denseIdeal, frame_swiglu,
  frame_outward, frame_outwardIdeal, frame_mixed, frame_inward, frame_inwardIdeal, frame_normed,
  trivial, algebraic, trivial, algebraic_combine, trivial, algebraic_dense, trivial, algebraic_outward, trivial, algebraic_inward⟩

end Cert.Proof

end
